-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts_named : Cert.Pre_experts_named.Facts] (m : (ℓ : Loc Cert.Kernel3.nD Cert.Kernel3.τ Cert.Kernel3.sig) → Buf (Elt Bits) ℓ) : Prop :=
  ∀ c : Dev Cert.Kernel3.nD,
    (Cert.Pre_experts_named.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))) = (fun _ => 1#1)

def Pre_Kernel3Ideal [hPre_experts_named : Cert.Pre_experts_named.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_named.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_named [hPre_experts_named : Cert.Pre_experts_named.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_named.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_router [hPre_finite_router : Cert.Pre_finite_router.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_router.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_router [hPre_finite_router : Cert.Pre_finite_router.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_router.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_gains [hPre_finite_gains : Cert.Pre_finite_gains.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_gains.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_gains [hPre_finite_gains : Cert.Pre_finite_gains.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_gains.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] [hPre_experts_named : Cert.Pre_experts_named.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_experts_named : Cert.Pre_experts_named.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_experts_named [hReference3Ideal : Cert.Reference3Ideal.Facts] [hPre_experts_named : Cert.Pre_experts_named.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_named m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite_router [hKernel5Ideal : Cert.Kernel5Ideal.Facts] [hPre_finite_router : Cert.Pre_finite_router.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_router m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite_router [hReference5Ideal : Cert.Reference5Ideal.Facts] [hPre_finite_router : Cert.Pre_finite_router.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_router m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite_gains [hKernel6Ideal : Cert.Kernel6Ideal.Facts] [hPre_finite_gains : Cert.Pre_finite_gains.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_gains m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite_gains [hReference6Ideal : Cert.Reference6Ideal.Facts] [hPre_finite_gains : Cert.Pre_finite_gains.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_gains m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] [hPre_experts_named : Cert.Pre_experts_named.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite_router [hKernel5Ideal : Cert.Kernel5Ideal.Facts] [hReference5Ideal : Cert.Reference5Ideal.Facts] [hPre_finite_router : Cert.Pre_finite_router.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_router m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)) (v2 : (c : Dev Cert.Kernel5Ideal.nD) → Buf (Elt Ideal) ((c.tc : Thread Cert.Kernel5Ideal.nD Cert.Kernel5Ideal.τ).loc Cert.Kernel5Ideal.main_v1_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_v1_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_v22) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal_pre_finite_gains [hKernel6Ideal : Cert.Kernel6Ideal.Facts] [hReference6Ideal : Cert.Reference6Ideal.Facts] [hPre_finite_gains : Cert.Pre_finite_gains.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_gains m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v50) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v9_0)) (v1 : (c : Dev Cert.Kernel8Ideal.nD) → Buf (Elt Ideal) ((c.tc : Thread Cert.Kernel8Ideal.nD Cert.Kernel8Ideal.τ).loc Cert.Kernel8Ideal.main_v9_1)) (v2 : (c : Dev Cert.Kernel8Ideal.nD) → Buf (Elt Ideal) ((c.tc : Thread Cert.Kernel8Ideal.nD Cert.Kernel8Ideal.τ).loc Cert.Kernel8Ideal.main_v9_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9_0) = v0 c
          ∧ r.2.mem ((c.tc : Thread Cert.Kernel8Ideal.nD Cert.Kernel8Ideal.τ).loc Cert.Kernel8Ideal.main_v9_1) = v1 c
          ∧ r.2.mem ((c.tc : Thread Cert.Kernel8Ideal.nD Cert.Kernel8Ideal.τ).loc Cert.Kernel8Ideal.main_v9_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v76) = v0 c
          ∧ r.2.mem ((c.tc : Thread Cert.Reference8Ideal.nD Cert.Reference8Ideal.τ).loc Cert.Reference8Ideal.main_v78) = v1 c
          ∧ r.2.mem ((c.tc : Thread Cert.Reference8Ideal.nD Cert.Reference8Ideal.τ).loc Cert.Reference8Ideal.main_v79) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v30) = v0 c
          ∧ r.2.mem ((c.tc : Thread Cert.Reference9Ideal.nD Cert.Reference9Ideal.τ).loc Cert.Reference9Ideal.main_v27) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v29) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v12) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v28) = v0 c
          ∧ r.2.mem ((c.tc : Thread Cert.Reference14Ideal.nD Cert.Reference14Ideal.τ).loc Cert.Reference14Ideal.main_v31) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite_qk : Cert.Pre_finite_qk.Facts) (hPre_experts_named : Cert.Pre_experts_named.Facts) (hPre_finite_router : Cert.Pre_finite_router.Facts) (hPre_finite_gains : Cert.Pre_finite_gains.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts_named := hPre_experts_named)
    ∧ quiescent_Kernel3Ideal (hKernel3Ideal := hKernel3Ideal) (hPre_experts_named := hPre_experts_named)
    ∧ quiescent_Reference3Ideal (hReference3Ideal := hReference3Ideal)
    ∧ quiescent_Reference3Ideal_pre_experts_named (hReference3Ideal := hReference3Ideal) (hPre_experts_named := hPre_experts_named)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_router (hKernel5Ideal := hKernel5Ideal) (hPre_finite_router := hPre_finite_router)
    ∧ quiescent_Reference5Ideal (hReference5Ideal := hReference5Ideal)
    ∧ quiescent_Reference5Ideal_pre_finite_router (hReference5Ideal := hReference5Ideal) (hPre_finite_router := hPre_finite_router)
    ∧ quiescent_Kernel6 (hKernel6 := hKernel6)
    ∧ quiescent_Kernel6Ideal (hKernel6Ideal := hKernel6Ideal)
    ∧ quiescent_Kernel6Ideal_pre_finite_gains (hKernel6Ideal := hKernel6Ideal) (hPre_finite_gains := hPre_finite_gains)
    ∧ quiescent_Reference6Ideal (hReference6Ideal := hReference6Ideal)
    ∧ quiescent_Reference6Ideal_pre_finite_gains (hReference6Ideal := hReference6Ideal) (hPre_finite_gains := hPre_finite_gains)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_experts_named := hPre_experts_named)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_router (hKernel5Ideal := hKernel5Ideal) (hReference5Ideal := hReference5Ideal) (hPre_finite_router := hPre_finite_router)
    ∧ preserves_Kernel6_Kernel6Ideal
    ∧ algebraic_Kernel6Ideal_Reference6Ideal_pre_finite_gains (hKernel6Ideal := hKernel6Ideal) (hReference6Ideal := hReference6Ideal) (hPre_finite_gains := hPre_finite_gains)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_experts_named.lean ====
abbrev S288 : Shape := ⟨1, ![288]⟩
abbrev S1 : Shape := ⟨1, ![1]⟩
abbrev S73728x2048 : Shape := ⟨2, ![73728, 2048]⟩
abbrev S32x2048x1024 : Shape := ⟨3, ![32, 2048, 1024]⟩
abbrev S32x1024x2048 : Shape := ⟨3, ![32, 1024, 2048]⟩
abbrev S73728x1 : Shape := ⟨2, ![73728, 1]⟩
abbrev S_ : Shape := ⟨0, ![]⟩

class Facts : Prop where
  bcast_S_S288 : S_.BroadcastsInDim S288 (![] : Fin 0 → Fin S288.rank)

variable [Facts]

def fn {F : FTy → Type} [FloatOps F] (main_arg0 : IVec S288 32) (main_arg1 : IVec S1 32) (main_arg2 : FVec F S73728x2048 .bf16) (main_arg3 : FVec F S32x2048x1024 .bf16) (main_arg4 : FVec F S32x2048x1024 .bf16) (main_arg5 : FVec F S32x1024x2048 .bf16) (main_arg6 : FVec F S73728x1 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  main_v4
-- ==== Pre_finite_gains.lean ====
abbrev S2x16384x9728 : Shape := ⟨3, ![2, 16384, 9728]⟩
abbrev S2x256x1024 : Shape := ⟨3, ![2, 256, 1024]⟩
abbrev S128 : Shape := ⟨1, ![128]⟩
abbrev S1x128 : Shape := ⟨2, ![1, 128]⟩
abbrev S2x128 : Shape := ⟨2, ![2, 128]⟩
abbrev S_ : Shape := ⟨0, ![]⟩

class Facts : Prop where
  bcast_S128_S1x128_1 : S128.BroadcastsInDim S1x128 (![1] : Fin 1 → Fin S1x128.rank)
  concatenates_S1x128_S1x128_S2x128_d0 : Shape.Concatenates [S1x128, S1x128] S2x128 0
  bcast_S_S2x128 : S_.BroadcastsInDim S2x128 (![] : Fin 0 → Fin S2x128.rank)

variable [Facts]

def fn {F : FTy → Type} [FloatOps F] (main_arg0 : FVec F S2x16384x9728 .f32) (main_arg1 : FVec F S2x256x1024 .f32) (main_arg2 : FVec F S128 .f32) (main_arg3 : FVec F S128 .f32) : IVec S2x128 1 :=
  let main_v0 : FVec F S1x128 .f32 := broadcastInDim S1x128 ![1] bcast_S128_S1x128_1 main_arg2
  let main_v1 : FVec F S1x128 .f32 := broadcastInDim S1x128 ![1] bcast_S128_S1x128_1 main_arg3
  let main_v2 : FVec F S2x128 .f32 := (fun a b => concatenate S2x128 0 [⟨S1x128, a⟩, ⟨S1x128, b⟩] concatenates_S1x128_S1x128_S2x128_d0) main_v0 main_v1
  let main_v3 : FVec F S2x128 .f32 := Host.absf main_v2
  let main_cst : FVec F S_ .f32 := constant S_ .f32 0x7F800000#32
  let main_v4 : FVec F S2x128 .f32 := broadcastInDim S2x128 ![] bcast_S_S2x128 main_cst
  let main_v5 : IVec S2x128 1 := cmpf .olt main_v3 main_v4
  main_v5
-- ==== Pre_finite_qk.lean ====
abbrev S2x16384x1024 : Shape := ⟨3, ![2, 16384, 1024]⟩
abbrev S2x16384x256 : Shape := ⟨3, ![2, 16384, 256]⟩
abbrev S2x16384x1280 : Shape := ⟨3, ![2, 16384, 1280]⟩
abbrev S_ : Shape := ⟨0, ![]⟩

class Facts : Prop where
  concatenates_S2x16384x1024_S2x16384x256_S2x16384x1280_d2 : Shape.Concatenates [S2x16384x1024, S2x16384x256] S2x16384x1280 2
  bitsLt_bf16_f32 : FTy.bits .bf16 < FTy.bits .f32
  bcast_S_S2x16384x1280 : S_.BroadcastsInDim S2x16384x1280 (![] : Fin 0 → Fin S2x16384x1280.rank)

variable [Facts]

def fn {F : FTy → Type} [FloatOps F] (main_arg0 : FVec F S2x16384x1024 .bf16) (main_arg1 : FVec F S2x16384x256 .bf16) (main_arg2 : FVec F S2x16384x256 .bf16) : IVec S2x16384x1280 1 :=
  let main_v0 : FVec F S2x16384x1280 .bf16 := (fun a b => concatenate S2x16384x1280 2 [⟨S2x16384x1024, a⟩, ⟨S2x16384x256, b⟩] concatenates_S2x16384x1024_S2x16384x256_S2x16384x1280_d2) main_arg0 main_arg1
  let main_v1 : FVec F S2x16384x1280 .f32 := (extf .f32 · bitsLt_bf16_f32) main_v0
  let main_v2 : FVec F S2x16384x1280 .f32 := Host.absf main_v1
  let main_cst : FVec F S_ .f32 := constant S_ .f32 0x7F800000#32
  let main_v3 : FVec F S2x16384x1280 .f32 := broadcastInDim S2x16384x1280 ![] bcast_S_S2x16384x1280 main_cst
  let main_v4 : IVec S2x16384x1280 1 := cmpf .olt main_v2 main_v3
  main_v4
-- ==== Pre_finite_router.lean ====
abbrev S32768x2048 : Shape := ⟨2, ![32768, 2048]⟩
abbrev S2048x2048 : Shape := ⟨2, ![2048, 2048]⟩
abbrev S2048 : Shape := ⟨1, ![2048]⟩
abbrev S2048x128 : Shape := ⟨2, ![2048, 128]⟩
abbrev S1x128 : Shape := ⟨2, ![1, 128]⟩
abbrev S1x2048 : Shape := ⟨2, ![1, 2048]⟩
abbrev S128x2048 : Shape := ⟨2, ![128, 2048]⟩
abbrev S67841x2048 : Shape := ⟨2, ![67841, 2048]⟩
abbrev S_ : Shape := ⟨0, ![]⟩

class Facts : Prop where
  bitsLt_bf16_f32 : FTy.bits .bf16 < FTy.bits .f32
  shapeCasts_S2048_S1x2048 : S2048.ShapeCasts S1x2048
  transposes_S2048x128_S128x2048_1_0 : S2048x128.Transposes [1, 0] S128x2048
  concatenates_S32768x2048_S32768x2048_S2048x2048_S1x2048_S128x2048_S128x2048_S67841x2048_d0 : Shape.Concatenates [S32768x2048, S32768x2048, S2048x2048, S1x2048, S128x2048, S128x2048] S67841x2048 0
  bcast_S_S67841x2048 : S_.BroadcastsInDim S67841x2048 (![] : Fin 0 → Fin S67841x2048.rank)

variable [Facts]

def fn {F : FTy → Type} [FloatOps F] (main_arg0 : FVec F S32768x2048 .bf16) (main_arg1 : FVec F S32768x2048 .f32) (main_arg2 : FVec F S2048x2048 .bf16) (main_arg3 : FVec F S2048 .f32) (main_arg4 : FVec F S2048x128 .bf16) (main_arg5 : FVec F S2048x128 .bf16) (main_arg6 : FVec F S1x128 .f32) : IVec S67841x2048 1 :=
  let main_v0 : FVec F S32768x2048 .f32 := (extf .f32 · bitsLt_bf16_f32) main_arg0
  let main_v1 : FVec F S2048x2048 .f32 := (extf .f32 · bitsLt_bf16_f32) main_arg2
  let main_v2 : FVec F S1x2048 .f32 := shapeCast S1x2048 main_arg3 shapeCasts_S2048_S1x2048
  let main_v3 : FVec F S2048x128 .f32 := (extf .f32 · bitsLt_bf16_f32) main_arg4
  let main_v4 : FVec F S128x2048 .f32 := (transpose S128x2048 [1, 0] · transposes_S2048x128_S128x2048_1_0) main_v3
  let main_v5 : FVec F S2048x128 .f32 := (extf .f32 · bitsLt_bf16_f32) main_arg5
  let main_v6 : FVec F S128x2048 .f32 := (transpose S128x2048 [1, 0] · transposes_S2048x128_S128x2048_1_0) main_v5
  let main_v7 : FVec F S67841x2048 .f32 := concatenate S67841x2048 0 [⟨S32768x2048, main_v0⟩, ⟨S32768x2048, main_arg1⟩, ⟨S2048x2048, main_v1⟩, ⟨S1x2048, main_v2⟩, ⟨S128x2048, main_v4⟩, ⟨S128x2048, main_v6⟩] concatenates_S32768x2048_S32768x2048_S2048x2048_S1x2048_S128x2048_S128x2048_S67841x2048_d0
  let main_v8 : FVec F S67841x2048 .f32 := Host.absf main_v7
  let main_cst : FVec F S_ .f32 := constant S_ .f32 0x7F800000#32
  let main_v9 : FVec F S67841x2048 .f32 := broadcastInDim S67841x2048 ![] bcast_S_S67841x2048 main_cst
  let main_v10 : IVec S67841x2048 1 := cmpf .olt main_v8 main_v9
  main_v10
-- ==== Kernel.lean ====
abbrev S2x16384x1024 : Shape := ⟨3, ![2, 16384, 1024]⟩
abbrev S2x16384x256 : Shape := ⟨3, ![2, 16384, 256]⟩
abbrev S1x512x512 : Shape := ⟨3, ![1, 512, 512]⟩
abbrev S1x1024x128 : Shape := ⟨3, ![1, 1024, 128]⟩
abbrev S4x512x1 : Shape := ⟨3, ![4, 512, 1]⟩
abbrev S4x512x128 : Shape := ⟨3, ![4, 512, 128]⟩
abbrev S1024x128 : Shape := ⟨2, ![1024, 128]⟩
abbrev S1x512x128 : Shape := ⟨3, ![1, 512, 128]⟩
abbrev S512x128 : Shape := ⟨2, ![512, 128]⟩
abbrev S512x1024 : Shape := ⟨2, ![512, 1024]⟩
abbrev S1x512x1 : Shape := ⟨3, ![1, 512, 1]⟩
abbrev S512x1 : Shape := ⟨2, ![512, 1]⟩
abbrev S512 : Shape := ⟨1, ![512]⟩

abbrev nBuf : Space → Nat
  | .hbm => 4
  | .vmem => 11
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x256, .bf16⟩
  | .hbm, ⟨2, _⟩ => ⟨S2x16384x256, .bf16⟩
  | .hbm, ⟨3, _⟩ => ⟨S2x16384x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x512x512, .bf16⟩
  | .local _ .vmem, ⟨7, _⟩ => ⟨S1x512x512, .bf16⟩
  | .local _ .vmem, ⟨8, _⟩ => ⟨S4x512x1, .f32⟩
  | .local _ .vmem, ⟨9, _⟩ => ⟨S4x512x1, .f32⟩
  | .local _ .vmem, ⟨10, _⟩ => ⟨S4x512x128, .f32⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 2, 32, 16], ![false, false, false, false]⟩

def k0_cond2 (i : grid0.Coords) : BitVec 1 :=
  let arg3 : BitVec 32 := BitVec.ofNat 32 (i 3).val
  let c15_i32 : BitVec 32 := 15#32
  let v147 : BitVec 1 := Scalar.cmpi .eq arg3 c15_i32
  let v148 : BitVec 32 := Scalar.extui v147
  let c0_i32_99 : BitVec 32 := 0#32
  let v149 : BitVec 1 := Scalar.cmpi .ne v148 c0_i32_99
  v149

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== ReferenceIdeal.lean ====
abbrev S2x16384x1024 : Shape := ⟨3, ![2, 16384, 1024]⟩
abbrev S2x16384x256 : Shape := ⟨3, ![2, 16384, 256]⟩
abbrev S2x16384x2x4x128 : Shape := ⟨5, ![2, 16384, 2, 4, 128]⟩
abbrev S2x16384x2x128 : Shape := ⟨4, ![2, 16384, 2, 128]⟩
abbrev S2x2x16384x16384x4 : Shape := ⟨5, ![2, 2, 16384, 16384, 4]⟩
abbrev S2x2x4x16384x16384 : Shape := ⟨5, ![2, 2, 4, 16384, 16384]⟩
abbrev S_ : Shape := ⟨0, ![]⟩
abbrev S2x2x4x16384 : Shape := ⟨4, ![2, 2, 4, 16384]⟩
abbrev S2x2x4x16384x1 : Shape := ⟨5, ![2, 2, 4, 16384, 1]⟩
abbrev S2x2x128x4x16384 : Shape := ⟨5, ![2, 2, 128, 4, 16384]⟩

abbrev nBuf : Space → Nat
  | .hbm => 31
  | .vmem => 0
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x256, .bf16⟩
  | .hbm, ⟨2, _⟩ => ⟨S2x16384x256, .bf16⟩
  | .hbm, ⟨3, _⟩ => ⟨S2x16384x1024, .f32⟩
  | .hbm, ⟨4, _⟩ => ⟨S2x16384x2x4x128, .f32⟩
  | .hbm, ⟨5, _⟩ => ⟨S2x16384x256, .f32⟩
  | .hbm, ⟨6, _⟩ => ⟨S2x16384x2x128, .f32⟩
  | .hbm, ⟨7, _⟩ => ⟨S2x16384x256, .f32⟩
  | .hbm, ⟨8, _⟩ => ⟨S2x16384x2x128, .f32⟩
  | .hbm, ⟨9, _⟩ => ⟨S2x2x16384x16384x4, .f32⟩
  | .hbm, ⟨10, _⟩ => ⟨S2x2x4x16384x16384, .f32⟩
  | .hbm, ⟨11, _⟩ => ⟨S_, .f32⟩
  | .hbm, ⟨12, _⟩ => ⟨S2x2x4x16384, .f32⟩
  | .hbm, ⟨13, _⟩ => ⟨S_, .f32⟩
  | .hbm, ⟨14, _⟩ => ⟨S2x2x4x16384, .f32⟩
  | .hbm, ⟨15, _⟩ => ⟨S2x2x4x16384, .f32⟩
  | .hbm, ⟨16, _⟩ => ⟨S2x2x4x16384x1, .f32⟩
  | .hbm, ⟨17, _⟩ => ⟨S2x2x4x16384x16384, .f32⟩
  | .hbm, ⟨18, _⟩ => ⟨S2x2x4x16384x16384, .f32⟩
  | .hbm, ⟨19, _⟩ => ⟨S2x2x4x16384x16384, .f32⟩
  | .hbm, ⟨20, _⟩ => ⟨S_, .f32⟩
  | .hbm, ⟨21, _⟩ => ⟨S2x2x4x16384, .f32⟩
  | .hbm, ⟨22, _⟩ => ⟨S2x2x4x16384x1, .f32⟩
  | .hbm, ⟨23, _⟩ => ⟨S2x2x4x16384x16384, .f32⟩
  | .hbm, ⟨24, _⟩ => ⟨S2x2x4x16384x16384, .f32⟩
  | .hbm, ⟨25, _⟩ => ⟨S2x2x4x16384x16384, .bf16⟩
  | .hbm, ⟨26, _⟩ => ⟨S2x2x4x16384x16384, .f32⟩
  | .hbm, ⟨27, _⟩ => ⟨S2x2x128x4x16384, .f32⟩
  | .hbm, ⟨28, _⟩ => ⟨S2x16384x2x4x128, .f32⟩
  | .hbm, ⟨29, _⟩ => ⟨S2x16384x1024, .f32⟩
  | .hbm, ⟨30, _⟩ => ⟨S2x16384x1024, .bf16⟩
  | _, _ => ⟨S2x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel2.lean ====
abbrev S32768x2048 : Shape := ⟨2, ![32768, 2048]⟩
abbrev S2048 : Shape := ⟨1, ![2048]⟩
abbrev S2048x9728 : Shape := ⟨2, ![2048, 9728]⟩
abbrev S1x2048 : Shape := ⟨2, ![1, 2048]⟩
abbrev S32768x9728 : Shape := ⟨2, ![32768, 9728]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x9728, .bf16⟩
  | .hbm, ⟨3, _⟩ => ⟨S1x2048, .f32⟩
  | .hbm, ⟨4, _⟩ => ⟨S32768x9728, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 19], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S32768x2048 : Shape := ⟨2, ![32768, 2048]⟩
abbrev S2048 : Shape := ⟨1, ![2048]⟩
abbrev S2048x9728 : Shape := ⟨2, ![2048, 9728]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x9728 : Shape := ⟨2, ![32768, 9728]⟩

abbrev nBuf : Space → Nat
  | .hbm => 21
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x9728, .bf16⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S2048x9728, .f32⟩
  | .hbm, ⟨20, _⟩ => ⟨S32768x9728, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel3.lean ====
abbrev S288 : Shape := ⟨1, ![288]⟩
abbrev S1 : Shape := ⟨1, ![1]⟩
abbrev S73728x2048 : Shape := ⟨2, ![73728, 2048]⟩
abbrev S32x2048x1024 : Shape := ⟨3, ![32, 2048, 1024]⟩
abbrev S32x1024x2048 : Shape := ⟨3, ![32, 1024, 2048]⟩
abbrev S73728x1 : Shape := ⟨2, ![73728, 1]⟩
abbrev S256x2048 : Shape := ⟨2, ![256, 2048]⟩
abbrev S1x2048x1024 : Shape := ⟨3, ![1, 2048, 1024]⟩
abbrev S1x1024x2048 : Shape := ⟨3, ![1, 1024, 2048]⟩
abbrev S256x1 : Shape := ⟨2, ![256, 1]⟩
abbrev S2048x1024 : Shape := ⟨2, ![2048, 1024]⟩
abbrev S256x1024 : Shape := ⟨2, ![256, 1024]⟩
abbrev S1024x2048 : Shape := ⟨2, ![1024, 2048]⟩

abbrev nBuf : Space → Nat
  | .hbm => 6
  | .vmem => 12
  | .smem => 2
  | _ => 0

abbrev bufTy : (tb : Table) → Fin (tcTables nBuf tb) → BufTy
  | .hbm, ⟨0, _⟩ => ⟨S73728x2048, .bf16⟩
  | .hbm, ⟨1, _⟩ => ⟨S32x2048x1024, .bf16⟩
  | .hbm, ⟨2, _⟩ => ⟨S32x2048x1024, .bf16⟩
  | .hbm, ⟨3, _⟩ => ⟨S32x1024x2048, .bf16⟩
  | .hbm, ⟨4, _⟩ => ⟨S73728x1, .f32⟩
  | .hbm, ⟨5, _⟩ => ⟨S73728x2048, .f32⟩
  | .local _ .vmem, ⟨0, _⟩ => ⟨S256x2048, .bf16⟩
  | .local _ .vmem, ⟨1, _⟩ => ⟨S256x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S256x1, .f32⟩
  | .local _ .vmem, ⟨9, _⟩ => ⟨S256x1, .f32⟩
  | .local _ .vmem, ⟨10, _⟩ => ⟨S256x2048, .f32⟩
  | .local _ .vmem, ⟨11, _⟩ => ⟨S256x2048, .f32⟩
  | .local _ .smem, ⟨0, _⟩ => ⟨S288, .i32⟩
  | .local _ .smem, ⟨1, _⟩ => ⟨S1, .i32⟩
  | _, _ => ⟨S73728x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S288 : Shape := ⟨1, ![288]⟩
abbrev S1 : Shape := ⟨1, ![1]⟩
abbrev S73728x2048 : Shape := ⟨2, ![73728, 2048]⟩
abbrev S32x2048x1024 : Shape := ⟨3, ![32, 2048, 1024]⟩
abbrev S32x1024x2048 : Shape := ⟨3, ![32, 1024, 2048]⟩
abbrev S73728x1 : Shape := ⟨2, ![73728, 1]⟩
abbrev S288x256x2048 : Shape := ⟨3, ![288, 256, 2048]⟩
abbrev S288x1 : Shape := ⟨2, ![288, 1]⟩
abbrev S288x2048x1024 : Shape := ⟨3, ![288, 2048, 1024]⟩
abbrev S288x1024x2048 : Shape := ⟨3, ![288, 1024, 2048]⟩
abbrev S288x256x1024 : Shape := ⟨3, ![288, 256, 1024]⟩
abbrev S_ : Shape := ⟨0, ![]⟩
abbrev S288x256x1 : Shape := ⟨3, ![288, 256, 1]⟩
abbrev S288x1x1 : Shape := ⟨3, ![288, 1, 1]⟩

abbrev nBuf : Space → Nat
  | .hbm => 44
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x2048, .bf16⟩
  | .hbm, ⟨3, _⟩ => ⟨S32x2048x1024, .bf16⟩
  | .hbm, ⟨4, _⟩ => ⟨S32x2048x1024, .bf16⟩
  | .hbm, ⟨5, _⟩ => ⟨S32x1024x2048, .bf16⟩
  | .hbm, ⟨6, _⟩ => ⟨S73728x1, .f32⟩
  | .hbm, ⟨7, _⟩ => ⟨S73728x2048, .f32⟩
  | .hbm, ⟨8, _⟩ => ⟨S288x256x2048, .f32⟩
  | .hbm, ⟨9, _⟩ => ⟨S32x2048x1024, .f32⟩
  | .hbm, ⟨10, _⟩ => ⟨S288x1, .i32⟩
  | .hbm, ⟨11, _⟩ => ⟨S288x2048x1024, .f32⟩
  | .hbm, ⟨12, _⟩ => ⟨S32x2048x1024, .f32⟩
  | .hbm, ⟨13, _⟩ => ⟨S288x1, .i32⟩
  | .hbm, ⟨14, _⟩ => ⟨S288x2048x1024, .f32⟩
  | .hbm, ⟨15, _⟩ => ⟨S32x1024x2048, .f32⟩
  | .hbm, ⟨16, _⟩ => ⟨S288x1, .i32⟩
  | .hbm, ⟨17, _⟩ => ⟨S288x1024x2048, .f32⟩
  | .hbm, ⟨18, _⟩ => ⟨S288x256x1024, .f32⟩
  | .hbm, ⟨19, _⟩ => ⟨S288x256x1024, .f32⟩
  | .hbm, ⟨20, _⟩ => ⟨S288x256x1024, .f32⟩
  | .hbm, ⟨21, _⟩ => ⟨S_, .f32⟩
  | .hbm, ⟨22, _⟩ => ⟨S288x256x1024, .f32⟩
  | .hbm, ⟨23, _⟩ => ⟨S288x256x1024, .f32⟩
  | .hbm, ⟨24, _⟩ => ⟨S_, .f32⟩
  | .hbm, ⟨25, _⟩ => ⟨S288x256x1024, .f32⟩
  | .hbm, ⟨26, _⟩ => ⟨S288x256x1024, .f32⟩
  | .hbm, ⟨27, _⟩ => ⟨S288x256x1024, .f32⟩
  | .hbm, ⟨28, _⟩ => ⟨S288x256x1024, .f32⟩
  | .hbm, ⟨29, _⟩ => ⟨S288x256x1024, .f32⟩
  | .hbm, ⟨30, _⟩ => ⟨S288x256x2048, .f32⟩
  | .hbm, ⟨31, _⟩ => ⟨S288x256x1, .f32⟩
  | .hbm, ⟨32, _⟩ => ⟨S288x256x2048, .f32⟩
  | .hbm, ⟨33, _⟩ => ⟨S288x256x2048, .f32⟩
  | .hbm, ⟨34, _⟩ => ⟨S288, .i32⟩
  | .hbm, ⟨35, _⟩ => ⟨S288, .i32⟩
  | .hbm, ⟨36, _⟩ => ⟨S288, .i1⟩
  | .hbm, ⟨37, _⟩ => ⟨S288x1x1, .i1⟩
  | .hbm, ⟨38, _⟩ => ⟨S_, .f32⟩
  | .hbm, ⟨39, _⟩ => ⟨S_, .f32⟩
  | .hbm, ⟨40, _⟩ => ⟨S288x256x2048, .i1⟩
  | .hbm, ⟨41, _⟩ => ⟨S288x256x2048, .f32⟩
  | .hbm, ⟨42, _⟩ => ⟨S288x256x2048, .f32⟩
  | .hbm, ⟨43, _⟩ => ⟨S73728x2048, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_call3_v0 : Ref sig .tc := ⟨.hbm, 19, rfl⟩
abbrev main_call3_v1 : Ref sig .tc := ⟨.hbm, 20, rfl⟩
abbrev main_call3_cst : Ref sig .tc := ⟨.hbm, 21, rfl⟩
abbrev main_call3_v2 : Ref sig .tc := ⟨.hbm, 22, rfl⟩
abbrev main_call3_v3 : Ref sig .tc := ⟨.hbm, 23, rfl⟩
abbrev main_call3_cst_0 : Ref sig .tc := ⟨.hbm, 24, rfl⟩
abbrev main_call3_v4 : Ref sig .tc := ⟨.hbm, 25, rfl⟩
abbrev main_call3_v5 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_call4_v0 : Ref sig .tc := ⟨.hbm, 39, rfl⟩
abbrev main_call4_v1 : Ref sig .tc := ⟨.hbm, 40, rfl⟩
abbrev main_call4_v2 : Ref sig .tc := ⟨.hbm, 41, rfl⟩
abbrev main_v20 : Ref sig .tc := ⟨.hbm, 42, rfl⟩
abbrev main_v21 : Ref sig .tc := ⟨.hbm, 43, rfl⟩

abbrev nD : Nat := 1
abbrev τ : Topo := Topo.v7x

variable {F : FTy → Type} [FloatOps F]
-- ==== Kernel4.lean ====
abbrev S32768x1024 : Shape := ⟨2, ![32768, 1024]⟩
abbrev S32768x512 : Shape := ⟨2, ![32768, 512]⟩
abbrev S1024x2048 : Shape := ⟨2, ![1024, 2048]⟩
abbrev S512x2048 : Shape := ⟨2, ![512, 2048]⟩
abbrev S32768x9728 : Shape := ⟨2, ![32768, 9728]⟩
abbrev S6144 : Shape := ⟨1, ![6144]⟩
abbrev S1x6144 : Shape := ⟨2, ![1, 6144]⟩
abbrev S32768x2048 : Shape := ⟨2, ![32768, 2048]⟩
abbrev S1024x1024 : Shape := ⟨2, ![1024, 1024]⟩
abbrev S1024x512 : Shape := ⟨2, ![1024, 512]⟩
abbrev S512x512 : Shape := ⟨2, ![512, 512]⟩
abbrev S1x512 : Shape := ⟨2, ![1, 512]⟩

abbrev nBuf : Space → Nat
  | .hbm => 10
  | .vmem => 26
  | .smem => 0
  | _ => 0

abbrev bufTy : (tb : Table) → Fin (tcTables nBuf tb) → BufTy
  | .hbm, ⟨0, _⟩ => ⟨S32768x1024, .bf16⟩
  | .hbm, ⟨1, _⟩ => ⟨S32768x512, .bf16⟩
  | .hbm, ⟨2, _⟩ => ⟨S32768x512, .bf16⟩
  | .hbm, ⟨3, _⟩ => ⟨S1024x2048, .bf16⟩
  | .hbm, ⟨4, _⟩ => ⟨S512x2048, .bf16⟩
  | .hbm, ⟨5, _⟩ => ⟨S512x2048, .bf16⟩
  | .hbm, ⟨6, _⟩ => ⟨S32768x9728, .f32⟩
  | .hbm, ⟨7, _⟩ => ⟨S6144, .f32⟩
  | .hbm, ⟨8, _⟩ => ⟨S1x6144, .f32⟩
  | .hbm, ⟨9, _⟩ => ⟨S32768x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1024x512, .bf16⟩
  | .local _ .vmem, ⟨25, _⟩ => ⟨S1024x512, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference4Ideal.lean ====
abbrev S32768x1024 : Shape := ⟨2, ![32768, 1024]⟩
abbrev S32768x512 : Shape := ⟨2, ![32768, 512]⟩
abbrev S1024x2048 : Shape := ⟨2, ![1024, 2048]⟩
abbrev S512x2048 : Shape := ⟨2, ![512, 2048]⟩
abbrev S32768x9728 : Shape := ⟨2, ![32768, 9728]⟩
abbrev S6144 : Shape := ⟨1, ![6144]⟩
abbrev S32768x6144 : Shape := ⟨2, ![32768, 6144]⟩
abbrev S1x6144 : Shape := ⟨2, ![1, 6144]⟩
abbrev S_ : Shape := ⟨0, ![]⟩
abbrev S32768x3x2048 : Shape := ⟨3, ![32768, 3, 2048]⟩
abbrev S32768x1x2048 : Shape := ⟨3, ![32768, 1, 2048]⟩
abbrev S32768x2048 : Shape := ⟨2, ![32768, 2048]⟩

abbrev nBuf : Space → Nat
  | .hbm => 42
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x512, .bf16⟩
  | .hbm, ⟨2, _⟩ => ⟨S32768x512, .bf16⟩
  | .hbm, ⟨3, _⟩ => ⟨S1024x2048, .bf16⟩
  | .hbm, ⟨4, _⟩ => ⟨S512x2048, .bf16⟩
  | .hbm, ⟨5, _⟩ => ⟨S512x2048, .bf16⟩
  | .hbm, ⟨6, _⟩ => ⟨S32768x9728, .f32⟩
  | .hbm, ⟨7, _⟩ => ⟨S6144, .f32⟩
  | .hbm, ⟨8, _⟩ => ⟨S32768x6144, .f32⟩
  | .hbm, ⟨9, _⟩ => ⟨S1x6144, .f32⟩
  | .hbm, ⟨10, _⟩ => ⟨S32768x6144, .f32⟩
  | .hbm, ⟨11, _⟩ => ⟨S32768x6144, .f32⟩
  | .hbm, ⟨12, _⟩ => ⟨S32768x6144, .f32⟩
  | .hbm, ⟨13, _⟩ => ⟨S32768x6144, .f32⟩
  | .hbm, ⟨14, _⟩ => ⟨S_, .f32⟩
  | .hbm, ⟨15, _⟩ => ⟨S32768x6144, .f32⟩
  | .hbm, ⟨16, _⟩ => ⟨S32768x6144, .f32⟩
  | .hbm, ⟨17, _⟩ => ⟨S_, .f32⟩
  | .hbm, ⟨18, _⟩ => ⟨S32768x6144, .f32⟩
  | .hbm, ⟨19, _⟩ => ⟨S32768x6144, .f32⟩
  | .hbm, ⟨20, _⟩ => ⟨S32768x3x2048, .f32⟩
  | .hbm, ⟨21, _⟩ => ⟨S32768x1x2048, .f32⟩
  | .hbm, ⟨22, _⟩ => ⟨S32768x2048, .f32⟩
  | .hbm, ⟨23, _⟩ => ⟨S32768x1024, .f32⟩
  | .hbm, ⟨24, _⟩ => ⟨S1024x2048, .f32⟩
  | .hbm, ⟨25, _⟩ => ⟨S32768x2048, .f32⟩
  | .hbm, ⟨26, _⟩ => ⟨S32768x2048, .f32⟩
  | .hbm, ⟨27, _⟩ => ⟨S32768x1x2048, .f32⟩
  | .hbm, ⟨28, _⟩ => ⟨S32768x2048, .f32⟩
  | .hbm, ⟨29, _⟩ => ⟨S32768x512, .f32⟩
  | .hbm, ⟨30, _⟩ => ⟨S512x2048, .f32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S32768x1x2048, .f32⟩
  | .hbm, ⟨35, _⟩ => ⟨S32768x2048, .f32⟩
  | .hbm, ⟨36, _⟩ => ⟨S32768x512, .f32⟩
  | .hbm, ⟨37, _⟩ => ⟨S512x2048, .f32⟩
  | .hbm, ⟨38, _⟩ => ⟨S32768x2048, .f32⟩
  | .hbm, ⟨39, _⟩ => ⟨S32768x2048, .f32⟩
  | .hbm, ⟨40, _⟩ => ⟨S32768x2048, .f32⟩
  | .hbm, ⟨41, _⟩ => ⟨S32768x2048, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel5.lean ====
abbrev S32768x2048 : Shape := ⟨2, ![32768, 2048]⟩
abbrev S2048x2048 : Shape := ⟨2, ![2048, 2048]⟩
abbrev S2048 : Shape := ⟨1, ![2048]⟩
abbrev S2048x128 : Shape := ⟨2, ![2048, 128]⟩
abbrev S1x128 : Shape := ⟨2, ![1, 128]⟩
abbrev S1x2048 : Shape := ⟨2, ![1, 2048]⟩
abbrev S32768x128 : Shape := ⟨2, ![32768, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 11
  | .vmem => 15
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .f32⟩
  | .hbm, ⟨2, _⟩ => ⟨S2048x2048, .bf16⟩
  | .hbm, ⟨3, _⟩ => ⟨S2048, .f32⟩
  | .hbm, ⟨4, _⟩ => ⟨S2048x128, .bf16⟩
  | .hbm, ⟨5, _⟩ => ⟨S2048x128, .bf16⟩
  | .hbm, ⟨6, _⟩ => ⟨S1x128, .f32⟩
  | .hbm, ⟨7, _⟩ => ⟨S1x2048, .f32⟩
  | .hbm, ⟨8, _⟩ => ⟨S32768x2048, .f32⟩
  | .hbm, ⟨9, _⟩ => ⟨S32768x2048, .bf16⟩
  | .hbm, ⟨10, _⟩ => ⟨S32768x128, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S1x2048, .f32⟩
  | .local _ .vmem, ⟨6, _⟩ => ⟨S2048x128, .bf16⟩
  | .local _ .vmem, ⟨7, _⟩ => ⟨S2048x128, .bf16⟩
  | .local _ .vmem, ⟨8, _⟩ => ⟨S1x128, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S512x128, .f32⟩
  | .local _ .vmem, ⟨14, _⟩ => ⟨S512x128, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S32768x2048 : Shape := ⟨2, ![32768, 2048]⟩
abbrev S2048x2048 : Shape := ⟨2, ![2048, 2048]⟩
abbrev S2048 : Shape := ⟨1, ![2048]⟩
abbrev S2048x128 : Shape := ⟨2, ![2048, 128]⟩
abbrev S1x128 : Shape := ⟨2, ![1, 128]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x128 : Shape := ⟨2, ![32768, 128]⟩

abbrev nBuf : Space → Nat
  | .hbm => 34
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .f32⟩
  | .hbm, ⟨2, _⟩ => ⟨S2048x2048, .bf16⟩
  | .hbm, ⟨3, _⟩ => ⟨S2048, .f32⟩
  | .hbm, ⟨4, _⟩ => ⟨S2048x128, .bf16⟩
  | .hbm, ⟨5, _⟩ => ⟨S2048x128, .bf16⟩
  | .hbm, ⟨6, _⟩ => ⟨S1x128, .f32⟩
  | .hbm, ⟨7, _⟩ => ⟨S32768x2048, .f32⟩
  | .hbm, ⟨8, _⟩ => ⟨S2048x2048, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x2048, .f32⟩
  | .hbm, ⟨23, _⟩ => ⟨S32768x2048, .f32⟩
  | .hbm, ⟨24, _⟩ => ⟨S1x2048, .f32⟩
  | .hbm, ⟨25, _⟩ => ⟨S32768x2048, .f32⟩
  | .hbm, ⟨26, _⟩ => ⟨S32768x2048, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S32768x128, .f32⟩
  | .hbm, ⟨31, _⟩ => ⟨S32768x128, .f32⟩
  | .hbm, ⟨32, _⟩ => ⟨S32768x128, .f32⟩
  | .hbm, ⟨33, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel6.lean ====
abbrev S2x16384x9728 : Shape := ⟨3, ![2, 16384, 9728]⟩
abbrev S2x256x1024 : Shape := ⟨3, ![2, 256, 1024]⟩
abbrev S128 : Shape := ⟨1, ![128]⟩
abbrev S1x128 : Shape := ⟨2, ![1, 128]⟩
abbrev S2x16384x512 : Shape := ⟨3, ![2, 16384, 512]⟩
abbrev S1x512x512 : Shape := ⟨3, ![1, 512, 512]⟩
abbrev S1x256x1024 : Shape := ⟨3, ![1, 256, 1024]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S512x256 : Shape := ⟨2, ![512, 256]⟩

abbrev nBuf : Space → Nat
  | .hbm => 7
  | .vmem => 8
  | .smem => 0
  | _ => 0

abbrev bufTy : (tb : Table) → Fin (tcTables nBuf tb) → BufTy
  | .hbm, ⟨0, _⟩ => ⟨S2x16384x9728, .f32⟩
  | .hbm, ⟨1, _⟩ => ⟨S2x256x1024, .f32⟩
  | .hbm, ⟨2, _⟩ => ⟨S128, .f32⟩
  | .hbm, ⟨3, _⟩ => ⟨S128, .f32⟩
  | .hbm, ⟨4, _⟩ => ⟨S1x128, .f32⟩
  | .hbm, ⟨5, _⟩ => ⟨S1x128, .f32⟩
  | .hbm, ⟨6, _⟩ => ⟨S2x16384x512, .bf16⟩
  | .local _ .vmem, ⟨0, _⟩ => ⟨S1x512x512, .f32⟩
  | .local _ .vmem, ⟨1, _⟩ => ⟨S1x512x512, .f32⟩
  | .local _ .vmem, ⟨2, _⟩ => ⟨S1x256x1024, .f32⟩
  | .local _ .vmem, ⟨3, _⟩ => ⟨S1x256x1024, .f32⟩
  | .local _ .vmem, ⟨4, _⟩ => ⟨S1x128, .f32⟩
  | .local _ .vmem, ⟨5, _⟩ => ⟨S1x128, .f32⟩
  | .local _ .vmem, ⟨6, _⟩ => ⟨S1x512x512, .bf16⟩
  | .local _ .vmem, ⟨7, _⟩ => ⟨S1x512x512, .bf16⟩
  | _, _ => ⟨S2x16384x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S2x16384x9728 : Shape := ⟨3, ![2, 16384, 9728]⟩
abbrev S2x256x1024 : Shape := ⟨3, ![2, 256, 1024]⟩
abbrev S128 : Shape := ⟨1, ![128]⟩
abbrev S2x16384x512 : Shape := ⟨3, ![2, 16384, 512]⟩
abbrev S2x16384x4x128 : Shape := ⟨4, ![2, 16384, 4, 128]⟩
abbrev S_ : Shape := ⟨0, ![]⟩
abbrev S2x16384x4 : Shape := ⟨3, ![2, 16384, 4]⟩
abbrev S2x16384x4x1 : Shape := ⟨4, ![2, 16384, 4, 1]⟩
abbrev S1x1x1x128 : Shape := ⟨4, ![1, 1, 1, 128]⟩
abbrev S2x256x2x4x128 : Shape := ⟨5, ![2, 256, 2, 4, 128]⟩
abbrev S2x256x1x4x128 : Shape := ⟨5, ![2, 256, 1, 4, 128]⟩
abbrev S2x256x4x128 : Shape := ⟨4, ![2, 256, 4, 128]⟩
abbrev S2x256x4 : Shape := ⟨3, ![2, 256, 4]⟩
abbrev S2x256x4x1 : Shape := ⟨4, ![2, 256, 4, 1]⟩
abbrev S2x4x16384x256 : Shape := ⟨4, ![2, 4, 16384, 256]⟩
abbrev S2x4x16384 : Shape := ⟨3, ![2, 4, 16384]⟩
abbrev S2x4x16384x1 : Shape := ⟨4, ![2, 4, 16384, 1]⟩
abbrev S2x4x128x16384 : Shape := ⟨4, ![2, 4, 128, 16384]⟩

abbrev nBuf : Space → Nat
  | .hbm => 65
  | .vmem => 0
  | .smem => 0
  | _ => 0

abbrev bufTy : (tb : Table) → Fin (tcTables nBuf tb) → BufTy
  | .hbm, ⟨0, _⟩ => ⟨S2x16384x9728, .f32⟩
  | .hbm, ⟨1, _⟩ => ⟨S2x256x1024, .f32⟩
  | .hbm, ⟨2, _⟩ => ⟨S128, .f32⟩
  | .hbm, ⟨3, _⟩ => ⟨S128, .f32⟩
  | .hbm, ⟨4, _⟩ => ⟨S2x16384x512, .f32⟩
  | .hbm, ⟨5, _⟩ => ⟨S2x16384x4x128, .f32⟩
  | .hbm, ⟨6, _⟩ => ⟨S2x16384x4x128, .f32⟩
  | .hbm, ⟨7, _⟩ => ⟨S_, .f32⟩
  | .hbm, ⟨8, _⟩ => ⟨S2x16384x4, .f32⟩
  | .hbm, ⟨9, _⟩ => ⟨S2x16384x4x1, .f32⟩
  | .hbm, ⟨10, _⟩ => ⟨S_, .f32⟩
  | .hbm, ⟨11, _⟩ => ⟨S2x16384x4x1, .f32⟩
  | .hbm, ⟨12, _⟩ => ⟨S2x16384x4x1, .f32⟩
  | .hbm, ⟨13, _⟩ => ⟨S_, .f32⟩
  | .hbm, ⟨14, _⟩ => ⟨S2x16384x4x1, .f32⟩
  | .hbm, ⟨15, _⟩ => ⟨S2x16384x4x1, .f32⟩
  | .hbm, ⟨16, _⟩ => ⟨S2x16384x4x1, .f32⟩
  | .hbm, ⟨17, _⟩ => ⟨S2x16384x4x128, .f32⟩
  | .hbm, ⟨18, _⟩ => ⟨S2x16384x4x128, .f32⟩
  | .hbm, ⟨19, _⟩ => ⟨S1x1x1x128, .f32⟩
  | .hbm, ⟨20, _⟩ => ⟨S2x16384x4x128, .f32⟩
  | .hbm, ⟨21, _⟩ => ⟨S2x16384x4x128, .f32⟩
  | .hbm, ⟨22, _⟩ => ⟨S2x256x2x4x128, .f32⟩
  | .hbm, ⟨23, _⟩ => ⟨S2x256x1x4x128, .f32⟩
  | .hbm, ⟨24, _⟩ => ⟨S2x256x4x128, .f32⟩
  | .hbm, ⟨25, _⟩ => ⟨S2x256x4x128, .f32⟩
  | .hbm, ⟨26, _⟩ => ⟨S_, .f32⟩
  | .hbm, ⟨27, _⟩ => ⟨S2x256x4, .f32⟩
  | .hbm, ⟨28, _⟩ => ⟨S2x256x4x1, .f32⟩
  | .hbm, ⟨29, _⟩ => ⟨S_, .f32⟩
  | .hbm, ⟨30, _⟩ => ⟨S2x256x4x1, .f32⟩
  | .hbm, ⟨31, _⟩ => ⟨S2x256x4x1, .f32⟩
  | .hbm, ⟨32, _⟩ => ⟨S_, .f32⟩
  | .hbm, ⟨33, _⟩ => ⟨S2x256x4x1, .f32⟩
  | .hbm, ⟨34, _⟩ => ⟨S2x256x4x1, .f32⟩
  | .hbm, ⟨35, _⟩ => ⟨S2x256x4x1, .f32⟩
  | .hbm, ⟨36, _⟩ => ⟨S2x256x4x128, .f32⟩
  | .hbm, ⟨37, _⟩ => ⟨S2x256x4x128, .f32⟩
  | .hbm, ⟨38, _⟩ => ⟨S1x1x1x128, .f32⟩
  | .hbm, ⟨39, _⟩ => ⟨S2x256x4x128, .f32⟩
  | .hbm, ⟨40, _⟩ => ⟨S2x256x4x128, .f32⟩
  | .hbm, ⟨41, _⟩ => ⟨S2x256x1x4x128, .f32⟩
  | .hbm, ⟨42, _⟩ => ⟨S2x256x4x128, .f32⟩
  | .hbm, ⟨43, _⟩ => ⟨S2x4x16384x256, .f32⟩
  | .hbm, ⟨44, _⟩ => ⟨S_, .f32⟩
  | .hbm, ⟨45, _⟩ => ⟨S2x4x16384x256, .f32⟩
  | .hbm, ⟨46, _⟩ => ⟨S2x4x16384x256, .f32⟩
  | .hbm, ⟨47, _⟩ => ⟨S_, .f32⟩
  | .hbm, ⟨48, _⟩ => ⟨S2x4x16384, .f32⟩
  | .hbm, ⟨49, _⟩ => ⟨S_, .f32⟩
  | .hbm, ⟨50, _⟩ => ⟨S2x4x16384, .f32⟩
  | .hbm, ⟨51, _⟩ => ⟨S2x4x16384, .f32⟩
  | .hbm, ⟨52, _⟩ => ⟨S2x4x16384x1, .f32⟩
  | .hbm, ⟨53, _⟩ => ⟨S2x4x16384x256, .f32⟩
  | .hbm, ⟨54, _⟩ => ⟨S2x4x16384x256, .f32⟩
  | .hbm, ⟨55, _⟩ => ⟨S2x4x16384x256, .f32⟩
  | .hbm, ⟨56, _⟩ => ⟨S_, .f32⟩
  | .hbm, ⟨57, _⟩ => ⟨S2x4x16384, .f32⟩
  | .hbm, ⟨58, _⟩ => ⟨S2x4x16384x1, .f32⟩
  | .hbm, ⟨59, _⟩ => ⟨S2x4x16384x256, .f32⟩
  | .hbm, ⟨60, _⟩ => ⟨S2x4x16384x256, .f32⟩
  | .hbm, ⟨61, _⟩ => ⟨S2x4x128x16384, .f32⟩
  | .hbm, ⟨62, _⟩ => ⟨S2x16384x4x128, .f32⟩
  | .hbm, ⟨63, _⟩ => ⟨S2x16384x512, .f32⟩
  | .hbm, ⟨64, _⟩ => ⟨S2x16384x512, .bf16⟩
  | _, _ => ⟨S2x16384x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Kernel7.lean ====
abbrev S512x2048 : Shape := ⟨2, ![512, 2048]⟩
abbrev S2048 : Shape := ⟨1, ![2048]⟩
abbrev S2048x1024 : Shape := ⟨2, ![2048, 1024]⟩
abbrev S1x2048 : Shape := ⟨2, ![1, 2048]⟩
abbrev S512x1024 : Shape := ⟨2, ![512, 1024]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x1024, .bf16⟩
  | .hbm, ⟨3, _⟩ => ⟨S1x2048, .f32⟩
  | .hbm, ⟨4, _⟩ => ⟨S512x1024, .f32⟩
  | .local _ .vmem, ⟨0, _⟩ => ⟨S512x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S512x2048 : Shape := ⟨2, ![512, 2048]⟩
abbrev S2048 : Shape := ⟨1, ![2048]⟩
abbrev S2048x1024 : Shape := ⟨2, ![2048, 1024]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S512x1024 : Shape := ⟨2, ![512, 1024]⟩

abbrev nBuf : Space → Nat
  | .hbm => 21
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x1024, .bf16⟩
  | .hbm, ⟨3, _⟩ => ⟨S512x2048, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x2048, .f32⟩
  | .hbm, ⟨15, _⟩ => ⟨S512x2048, .f32⟩
  | .hbm, ⟨16, _⟩ => ⟨S1x2048, .f32⟩
  | .hbm, ⟨17, _⟩ => ⟨S512x2048, .f32⟩
  | .hbm, ⟨18, _⟩ => ⟨S512x2048, .f32⟩
  | .hbm, ⟨19, _⟩ => ⟨S2048x1024, .f32⟩
  | .hbm, ⟨20, _⟩ => ⟨S512x1024, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel8.lean ====
abbrev S2x16384x9728 : Shape := ⟨3, ![2, 16384, 9728]⟩
abbrev S16384x64 : Shape := ⟨2, ![16384, 64]⟩
abbrev S128 : Shape := ⟨1, ![128]⟩
abbrev S16384x64x2 : Shape := ⟨3, ![16384, 64, 2]⟩
abbrev S16384x128 : Shape := ⟨2, ![16384, 128]⟩
abbrev S16384x64x1 : Shape := ⟨3, ![16384, 64, 1]⟩
abbrev S1x128 : Shape := ⟨2, ![1, 128]⟩
abbrev S2x16384x1024 : Shape := ⟨3, ![2, 16384, 1024]⟩
abbrev S2x16384x256 : Shape := ⟨3, ![2, 16384, 256]⟩
abbrev S1x512x1024 : Shape := ⟨3, ![1, 512, 1024]⟩
abbrev S1x512x256 : Shape := ⟨3, ![1, 512, 256]⟩
abbrev S512x128 : Shape := ⟨2, ![512, 128]⟩
abbrev S1x512x128 : Shape := ⟨3, ![1, 512, 128]⟩
abbrev S512 : Shape := ⟨1, ![512]⟩
abbrev S512x1 : Shape := ⟨2, ![512, 1]⟩

abbrev nBuf : Space → Nat
  | .hbm => 17
  | .vmem => 18
  | .smem => 0
  | _ => 0

abbrev bufTy : (tb : Table) → Fin (tcTables nBuf tb) → BufTy
  | .hbm, ⟨0, _⟩ => ⟨S2x16384x9728, .f32⟩
  | .hbm, ⟨1, _⟩ => ⟨S16384x64, .f32⟩
  | .hbm, ⟨2, _⟩ => ⟨S16384x64, .f32⟩
  | .hbm, ⟨3, _⟩ => ⟨S128, .f32⟩
  | .hbm, ⟨4, _⟩ => ⟨S128, .f32⟩
  | .hbm, ⟨5, _⟩ => ⟨S16384x64x2, .f32⟩
  | .hbm, ⟨6, _⟩ => ⟨S16384x128, .f32⟩
  | .hbm, ⟨7, _⟩ => ⟨S16384x64, .f32⟩
  | .hbm, ⟨8, _⟩ => ⟨S16384x64x1, .f32⟩
  | .hbm, ⟨9, _⟩ => ⟨S16384x64x1, .f32⟩
  | .hbm, ⟨10, _⟩ => ⟨S16384x64x2, .f32⟩
  | .hbm, ⟨11, _⟩ => ⟨S16384x128, .f32⟩
  | .hbm, ⟨12, _⟩ => ⟨S1x128, .f32⟩
  | .hbm, ⟨13, _⟩ => ⟨S1x128, .f32⟩
  | .hbm, ⟨14, _⟩ => ⟨S2x16384x1024, .bf16⟩
  | .hbm, ⟨15, _⟩ => ⟨S2x16384x256, .bf16⟩
  | .hbm, ⟨16, _⟩ => ⟨S2x16384x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x128, .f32⟩
  | .local _ .vmem, ⟨11, _⟩ => ⟨S1x128, .f32⟩
  | .local _ .vmem, ⟨12, _⟩ => ⟨S1x512x1024, .bf16⟩
  | .local _ .vmem, ⟨13, _⟩ => ⟨S1x512x1024, .bf16⟩
  | .local _ .vmem, ⟨14, _⟩ => ⟨S1x512x256, .bf16⟩
  | .local _ .vmem, ⟨15, _⟩ => ⟨S1x512x256, .bf16⟩
  | .local _ .vmem, ⟨16, _⟩ => ⟨S1x512x256, .bf16⟩
  | .local _ .vmem, ⟨17, _⟩ => ⟨S1x512x256, .bf16⟩
  | _, _ => ⟨S2x16384x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference8Ideal.lean ====
abbrev S2x16384x9728 : Shape := ⟨3, ![2, 16384, 9728]⟩
abbrev S16384x64 : Shape := ⟨2, ![16384, 64]⟩
abbrev S128 : Shape := ⟨1, ![128]⟩
abbrev S2x16384x1024 : Shape := ⟨3, ![2, 16384, 1024]⟩
abbrev S2x16384x256 : Shape := ⟨3, ![2, 16384, 256]⟩
abbrev S2x16384x8x128 : Shape := ⟨4, ![2, 16384, 8, 128]⟩
abbrev S_ : Shape := ⟨0, ![]⟩
abbrev S2x16384x8 : Shape := ⟨3, ![2, 16384, 8]⟩
abbrev S2x16384x8x1 : Shape := ⟨4, ![2, 16384, 8, 1]⟩
abbrev S1x1x1x128 : Shape := ⟨4, ![1, 1, 1, 128]⟩
abbrev S2x16384x8x64x2 : Shape := ⟨5, ![2, 16384, 8, 64, 2]⟩
abbrev S1x16384x1x64 : Shape := ⟨4, ![1, 16384, 1, 64]⟩
abbrev S2x16384x8x64x1 : Shape := ⟨5, ![2, 16384, 8, 64, 1]⟩
abbrev S2x16384x8x64 : Shape := ⟨4, ![2, 16384, 8, 64]⟩
abbrev S2x16384x2x128 : Shape := ⟨4, ![2, 16384, 2, 128]⟩
abbrev S2x16384x2 : Shape := ⟨3, ![2, 16384, 2]⟩
abbrev S2x16384x2x1 : Shape := ⟨4, ![2, 16384, 2, 1]⟩
abbrev S2x16384x2x64x2 : Shape := ⟨5, ![2, 16384, 2, 64, 2]⟩
abbrev S2x16384x2x64x1 : Shape := ⟨5, ![2, 16384, 2, 64, 1]⟩
abbrev S2x16384x2x64 : Shape := ⟨4, ![2, 16384, 2, 64]⟩

abbrev nBuf : Space → Nat
  | .hbm => 92
  | .vmem => 0
  | .smem => 0
  | _ => 0

abbrev bufTy : (tb : Table) → Fin (tcTables nBuf tb) → BufTy
  | .hbm, ⟨0, _⟩ => ⟨S2x16384x9728, .f32⟩
  | .hbm, ⟨1, _⟩ => ⟨S16384x64, .f32⟩
  | .hbm, ⟨2, _⟩ => ⟨S16384x64, .f32⟩
  | .hbm, ⟨3, _⟩ => ⟨S128, .f32⟩
  | .hbm, ⟨4, _⟩ => ⟨S128, .f32⟩
  | .hbm, ⟨5, _⟩ => ⟨S2x16384x1024, .f32⟩
  | .hbm, ⟨6, _⟩ => ⟨S2x16384x256, .f32⟩
  | .hbm, ⟨7, _⟩ => ⟨S2x16384x256, .f32⟩
  | .hbm, ⟨8, _⟩ => ⟨S2x16384x8x128, .f32⟩
  | .hbm, ⟨9, _⟩ => ⟨S2x16384x8x128, .f32⟩
  | .hbm, ⟨10, _⟩ => ⟨S_, .f32⟩
  | .hbm, ⟨11, _⟩ => ⟨S2x16384x8, .f32⟩
  | .hbm, ⟨12, _⟩ => ⟨S2x16384x8x1, .f32⟩
  | .hbm, ⟨13, _⟩ => ⟨S_, .f32⟩
  | .hbm, ⟨14, _⟩ => ⟨S2x16384x8x1, .f32⟩
  | .hbm, ⟨15, _⟩ => ⟨S2x16384x8x1, .f32⟩
  | .hbm, ⟨16, _⟩ => ⟨S_, .f32⟩
  | .hbm, ⟨17, _⟩ => ⟨S2x16384x8x1, .f32⟩
  | .hbm, ⟨18, _⟩ => ⟨S2x16384x8x1, .f32⟩
  | .hbm, ⟨19, _⟩ => ⟨S2x16384x8x1, .f32⟩
  | .hbm, ⟨20, _⟩ => ⟨S2x16384x8x128, .f32⟩
  | .hbm, ⟨21, _⟩ => ⟨S2x16384x8x128, .f32⟩
  | .hbm, ⟨22, _⟩ => ⟨S1x1x1x128, .f32⟩
  | .hbm, ⟨23, _⟩ => ⟨S2x16384x8x128, .f32⟩
  | .hbm, ⟨24, _⟩ => ⟨S2x16384x8x128, .f32⟩
  | .hbm, ⟨25, _⟩ => ⟨S2x16384x8x64x2, .f32⟩
  | .hbm, ⟨26, _⟩ => ⟨S1x16384x1x64, .f32⟩
  | .hbm, ⟨27, _⟩ => ⟨S1x16384x1x64, .f32⟩
  | .hbm, ⟨28, _⟩ => ⟨S2x16384x8x64x1, .f32⟩
  | .hbm, ⟨29, _⟩ => ⟨S2x16384x8x64, .f32⟩
  | .hbm, ⟨30, _⟩ => ⟨S2x16384x8x64x1, .f32⟩
  | .hbm, ⟨31, _⟩ => ⟨S2x16384x8x64, .f32⟩
  | .hbm, ⟨32, _⟩ => ⟨S2x16384x8x64, .f32⟩
  | .hbm, ⟨33, _⟩ => ⟨S2x16384x8x64, .f32⟩
  | .hbm, ⟨34, _⟩ => ⟨S2x16384x8x64, .f32⟩
  | .hbm, ⟨35, _⟩ => ⟨S2x16384x8x64, .f32⟩
  | .hbm, ⟨36, _⟩ => ⟨S2x16384x8x64, .f32⟩
  | .hbm, ⟨37, _⟩ => ⟨S2x16384x8x64, .f32⟩
  | .hbm, ⟨38, _⟩ => ⟨S2x16384x8x64, .f32⟩
  | .hbm, ⟨39, _⟩ => ⟨S2x16384x8x64, .f32⟩
  | .hbm, ⟨40, _⟩ => ⟨S2x16384x8x64, .f32⟩
  | .hbm, ⟨41, _⟩ => ⟨S2x16384x8x64, .f32⟩
  | .hbm, ⟨42, _⟩ => ⟨S2x16384x8x64x1, .f32⟩
  | .hbm, ⟨43, _⟩ => ⟨S2x16384x8x64x1, .f32⟩
  | .hbm, ⟨44, _⟩ => ⟨S2x16384x8x64x2, .f32⟩
  | .hbm, ⟨45, _⟩ => ⟨S2x16384x8x128, .f32⟩
  | .hbm, ⟨46, _⟩ => ⟨S_, .f32⟩
  | .hbm, ⟨47, _⟩ => ⟨S2x16384x8x128, .f32⟩
  | .hbm, ⟨48, _⟩ => ⟨S2x16384x8x128, .f32⟩
  | .hbm, ⟨49, _⟩ => ⟨S2x16384x2x128, .f32⟩
  | .hbm, ⟨50, _⟩ => ⟨S2x16384x2x128, .f32⟩
  | .hbm, ⟨51, _⟩ => ⟨S_, .f32⟩
  | .hbm, ⟨52, _⟩ => ⟨S2x16384x2, .f32⟩
  | .hbm, ⟨53, _⟩ => ⟨S2x16384x2x1, .f32⟩
  | .hbm, ⟨54, _⟩ => ⟨S_, .f32⟩
  | .hbm, ⟨55, _⟩ => ⟨S2x16384x2x1, .f32⟩
  | .hbm, ⟨56, _⟩ => ⟨S2x16384x2x1, .f32⟩
  | .hbm, ⟨57, _⟩ => ⟨S_, .f32⟩
  | .hbm, ⟨58, _⟩ => ⟨S2x16384x2x1, .f32⟩
  | .hbm, ⟨59, _⟩ => ⟨S2x16384x2x1, .f32⟩
  | .hbm, ⟨60, _⟩ => ⟨S2x16384x2x1, .f32⟩
  | .hbm, ⟨61, _⟩ => ⟨S2x16384x2x128, .f32⟩
  | .hbm, ⟨62, _⟩ => ⟨S2x16384x2x128, .f32⟩
  | .hbm, ⟨63, _⟩ => ⟨S1x1x1x128, .f32⟩
  | .hbm, ⟨64, _⟩ => ⟨S2x16384x2x128, .f32⟩
  | .hbm, ⟨65, _⟩ => ⟨S2x16384x2x128, .f32⟩
  | .hbm, ⟨66, _⟩ => ⟨S2x16384x2x64x2, .f32⟩
  | .hbm, ⟨67, _⟩ => ⟨S1x16384x1x64, .f32⟩
  | .hbm, ⟨68, _⟩ => ⟨S1x16384x1x64, .f32⟩
  | .hbm, ⟨69, _⟩ => ⟨S2x16384x2x64x1, .f32⟩
  | .hbm, ⟨70, _⟩ => ⟨S2x16384x2x64, .f32⟩
  | .hbm, ⟨71, _⟩ => ⟨S2x16384x2x64x1, .f32⟩
  | .hbm, ⟨72, _⟩ => ⟨S2x16384x2x64, .f32⟩
  | .hbm, ⟨73, _⟩ => ⟨S2x16384x2x64, .f32⟩
  | .hbm, ⟨74, _⟩ => ⟨S2x16384x2x64, .f32⟩
  | .hbm, ⟨75, _⟩ => ⟨S2x16384x2x64, .f32⟩
  | .hbm, ⟨76, _⟩ => ⟨S2x16384x2x64, .f32⟩
  | .hbm, ⟨77, _⟩ => ⟨S2x16384x2x64, .f32⟩
  | .hbm, ⟨78, _⟩ => ⟨S2x16384x2x64, .f32⟩
  | .hbm, ⟨79, _⟩ => ⟨S2x16384x2x64, .f32⟩
  | .hbm, ⟨80, _⟩ => ⟨S2x16384x2x64, .f32⟩
  | .hbm, ⟨81, _⟩ => ⟨S2x16384x2x64, .f32⟩
  | .hbm, ⟨82, _⟩ => ⟨S2x16384x2x64, .f32⟩
  | .hbm, ⟨83, _⟩ => ⟨S2x16384x2x64x1, .f32⟩
  | .hbm, ⟨84, _⟩ => ⟨S2x16384x2x64x1, .f32⟩
  | .hbm, ⟨85, _⟩ => ⟨S2x16384x2x64x2, .f32⟩
  | .hbm, ⟨86, _⟩ => ⟨S2x16384x2x128, .f32⟩
  | .hbm, ⟨87, _⟩ => ⟨S2x16384x1024, .f32⟩
  | .hbm, ⟨88, _⟩ => ⟨S2x16384x1024, .bf16⟩
  | .hbm, ⟨89, _⟩ => ⟨S2x16384x256, .f32⟩
  | .hbm, ⟨90, _⟩ => ⟨S2x16384x256, .bf16⟩
  | .hbm, ⟨91, _⟩ => ⟨S2x16384x256, .bf16⟩
  | _, _ => ⟨S2x16384x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_2 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_3 : Ref sig .tc := ⟨.hbm, 51, rfl⟩
abbrev main_v42 : Ref sig .tc := ⟨.hbm, 52, rfl⟩
abbrev main_v43 : Ref sig .tc := ⟨.hbm, 53, rfl⟩
abbrev main_cst_4 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩

abbrev nD : Nat := 1
abbrev τ : Topo := Topo.v7x

variable {F : FTy → Type} [FloatOps F]
-- ==== Kernel9.lean ====
abbrev S2x16384x9728 : Shape := ⟨3, ![2, 16384, 9728]⟩
abbrev S3x1x1536 : Shape := ⟨3, ![3, 1, 1536]⟩
abbrev S1536 : Shape := ⟨1, ![1536]⟩
abbrev S3x1536 : Shape := ⟨2, ![3, 1536]⟩
abbrev S1x1536 : Shape := ⟨2, ![1, 1536]⟩
abbrev S2x16384x512 : Shape := ⟨3, ![2, 16384, 512]⟩
abbrev S1x512x1536 : Shape := ⟨3, ![1, 512, 1536]⟩
abbrev S1x8x1536 : Shape := ⟨3, ![1, 8, 1536]⟩
abbrev S1x512x512 : Shape := ⟨3, ![1, 512, 512]⟩
abbrev S512x1536 : Shape := ⟨2, ![512, 1536]⟩
abbrev S1x1x1536 : Shape := ⟨3, ![1, 1, 1536]⟩
abbrev S512x512 : Shape := ⟨2, ![512, 512]⟩

abbrev nBuf : Space → Nat
  | .hbm => 7
  | .vmem => 12
  | .smem => 0
  | _ => 0

abbrev bufTy : (tb : Table) → Fin (tcTables nBuf tb) → BufTy
  | .hbm, ⟨0, _⟩ => ⟨S2x16384x9728, .f32⟩
  | .hbm, ⟨1, _⟩ => ⟨S3x1x1536, .f32⟩
  | .hbm, ⟨2, _⟩ => ⟨S1536, .f32⟩
  | .hbm, ⟨3, _⟩ => ⟨S3x1536, .f32⟩
  | .hbm, ⟨4, _⟩ => ⟨S1x1536, .f32⟩
  | .hbm, ⟨5, _⟩ => ⟨S2x16384x512, .f32⟩
  | .hbm, ⟨6, _⟩ => ⟨S2x16384x512, .f32⟩
  | .local _ .vmem, ⟨0, _⟩ => ⟨S1x512x1536, .f32⟩
  | .local _ .vmem, ⟨1, _⟩ => ⟨S1x512x1536, .f32⟩
  | .local _ .vmem, ⟨2, _⟩ => ⟨S1x8x1536, .f32⟩
  | .local _ .vmem, ⟨3, _⟩ => ⟨S1x8x1536, .f32⟩
  | .local _ .vmem, ⟨4, _⟩ => ⟨S1x8x1536, .f32⟩
  | .local _ .vmem, ⟨5, _⟩ => ⟨S1x8x1536, .f32⟩
  | .local _ .vmem, ⟨6, _⟩ => ⟨S3x1536, .f32⟩
  | .local _ .vmem, ⟨7, _⟩ => ⟨S1x1536, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | _, _ => ⟨S2x16384x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c2047_i32 : BitVec 32 := 2047#32
  let v2 : BitVec 32 := Scalar.minsi v1 c2047_i32
  let c1_i32_0 : BitVec 32 := 1#32
  let c0_i32 : BitVec 32 := 0#32
  ![arg0.toNat, v2.toNat, c1_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference9Ideal.lean ====
abbrev S2x16384x9728 : Shape := ⟨3, ![2, 16384, 9728]⟩
abbrev S3x1x1536 : Shape := ⟨3, ![3, 1, 1536]⟩
abbrev S1536 : Shape := ⟨1, ![1536]⟩
abbrev S2x16384x1536 : Shape := ⟨3, ![2, 16384, 1536]⟩
abbrev S_ : Shape := ⟨0, ![]⟩
abbrev S2x16386x1536 : Shape := ⟨3, ![2, 16386, 1536]⟩
abbrev S1x1x1536 : Shape := ⟨3, ![1, 1, 1536]⟩
abbrev S2x16384x512 : Shape := ⟨3, ![2, 16384, 512]⟩

abbrev nBuf : Space → Nat
  | .hbm => 37
  | .vmem => 0
  | .smem => 0
  | _ => 0

abbrev bufTy : (tb : Table) → Fin (tcTables nBuf tb) → BufTy
  | .hbm, ⟨0, _⟩ => ⟨S2x16384x9728, .f32⟩
  | .hbm, ⟨1, _⟩ => ⟨S3x1x1536, .f32⟩
  | .hbm, ⟨2, _⟩ => ⟨S1536, .f32⟩
  | .hbm, ⟨3, _⟩ => ⟨S2x16384x1536, .f32⟩
  | .hbm, ⟨4, _⟩ => ⟨S_, .i32⟩
  | .hbm, ⟨5, _⟩ => ⟨S_, .f32⟩
  | .hbm, ⟨6, _⟩ => ⟨S2x16386x1536, .f32⟩
  | .hbm, ⟨7, _⟩ => ⟨S1x1x1536, .f32⟩
  | .hbm, ⟨8, _⟩ => ⟨S1536, .f32⟩
  | .hbm, ⟨9, _⟩ => ⟨S2x16384x1536, .f32⟩
  | .hbm, ⟨10, _⟩ => ⟨S1x1x1536, .f32⟩
  | .hbm, ⟨11, _⟩ => ⟨S2x16384x1536, .f32⟩
  | .hbm, ⟨12, _⟩ => ⟨S2x16384x1536, .f32⟩
  | .hbm, ⟨13, _⟩ => ⟨S_, .f32⟩
  | .hbm, ⟨14, _⟩ => ⟨S2x16384x1536, .f32⟩
  | .hbm, ⟨15, _⟩ => ⟨S2x16384x1536, .f32⟩
  | .hbm, ⟨16, _⟩ => ⟨S1x1x1536, .f32⟩
  | .hbm, ⟨17, _⟩ => ⟨S1536, .f32⟩
  | .hbm, ⟨18, _⟩ => ⟨S2x16384x1536, .f32⟩
  | .hbm, ⟨19, _⟩ => ⟨S1x1x1536, .f32⟩
  | .hbm, ⟨20, _⟩ => ⟨S2x16384x1536, .f32⟩
  | .hbm, ⟨21, _⟩ => ⟨S2x16384x1536, .f32⟩
  | .hbm, ⟨22, _⟩ => ⟨S2x16384x1536, .f32⟩
  | .hbm, ⟨23, _⟩ => ⟨S1x1x1536, .f32⟩
  | .hbm, ⟨24, _⟩ => ⟨S1536, .f32⟩
  | .hbm, ⟨25, _⟩ => ⟨S2x16384x1536, .f32⟩
  | .hbm, ⟨26, _⟩ => ⟨S1x1x1536, .f32⟩
  | .hbm, ⟨27, _⟩ => ⟨S2x16384x1536, .f32⟩
  | .hbm, ⟨28, _⟩ => ⟨S2x16384x1536, .f32⟩
  | .hbm, ⟨29, _⟩ => ⟨S2x16384x1536, .f32⟩
  | .hbm, ⟨30, _⟩ => ⟨S1x1x1536, .f32⟩
  | .hbm, ⟨31, _⟩ => ⟨S2x16384x1536, .f32⟩
  | .hbm, ⟨32, _⟩ => ⟨S2x16384x1536, .f32⟩
  | .hbm, ⟨33, _⟩ => ⟨S2x16384x512, .f32⟩
  | .hbm, ⟨34, _⟩ => ⟨S2x16384x512, .f32⟩
  | .hbm, ⟨35, _⟩ => ⟨S2x16384x512, .f32⟩
  | .hbm, ⟨36, _⟩ => ⟨S2x16384x512, .f32⟩
  | _, _ => ⟨S2x16384x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== Kernel10.lean ====
abbrev S128x256 : Shape := ⟨2, ![128, 256]⟩
abbrev S1x256x131072 : Shape := ⟨3, ![1, 256, 131072]⟩
abbrev S1x128x131072 : Shape := ⟨3, ![1, 128, 131072]⟩
abbrev S1x131072 : Shape := ⟨2, ![1, 131072]⟩
abbrev S1x256x2048 : Shape := ⟨3, ![1, 256, 2048]⟩
abbrev S1x128x2048 : Shape := ⟨3, ![1, 128, 2048]⟩
abbrev S1x2048 : Shape := ⟨2, ![1, 2048]⟩
abbrev S256x2048 : Shape := ⟨2, ![256, 2048]⟩
abbrev S128x2048 : Shape := ⟨2, ![128, 2048]⟩

abbrev nBuf : Space → Nat
  | .hbm => 6
  | .vmem => 11
  | .smem => 0
  | _ => 0

abbrev bufTy : (tb : Table) → Fin (tcTables nBuf tb) → BufTy
  | .hbm, ⟨0, _⟩ => ⟨S128x256, .bf16⟩
  | .hbm, ⟨1, _⟩ => ⟨S1x256x131072, .f32⟩
  | .hbm, ⟨2, _⟩ => ⟨S1x128x131072, .f32⟩
  | .hbm, ⟨3, _⟩ => ⟨S1x128x131072, .f32⟩
  | .hbm, ⟨4, _⟩ => ⟨S1x131072, .f32⟩
  | .hbm, ⟨5, _⟩ => ⟨S1x128x131072, .bf16⟩
  | .local _ .vmem, ⟨0, _⟩ => ⟨S128x256, .bf16⟩
  | .local _ .vmem, ⟨1, _⟩ => ⟨S1x256x2048, .f32⟩
  | .local _ .vmem, ⟨2, _⟩ => ⟨S1x256x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x2048, .f32⟩
  | .local _ .vmem, ⟨8, _⟩ => ⟨S1x2048, .f32⟩
  | .local _ .vmem, ⟨9, _⟩ => ⟨S1x128x2048, .bf16⟩
  | .local _ .vmem, ⟨10, _⟩ => ⟨S1x128x2048, .bf16⟩
  | _, _ => ⟨S128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S128x256 : Shape := ⟨2, ![128, 256]⟩
abbrev S1x256x131072 : Shape := ⟨3, ![1, 256, 131072]⟩
abbrev S1x128x131072 : Shape := ⟨3, ![1, 128, 131072]⟩
abbrev S1x131072 : Shape := ⟨2, ![1, 131072]⟩
abbrev S1x131072x128 : Shape := ⟨3, ![1, 131072, 128]⟩
abbrev S1x1x131072 : Shape := ⟨3, ![1, 1, 131072]⟩

abbrev nBuf : Space → Nat
  | .hbm => 14
  | .vmem => 0
  | .smem => 0
  | _ => 0

abbrev bufTy : (tb : Table) → Fin (tcTables nBuf tb) → BufTy
  | .hbm, ⟨0, _⟩ => ⟨S128x256, .bf16⟩
  | .hbm, ⟨1, _⟩ => ⟨S1x256x131072, .f32⟩
  | .hbm, ⟨2, _⟩ => ⟨S1x128x131072, .f32⟩
  | .hbm, ⟨3, _⟩ => ⟨S1x128x131072, .f32⟩
  | .hbm, ⟨4, _⟩ => ⟨S1x131072, .f32⟩
  | .hbm, ⟨5, _⟩ => ⟨S128x256, .f32⟩
  | .hbm, ⟨6, _⟩ => ⟨S1x131072x128, .f32⟩
  | .hbm, ⟨7, _⟩ => ⟨S1x128x131072, .f32⟩
  | .hbm, ⟨8, _⟩ => ⟨S1x1x131072, .f32⟩
  | .hbm, ⟨9, _⟩ => ⟨S1x128x131072, .f32⟩
  | .hbm, ⟨10, _⟩ => ⟨S1x128x131072, .f32⟩
  | .hbm, ⟨11, _⟩ => ⟨S1x128x131072, .f32⟩
  | .hbm, ⟨12, _⟩ => ⟨S1x128x131072, .f32⟩
  | .hbm, ⟨13, _⟩ => ⟨S1x128x131072, .bf16⟩
  | _, _ => ⟨S128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel11.lean ====
abbrev S256x128 : Shape := ⟨2, ![256, 128]⟩
abbrev S1x128x131072 : Shape := ⟨3, ![1, 128, 131072]⟩
abbrev S1x256x131072 : Shape := ⟨3, ![1, 256, 131072]⟩
abbrev S1x128x2048 : Shape := ⟨3, ![1, 128, 2048]⟩
abbrev S1x256x2048 : Shape := ⟨3, ![1, 256, 2048]⟩
abbrev S128x2048 : Shape := ⟨2, ![128, 2048]⟩
abbrev S256x2048 : Shape := ⟨2, ![256, 2048]⟩

abbrev nBuf : Space → Nat
  | .hbm => 3
  | .vmem => 5
  | .smem => 0
  | _ => 0

abbrev bufTy : (tb : Table) → Fin (tcTables nBuf tb) → BufTy
  | .hbm, ⟨0, _⟩ => ⟨S256x128, .bf16⟩
  | .hbm, ⟨1, _⟩ => ⟨S1x128x131072, .f32⟩
  | .hbm, ⟨2, _⟩ => ⟨S1x256x131072, .f32⟩
  | .local _ .vmem, ⟨0, _⟩ => ⟨S256x128, .bf16⟩
  | .local _ .vmem, ⟨1, _⟩ => ⟨S1x128x2048, .f32⟩
  | .local _ .vmem, ⟨2, _⟩ => ⟨S1x128x2048, .f32⟩
  | .local _ .vmem, ⟨3, _⟩ => ⟨S1x256x2048, .f32⟩
  | .local _ .vmem, ⟨4, _⟩ => ⟨S1x256x2048, .f32⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S256x128 : Shape := ⟨2, ![256, 128]⟩
abbrev S1x128x131072 : Shape := ⟨3, ![1, 128, 131072]⟩
abbrev S1x131072x256 : Shape := ⟨3, ![1, 131072, 256]⟩
abbrev S1x256x131072 : Shape := ⟨3, ![1, 256, 131072]⟩

abbrev nBuf : Space → Nat
  | .hbm => 5
  | .vmem => 0
  | .smem => 0
  | _ => 0

abbrev bufTy : (tb : Table) → Fin (tcTables nBuf tb) → BufTy
  | .hbm, ⟨0, _⟩ => ⟨S256x128, .bf16⟩
  | .hbm, ⟨1, _⟩ => ⟨S1x128x131072, .f32⟩
  | .hbm, ⟨2, _⟩ => ⟨S256x128, .f32⟩
  | .hbm, ⟨3, _⟩ => ⟨S1x131072x256, .f32⟩
  | .hbm, ⟨4, _⟩ => ⟨S1x256x131072, .f32⟩
  | _, _ => ⟨S256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S128x512x512 : Shape := ⟨3, ![128, 512, 512]⟩
abbrev S1x2x128x256x512 : Shape := ⟨5, ![1, 2, 128, 256, 512]⟩
abbrev S2x128x256x512 : Shape := ⟨4, ![2, 128, 256, 512]⟩
abbrev S1x512x512 : Shape := ⟨3, ![1, 512, 512]⟩
abbrev S1x2x1x256x512 : Shape := ⟨5, ![1, 2, 1, 256, 512]⟩
abbrev S2x1x256x512 : Shape := ⟨4, ![2, 1, 256, 512]⟩
abbrev S1x1x1x256x512 : Shape := ⟨5, ![1, 1, 1, 256, 512]⟩
abbrev S256x512 : Shape := ⟨2, ![256, 512]⟩
abbrev S512x512 : Shape := ⟨2, ![512, 512]⟩
abbrev S1x1x256x512 : Shape := ⟨4, ![1, 1, 256, 512]⟩

abbrev nBuf : Space → Nat
  | .hbm => 5
  | .vmem => 10
  | .smem => 0
  | _ => 0

abbrev bufTy : (tb : Table) → Fin (tcTables nBuf tb) → BufTy
  | .hbm, ⟨0, _⟩ => ⟨S128x512x512, .bf16⟩
  | .hbm, ⟨1, _⟩ => ⟨S128x512x512, .bf16⟩
  | .hbm, ⟨2, _⟩ => ⟨S1x2x128x256x512, .f32⟩
  | .hbm, ⟨3, _⟩ => ⟨S2x128x256x512, .f32⟩
  | .hbm, ⟨4, _⟩ => ⟨S1x2x128x256x512, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x2x1x256x512, .f32⟩
  | .local _ .vmem, ⟨5, _⟩ => ⟨S1x2x1x256x512, .f32⟩
  | .local _ .vmem, ⟨6, _⟩ => ⟨S2x1x256x512, .f32⟩
  | .local _ .vmem, ⟨7, _⟩ => ⟨S2x1x256x512, .f32⟩
  | .local _ .vmem, ⟨8, _⟩ => ⟨S1x2x1x256x512, .f32⟩
  | .local _ .vmem, ⟨9, _⟩ => ⟨S1x2x1x256x512, .f32⟩
  | _, _ => ⟨S128x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![128, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, arg0.toNat, c0_i32_0.toNat, c0_i32_1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference12Ideal.lean ====
abbrev S128x512x512 : Shape := ⟨3, ![128, 512, 512]⟩
abbrev S1x2x128x256x512 : Shape := ⟨5, ![1, 2, 128, 256, 512]⟩
abbrev S2x128x256x512 : Shape := ⟨4, ![2, 128, 256, 512]⟩
abbrev S1x128x2x256x512 : Shape := ⟨5, ![1, 128, 2, 256, 512]⟩
abbrev S1x128x512x512 : Shape := ⟨4, ![1, 128, 512, 512]⟩
abbrev S128x1x512x512 : Shape := ⟨4, ![128, 1, 512, 512]⟩
abbrev S1x128x256x512 : Shape := ⟨4, ![1, 128, 256, 512]⟩
abbrev S128x256x512 : Shape := ⟨3, ![128, 256, 512]⟩
abbrev S1x1x128x256x512 : Shape := ⟨5, ![1, 1, 128, 256, 512]⟩

abbrev nBuf : Space → Nat
  | .hbm => 34
  | .vmem => 0
  | .smem => 0
  | _ => 0

abbrev bufTy : (tb : Table) → Fin (tcTables nBuf tb) → BufTy
  | .hbm, ⟨0, _⟩ => ⟨S128x512x512, .bf16⟩
  | .hbm, ⟨1, _⟩ => ⟨S128x512x512, .bf16⟩
  | .hbm, ⟨2, _⟩ => ⟨S1x2x128x256x512, .f32⟩
  | .hbm, ⟨3, _⟩ => ⟨S2x128x256x512, .f32⟩
  | .hbm, ⟨4, _⟩ => ⟨S128x512x512, .f32⟩
  | .hbm, ⟨5, _⟩ => ⟨S1x128x2x256x512, .f32⟩
  | .hbm, ⟨6, _⟩ => ⟨S1x128x512x512, .f32⟩
  | .hbm, ⟨7, _⟩ => ⟨S128x1x512x512, .f32⟩
  | .hbm, ⟨8, _⟩ => ⟨S1x128x512x512, .f32⟩
  | .hbm, ⟨9, _⟩ => ⟨S1x128x256x512, .f32⟩
  | .hbm, ⟨10, _⟩ => ⟨S1x128x256x512, .f32⟩
  | .hbm, ⟨11, _⟩ => ⟨S1x128x256x512, .f32⟩
  | .hbm, ⟨12, _⟩ => ⟨S128x256x512, .f32⟩
  | .hbm, ⟨13, _⟩ => ⟨S1x128x256x512, .f32⟩
  | .hbm, ⟨14, _⟩ => ⟨S128x256x512, .f32⟩
  | .hbm, ⟨15, _⟩ => ⟨S1x128x256x512, .f32⟩
  | .hbm, ⟨16, _⟩ => ⟨S1x128x256x512, .f32⟩
  | .hbm, ⟨17, _⟩ => ⟨S1x128x256x512, .f32⟩
  | .hbm, ⟨18, _⟩ => ⟨S1x128x256x512, .f32⟩
  | .hbm, ⟨19, _⟩ => ⟨S1x128x256x512, .f32⟩
  | .hbm, ⟨20, _⟩ => ⟨S1x128x256x512, .f32⟩
  | .hbm, ⟨21, _⟩ => ⟨S1x128x256x512, .f32⟩
  | .hbm, ⟨22, _⟩ => ⟨S1x128x256x512, .f32⟩
  | .hbm, ⟨23, _⟩ => ⟨S1x128x256x512, .f32⟩
  | .hbm, ⟨24, _⟩ => ⟨S1x128x256x512, .f32⟩
  | .hbm, ⟨25, _⟩ => ⟨S1x128x512x512, .f32⟩
  | .hbm, ⟨26, _⟩ => ⟨S128x512x512, .f32⟩
  | .hbm, ⟨27, _⟩ => ⟨S128x1x512x512, .f32⟩
  | .hbm, ⟨28, _⟩ => ⟨S1x128x512x512, .f32⟩
  | .hbm, ⟨29, _⟩ => ⟨S1x128x256x512, .f32⟩
  | .hbm, ⟨30, _⟩ => ⟨S1x128x256x512, .f32⟩
  | .hbm, ⟨31, _⟩ => ⟨S1x1x128x256x512, .f32⟩
  | .hbm, ⟨32, _⟩ => ⟨S1x1x128x256x512, .f32⟩
  | .hbm, ⟨33, _⟩ => ⟨S1x2x128x256x512, .f32⟩
  | _, _ => ⟨S128x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== Kernel13.lean ====
abbrev S128x512x512 : Shape := ⟨3, ![128, 512, 512]⟩
abbrev S1x2x128x256x512 : Shape := ⟨5, ![1, 2, 128, 256, 512]⟩
abbrev S1x512 : Shape := ⟨2, ![1, 512]⟩
abbrev S2x128x256x512 : Shape := ⟨4, ![2, 128, 256, 512]⟩
abbrev S1x512x512 : Shape := ⟨3, ![1, 512, 512]⟩
abbrev S1x2x1x256x512 : Shape := ⟨5, ![1, 2, 1, 256, 512]⟩
abbrev S2x1x256x512 : Shape := ⟨4, ![2, 1, 256, 512]⟩
abbrev S1x1x1x256x512 : Shape := ⟨5, ![1, 1, 1, 256, 512]⟩
abbrev S256x512 : Shape := ⟨2, ![256, 512]⟩
abbrev S512x512 : Shape := ⟨2, ![512, 512]⟩
abbrev S1x1x256x512 : Shape := ⟨4, ![1, 1, 256, 512]⟩

abbrev nBuf : Space → Nat
  | .hbm => 4
  | .vmem => 7
  | .smem => 0
  | _ => 0

abbrev bufTy : (tb : Table) → Fin (tcTables nBuf tb) → BufTy
  | .hbm, ⟨0, _⟩ => ⟨S128x512x512, .bf16⟩
  | .hbm, ⟨1, _⟩ => ⟨S1x2x128x256x512, .f32⟩
  | .hbm, ⟨2, _⟩ => ⟨S1x512, .f32⟩
  | .hbm, ⟨3, _⟩ => ⟨S2x128x256x512, .f32⟩
  | .local _ .vmem, ⟨0, _⟩ => ⟨S1x512x512, .bf16⟩
  | .local _ .vmem, ⟨1, _⟩ => ⟨S1x512x512, .bf16⟩
  | .local _ .vmem, ⟨2, _⟩ => ⟨S1x2x1x256x512, .f32⟩
  | .local _ .vmem, ⟨3, _⟩ => ⟨S1x2x1x256x512, .f32⟩
  | .local _ .vmem, ⟨4, _⟩ => ⟨S1x512, .f32⟩
  | .local _ .vmem, ⟨5, _⟩ => ⟨S2x1x256x512, .f32⟩
  | .local _ .vmem, ⟨6, _⟩ => ⟨S2x1x256x512, .f32⟩
  | _, _ => ⟨S128x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S128x512x512 : Shape := ⟨3, ![128, 512, 512]⟩
abbrev S1x2x128x256x512 : Shape := ⟨5, ![1, 2, 128, 256, 512]⟩
abbrev S1x512 : Shape := ⟨2, ![1, 512]⟩
abbrev S1x128x2x256x512 : Shape := ⟨5, ![1, 128, 2, 256, 512]⟩
abbrev S1x128x512x512 : Shape := ⟨4, ![1, 128, 512, 512]⟩
abbrev S1x1x512 : Shape := ⟨3, ![1, 1, 512]⟩
abbrev S128x256x512 : Shape := ⟨3, ![128, 256, 512]⟩
abbrev S1x128x256x512 : Shape := ⟨4, ![1, 128, 256, 512]⟩
abbrev S2x128x256x512 : Shape := ⟨4, ![2, 128, 256, 512]⟩

abbrev nBuf : Space → Nat
  | .hbm => 16
  | .vmem => 0
  | .smem => 0
  | _ => 0

abbrev bufTy : (tb : Table) → Fin (tcTables nBuf tb) → BufTy
  | .hbm, ⟨0, _⟩ => ⟨S128x512x512, .bf16⟩
  | .hbm, ⟨1, _⟩ => ⟨S1x2x128x256x512, .f32⟩
  | .hbm, ⟨2, _⟩ => ⟨S1x512, .f32⟩
  | .hbm, ⟨3, _⟩ => ⟨S128x512x512, .f32⟩
  | .hbm, ⟨4, _⟩ => ⟨S1x128x2x256x512, .f32⟩
  | .hbm, ⟨5, _⟩ => ⟨S1x128x512x512, .f32⟩
  | .hbm, ⟨6, _⟩ => ⟨S128x512x512, .f32⟩
  | .hbm, ⟨7, _⟩ => ⟨S128x512x512, .f32⟩
  | .hbm, ⟨8, _⟩ => ⟨S1x1x512, .f32⟩
  | .hbm, ⟨9, _⟩ => ⟨S128x512x512, .f32⟩
  | .hbm, ⟨10, _⟩ => ⟨S128x512x512, .f32⟩
  | .hbm, ⟨11, _⟩ => ⟨S128x256x512, .f32⟩
  | .hbm, ⟨12, _⟩ => ⟨S128x256x512, .f32⟩
  | .hbm, ⟨13, _⟩ => ⟨S1x128x256x512, .f32⟩
  | .hbm, ⟨14, _⟩ => ⟨S1x128x256x512, .f32⟩
  | .hbm, ⟨15, _⟩ => ⟨S2x128x256x512, .f32⟩
  | _, _ => ⟨S128x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel14.lean ====
abbrev S32768x32 : Shape := ⟨2, ![32768, 32]⟩
abbrev S32x64 : Shape := ⟨2, ![32, 64]⟩
abbrev S1x64 : Shape := ⟨2, ![1, 64]⟩
abbrev S64x64 : Shape := ⟨2, ![64, 64]⟩
abbrev S64x1024 : Shape := ⟨2, ![64, 1024]⟩
abbrev S1x1024 : Shape := ⟨2, ![1, 1024]⟩
abbrev S32768x512 : Shape := ⟨2, ![32768, 512]⟩
abbrev S1x512 : Shape := ⟨2, ![1, 512]⟩
abbrev S512x32 : Shape := ⟨2, ![512, 32]⟩
abbrev S64x512 : Shape := ⟨2, ![64, 512]⟩
abbrev S512x512 : Shape := ⟨2, ![512, 512]⟩
abbrev S512x1 : Shape := ⟨2, ![512, 1]⟩
abbrev S512x64 : Shape := ⟨2, ![512, 64]⟩
abbrev S512 : Shape := ⟨1, ![512]⟩

abbrev nBuf : Space → Nat
  | .hbm => 11
  | .vmem => 16
  | .smem => 0
  | _ => 0

abbrev bufTy : (tb : Table) → Fin (tcTables nBuf tb) → BufTy
  | .hbm, ⟨0, _⟩ => ⟨S32768x32, .f32⟩
  | .hbm, ⟨1, _⟩ => ⟨S32x64, .f32⟩
  | .hbm, ⟨2, _⟩ => ⟨S1x64, .f32⟩
  | .hbm, ⟨3, _⟩ => ⟨S64x64, .f32⟩
  | .hbm, ⟨4, _⟩ => ⟨S1x64, .f32⟩
  | .hbm, ⟨5, _⟩ => ⟨S64x1024, .f32⟩
  | .hbm, ⟨6, _⟩ => ⟨S1x1024, .f32⟩
  | .hbm, ⟨7, _⟩ => ⟨S1x64, .f32⟩
  | .hbm, ⟨8, _⟩ => ⟨S1x1024, .f32⟩
  | .hbm, ⟨9, _⟩ => ⟨S32768x512, .f32⟩
  | .hbm, ⟨10, _⟩ => ⟨S1x512, .f32⟩
  | .local _ .vmem, ⟨0, _⟩ => ⟨S512x32, .f32⟩
  | .local _ .vmem, ⟨1, _⟩ => ⟨S512x32, .f32⟩
  | .local _ .vmem, ⟨2, _⟩ => ⟨S32x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x512, .f32⟩
  | .local _ .vmem, ⟨7, _⟩ => ⟨S64x512, .f32⟩
  | .local _ .vmem, ⟨8, _⟩ => ⟨S1x512, .f32⟩
  | .local _ .vmem, ⟨9, _⟩ => ⟨S1x512, .f32⟩
  | .local _ .vmem, ⟨10, _⟩ => ⟨S1x64, .f32⟩
  | .local _ .vmem, ⟨11, _⟩ => ⟨S1x512, .f32⟩
  | .local _ .vmem, ⟨12, _⟩ => ⟨S1x512, .f32⟩
  | .local _ .vmem, ⟨13, _⟩ => ⟨S512x512, .f32⟩
  | .local _ .vmem, ⟨14, _⟩ => ⟨S512x512, .f32⟩
  | .local _ .vmem, ⟨15, _⟩ => ⟨S1x512, .f32⟩
  | _, _ => ⟨S32768x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c32_i32 : BitVec 32 := 32#32
  let v0 : BitVec 1 := Scalar.cmpi .sge arg0 c32_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let c32_i32 : BitVec 32 := 32#32
  let v0 : BitVec 1 := Scalar.cmpi .sge arg0 c32_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c32_i32 : BitVec 32 := 32#32
  let v0 : BitVec 1 := Scalar.cmpi .sge arg0 c32_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  ![c0_i32_0.toNat, v1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference14Ideal.lean ====
abbrev S32768x32 : Shape := ⟨2, ![32768, 32]⟩
abbrev S32x64 : Shape := ⟨2, ![32, 64]⟩
abbrev S1x64 : Shape := ⟨2, ![1, 64]⟩
abbrev S64x64 : Shape := ⟨2, ![64, 64]⟩
abbrev S64x1024 : Shape := ⟨2, ![64, 1024]⟩
abbrev S1x1024 : Shape := ⟨2, ![1, 1024]⟩
abbrev S32768x1 : Shape := ⟨2, ![32768, 1]⟩
abbrev S32768x64 : Shape := ⟨2, ![32768, 64]⟩
abbrev S32768x1024 : Shape := ⟨2, ![32768, 1024]⟩
abbrev S16384x512 : Shape := ⟨2, ![16384, 512]⟩
abbrev S32768x512 : Shape := ⟨2, ![32768, 512]⟩
abbrev S_ : Shape := ⟨0, ![]⟩
abbrev S512 : Shape := ⟨1, ![512]⟩
abbrev S1x512 : Shape := ⟨2, ![1, 512]⟩

abbrev nBuf : Space → Nat
  | .hbm => 42
  | .vmem => 0
  | .smem => 0
  | _ => 0

abbrev bufTy : (tb : Table) → Fin (tcTables nBuf tb) → BufTy
  | .hbm, ⟨0, _⟩ => ⟨S32768x32, .f32⟩
  | .hbm, ⟨1, _⟩ => ⟨S32x64, .f32⟩
  | .hbm, ⟨2, _⟩ => ⟨S1x64, .f32⟩
  | .hbm, ⟨3, _⟩ => ⟨S64x64, .f32⟩
  | .hbm, ⟨4, _⟩ => ⟨S1x64, .f32⟩
  | .hbm, ⟨5, _⟩ => ⟨S64x1024, .f32⟩
  | .hbm, ⟨6, _⟩ => ⟨S1x1024, .f32⟩
  | .hbm, ⟨7, _⟩ => ⟨S1x64, .f32⟩
  | .hbm, ⟨8, _⟩ => ⟨S1x1024, .f32⟩
  | .hbm, ⟨9, _⟩ => ⟨S32768x1, .f32⟩
  | .hbm, ⟨10, _⟩ => ⟨S32768x1, .f32⟩
  | .hbm, ⟨11, _⟩ => ⟨S32768x64, .f32⟩
  | .hbm, ⟨12, _⟩ => ⟨S32768x64, .f32⟩
  | .hbm, ⟨13, _⟩ => ⟨S32768x64, .f32⟩
  | .hbm, ⟨14, _⟩ => ⟨S32768x64, .f32⟩
  | .hbm, ⟨15, _⟩ => ⟨S32768x64, .f32⟩
  | .hbm, ⟨16, _⟩ => ⟨S32768x64, .f32⟩
  | .hbm, ⟨17, _⟩ => ⟨S32768x64, .f32⟩
  | .hbm, ⟨18, _⟩ => ⟨S32768x64, .f32⟩
  | .hbm, ⟨19, _⟩ => ⟨S32768x64, .f32⟩
  | .hbm, ⟨20, _⟩ => ⟨S32768x64, .f32⟩
  | .hbm, ⟨21, _⟩ => ⟨S32768x64, .f32⟩
  | .hbm, ⟨22, _⟩ => ⟨S32768x64, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1, .f32⟩
  | .hbm, ⟨27, _⟩ => ⟨S1x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S16384x512, .f32⟩
  | .hbm, ⟨34, _⟩ => ⟨S16384x512, .f32⟩
  | .hbm, ⟨35, _⟩ => ⟨S32768x512, .f32⟩
  | .hbm, ⟨36, _⟩ => ⟨S32768x512, .f32⟩
  | .hbm, ⟨37, _⟩ => ⟨S32768x512, .f32⟩
  | .hbm, ⟨38, _⟩ => ⟨S32768x512, .f32⟩
  | .hbm, ⟨39, _⟩ => ⟨S_, .f32⟩
  | .hbm, ⟨40, _⟩ => ⟨S512, .f32⟩
  | .hbm, ⟨41, _⟩ => ⟨S1x512, .f32⟩
  | _, _ => ⟨S32768x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Proof.Stages.lean ====
/- What one grid point of the attention kernel leaves in its three scratches and in its output block, read at an
   element: the running maximum, the running sum of exponentials, the running weighted sum, and their quotient. The
   four query heads of a grid point run the same arithmetic on their own 128 lanes of the query block. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Attention

open Cert.KernelIdeal Cert.KernelIdeal.Gen Idealize.ShloMosaic Idealize.ShloMosaic.TcCoe Idealize.SL.Sem

/-- The score of query row `r` of head `h` against key row `j` of the block: the inner product over the 128 lanes. -/
def sc (x0 : Vec Ideal S1x512x512 .bf16) (x1 : Vec Ideal S1x1024x128 .bf16) (h : Fin 4) (r : Fin 512)
    (j : Fin 1024) : EReal :=
  ∑ d : Fin 128, x0 (ix3 0 r (⟨h.val * 128 + d.val, by omega⟩ : Fin 512)) * x1 (ix3 0 j d)

/-- The new running maximum of row `r` of head `h`. -/
def mx (x0 : Vec Ideal S1x512x512 .bf16) (x1 : Vec Ideal S1x1024x128 .bf16) (h : Fin 4) (r : Fin 512)
    (m : EReal) : EReal :=
  max m (Finset.fold max (⊥ : EReal) (fun j => sc x0 x1 h r j) Finset.univ)

/-- The new running sum. -/
def sm (x0 : Vec Ideal S1x512x512 .bf16) (x1 : Vec Ideal S1x1024x128 .bf16) (h : Fin 4) (r : Fin 512)
    (m l : EReal) : EReal :=
  Ideal.exp (m - mx x0 x1 h r m) * l + ∑ j, Ideal.exp (sc x0 x1 h r j - mx x0 x1 h r m)

/-- The new running weighted sum at lane `d`. -/
def ac (x0 : Vec Ideal S1x512x512 .bf16) (x1 x2 : Vec Ideal S1x1024x128 .bf16) (h : Fin 4) (r : Fin 512)
    (d : Fin 128) (m a : EReal) : EReal :=
  Ideal.exp (m - mx x0 x1 h r m) * a + ∑ j, Ideal.exp (sc x0 x1 h r j - mx x0 x1 h r m) * x2 (ix3 0 j d)

/-! ### The body's stages at an element, one head -/

section stages

variable (x1 x2 : Vec Ideal S1x1024x128 .bf16) (q : Vec Ideal S1x512x128 .bf16) (m l : Vec Ideal S1x512x1 .f32)

/-- The literal the row maximum starts from is minus infinity. -/
theorem lit_bot : Ideal.ofBits FTy.f32 4286578688#32 = (⊥ : EReal) := by
  simp [Ideal.ofBits, Ideal.ieee]

/-- The score matrix at an element. -/
theorem pay13_at (r : Fin 512) (j : Fin 1024) :
    k0_pay13 (F := Ideal) x1 q (ix2 r j) = ∑ d : Fin 128, q (ix3 0 r d) * x1 (ix3 0 j d) := by
  pointwise [k0_pay13, k0_pay11]

/-- The new maximum at a row. -/
theorem pay15_at (r : Fin 512) :
    k0_pay15 (F := Ideal) x1 q m (ix2 r 0) =
      max (m (ix3 0 r 0)) (Finset.fold max (⊥ : EReal) (fun j => k0_pay13 x1 q (ix2 r j)) Finset.univ) := by
  pointwise [k0_pay15, k0_pay14]
  rw [lit_bot]

/-- The new sum at a row. -/
theorem pay18_at (r : Fin 512) :
    k0_pay18 (F := Ideal) x1 q m l (ix3 0 r 0) =
      Ideal.exp (m (ix3 0 r 0) - k0_pay15 x1 q m (ix2 r 0)) * l (ix3 0 r 0) +
        ∑ j, Ideal.exp (k0_pay13 x1 q (ix2 r j) - k0_pay15 x1 q m (ix2 r 0)) := by
  pointwise [k0_pay18, k0_pay16, k0_pay17, k0_pay14]

/-- The new weighted sum at an element, from the rescaling factors and the exponentials. -/
theorem pay19_at (a : Vec Ideal S1x512x128 .f32) (r : Fin 512) (d : Fin 128) :
    k0_pay19 (F := Ideal) (k0_pay12 x2) (k0_pay16 x1 q m) (k0_pay17 x1 q m) a (ix3 0 r d) =
      Ideal.exp (m (ix3 0 r 0) - k0_pay15 x1 q m (ix2 r 0)) * a (ix3 0 r d) +
        ∑ j, Ideal.exp (k0_pay13 x1 q (ix2 r j) - k0_pay15 x1 q m (ix2 r 0)) * x2 (ix3 0 j d) := by
  pointwise [k0_pay19, k0_pay12, k0_pay16, k0_pay17, k0_pay14]

/-- The stored maximum at a row. -/
theorem pay20_at (a : FVec Ideal S512x1 .f32) (r : Fin 512) :
    k0_pay20 (F := Ideal) a (ix3 0 r 0) = a (ix2 r 0) := by
  pointwise [k0_pay20]

/-- The output at an element. -/
theorem pay5_at (a : Vec Ideal S1x512x128 .f32) (r : Fin 512) (d : Fin 128) :
    k0_pay5 (F := Ideal) a l (ix3 0 r d) = Ideal.div (a (ix3 0 r d)) (l (ix3 0 r 0)) := by
  pointwise [k0_pay5]

/-- The initial scratches at an element. -/
theorem pay8_at (i) : k0_pay8 (F := Ideal) i = Ideal.ofBits .f32 0xF149F2CA#32 := by pointwise [k0_pay8]
theorem pay9_at (i) : k0_pay9 (F := Ideal) i = 0 := by pointwise [k0_pay9]
theorem pay10_at (i) : k0_pay10 (F := Ideal) i = 0 := by pointwise [k0_pay10]

/-- The stages over a head's own query lanes and its own row of the running maximum are the head's new maximum, … -/
theorem pay15_head (x0 : Vec Ideal S1x512x512 .bf16) (h : Fin 4) (r : Fin 512) (M : EReal)
    (hq : ∀ d : Fin 128, q (ix3 0 r d) = x0 (ix3 0 r (⟨h.val * 128 + d.val, by omega⟩ : Fin 512)))
    (hm : m (ix3 0 r 0) = M) :
    k0_pay15 (F := Ideal) x1 q m (ix2 r 0) = mx x0 x1 h r M := by
  rw [pay15_at, hm, mx]
  simp only [pay13_at, hq, sc]

/-- … new sum, … -/
theorem pay18_head (x0 : Vec Ideal S1x512x512 .bf16) (h : Fin 4) (r : Fin 512) (M L : EReal)
    (hq : ∀ d : Fin 128, q (ix3 0 r d) = x0 (ix3 0 r (⟨h.val * 128 + d.val, by omega⟩ : Fin 512)))
    (hm : m (ix3 0 r 0) = M) (hl : l (ix3 0 r 0) = L) :
    k0_pay18 (F := Ideal) x1 q m l (ix3 0 r 0) = sm x0 x1 h r M L := by
  rw [pay18_at, pay15_head x1 q m x0 h r M hq hm, hm, hl, sm]
  simp only [pay13_at, hq, sc]

/-- … and new weighted sum. -/
theorem pay19_head (x0 : Vec Ideal S1x512x512 .bf16) (a : Vec Ideal S1x512x128 .f32) (h : Fin 4) (r : Fin 512)
    (d : Fin 128) (M A : EReal)
    (hq : ∀ d : Fin 128, q (ix3 0 r d) = x0 (ix3 0 r (⟨h.val * 128 + d.val, by omega⟩ : Fin 512)))
    (hm : m (ix3 0 r 0) = M) (ha : a (ix3 0 r d) = A) :
    k0_pay19 (F := Ideal) (k0_pay12 x2) (k0_pay16 x1 q m) (k0_pay17 x1 q m) a (ix3 0 r d) = ac x0 x1 x2 h r d M A := by
  rw [pay19_at, pay15_head x1 q m x0 h r M hq hm, hm, ha, ac]
  simp only [pay13_at, hq, sc]

end stages

end Cert.Attention

end
-- ==== Proof.Step.lean ====
/- What the three cases of a grid point leave in the scratches and in the output block, element by element, in terms of
   the point's blocks and of what the scratches held before: `Stages` puts the arithmetic at one element, here the four
   heads' stores are put together. -/
module

public import proofs.«01_k».proof.Proof.Stages

@[expose] public section
set_option maxRecDepth 16384
noncomputable section
namespace Cert.Attention
open Cert.KernelIdeal Cert.KernelIdeal.Gen Idealize.ShloMosaic Idealize.ShloMosaic.TcCoe Idealize.SL.Sem

/-- The place of a rectangle's element in the array, axis by axis. -/
theorem emb_val {S : Shape} (off size : Fin S.rank → Nat) (inb) (x : (Rect.unit off size inb).shape.Idx) (a) :
    ((Rect.unit off size inb).emb x a).val = off a + (x a).val :=
  Rect.idx_unit_val off size inb x a

section pieces

variable (x0 : Vec Ideal S1x512x512 .bf16) (x1 x2 : Vec Ideal S1x1024x128 .bf16)
  (M L : Vec Ideal S4x512x1 .f32) (A : Vec Ideal S4x512x128 .f32)

/-- The running maxima after the point, from those before it. -/
def GM : Vec Ideal S4x512x1 .f32 := fun y => mx x0 x1 (y 0) (y 1) (M y)

/-- The running sums after the point. -/
def GS : Vec Ideal S4x512x1 .f32 := fun y => sm x0 x1 (y 0) (y 1) (M y) (L y)

/-- The running weighted sums after the point. -/
def GA : Vec Ideal S4x512x128 .f32 := fun y => ac x0 x1 x2 (y 0) (y 1) (y 2) (M (ix3 (y 0) (y 1) 0)) (A y)

variable {o : Nat} (h : Fin 4) (e : o = h.val * 128) (g : Nat) (eg : g = h.val)

include e eg

/-- The head's slab of the query block at an element. -/
theorem ld_q (inb) (r : Fin 512) (d : Fin 128) :
    View.ld x0 (Rect.unit ![0, 0, o] ![1, 512, 128] inb) (ix3 0 r d) =
      x0 (ix3 0 r (⟨h.val * 128 + d.val, by omega⟩ : Fin 512)) :=
  View.ld_unit_apply_of _ _ _ _ _ _ fun a => by
    fin_cases a <;> simp [ix3, e]

/-- The head's row of a scratch at an element. -/
theorem ld_m (X : Vec Ideal S4x512x1 .f32) (inb) (r : Fin 512) :
    View.ld X (Rect.unit ![g, 0, 0] ![1, 512, 1] inb) (ix3 0 r 0) = X (ix3 h r 0) :=
  View.ld_unit_apply_of _ _ _ _ _ _ fun a => by
    fin_cases a <;> simp [ix3, eg]

theorem ld_a (X : Vec Ideal S4x512x128 .f32) (inb) (r : Fin 512) (d : Fin 128) :
    View.ld X (Rect.unit ![g, 0, 0] ![1, 512, 128] inb) (ix3 0 r d) = X (ix3 h r d) :=
  View.ld_unit_apply_of _ _ _ _ _ _ fun a => by
    fin_cases a <;> simp [ix3, eg]

/-- The head's stored maximum. -/
theorem piece_max (inb inb1) (x : S1x512x1.Idx) (y : S4x512x1.Idx)
    (h0 : (y 0).val = g + (x 0).val) (h1 : (y 1).val = (x 1).val) :
    k0_pay20 (F := Ideal) (k0_pay15 x1 (View.ld x0 (Rect.unit ![0, 0, o] ![1, 512, 128] inb))
      (View.ld M (Rect.unit ![g, 0, 0] ![1, 512, 1] inb1))) x = GM x0 x1 M y := by
  obtain ⟨a, r, d, rfl⟩ : ∃ (a : Fin 1) (r : Fin 512) (d : Fin 1), x = ix3 a r d := ⟨x 0, x 1, x 2, by idx_vars x⟩
  obtain rfl := Subsingleton.elim a 0
  obtain rfl := Subsingleton.elim d 0
  obtain rfl : y = ix3 h r 0 := by
    funext b; apply Fin.ext; fin_cases b <;> simp_all [ix3]
  rw [pay20_at, pay15_head x1 _ _ x0 h r _ (ld_q x0 h e g eg inb r) (ld_m h e g eg M inb1 r)]
  rfl

/-- The head's stored sum. -/
theorem piece_sum (inb inb1 inb2) (x : S1x512x1.Idx) (y : S4x512x1.Idx)
    (h0 : (y 0).val = g + (x 0).val) (h1 : (y 1).val = (x 1).val) :
    k0_pay18 (F := Ideal) x1 (View.ld x0 (Rect.unit ![0, 0, o] ![1, 512, 128] inb))
      (View.ld M (Rect.unit ![g, 0, 0] ![1, 512, 1] inb1)) (View.ld L (Rect.unit ![g, 0, 0] ![1, 512, 1] inb2)) x =
      GS x0 x1 M L y := by
  obtain ⟨a, r, d, rfl⟩ : ∃ (a : Fin 1) (r : Fin 512) (d : Fin 1), x = ix3 a r d := ⟨x 0, x 1, x 2, by idx_vars x⟩
  obtain rfl := Subsingleton.elim a 0
  obtain rfl := Subsingleton.elim d 0
  obtain rfl : y = ix3 h r 0 := by
    funext b; apply Fin.ext; fin_cases b <;> simp_all [ix3]
  rw [pay18_head x1 _ _ _ x0 h r _ _ (ld_q x0 h e g eg inb r) (ld_m h e g eg M inb1 r) (ld_m h e g eg L inb2 r)]
  rfl

/-- The head's stored weighted sum. -/
theorem piece_acc (inb inb1 inb2) (x : S1x512x128.Idx) (y : S4x512x128.Idx)
    (h0 : (y 0).val = g + (x 0).val) (h1 : (y 1).val = (x 1).val) (h2 : (y 2).val = (x 2).val) :
    k0_pay19 (F := Ideal) (k0_pay12 x2)
      (k0_pay16 x1 (View.ld x0 (Rect.unit ![0, 0, o] ![1, 512, 128] inb))
        (View.ld M (Rect.unit ![g, 0, 0] ![1, 512, 1] inb1)))
      (k0_pay17 x1 (View.ld x0 (Rect.unit ![0, 0, o] ![1, 512, 128] inb))
        (View.ld M (Rect.unit ![g, 0, 0] ![1, 512, 1] inb1)))
      (View.ld A (Rect.unit ![g, 0, 0] ![1, 512, 128] inb2)) x = GA x0 x1 x2 M A y := by
  obtain ⟨a, r, d, rfl⟩ : ∃ (a : Fin 1) (r : Fin 512) (d : Fin 128), x = ix3 a r d := ⟨x 0, x 1, x 2, by idx_vars x⟩
  obtain rfl := Subsingleton.elim a 0
  obtain rfl : y = ix3 h r d := by
    funext b; apply Fin.ext; fin_cases b <;> simp_all [ix3]
  rw [pay19_head x1 x2 _ _ x0 _ h r d _ _ (ld_q x0 h e g eg inb r) (ld_m h e g eg M inb1 r)
    (ld_a h e g eg A inb2 r d)]
  rfl

/-- The head's lanes of the output block: the quotient of the weighted sum and the sum. -/
theorem piece_out (a : Vec Ideal S1x512x128 .f32) (l : Vec Ideal S1x512x1 .f32) (S : Vec Ideal S4x512x1 .f32)
    (B : Vec Ideal S4x512x128 .f32) (x : S1x512x128.Idx) (y : S1x512x512.Idx)
    (h0 : (y 1).val = (x 1).val) (h1 : (y 2).val = o + (x 2).val)
    (ha : ∀ x y, (y 0).val = g + (x 0).val → (y 1).val = (x 1).val → (y 2).val = (x 2).val → a x = B y)
    (hl : ∀ x y, (y 0).val = g + (x 0).val → (y 1).val = (x 1).val → l x = S y) :
    k0_pay5 (F := Ideal) a l x =
      Ideal.div (B (ix3 (⟨(y 2).val / 128, by have : (y 2).val < 512 := (y 2).isLt; omega⟩ : Fin 4) (y 1)
          (⟨(y 2).val % 128, by omega⟩ : Fin 128)))
        (S (ix3 (⟨(y 2).val / 128, by have : (y 2).val < 512 := (y 2).isLt; omega⟩ : Fin 4) (y 1) 0)) := by
  obtain ⟨z, r, d, rfl⟩ : ∃ (a : Fin 1) (r : Fin 512) (d : Fin 128), x = ix3 a r d := ⟨x 0, x 1, x 2, by idx_vars x⟩
  obtain rfl := Subsingleton.elim z 0
  have hd := d.isLt
  have e2 : (y 2).val = h.val * 128 + d.val := by rw [h1, e]; rfl
  have e1 : (y 1).val = r.val := h0
  rw [pay5_at]
  congr 1
  · refine ha _ _ ?_ ?_ ?_ <;> simp only [ix3_0, ix3_1, ix3_2] <;> first | omega | simp <;> omega
  · refine hl _ _ ?_ ?_ <;> simp only [ix3_0, ix3_1, ix3_2] <;> first | omega | simp <;> omega

end pieces

section cases

variable (c : Dev nD) (i : grid0.Coords) (arg4 : Memref sig .tc .vmem S1x512x512 .bf16) (harg4 : arg4.IsWhole)
  (arg5 : Memref sig .tc .vmem S1x1024x128 .bf16) (harg5 : arg5.IsWhole)
  (arg6 : Memref sig .tc .vmem S1x1024x128 .bf16) (harg6 : arg6.IsWhole)
  (arg7 : Memref sig .tc .vmem S1x512x512 .bf16) (harg7 : arg7.IsWhole)
  (arg8 : Memref sig .tc .vmem S4x512x1 .f32) (harg8 : arg8.IsWhole)
  (arg9 : Memref sig .tc .vmem S4x512x1 .f32) (harg9 : arg9.IsWhole)
  (arg10 : Memref sig .tc .vmem S4x512x128 .f32) (harg10 : arg10.IsWhole)
  (x0 : Vec Ideal S1x512x512 .bf16) (x1 x2 : Vec Ideal S1x1024x128 .bf16)
  (M L : Vec Ideal S4x512x1 .f32) (A : Vec Ideal S4x512x128 .f32)

/-- Case A: the running maxima after the point. -/
theorem soutA0 (hc0 : cond0_0 i) (hc1 : ¬cond0_1 i) :
    sout0_A_0 (F := Ideal) c i arg4 harg4 arg5 harg5 arg6 harg6 arg7 harg7 arg8 harg8 arg9 harg9 arg10 harg10
      hc0 hc1 x0 x1 x2 =
      GM x0 x1 (k0_pay8 (F := Ideal)) := by
  funext y
  frame_open
  frame_out
  simp (disch := decide) only [↓ View.readCov_skip, ↓ View.readCov_cons_toLoadRect, ↓ View.readCov_fill]
  refine View.canon_append_of_piecesOf (GM x0 x1 (k0_pay8 (F := Ideal))) [_] [_, _, _, _] ⟨fun x => ?_, fun x => ?_, fun x => ?_, fun x => ?_, trivial⟩ y ?_
  rotate_right
  · exact View.cover_of_tiledL (s := S4x512x1) _ S1x512x1.size (by sl_kernel_rfl) y
  all_goals dsimp only
  · refine piece_max x0 x1 (k0_pay8 (F := Ideal)) (o := 384) 3 rfl 3 rfl _ _ x _ ?_ ?_
    · exact emb_val _ _ _ x 0
    · exact (emb_val _ _ _ x 1).trans (Nat.zero_add _)
  · refine piece_max x0 x1 (k0_pay8 (F := Ideal)) (o := 256) 2 rfl 2 rfl _ _ x _ ?_ ?_
    · exact emb_val _ _ _ x 0
    · exact (emb_val _ _ _ x 1).trans (Nat.zero_add _)
  · refine piece_max x0 x1 (k0_pay8 (F := Ideal)) (o := 128) 1 rfl 1 rfl _ _ x _ ?_ ?_
    · exact emb_val _ _ _ x 0
    · exact (emb_val _ _ _ x 1).trans (Nat.zero_add _)
  · refine piece_max x0 x1 (k0_pay8 (F := Ideal)) (o := 0) 0 rfl 0 rfl _ _ x _ ?_ ?_
    · exact emb_val _ _ _ x 0
    · exact (emb_val _ _ _ x 1).trans (Nat.zero_add _)

/-- Case A: the running sums after the point. -/
theorem soutA1 (hc0 : cond0_0 i) (hc1 : ¬cond0_1 i) :
    sout0_A_1 (F := Ideal) c i arg4 harg4 arg5 harg5 arg6 harg6 arg7 harg7 arg8 harg8 arg9 harg9 arg10 harg10
      hc0 hc1 x0 x1 x2 =
      GS x0 x1 (k0_pay8 (F := Ideal)) (k0_pay9 (F := Ideal)) := by
  funext y
  frame_open
  frame_out
  simp (disch := decide) only [↓ View.readCov_skip, ↓ View.readCov_cons_toLoadRect, ↓ View.readCov_fill]
  refine View.canon_append_of_piecesOf (GS x0 x1 (k0_pay8 (F := Ideal)) (k0_pay9 (F := Ideal))) [_] [_, _, _, _] ⟨fun x => ?_, fun x => ?_, fun x => ?_, fun x => ?_, trivial⟩ y ?_
  rotate_right
  · exact View.cover_of_tiledL (s := S4x512x1) _ S1x512x1.size (by sl_kernel_rfl) y
  all_goals dsimp only
  · refine piece_sum x0 x1 (k0_pay8 (F := Ideal)) (k0_pay9 (F := Ideal)) (o := 384) 3 rfl 3 rfl _ _ _ x _ ?_ ?_
    · exact emb_val _ _ _ x 0
    · exact (emb_val _ _ _ x 1).trans (Nat.zero_add _)
  · refine piece_sum x0 x1 (k0_pay8 (F := Ideal)) (k0_pay9 (F := Ideal)) (o := 256) 2 rfl 2 rfl _ _ _ x _ ?_ ?_
    · exact emb_val _ _ _ x 0
    · exact (emb_val _ _ _ x 1).trans (Nat.zero_add _)
  · refine piece_sum x0 x1 (k0_pay8 (F := Ideal)) (k0_pay9 (F := Ideal)) (o := 128) 1 rfl 1 rfl _ _ _ x _ ?_ ?_
    · exact emb_val _ _ _ x 0
    · exact (emb_val _ _ _ x 1).trans (Nat.zero_add _)
  · refine piece_sum x0 x1 (k0_pay8 (F := Ideal)) (k0_pay9 (F := Ideal)) (o := 0) 0 rfl 0 rfl _ _ _ x _ ?_ ?_
    · exact emb_val _ _ _ x 0
    · exact (emb_val _ _ _ x 1).trans (Nat.zero_add _)

/-- Case A: the running weighted sums after the point. -/
theorem soutA2 (hc0 : cond0_0 i) (hc1 : ¬cond0_1 i) :
    sout0_A_2 (F := Ideal) c i arg4 harg4 arg5 harg5 arg6 harg6 arg7 harg7 arg8 harg8 arg9 harg9 arg10 harg10
      hc0 hc1 x0 x1 x2 =
      GA x0 x1 x2 (k0_pay8 (F := Ideal)) (k0_pay10 (F := Ideal)) := by
  funext y
  frame_open
  frame_out
  simp (disch := decide) only [↓ View.readCov_skip, ↓ View.readCov_cons_toLoadRect, ↓ View.readCov_fill]
  refine View.canon_append_of_piecesOf (GA x0 x1 x2 (k0_pay8 (F := Ideal)) (k0_pay10 (F := Ideal))) [_] [_, _, _, _] ⟨fun x => ?_, fun x => ?_, fun x => ?_, fun x => ?_, trivial⟩ y ?_
  rotate_right
  · exact View.cover_of_tiledL (s := S4x512x128) _ S1x512x128.size (by sl_kernel_rfl) y
  all_goals dsimp only
  · refine piece_acc x0 x1 x2 (k0_pay8 (F := Ideal)) (k0_pay10 (F := Ideal)) (o := 384) 3 rfl 3 rfl _ _ _ x _ ?_ ?_ ?_
    · exact emb_val _ _ _ x 0
    · exact (emb_val _ _ _ x 1).trans (Nat.zero_add _)
    · exact (emb_val _ _ _ x 2).trans (Nat.zero_add _)
  · refine piece_acc x0 x1 x2 (k0_pay8 (F := Ideal)) (k0_pay10 (F := Ideal)) (o := 256) 2 rfl 2 rfl _ _ _ x _ ?_ ?_ ?_
    · exact emb_val _ _ _ x 0
    · exact (emb_val _ _ _ x 1).trans (Nat.zero_add _)
    · exact (emb_val _ _ _ x 2).trans (Nat.zero_add _)
  · refine piece_acc x0 x1 x2 (k0_pay8 (F := Ideal)) (k0_pay10 (F := Ideal)) (o := 128) 1 rfl 1 rfl _ _ _ x _ ?_ ?_ ?_
    · exact emb_val _ _ _ x 0
    · exact (emb_val _ _ _ x 1).trans (Nat.zero_add _)
    · exact (emb_val _ _ _ x 2).trans (Nat.zero_add _)
  · refine piece_acc x0 x1 x2 (k0_pay8 (F := Ideal)) (k0_pay10 (F := Ideal)) (o := 0) 0 rfl 0 rfl _ _ _ x _ ?_ ?_ ?_
    · exact emb_val _ _ _ x 0
    · exact (emb_val _ _ _ x 1).trans (Nat.zero_add _)
    · exact (emb_val _ _ _ x 2).trans (Nat.zero_add _)

/-- Case B: the running maxima after the point. -/
theorem soutB0 (hc0 : ¬cond0_0 i) (hc1 : ¬cond0_1 i) :
    sout0_B_0 (F := Ideal) c i arg4 harg4 arg5 harg5 arg6 harg6 arg7 harg7 arg8 harg8 arg9 harg9 arg10 harg10
      hc0 hc1 x0 x1 x2 M L A =
      GM x0 x1 M := by
  funext y
  frame_open
  frame_out
  canon_tiles x h
  · exact piece_max x0 x1 M (o := 384) 3 rfl 3 rfl _ _ x y h0 h1
  · exact piece_max x0 x1 M (o := 256) 2 rfl 2 rfl _ _ x y h0 h1
  · exact piece_max x0 x1 M (o := 128) 1 rfl 1 rfl _ _ x y h0 h1
  · exact piece_max x0 x1 M (o := 0) 0 rfl 0 rfl _ _ x y (by omega) h1

/-- Case B: the running sums after the point. -/
theorem soutB1 (hc0 : ¬cond0_0 i) (hc1 : ¬cond0_1 i) :
    sout0_B_1 (F := Ideal) c i arg4 harg4 arg5 harg5 arg6 harg6 arg7 harg7 arg8 harg8 arg9 harg9 arg10 harg10
      hc0 hc1 x0 x1 x2 M L A =
      GS x0 x1 M L := by
  funext y
  frame_open
  frame_out
  canon_tiles x h
  · exact piece_sum x0 x1 M L (o := 384) 3 rfl 3 rfl _ _ _ x y h0 h1
  · exact piece_sum x0 x1 M L (o := 256) 2 rfl 2 rfl _ _ _ x y h0 h1
  · exact piece_sum x0 x1 M L (o := 128) 1 rfl 1 rfl _ _ _ x y h0 h1
  · exact piece_sum x0 x1 M L (o := 0) 0 rfl 0 rfl _ _ _ x y (by omega) h1

/-- Case B: the running weighted sums after the point. -/
theorem soutB2 (hc0 : ¬cond0_0 i) (hc1 : ¬cond0_1 i) :
    sout0_B_2 (F := Ideal) c i arg4 harg4 arg5 harg5 arg6 harg6 arg7 harg7 arg8 harg8 arg9 harg9 arg10 harg10
      hc0 hc1 x0 x1 x2 M L A =
      GA x0 x1 x2 M A := by
  funext y
  frame_open
  frame_out
  canon_tiles x h
  · exact piece_acc x0 x1 x2 M A (o := 384) 3 rfl 3 rfl _ _ _ x y h0 h1 h2
  · exact piece_acc x0 x1 x2 M A (o := 256) 2 rfl 2 rfl _ _ _ x y h0 h1 h2
  · exact piece_acc x0 x1 x2 M A (o := 128) 1 rfl 1 rfl _ _ _ x y h0 h1 h2
  · exact piece_acc x0 x1 x2 M A (o := 0) 0 rfl 0 rfl _ _ _ x y (by omega) h1 h2

/-- Case C: the running maxima after the point. -/
theorem soutC0 (hc0 : ¬cond0_0 i) (hc1 : cond0_1 i) :
    sout0_C_0 (F := Ideal) c i arg4 harg4 arg5 harg5 arg6 harg6 arg7 harg7 arg8 harg8 arg9 harg9 arg10 harg10
      hc0 hc1 x0 x1 x2 M L A =
      GM x0 x1 M := by
  funext y
  frame_open
  frame_out
  canon_tiles x h
  · exact piece_max x0 x1 M (o := 384) 3 rfl 3 rfl _ _ x y h0 h1
  · exact piece_max x0 x1 M (o := 256) 2 rfl 2 rfl _ _ x y h0 h1
  · exact piece_max x0 x1 M (o := 128) 1 rfl 1 rfl _ _ x y h0 h1
  · exact piece_max x0 x1 M (o := 0) 0 rfl 0 rfl _ _ x y (by omega) h1

/-- Case C: the running sums after the point. -/
theorem soutC1 (hc0 : ¬cond0_0 i) (hc1 : cond0_1 i) :
    sout0_C_1 (F := Ideal) c i arg4 harg4 arg5 harg5 arg6 harg6 arg7 harg7 arg8 harg8 arg9 harg9 arg10 harg10
      hc0 hc1 x0 x1 x2 M L A =
      GS x0 x1 M L := by
  funext y
  frame_open
  frame_out
  canon_tiles x h
  · exact piece_sum x0 x1 M L (o := 384) 3 rfl 3 rfl _ _ _ x y h0 h1
  · exact piece_sum x0 x1 M L (o := 256) 2 rfl 2 rfl _ _ _ x y h0 h1
  · exact piece_sum x0 x1 M L (o := 128) 1 rfl 1 rfl _ _ _ x y h0 h1
  · exact piece_sum x0 x1 M L (o := 0) 0 rfl 0 rfl _ _ _ x y (by omega) h1

/-- Case C: the running weighted sums after the point. -/
theorem soutC2 (hc0 : ¬cond0_0 i) (hc1 : cond0_1 i) :
    sout0_C_2 (F := Ideal) c i arg4 harg4 arg5 harg5 arg6 harg6 arg7 harg7 arg8 harg8 arg9 harg9 arg10 harg10
      hc0 hc1 x0 x1 x2 M L A =
      GA x0 x1 x2 M A := by
  funext y
  frame_open
  frame_out
  canon_tiles x h
  · exact piece_acc x0 x1 x2 M A (o := 384) 3 rfl 3 rfl _ _ _ x y h0 h1 h2
  · exact piece_acc x0 x1 x2 M A (o := 256) 2 rfl 2 rfl _ _ _ x y h0 h1 h2
  · exact piece_acc x0 x1 x2 M A (o := 128) 1 rfl 1 rfl _ _ _ x y h0 h1 h2
  · exact piece_acc x0 x1 x2 M A (o := 0) 0 rfl 0 rfl _ _ _ x y (by omega) h1 h2

/-- Case C: the output block, each lane its head's quotient. -/
theorem outC (hc0 : ¬cond0_0 i) (hc1 : cond0_1 i) (y : S1x512x512.Idx) :
    out0_C_3 (F := Ideal) c i arg4 harg4 arg5 harg5 arg6 harg6 arg7 harg7 arg8 harg8 arg9 harg9 arg10 harg10
      hc0 hc1 x0 x1 x2 M L A y =
      Ideal.div (GA x0 x1 x2 M A (ix3 (⟨(y 2).val / 128, by have : (y 2).val < 512 := (y 2).isLt; omega⟩ : Fin 4) (y 1)
          (⟨(y 2).val % 128, by omega⟩ : Fin 128)))
        (GS x0 x1 M L (ix3 (⟨(y 2).val / 128, by have : (y 2).val < 512 := (y 2).isLt; omega⟩ : Fin 4) (y 1) 0)) := by
  frame_open
  frame_out
  simp (disch := decide) only [↓ View.readCov_skip, ↓ View.readCov_cons_toLoadRect, ↓ View.readCov_fill]
  canon_tiles x h
  · exact piece_out (o := 384) 3 rfl 3 rfl _ _ (GS x0 x1 M L) (GA x0 x1 x2 M A) x y h1 h2
      (fun x y h0 h1 h2 => piece_acc x0 x1 x2 M A (o := 384) 3 rfl 3 rfl _ _ _ x y h0 h1 h2)
      (fun x y h0 h1 => piece_sum x0 x1 M L (o := 384) 3 rfl 3 rfl _ _ _ x y h0 h1)
  · exact piece_out (o := 256) 2 rfl 2 rfl _ _ (GS x0 x1 M L) (GA x0 x1 x2 M A) x y h1 h2
      (fun x y h0 h1 h2 => piece_acc x0 x1 x2 M A (o := 256) 2 rfl 2 rfl _ _ _ x y h0 h1 h2)
      (fun x y h0 h1 => piece_sum x0 x1 M L (o := 256) 2 rfl 2 rfl _ _ _ x y h0 h1)
  · exact piece_out (o := 128) 1 rfl 1 rfl _ _ (GS x0 x1 M L) (GA x0 x1 x2 M A) x y h1 h2
      (fun x y h0 h1 h2 => piece_acc x0 x1 x2 M A (o := 128) 1 rfl 1 rfl _ _ _ x y h0 h1 h2)
      (fun x y h0 h1 => piece_sum x0 x1 M L (o := 128) 1 rfl 1 rfl _ _ _ x y h0 h1)
  · exact piece_out (o := 0) 0 rfl 0 rfl _ _ (GS x0 x1 M L) (GA x0 x1 x2 M A) x y h1 (by omega)
      (fun x y h0 h1 h2 => piece_acc x0 x1 x2 M A (o := 0) 0 rfl 0 rfl _ _ _ x y h0 h1 h2)
      (fun x y h0 h1 => piece_sum x0 x1 M L (o := 0) 0 rfl 0 rfl _ _ _ x y h0 h1)

end cases
end Cert.Attention

end
-- ==== Proof.Blocks.lean ====
/- Which elements of the query, key and value arrays a grid point of the attention kernel reads. Point `t` is batch
   `t / 1024`, head group `t / 512 % 2`, query block `t / 16 % 32`, key block `t % 16`. -/
module

public import proofs.«01_k».proof.Proof.Step

@[expose] public section

set_option maxRecDepth 16384

noncomputable section

namespace Cert.Attention

open Cert.KernelIdeal Cert.KernelIdeal.Gen Idealize.ShloMosaic Idealize.ShloMosaic.TcCoe Idealize.SL.Sem

/-- The block index of each window at point `t`. -/
theorem idx0 : ∀ t : Fin cfg0.N, (cfg0.win 0).index t = ![t.val / 1024, t.val / 16 % 32, t.val / 512 % 2] := by
  decide +kernel
theorem idx1 : ∀ t : Fin cfg0.N, (cfg0.win 1).index t = ![t.val / 1024, t.val % 16, t.val / 512 % 2] := by
  decide +kernel
theorem idx2 : ∀ t : Fin cfg0.N, (cfg0.win 2).index t = ![t.val / 1024, t.val % 16, t.val / 512 % 2] := by
  decide +kernel
theorem idx3 : ∀ t : Fin cfg0.N, (cfg0.win 3).index t = ![t.val / 1024, t.val / 16 % 32, t.val / 512 % 2] := by
  decide +kernel

theorem tlt (t : Fin cfg0.N) : t.val < 2048 := t.isLt.trans_eq (show cfg0.N = 2048 from N_0)

variable (m : (ℓ : Loc nD τ sig) → Buf (Elt Ideal) ℓ) (c : Dev nD)

/-- The query array of core `c`. -/
abbrev Q : Vec Ideal S2x16384x1024 .bf16 := m ((c : Thread nD τ).loc main_arg0)
/-- The key array. -/
abbrev K : Vec Ideal S2x16384x256 .bf16 := m ((c : Thread nD τ).loc main_arg1)
/-- The value array. -/
abbrev W : Vec Ideal S2x16384x256 .bf16 := m ((c : Thread nD τ).loc main_arg2)

/-- The batch of point `t`. -/
def bt (t : Fin cfg0.N) : Fin 2 := ⟨t.val / 1024, by have := tlt t; omega⟩
/-- The head group of point `t`. -/
def gt (t : Fin cfg0.N) : Fin 2 := ⟨t.val / 512 % 2, by omega⟩
/-- The query row of the whole array that row `r` of point `t`'s block is. -/
def rt (t : Fin cfg0.N) (r : Fin 512) : Fin 16384 := ⟨t.val / 16 % 32 * 512 + r.val, by omega⟩

/-- Lane `d` of head `h` of group `g` in the query array and in the result. -/
def lq (g : Fin 2) (h : Fin 4) (d : Fin 128) : Fin 1024 := ⟨g.val * 512 + (h.val * 128 + d.val), by omega⟩
/-- Lane `d` of group `g` in the key and value arrays. -/
def lk (g : Fin 2) (d : Fin 128) : Fin 256 := ⟨g.val * 128 + d.val, by omega⟩

/-- The query block at an element. -/
theorem blk_q (t : Fin cfg0.N) (r : Fin 512) (h : Fin 4) (d : Fin 128) :
    (iblk m c 0 t : Vec Ideal S1x512x512 .bf16) (ix3 0 r (⟨h.val * 128 + d.val, by omega⟩ : Fin 512)) =
      Q m c (ix3 (bt t) (rt t r) (lq (gt t) h d)) := by
  have e := idx0 t
  simp only [Q, bt, rt, lq, gt]
  blk_ext [iblk, V_main_arg0, e]

/-- The key block at an element. -/
theorem blk_k (t : Fin cfg0.N) (j : Fin 1024) (d : Fin 128) :
    (iblk m c 1 t : Vec Ideal S1x1024x128 .bf16) (ix3 0 j d) =
      K m c (ix3 (bt t) (⟨t.val % 16 * 1024 + j.val, by omega⟩ : Fin 16384) (lk (gt t) d)) := by
  have e := idx1 t
  simp only [K, bt, lk, gt]
  blk_ext [iblk, V_main_arg1, e]

/-- The value block at an element. -/
theorem blk_v (t : Fin cfg0.N) (j : Fin 1024) (d : Fin 128) :
    (iblk m c 2 t : Vec Ideal S1x1024x128 .bf16) (ix3 0 j d) =
      W m c (ix3 (bt t) (⟨t.val % 16 * 1024 + j.val, by omega⟩ : Fin 16384) (lk (gt t) d)) := by
  have e := idx2 t
  simp only [W, bt, lk, gt]
  blk_ext [iblk, V_main_arg2, e]

end Cert.Attention

end
-- ==== Proof.OnlineSoftmax.lean ====
/- The arithmetic of a softmax-weighted sum taken block by block: a running maximum, a running sum of exponentials
   and a running weighted sum, rescaled whenever the maximum moves. Extended reals; the scores are real numbers,
   the values are any extended reals. Nothing here mentions a program. -/
module

public import Idealize.ShloMosaic.PureOps.Ideal
public import Mathlib.Data.EReal.Inv
public import Mathlib.Analysis.SpecialFunctions.Exp

@[expose] public section

noncomputable section

namespace Cert.OnlineSoftmax

open Idealize.ShloMosaic Finset

/-- A nonnegative real factor distributes over a finite sum of extended reals. -/
theorem coe_mul_sum {ι : Type} (c : ℝ) (hc : 0 ≤ c) (S : Finset ι) (f : ι → EReal) :
    (c : EReal) * ∑ j ∈ S, f j = ∑ j ∈ S, (c : EReal) * f j := by
  classical
  induction S using Finset.induction_on with
  | empty => simp
  | insert a S ha ih =>
    rw [sum_insert ha, sum_insert ha,
      EReal.left_distrib_of_nonneg_of_ne_top (by exact_mod_cast hc) (EReal.coe_ne_top c), ih]

/-- The sum of real numbers read as an extended real. -/
theorem coe_sum {ι : Type} (S : Finset ι) (f : ι → ℝ) :
    ((∑ j ∈ S, f j : ℝ) : EReal) = ∑ j ∈ S, (f j : EReal) := by
  classical
  induction S using Finset.induction_on with
  | empty => simp
  | insert a S ha ih => rw [sum_insert ha, sum_insert ha, EReal.coe_add, ih]

/-- The exponential of a difference of real numbers. -/
theorem exp_sub_coe (a b : ℝ) : Ideal.exp ((a : EReal) - (b : EReal)) = (Real.exp (a - b) : ℝ) := by
  rw [← EReal.coe_sub]; rfl

/-- The maximum of real numbers folded from `b` with a real number among them is `max b` of a real number. -/
theorem fold_max_coe {n : ℕ} (hn : 0 < n) (f : Fin n → ℝ) :
    ∃ M : ℝ, Finset.fold max (⊥ : EReal) (fun x => (f x : EReal)) univ = M := by
  have hne : (univ : Finset (Fin n)).Nonempty := ⟨⟨0, hn⟩, mem_univ _⟩
  have key : ∀ S : Finset (Fin n), S.Nonempty →
      ∃ M : ℝ, Finset.fold max (⊥ : EReal) (fun x => (f x : EReal)) S = M := by
    intro S hS
    induction hS using Finset.Nonempty.cons_induction with
    | singleton a => exact ⟨f a, by simp⟩
    | cons a S ha hS ih =>
      obtain ⟨M, hM⟩ := ih
      exact ⟨max (f a) M, by rw [fold_cons, hM]; exact (EReal.coe_strictMono.monotone.map_max).symm⟩
  exact key univ hne

/-- The state of a row after its first `n` scores: the running maximum is some real number `μ`, and the running sum
    is the sum of the exponentials of the scores less `μ`. The weighted sums (one per value column `d`) carry the same
    exponentials. -/
def Inv {D : Type} (s : ℕ → ℝ) (v : ℕ → D → EReal) (n : ℕ) (m l : EReal) (a : D → EReal) : Prop :=
  ∃ μ : ℝ, m = μ ∧ l = ((∑ j ∈ range n, Real.exp (s j - μ) : ℝ) : EReal) ∧
    ∀ d, a d = ∑ j ∈ range n, ((Real.exp (s j - μ) : ℝ) : EReal) * v j d

/-- Before any score, whatever real number the running maximum starts from. -/
theorem Inv.zero {D : Type} (s : ℕ → ℝ) (v : ℕ → D → EReal) (μ : ℝ) : Inv s v 0 μ 0 (fun _ => 0) :=
  ⟨μ, rfl, by simp, by simp⟩

/-- One block of `T` scores: the new maximum, the rescaled sum plus the block's exponentials, the rescaled weighted
    sum plus the block's weighted values. -/
theorem Inv.step {D : Type} {s : ℕ → ℝ} {v : ℕ → D → EReal} {n : ℕ} {m l : EReal} {a : D → EReal}
    (h : Inv s v n m l a) {T : ℕ} (hT : 0 < T) (x : Fin T → EReal) (w : Fin T → D → EReal)
    (hx : ∀ j, x j = (s (n + j.val) : ℝ)) (hw : ∀ j d, w j d = v (n + j.val) d)
    {m' l' : EReal} {a' : D → EReal}
    (hm' : m' = max m (Finset.fold max (⊥ : EReal) x univ))
    (hl' : l' = Ideal.exp (m - m') * l + ∑ j, Ideal.exp (x j - m'))
    (ha' : ∀ d, a' d = Ideal.exp (m - m') * a d + ∑ j, Ideal.exp (x j - m') * w j d) :
    Inv s v (n + T) m' l' a' := by
  obtain ⟨μ, hm, hl, ha⟩ := h
  obtain rfl : x = fun j => ((s (n + j.val) : ℝ) : EReal) := funext hx
  obtain ⟨M, hM⟩ := fold_max_coe hT fun j : Fin T => s (n + j.val)
  have hμ' : m' = ((max μ M : ℝ) : EReal) := by rw [hm', hm, hM]; exact (EReal.coe_strictMono.monotone.map_max).symm
  set μ' := max μ M with hμ'd
  refine ⟨μ', hμ', ?_, fun d => ?_⟩
  · rw [hl', hm, hμ', exp_sub_coe, hl, ← EReal.coe_mul, sum_range_add, mul_sum, EReal.coe_add]
    congr 1
    · congr 1
      refine sum_congr rfl fun j _ => ?_
      rw [← Real.exp_add]; congr 1; ring
    · simp only [exp_sub_coe]
      rw [← coe_sum, ← Fin.sum_univ_eq_sum_range (fun j => Real.exp (s (n + j) - μ')) T]
  · rw [ha' d, hm, hμ', exp_sub_coe, ha d, coe_mul_sum _ (Real.exp_pos _).le, sum_range_add]
    congr 1
    · refine sum_congr rfl fun j _ => ?_
      rw [← mul_assoc, ← EReal.coe_mul, ← Real.exp_add]; congr 3; ring
    · rw [← Fin.sum_univ_eq_sum_range (fun j => ((Real.exp (s (n + j) - μ') : ℝ) : EReal) * v (n + j) d) T]
      refine sum_congr rfl fun j _ => ?_
      rw [exp_sub_coe, hw]

/-- The softmax weight of score `j` among the first `N`: its exponential over the sum of all, each less the same
    shift `μ`, whatever the shift. -/
theorem weight_shift (s : ℕ → ℝ) (N j : ℕ) (μ M : ℝ) :
    Real.exp (s j - μ) / ∑ i ∈ range N, Real.exp (s i - μ) =
      Real.exp (s j - M) / ∑ i ∈ range N, Real.exp (s i - M) := by
  have h : ∀ i, Real.exp (s i - μ) = Real.exp (M - μ) * Real.exp (s i - M) := fun i => by
    rw [← Real.exp_add]; congr 1; ring
  simp only [h]
  rw [← mul_sum, mul_div_mul_left _ _ (Real.exp_pos _).ne']

/-- Division of one real number by a nonzero one. -/
theorem div_coe (a b : ℝ) (hb : b ≠ 0) : Ideal.div (a : EReal) (b : EReal) = ((a / b : ℝ) : EReal) := by
  have hb' : (b : EReal) ≠ 0 := by exact_mod_cast hb
  rw [Ideal.div, if_neg hb', ← EReal.coe_inv, ← EReal.coe_mul, div_eq_mul_inv]

/-- Division of an extended real by a nonzero real number. -/
theorem div_coe_right (a : EReal) (b : ℝ) (hb : b ≠ 0) : Ideal.div a (b : EReal) = ((b⁻¹ : ℝ) : EReal) * a := by
  have hb' : (b : EReal) ≠ 0 := by exact_mod_cast hb
  rw [Ideal.div, if_neg hb', ← EReal.coe_inv, mul_comm]

/-- The sum of the exponentials of at least one score is positive. -/
theorem sum_exp_pos (s : ℕ → ℝ) {N : ℕ} (hN : 0 < N) (μ : ℝ) : 0 < ∑ i ∈ range N, Real.exp (s i - μ) :=
  sum_pos (fun _ _ => Real.exp_pos _) ⟨0, mem_range.mpr hN⟩

/-- After all `N` scores, the weighted sum over the sum of exponentials is the softmax-weighted sum of the values:
    each weight the exponential of its score less the maximum over the sum of those exponentials. -/
theorem Inv.result {D : Type} {s : ℕ → ℝ} {v : ℕ → D → EReal} {N : ℕ} {m l : EReal} {a : D → EReal}
    (h : Inv s v N m l a) (hN : 0 < N) (x : Fin N → EReal) (w : Fin N → D → EReal)
    (hx : ∀ j, x j = (s j.val : ℝ)) (hw : ∀ j d, w j d = v j.val d) (d : D) :
    Ideal.div (a d) l =
      ∑ j, Ideal.div (Ideal.exp (x j - max (⊥ : EReal) (Finset.fold max (⊥ : EReal) x univ)))
        (∑ i, Ideal.exp (x i - max (⊥ : EReal) (Finset.fold max (⊥ : EReal) x univ))) * w j d := by
  obtain ⟨μ, -, hl, ha⟩ := h
  obtain rfl : x = fun j => ((s j.val : ℝ) : EReal) := funext hx
  obtain ⟨M, hM⟩ := fold_max_coe hN fun j : Fin N => s j.val
  have hpos := sum_exp_pos s hN μ
  have hposM := sum_exp_pos s hN M
  rw [hM, max_eq_right bot_le, hl, div_coe_right _ _ hpos.ne', ha d, coe_mul_sum _ (inv_pos.mpr hpos).le]
  rw [← Fin.sum_univ_eq_sum_range (fun j => ((((∑ j ∈ range N, Real.exp (s j - μ))⁻¹ : ℝ)) : EReal) *
    (((Real.exp (s j - μ) : ℝ) : EReal) * v j d)) N]
  refine sum_congr rfl fun j _ => ?_
  simp only [exp_sub_coe]
  rw [← coe_sum, Fin.sum_univ_eq_sum_range (fun j => Real.exp (s j - M)) N, div_coe _ _ hposM.ne', hw, ← mul_assoc,
    ← EReal.coe_mul, ← weight_shift s N j.val μ M, div_eq_mul_inv, mul_comm (Real.exp _)]

/-- The inner product of two vectors of real numbers is the real number their entries' inner product is. -/
theorem sum_mul_coe {n : ℕ} (f g : Fin n → EReal) (hf : ∀ i, ∃ r : ℝ, f i = r) (hg : ∀ i, ∃ r : ℝ, g i = r) :
    ∑ i, f i * g i = ((∑ i, (f i).toReal * (g i).toReal : ℝ) : EReal) := by
  rw [coe_sum]
  refine sum_congr rfl fun i _ => ?_
  obtain ⟨a, ha⟩ := hf i
  obtain ⟨b, hb⟩ := hg i
  rw [ha, hb, EReal.toReal_coe, EReal.toReal_coe, EReal.coe_mul]

end Cert.OnlineSoftmax

end
-- ==== Proof.KernelValue.lean ====
/- The array the attention kernel leaves: at batch `b`, row `i`, head `h` of group `g`, lane `d` the softmax-weighted sum of
   the values, by the running maximum, sum and weighted sum carried over the sixteen key blocks. -/
module

public import proofs.«01_k».proof.Proof.Blocks
public import proofs.«01_k».proof.Proof.OnlineSoftmax

@[expose] public section

set_option maxRecDepth 16384

noncomputable section

namespace Cert.Attention

open Cert.KernelIdeal Cert.KernelIdeal.Gen Cert.OnlineSoftmax Idealize.ShloMosaic Idealize.ShloMosaic.TcCoe Idealize.SL.Sem

variable (m : (ℓ : Loc nD τ sig) → Buf (Elt Ideal) ℓ) (c : Dev nD)

/-- The score of query row `i` of head `h` in group `g` against key row `j`, as the extended real it is. -/
def score (Q : Vec Ideal S2x16384x1024 .bf16) (K : Vec Ideal S2x16384x256 .bf16) (b g : Fin 2) (h : Fin 4)
    (i j : Fin 16384) : EReal :=
  ∑ d : Fin 128, Q (ix3 b i (lq g h d)) * K (ix3 b j (lk g d))

/-- A number taken round as a key row. -/
def row (j : ℕ) : Fin 16384 := ⟨j % 16384, Nat.mod_lt _ (by decide)⟩

/-- The same scores as real numbers. -/
def rs (Q : Vec Ideal S2x16384x1024 .bf16) (K : Vec Ideal S2x16384x256 .bf16) (b g : Fin 2) (h : Fin 4)
    (i : Fin 16384) (j : ℕ) : ℝ :=
  ∑ d : Fin 128, (Q (ix3 b i (lq g h d))).toReal * (K (ix3 b (row j) (lk g d))).toReal

/-- The values' rows. -/
def vs (W : Vec Ideal S2x16384x256 .bf16) (b g : Fin 2) (j : ℕ) (d : Fin 128) : EReal := W (ix3 b (row j) (lk g d))

/-- Every query and key is a real number. -/
def Finite (Q : Vec Ideal S2x16384x1024 .bf16) (K : Vec Ideal S2x16384x256 .bf16) : Prop :=
  (∀ i, ∃ r : ℝ, Q i = r) ∧ ∀ i, ∃ r : ℝ, K i = r

theorem row_val (j : Fin 16384) : row j.val = j := Fin.ext (Nat.mod_eq_of_lt j.isLt)

theorem score_eq {Q : Vec Ideal S2x16384x1024 .bf16} {K : Vec Ideal S2x16384x256 .bf16} (hf : Finite Q K)
    (b g : Fin 2) (h : Fin 4) (i j : Fin 16384) : score Q K b g h i j = (rs Q K b g h i j.val : ℝ) := by
  rw [score, rs, row_val]
  exact sum_mul_coe _ _ (fun d => hf.1 _) fun d => hf.2 _

/-- The scores a grid point computes. -/
theorem sc_eq (hf : Finite (Q m c) (K m c)) (t : Fin cfg0.N) (h : Fin 4) (r : Fin 512) (j : Fin 1024) :
    sc (iblk m c 0 t) (iblk m c 1 t) h r j =
      (rs (Q m c) (K m c) (bt t) (gt t) h (rt t r) (t.val % 16 * 1024 + j.val) : ℝ) := by
  have e := score_eq hf (bt t) (gt t) h (rt t r) ⟨t.val % 16 * 1024 + j.val, by omega⟩
  rw [← e, sc, score]
  exact Finset.sum_congr rfl fun d _ => by rw [blk_q, blk_k]

/-- The literal −1e30 is a real number. -/
theorem lit_real : ∃ μ : ℝ, Ideal.ofBits .f32 0xF149F2CA#32 = (μ : EReal) := by
  simp only [Ideal.ofBits, Ideal.ieee]
  norm_num [-EReal.coe_mul]
  exact ⟨_, rfl⟩

/-- What holds of row `r` of head `h` after point `t`: the softmax state over the first `t % 16 + 1` key blocks. -/
def Holds (t : Fin cfg0.N) (h : Fin 4) (r : Fin 512) (o : Vec Ideal S4x512x1 .f32 × Vec Ideal S4x512x1 .f32 × Vec Ideal S4x512x128 .f32) : Prop :=
  Inv (rs (Q m c) (K m c) (bt t) (gt t) h (rt t r)) (vs (W m c) (bt t) (gt t)) ((t.val % 16 + 1) * 1024)
    (o.1 (ix3 h r 0)) (o.2.1 (ix3 h r 0)) (fun d => o.2.2 (ix3 h r d))

/-- One grid point: the state over `t % 16` key blocks becomes the state over one more. -/
theorem holds_step (hf : Finite (Q m c) (K m c)) (t : Fin cfg0.N) (h : Fin 4) (r : Fin 512)
    (M L : Vec Ideal S4x512x1 .f32) (A : Vec Ideal S4x512x128 .f32)
    (hI : Inv (rs (Q m c) (K m c) (bt t) (gt t) h (rt t r)) (vs (W m c) (bt t) (gt t)) (t.val % 16 * 1024)
      (M (ix3 h r 0)) (L (ix3 h r 0)) (fun d => A (ix3 h r d))) :
    Holds m c t h r (GM (iblk m c 0 t) (iblk m c 1 t) M, GS (iblk m c 0 t) (iblk m c 1 t) M L,
      GA (iblk m c 0 t) (iblk m c 1 t) (iblk m c 2 t) M A) := by
  rw [Holds, Nat.succ_mul]
  refine hI.step (by decide : 0 < 1024) (fun j => sc (iblk m c 0 t) (iblk m c 1 t) h r j)
    (fun j d => (iblk m c 2 t : Vec Ideal S1x1024x128 .bf16) (ix3 0 j d)) (fun j => sc_eq m c hf t h r j)
    (fun j d => ?_) rfl rfl (fun d => rfl)
  rw [blk_v, vs]
  congr 2
  exact (row_val ⟨t.val % 16 * 1024 + j.val, by omega⟩).symm

/-- The scratches after every grid point. -/
theorem holds_all (hf : Finite (Q m c) (K m c)) (n : ℕ) (hn : n < cfg0.N) (h : Fin 4) (r : Fin 512) :
    Holds m c ⟨n, hn⟩ h r (outsAt0 m c n hn).2 := by
  induction n using Nat.strong_induction_on with
  | _ n ih =>
    set t : Fin cfg0.N := ⟨n, hn⟩ with ht
    have hO : outsAt0 m c n hn = outsAt0 m c t.val t.isLt := rfl
    have htl := tlt t
    by_cases h0 : t.val % 16 = 0
    · have h1 : ¬t.val % 16 = 15 := by omega
      rw [hO, outsAt0_A m c t h0 h1]
      dsimp only
      rw [soutA0, soutA1, soutA2]
      refine holds_step m c hf t h r _ _ _ ?_
      rw [h0, Nat.zero_mul]
      obtain ⟨μ, hμ⟩ := lit_real
      simp only [pay8_at, pay9_at, pay10_at, hμ]
      exact Inv.zero _ _ μ
    · have hp : n - 1 < n := by have : t.val = n := rfl; omega
      have hpl : n - 1 < cfg0.N := lt_trans hp hn
      have hprev := ih (n - 1) hp hpl
      have hI : Inv (rs (Q m c) (K m c) (bt t) (gt t) h (rt t r)) (vs (W m c) (bt t) (gt t)) (t.val % 16 * 1024)
          ((outsAt0 m c (n - 1) hpl).2.1 (ix3 h r 0)) ((outsAt0 m c (n - 1) hpl).2.2.1 (ix3 h r 0))
          (fun d => (outsAt0 m c (n - 1) hpl).2.2.2 (ix3 h r d)) := by
        have hv : t.val = n := rfl
        have eb : bt ⟨n - 1, hpl⟩ = bt t := Fin.ext (by simp only [bt]; omega)
        have eg : gt ⟨n - 1, hpl⟩ = gt t := Fin.ext (by simp only [gt]; omega)
        have er : rt ⟨n - 1, hpl⟩ r = rt t r := Fin.ext (by simp only [rt]; omega)
        have ek : (n - 1) % 16 + 1 = t.val % 16 := by omega
        simp only [Holds] at hprev
        rw [eb, eg, er, ek] at hprev
        exact hprev
      by_cases h1 : t.val % 16 = 15
      · rw [hO, outsAt0_C m c t h0 h1]
        dsimp only
        rw [soutC0, soutC1, soutC2]
        exact holds_step m c hf t h r _ _ _ hI
      · rw [hO, outsAt0_B m c t h0 h1]
        dsimp only
        rw [soutB0, soutB1, soutB2]
        exact holds_step m c hf t h r _ _ _ hI

/-- The softmax-weighted sum: what attention is at batch `b`, row `i`, head `h` of group `g`, lane `d`. -/
def attend (Q : Vec Ideal S2x16384x1024 .bf16) (K W : Vec Ideal S2x16384x256 .bf16) (b g : Fin 2) (h : Fin 4)
    (i : Fin 16384) (d : Fin 128) : EReal :=
  ∑ j : Fin 16384,
    Ideal.div (Ideal.exp (score Q K b g h i j -
        max (⊥ : EReal) (Finset.fold max (⊥ : EReal) (fun j => score Q K b g h i j) Finset.univ)))
      (∑ j' : Fin 16384, Ideal.exp (score Q K b g h i j' -
        max (⊥ : EReal) (Finset.fold max (⊥ : EReal) (fun j => score Q K b g h i j) Finset.univ))) *
      W (ix3 b j (lk g d))

/-- The attention over the whole result array. -/
def G (Q : Vec Ideal S2x16384x1024 .bf16) (K W : Vec Ideal S2x16384x256 .bf16) : Vec Ideal S2x16384x1024 .bf16 :=
  fun y => attend Q K W (y 0) (⟨(y 2).val / 512, by have : (y 2).val < 1024 := (y 2).isLt; omega⟩ : Fin 2)
    (⟨(y 2).val % 512 / 128, by omega⟩ : Fin 4) (y 1) (⟨(y 2).val % 128, by omega⟩ : Fin 128)

/-- The block a grid point writes back, at its last key block. -/
theorem out_at (hf : Finite (Q m c) (K m c)) (t : Fin cfg0.N) (h1 : t.val % 16 = 15) (h : Fin 4) (r : Fin 512)
    (d : Fin 128) :
    (outsAt0 m c t.val t.isLt).1 (ix3 0 r (⟨h.val * 128 + d.val, by omega⟩ : Fin 512)) =
      attend (Q m c) (K m c) (W m c) (bt t) (gt t) h (rt t r) d := by
  have h0 : ¬t.val % 16 = 0 := by omega
  have hH := holds_all m c hf t.val t.isLt h r
  have e1 : (outsAt0 m c t.val t.isLt).1 (ix3 0 r (⟨h.val * 128 + d.val, by omega⟩ : Fin 512)) =
      Ideal.div ((outsAt0 m c t.val t.isLt).2.2.2 (ix3 h r d)) ((outsAt0 m c t.val t.isLt).2.2.1 (ix3 h r 0)) := by
    rw [outsAt0_C m c t h0 h1]
    dsimp only
    rw [outC, soutC1, soutC2]
    have eh : (⟨(h.val * 128 + d.val) / 128, by omega⟩ : Fin 4) = h := Fin.ext (by simp only []; omega)
    have ed : (⟨(h.val * 128 + d.val) % 128, by omega⟩ : Fin 128) = d := Fin.ext (by simp only []; omega)
    simp only [ix3_0, ix3_1, ix3_2, eh, ed]
  rw [e1]
  simp only [Holds, h1] at hH
  rw [attend]
  exact hH.result (by decide : 0 < 16384) (fun j => score (Q m c) (K m c) (bt t) (gt t) h (rt t r) j)
    (fun j d => W m c (ix3 (bt t) j (lk (gt t) d))) (fun j => score_eq hf _ _ _ _ _)
    (fun j d => by rw [vs, row_val]) d

/-- The result block's element `(r, h·128 + d)` at point `t` is the array's element at batch, row and lane of the point. -/
theorem emb_out (t : Fin cfg0.N) (h : Fin 4) (r : Fin 512) (d : Fin 128) :
    ((win0_3.blk t).view.emb (ix3 0 r (⟨h.val * 128 + d.val, by omega⟩ : Fin 512) : S1x512x512.Idx) : S2x16384x1024.Idx) =
      ix3 (bt t) (rt t r) (lq (gt t) h d) := by
  have e := idx3 t
  simp only [bt, rt, lq, gt]
  blk_ext [e]

/-- The attention array at batch `b`, row `i`, head `h` of group `g`, lane `d`. -/
theorem G_at (Q : Vec Ideal S2x16384x1024 .bf16) (K W : Vec Ideal S2x16384x256 .bf16) (b g : Fin 2) (h : Fin 4)
    (i : Fin 16384) (d : Fin 128) : G Q K W (ix3 b i (lq g h d)) = attend Q K W b g h i d := by
  have e1 : (⟨(lq g h d).val / 512, by have := (lq g h d).isLt; omega⟩ : Fin 2) = g := Fin.ext (by simp only [lq]; omega)
  have e2 : (⟨(lq g h d).val % 512 / 128, by omega⟩ : Fin 4) = h := Fin.ext (by simp only [lq]; omega)
  have e3 : (⟨(lq g h d).val % 128, by omega⟩ : Fin 128) = d := Fin.ext (by simp only [lq]; omega)
  simp only [G, ix3_0, ix3_1, ix3_2, e1, e2, e3]

/-- The array the kernel leaves is the attention of its arguments. -/
theorem array_eq (hf : Finite (Q m c) (K m c)) :
    ((dats m 0 c).arrAt 3 cfg0.N : Vec Ideal S2x16384x1024 .bf16) = G (Q m c) (K m c) (W m c) := by
  refine (dats m 0 c).arrAt_eq_of_covers 3 _ (by decide +kernel) fun t hf' y => ?_
  have h1 : t.val % 16 = 15 := (flush0_3 t).1 hf'
  blk_simp
  rw [after0_3]
  have hy : ∀ y : S1x512x512.Idx, (outsAt0 m c t.val t.isLt).1 y =
      G (Q m c) (K m c) (W m c) ((win0_3.blk t).view.emb y : S2x16384x1024.Idx) := fun y => by
    have h0 : (y 0).val < 1 := (y 0).isLt
    have h2 : (y 2).val < 512 := (y 2).isLt
    obtain ⟨h, r, d, e⟩ : ∃ (h : Fin 4) (r : Fin 512) (d : Fin 128),
        y = (ix3 0 r (⟨h.val * 128 + d.val, by omega⟩ : Fin 512) : S1x512x512.Idx) := by
      refine ⟨⟨(y 2).val / 128, by omega⟩, y 1, ⟨(y 2).val % 128, by omega⟩, ?_⟩
      idx_vars y
      blk_ext []
    rw [e, out_at m c hf t h1, emb_out, G_at]
  exact hy y

end Cert.Attention

end
-- ==== Proof.ReferenceValue.lean ====
/- The reference's result, its composed term read at an index: the softmax-weighted sum of the values. -/
module

public import proofs.«01_k».proof.Proof.KernelValue
public import proofs.«01_k».proof.Proof.Gen.ReferenceIdeal.Run
public import Idealize.ShloMosaic.Lib.Pointwise

@[expose] public section

set_option maxRecDepth 16384

noncomputable section

namespace Cert.Attention

open Cert.ReferenceIdeal Cert.ReferenceIdeal.Gen Idealize.ShloMosaic Idealize.ShloMosaic.TcCoe
  Idealize.SL.Sem Idealize.ShloMosaic.StableHlo

/-- The reference's scores. -/
def refS (Q : FVec Ideal S2x16384x1024 .bf16) (K : FVec Ideal S2x16384x256 .bf16) : FVec Ideal S2x2x4x16384x16384 .f32 :=
  transpose S2x2x4x16384x16384 [0, 1, 4, 3, 2] (Host.dotGeneral dot_S2x16384x2x128_S2x16384x2x4x128_S2x2x16384x16384x4_3_4_1_13_02_02 none (shapeCast _ (extf .f32 K bitsLt_bf16_f32) shapeCasts_S2x16384x256_S2x16384x2x128) (shapeCast _ (extf .f32 Q bitsLt_bf16_f32) shapeCasts_S2x16384x1024_S2x16384x2x4x128)) transposes_S2x2x16384x16384x4_S2x2x4x16384x16384_0_1_4_3_2

/-- The largest score of each row. -/
def refM (S : FVec Ideal S2x2x4x16384x16384 .f32) : FVec Ideal S2x2x4x16384 .f32 :=
  Host.reduce FloatOps.maximumf S (constant S_ .f32 0xFF800000#32) reducesTo_S2x2x4x16384x16384_S2x2x4x16384_d4 h_S_

/-- The exponentials of the scores less their row's maximum. -/
def refE (S : FVec Ideal S2x2x4x16384x16384 .f32) (M : FVec Ideal S2x2x4x16384 .f32) : FVec Ideal S2x2x4x16384x16384 .f32 :=
  Host.exp (subf S (broadcastInDim S2x2x4x16384x16384 ![0, 1, 2, 3, 4] bcast_S2x2x4x16384x1_S2x2x4x16384x16384_0_1_2_3_4 (broadcastInDim S2x2x4x16384x1 ![0, 1, 2, 3] bcast_S2x2x4x16384_S2x2x4x16384x1_0_1_2_3 (maximumf (broadcastInDim S2x2x4x16384 ![] bcast_S_S2x2x4x16384 (constant S_ .f32 0xFF800000#32)) M))))

/-- The weights: the exponentials over their row's sum. -/
def refP (E : FVec Ideal S2x2x4x16384x16384 .f32) : FVec Ideal S2x2x4x16384x16384 .f32 :=
  extf .f32 (truncf .bf16 (Host.divf E (broadcastInDim S2x2x4x16384x16384 ![0, 1, 2, 3, 4] bcast_S2x2x4x16384x1_S2x2x4x16384x16384_0_1_2_3_4 (broadcastInDim S2x2x4x16384x1 ![0, 1, 2, 3] bcast_S2x2x4x16384_S2x2x4x16384x1_0_1_2_3 (Host.reduceAdd E (constant S_ .f32 0x00000000#32) reducesTo_S2x2x4x16384x16384_S2x2x4x16384_d4 h_S_)))) bitsLt_bf16_f32) bitsLt_bf16_f32

/-- The values summed by the weights, back in the result's layout. -/
def refO (P : FVec Ideal S2x2x4x16384x16384 .f32) (W : FVec Ideal S2x16384x256 .bf16) : FVec Ideal S2x16384x1024 .bf16 :=
  truncf .bf16 (shapeCast _ (transpose S2x16384x2x4x128 [0, 4, 1, 3, 2] (Host.dotGeneral dot_S2x16384x2x128_S2x2x4x16384x16384_S2x2x128x4x16384_1_4_3_23_02_01 none (shapeCast _ (extf .f32 W bitsLt_bf16_f32) shapeCasts_S2x16384x256_S2x16384x2x128) P) transposes_S2x2x128x4x16384_S2x16384x2x4x128_0_4_1_3_2) shapeCasts_S2x16384x2x4x128_S2x16384x1024) bitsLt_bf16_f32

theorem refS_at (Q : FVec Ideal S2x16384x1024 .bf16) (K : FVec Ideal S2x16384x256 .bf16) (b g : Fin 2) (h : Fin 4)
    (i j : Fin 16384) : refS Q K (ix5 b g h i j) = score Q K b g h i j := by
  simp only [score, lq, lk]
  pointwise [refS]
  refine Finset.sum_congr rfl fun d _ => ?_
  rw [mul_comm]
  congr 1
  blk_ext []

/-- A maximum over the last axis, at an index, whatever that axis's extent. -/
theorem hostMax_last {n : ℕ} (x : FVec Ideal ⟨5, ![2, 2, 4, 16384, n]⟩ .f32) (u : FVec Ideal S_ .f32)
    (hr : (⟨5, ![2, 2, 4, 16384, n]⟩ : Shape).ReducesTo [4] S2x2x4x16384) (hu : 0 < S_.numel) (b g : Fin 2) (h : Fin 4)
    (i : Fin 16384) : Host.reduce FloatOps.maximumf x u hr hu (ix4 b g h i) =
      Finset.fold max (u (Shape.Idx.first hu)) (fun j : Fin n => x (ix5 b g h i j)) Finset.univ := by
  pointwise []

theorem refM_at (S : FVec Ideal S2x2x4x16384x16384 .f32) (b g : Fin 2) (h : Fin 4) (i : Fin 16384) :
    refM S (ix4 b g h i) = Finset.fold max (⊥ : EReal) (fun j => S (ix5 b g h i j)) Finset.univ := by
  refine (hostMax_last S _ _ _ b g h i).trans ?_
  rw [← lit_bot]
  rfl

theorem refE_at (S : FVec Ideal S2x2x4x16384x16384 .f32) (M : FVec Ideal S2x2x4x16384 .f32) (b g : Fin 2) (h : Fin 4)
    (i j : Fin 16384) :
    refE S M (ix5 b g h i j) = Ideal.exp (S (ix5 b g h i j) - max (⊥ : EReal) (M (ix4 b g h i))) := by
  pointwise [refE, lit_bot]

theorem refP_at (E : FVec Ideal S2x2x4x16384x16384 .f32) (b g : Fin 2) (h : Fin 4) (i j : Fin 16384) :
    refP E (ix5 b g h i j) = Ideal.div (E (ix5 b g h i j)) (∑ j', E (ix5 b g h i j')) := by
  pointwise [refP]

theorem refO_at (P : FVec Ideal S2x2x4x16384x16384 .f32) (W : FVec Ideal S2x16384x256 .bf16) (b g : Fin 2) (h : Fin 4)
    (i : Fin 16384) (d : Fin 128) :
    refO P W (ix3 b i (lq g h d)) = ∑ j, P (ix5 b g h i j) * W (ix3 b j (lk g d)) := by
  simp only [lq, lk]
  pointwise [refO]
  exact Finset.sum_congr rfl fun j _ => mul_comm _ _

/-- The reference's composed term is the attention of its arguments. -/
theorem ref_eq (Q : FVec Ideal S2x16384x1024 .bf16) (K W : FVec Ideal S2x16384x256 .bf16) :
    refO (refP (refE (refS Q K) (refM (refS Q K)))) W = G Q K W := by
  funext y
  have h2 : (y 2).val < 1024 := (y 2).isLt
  obtain ⟨b, g, h, i, d, e⟩ : ∃ (b g : Fin 2) (h : Fin 4) (i : Fin 16384) (d : Fin 128),
      y = (ix3 b i (lq g h d) : S2x16384x1024.Idx) := by
    refine ⟨y 0, ⟨(y 2).val / 512, by omega⟩, ⟨(y 2).val % 512 / 128, by omega⟩, y 1, ⟨(y 2).val % 128, by omega⟩, ?_⟩
    simp only [lq]
    idx_vars y
    blk_ext []
  rw [e, G_at, refO_at, attend]
  simp only [refP_at, refE_at, refM_at, refS_at]

end Cert.Attention

end
-- ==== Proof.Precondition.lean ====
/- What the precondition says: every query and every key is a real number. -/
module

public import proofs.«01_k».proof.Proof.KernelValue
public import proofs.«01_k».proof.Defs
public import Idealize.ShloMosaic.Lib.Pointwise

@[expose] public section

set_option maxRecDepth 16384

noncomputable section

namespace Cert.Attention

open Idealize.ShloMosaic Idealize.ShloMosaic.TcCoe Idealize.SL.Sem

/-- The side conditions of the precondition's operations. -/
theorem preFacts : Cert.Pre_finite_qk.Facts := ⟨by decide, by decide, by decide⟩

/-- An extended real whose absolute value is below ⊤ is a real number. -/
theorem real_of_abs_lt {x : EReal} (h : max x (-x) < ⊤) : ∃ r : ℝ, x = r := by
  induction x with
  | bot => simp at h
  | top => simp at h
  | coe r => exact ⟨r, rfl⟩

/-- The precondition's word is 1 only where the element is a real number. -/
theorem real_of_word {x : EReal}
    (h : BitVec.ofBool (decide ((FloatOps.absf (F := Ideal) (φ := .f32) x : EReal) < Ideal.ofBits .f32 2139095040#32)) = 1#1) :
    ∃ r : ℝ, x = r := by
  apply real_of_abs_lt
  have e : Ideal.ofBits .f32 2139095040#32 = (⊤ : EReal) := by simp [Ideal.ofBits, Ideal.ieee]
  rw [e] at h
  by_contra hn
  have hn' : ¬(FloatOps.absf (F := Ideal) (φ := .f32) x : EReal) < ⊤ := hn
  simp [hn'] at h

/-- The precondition gives that the queries and the keys are real numbers. -/
theorem finite_of_pre [Cert.Pre_finite_qk.Facts] {Q : FVec Ideal Cert.Pre_finite_qk.S2x16384x1024 .bf16}
    {K W : FVec Ideal Cert.Pre_finite_qk.S2x16384x256 .bf16}
    (h : Cert.Pre_finite_qk.fn (F := Ideal) Q K W = fun _ => 1#1) : Finite Q K := by
  constructor
  · intro i
    have hk : (i 2).val < 1024 := (i 2).isLt
    have e := congrFun h (ix3 (i 0) (i 1) (⟨(i 2).val, by omega⟩ : Fin 1280))
    revert e
    pointwise [Cert.Pre_finite_qk.fn]
    exact real_of_word
  · intro i
    have hk : (i 2).val < 256 := (i 2).isLt
    have e := congrFun h (ix3 (i 0) (i 1) (⟨1024 + (i 2).val, by omega⟩ : Fin 1280))
    revert e
    pointwise [Cert.Pre_finite_qk.fn]
    exact real_of_word

end Cert.Attention

end
-- ==== Proof.NormedValue.lean ====
/- The array the normed product leaves: at row `i` and column `j` the product of row `i`, divided by its root mean square and
   scaled by the gain, with column `j` of the weight. Point `t` is row block `t / 19`, column block `t % 19`; the normed rows
   are made at a row block's first point and kept in a scratch for the eighteen that follow. -/
module

public import proofs.«01_k».proof.Proof.Gen.Kernel2Ideal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Normed

open Cert.Kernel2Ideal Cert.Kernel2Ideal.Gen Idealize.ShloMosaic Idealize.ShloMosaic.TcCoe Idealize.SL.Sem

/-- A row divided by its root mean square and scaled by the gain, at element `d`. -/
def rms (x g : Fin 2048 → EReal) (d : Fin 2048) : EReal :=
  x d * Ideal.rsqrt (Ideal.div (∑ e, x e * x e) (Ideal.ofBits .f32 1157627904#32) + Ideal.ofBits .f32 897988541#32) * g d

/-- The block of normed rows at an element. -/
theorem pay1_at (x : Vec Ideal S1024x2048 .f32) (g : Vec Ideal S1x2048 .f32) (r : Fin 1024) (d : Fin 2048) :
    k0_pay1 (F := Ideal) x g (ix2 r d) = rms (fun d => x (ix2 r d)) (fun d => g (ix2 0 d)) d := by
  pointwise [k0_pay1, rms]

/-- The block of the product at an element. -/
theorem pay2_at (x : Vec Ideal S1024x2048 .bf16) (w : Vec Ideal S2048x512 .bf16) (r : Fin 1024) (j : Fin 512) :
    k0_pay2 (F := Ideal) x w (ix2 r j) = ∑ d : Fin 2048, x (ix2 r d) * w (ix2 d j) := by
  pointwise [k0_pay2]

section cases

variable (c : Dev nD) (i : grid0.Coords) (arg2 : Memref sig .tc .vmem S1024x2048 .f32) (harg2 : arg2.IsWhole)
  (arg3 : Memref sig .tc .vmem S1x2048 .f32) (harg3 : arg3.IsWhole)
  (arg4 : Memref sig .tc .vmem S2048x512 .bf16) (harg4 : arg4.IsWhole)
  (arg5 : Memref sig .tc .vmem S1024x512 .f32) (harg5 : arg5.IsWhole)
  (arg6 : Memref sig .tc .vmem S1024x2048 .bf16) (harg6 : arg6.IsWhole)
  (x0 : Vec Ideal S1024x2048 .f32) (x1 : Vec Ideal S1x2048 .f32) (x2 : Vec Ideal S2048x512 .bf16)
  (xs : Vec Ideal S1024x2048 .bf16)

/-- A row block's first point: the product block. -/
theorem outA (hc : cond0_0 i) :
    out0_A_3 (F := Ideal) c i arg2 harg2 arg3 harg3 arg4 harg4 arg5 harg5 arg6 harg6 hc x0 x1 x2 =
      k0_pay2 (F := Ideal) (k0_pay1 (F := Ideal) x0 x1) x2 := by
  funext y
  frame_open
  frame_out

/-- A row block's first point: the scratch. -/
theorem soutA (hc : cond0_0 i) :
    sout0_A_0 (F := Ideal) c i arg2 harg2 arg3 harg3 arg4 harg4 arg5 harg5 arg6 harg6 hc x0 x1 x2 =
      k0_pay1 (F := Ideal) x0 x1 := by
  funext y
  frame_open
  frame_out

/-- A later point: the product block. -/
theorem outB (hc : ¬cond0_0 i) :
    out0_B_3 (F := Ideal) c i arg2 harg2 arg3 harg3 arg4 harg4 arg5 harg5 arg6 harg6 hc x0 x1 x2 xs =
      k0_pay2 (F := Ideal) xs x2 := by
  funext y
  frame_open
  frame_out

/-- A later point: the scratch is kept. -/
theorem soutB (hc : ¬cond0_0 i) :
    sout0_B_0 (F := Ideal) c i arg2 harg2 arg3 harg3 arg4 harg4 arg5 harg5 arg6 harg6 hc x0 x1 x2 xs = xs := by
  funext y
  frame_open
  rfl

end cases

/-- The block index of each window at point `t`. -/
theorem idx0 : ∀ t : Fin cfg0.N, (cfg0.win 0).index t = ![t.val / 19, 0] := by decide +kernel
theorem idx1 : ∀ t : Fin cfg0.N, (cfg0.win 1).index t = ![0, 0] := by decide +kernel
theorem idx2 : ∀ t : Fin cfg0.N, (cfg0.win 2).index t = ![0, t.val % 19] := by decide +kernel
theorem idx3 : ∀ t : Fin cfg0.N, (cfg0.win 3).index t = ![t.val / 19, t.val % 19] := by decide +kernel

theorem tlt (t : Fin cfg0.N) : t.val < 608 := t.isLt.trans_eq (show cfg0.N = 608 from N_0)

variable (m : (ℓ : Loc nD τ sig) → Buf (Elt Ideal) ℓ) (c : Dev nD)

/-- The input rows of core `c`. -/
abbrev X : Vec Ideal S32768x2048 .f32 := m ((c : Thread nD τ).loc main_arg0)
/-- The gain. -/
abbrev G : Vec Ideal S2048 .f32 := m ((c : Thread nD τ).loc main_arg1)
/-- The weight. -/
abbrev W : Vec Ideal S2048x9728 .bf16 := m ((c : Thread nD τ).loc main_arg2)

/-- The row of the whole array that row `r` of point `t`'s block is. -/
def rt (t : Fin cfg0.N) (r : Fin 1024) : Fin 32768 := ⟨t.val / 19 * 1024 + r.val, by have := tlt t; omega⟩
/-- The column of the whole array that column `j` of point `t`'s block is. -/
def ct (t : Fin cfg0.N) (j : Fin 512) : Fin 9728 := ⟨t.val % 19 * 512 + j.val, by omega⟩

/-- The row block at an element. -/
theorem blk_x (t : Fin cfg0.N) (r : Fin 1024) (d : Fin 2048) :
    (iblk m c 0 t : Vec Ideal S1024x2048 .f32) (ix2 r d) = X m c (ix2 (rt t r) d) := by
  have e := idx0 t
  simp only [X, rt]
  blk_ext [iblk, V_main_arg0, e]

/-- The gain at an element. -/
theorem blk_g (t : Fin cfg0.N) (d : Fin 2048) :
    (iblk m c 1 t : Vec Ideal S1x2048 .f32) (ix2 0 d) = G m c (ix1 d) := by
  have e := idx1 t
  simp only [G]
  have e2 : (iblk m c 1 t : Vec Ideal S1x2048 .f32) (ix2 0 d) = V m c main_v0 (ix2 0 d) := by
    blk_ext [iblk, e]
  have e3 : V m c main_v0 = shapeCast S1x2048 (m ((c : Thread nD τ).loc main_arg1)) shapeCasts_S2048_S1x2048 := by
    dsimp only [V, hostOps0]
    after_results
    rfl
  rw [e2, e3]
  pointwise []

/-- The weight block at an element. -/
theorem blk_w (t : Fin cfg0.N) (d : Fin 2048) (j : Fin 512) :
    (iblk m c 2 t : Vec Ideal S2048x512 .bf16) (ix2 d j) = W m c (ix2 d (ct t j)) := by
  have e := idx2 t
  simp only [W, ct]
  blk_ext [iblk, V_main_arg2, e]

/-- The scratch after every point: the normed rows of the point's row block. -/
theorem scratch (n : ℕ) (hn : n < cfg0.N) (r : Fin 1024) (d : Fin 2048) :
    (outsAt0 m c n hn).2 (ix2 r d) = rms (fun d => X m c (ix2 (rt ⟨n, hn⟩ r) d)) (fun d => G m c (ix1 d)) d := by
  induction n using Nat.strong_induction_on with
  | _ n ih =>
    set t : Fin cfg0.N := ⟨n, hn⟩ with ht
    have hO : outsAt0 m c n hn = outsAt0 m c t.val t.isLt := rfl
    by_cases h0 : t.val % 19 = 0
    · rw [hO, outsAt0_A m c t h0]
      dsimp only
      rw [soutA, pay1_at]
      simp only [blk_x, blk_g]
    · have hv : t.val = n := rfl
      have hp : n - 1 < n := by omega
      rw [hO, outsAt0_B m c t h0]
      dsimp only
      rw [soutB]
      have e : rt ⟨n - 1, lt_trans hp hn⟩ r = rt t r := Fin.ext (by simp only [rt]; omega)
      exact (ih (n - 1) hp _).trans (by rw [e])

/-- The product over the whole array. -/
def normed (X : Vec Ideal S32768x2048 .f32) (G : Vec Ideal S2048 .f32) (W : Vec Ideal S2048x9728 .bf16) :
    Vec Ideal S32768x9728 .f32 :=
  fun y => ∑ d : Fin 2048, rms (fun d => X (ix2 (y 0) d)) (fun d => G (ix1 d)) d * W (ix2 d (y 1))

/-- The block a grid point writes back. -/
theorem out_at (t : Fin cfg0.N) (r : Fin 1024) (j : Fin 512) :
    (outsAt0 m c t.val t.isLt).1 (ix2 r j) = normed (X m c) (G m c) (W m c) (ix2 (rt t r) (ct t j)) := by
  have hs := scratch m c t.val t.isLt r
  have e : (outsAt0 m c t.val t.isLt).1 =
      k0_pay2 (F := Ideal) (outsAt0 m c t.val t.isLt).2 (iblk m c 2 t) := by
    by_cases h0 : t.val % 19 = 0
    · rw [outsAt0_A m c t h0]
      dsimp only
      rw [outA, soutA]
    · rw [outsAt0_B m c t h0]
      dsimp only
      rw [outB, soutB]
  rw [e, pay2_at, normed]
  exact Finset.sum_congr rfl fun d _ => by rw [hs, blk_w]; rfl

/-- Where element `(r, j)` of point `t`'s block lies in the array. -/
theorem emb_out (t : Fin cfg0.N) (r : Fin 1024) (j : Fin 512) :
    ((win0_3.blk t).view.emb (ix2 r j : S1024x512.Idx) : S32768x9728.Idx) = ix2 (rt t r) (ct t j) := by
  have e := idx3 t
  simp only [rt, ct]
  blk_ext [e]

/-- The array the kernel leaves is the normed product of its arguments. -/
theorem array_eq :
    ((dats m 0 c).arrAt 3 cfg0.N : Vec Ideal S32768x9728 .f32) = normed (X m c) (G m c) (W m c) := by
  refine (dats m 0 c).arrAt_eq_of_covers 3 _ (by decide +kernel) fun t _ y => ?_
  blk_simp
  rw [after0_3]
  have hy : ∀ y : S1024x512.Idx, (outsAt0 m c t.val t.isLt).1 y =
      normed (X m c) (G m c) (W m c) ((win0_3.blk t).view.emb y : S32768x9728.Idx) := fun y => by
    obtain ⟨r, j, e⟩ : ∃ (r : Fin 1024) (j : Fin 512), y = (ix2 r j : S1024x512.Idx) := ⟨y 0, y 1, by idx_vars y⟩
    rw [e, out_at, emb_out]
  exact hy y

end Cert.Normed

end
-- ==== Proof.NormedReference.lean ====
/- The normed product's reference, its composed term read at an index. -/
module

public import proofs.«01_k».proof.Proof.NormedValue
public import proofs.«01_k».proof.Proof.Gen.Reference2Ideal.Run
public import Idealize.ShloMosaic.Lib.Pointwise

@[expose] public section

set_option maxRecDepth 16384

noncomputable section

namespace Cert.Normed

open Cert.Reference2Ideal Cert.Reference2Ideal.Gen Idealize.ShloMosaic Idealize.ShloMosaic.TcCoe
  Idealize.SL.Sem Idealize.ShloMosaic.StableHlo

/-- The reference's normed rows. -/
def refX (X : FVec Ideal S32768x2048 .f32) (G : FVec Ideal S2048 .f32) : FVec Ideal S32768x2048 .f32 :=
  mulf (mulf X (broadcastInDim S32768x2048 ![0, 1] bcast_S32768x1_S32768x2048_0_1 (Host.rsqrt (addf (Host.divf
    (broadcastInDim S32768x1 ![0] bcast_S32768_S32768x1_0 (Host.reduceAdd (mulf X X) (constant S_ .f32 0x00000000#32)
      reducesTo_S32768x2048_S32768_d1 h_S_))
    (broadcastInDim S32768x1 ![] bcast_S_S32768x1 (constant S_ .f32 0x45000000#32)))
    (broadcastInDim S32768x1 ![] bcast_S_S32768x1 (constant S_ .f32 0x358637BD#32))))))
    (broadcastInDim S32768x2048 ![0, 1] bcast_S1x2048_S32768x2048_0_1 (broadcastInDim S1x2048 ![1] bcast_S2048_S1x2048_1 G))

/-- The reference's normed rows at an element. -/
theorem refX_at (X : FVec Ideal S32768x2048 .f32) (G : FVec Ideal S2048 .f32) (i : Fin 32768) (d : Fin 2048) :
    refX X G (ix2 i d) = rms (fun d => X (ix2 i d)) (fun d => G (ix1 d)) d := by
  pointwise [refX, rms]

/-- The reference's product is the kernel's. -/
theorem ref_eq (X : FVec Ideal S32768x2048 .f32) (G : FVec Ideal S2048 .f32) (W : FVec Ideal S2048x9728 .bf16) :
    Host.dotGeneral dot_S32768x2048_S2048x9728_S32768x9728_1_0_0_1_n_n none (refX X G) (extf .f32 W bitsLt_bf16_f32) =
      normed X G W := by
  funext y
  obtain ⟨i, j, rfl⟩ : ∃ (i : Fin 32768) (j : Fin 9728), y = (ix2 i j : S32768x9728.Idx) := ⟨y 0, y 1, by idx_vars y⟩
  rw [normed]
  pointwise []
  simp only [refX_at]

end Cert.Normed

end
-- ==== Proof.ExpertsFrame.lean ====
/- The run of the experts' kernel, whatever its two tables hold, as long as every expert they name is there. Its second
   table tells how many row blocks are in use: the body at a block in use stores the expert's rows, at any other block
   zeros. So each block of the result is one of the two, and every argument ends as it began. -/
module

public import proofs.«01_k».proof.Proof.Gen.Kernel3Ideal
public import proofs.«01_k».proof.Proof.Gen.Kernel3Ideal.Skeleton
public import proofs.«01_k».proof.Proof.Gen.Kernel3Ideal.Launch
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Experts

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- The resources the kernel's assertions are about. -/
abbrev Res (F : FTy → Type) [FloatOps F] : Type := MT nD τ sig Unit (Elt F) ℕ (UR sig nD τ) ℕ

/-! ## The tables -/

/-- The table naming each row block's expert, and the one holding how many blocks are in use. -/
abbrev names : Memref sig .tc .smem S288 .i32 := Memref.whole main_arg0
abbrev inUse : Memref sig .tc .smem S1 .i32 := Memref.whole main_arg1

/-- A table as the body has it: half of it, to read only. -/
abbrev halfOf (c : Dev nD) {S : Shape} {e : EltTy} (M : Memref sig .tc .smem S e) (f : Buf (Elt F) (M.view.loc (c : Thread nD τ))) :
    sProp (Res F) := M.view.loc (c : Thread nD τ) ↦{fullShare.right} f

/-- The word the second table holds, as the body loads it. -/
abbrev word (T : Buf (Elt F) (inUse.view.loc ((0 : Dev nD) : Thread nD τ))) : Elt F .i32 :=
  View.readAt (Elt F) inUse.view (Rect.unit (s := S1) ![0] S1.size inb_S1_S1_0).toLoadRect T (Shape.Idx.first (numel1_S1.symm ▸ Nat.one_pos))

/-- Exactly one of the body's two conditions holds. -/
theorem cond_compl (i : grid0.Coords) (w : BitVec 32) : k0_cond2 i w = 1#1 ↔ ¬ k0_cond1 i w = 1#1 := by
  unfold k0_cond1 k0_cond2
  simp only [Scalar.cmpi, Scalar.extui, IntOp.cmpi, BitVec.sle_eq_not_slt]
  cases BitVec.slt (BitVec.ofNat 32 (i 0).val) w <;> decide

/-! ## The body -/

section body

variable (c : Dev nD) (i : grid0.Coords)
  (arg3 : Memref sig .tc .vmem S256x2048 .bf16) (harg3 : arg3.IsWhole)
  (arg4 : Memref sig .tc .vmem S1x2048x1024 .bf16) (harg4 : arg4.IsWhole)
  (arg5 : Memref sig .tc .vmem S1x2048x1024 .bf16) (harg5 : arg5.IsWhole)
  (arg6 : Memref sig .tc .vmem S1x1024x2048 .bf16) (harg6 : arg6.IsWhole)
  (arg7 : Memref sig .tc .vmem S256x1 .f32) (harg7 : arg7.IsWhole)
  (arg8 : Memref sig .tc .vmem S256x2048 .f32) (harg8 : arg8.IsWhole)
  (x0 : Vec F S256x2048 .bf16) (x1 x2 : Vec F S1x2048x1024 .bf16) (x3 : Vec F S1x1024x2048 .bf16) (x4 : Vec F S256x1 .f32)
  (T0 : Buf (Elt F) (names.view.loc (c : Thread nD τ))) (T1 : Buf (Elt F) (inUse.view.loc (c : Thread nD τ)))

/-- The body's inputs, held at their contents. -/
def inputs : sProp (Res F) :=
  iprop(owns (c : Thread nD τ) arg3 fullShare x0 ∗ owns (c : Thread nD τ) arg4 fullShare x1 ∗ owns (c : Thread nD τ) arg5 fullShare x2
    ∗ owns (c : Thread nD τ) arg6 fullShare x3 ∗ owns (c : Thread nD τ) arg7 fullShare x4 ∗ halfOf c names T0 ∗ halfOf c inUse T1)

/-- At a block in use the body stores the expert's rows, -/
theorem body_used (h1 : k0_cond1 i (word (F := F) T1) = 1#1) (h2 : ¬ k0_cond2 i (word (F := F) T1) = 1#1) (E : Set ℕ) (K : PUnit → sProp (Res F)) :
    iprop(inputs c arg3 arg4 arg5 arg6 arg7 x0 x1 x2 x3 x4 T0 T1 ∗ (∃ d, owns (c : Thread nD τ) arg8 fullShare d)
        ∗ (iprop(inputs c arg3 arg4 arg5 arg6 arg7 x0 x1 x2 x3 x4 T0 T1 ∗ owns (c : Thread nD τ) arg8 fullShare (k0_pay1 x0 x1 x2 x3 x4)) -∗ K ⟨⟩))
      ⊢ wp frame (wpE (defs₀ (F := F)) Variants.none c none) E (cc0_moe_experts i names (Memref.isWhole_whole _) inUse (Memref.isWhole_whole _)
          arg3 harg3 arg4 harg4 arg5 harg5 arg6 harg6 arg7 harg7 arg8 harg8) K := by
  rw [cc0_moe_experts_eq_skeleton]; unfold cc0_moe_experts_skel inputs owns
  iintro ⟨⟨⟨%f0, %hf0, H0⟩, ⟨%f1, %hf1, H1⟩, ⟨%f2, %hf2, H2⟩, ⟨%f3, %hf3, H3⟩, ⟨%f4, %hf4, H4⟩, HT0, HT1⟩, ⟨%d5, %f5, -, H5⟩, Hk⟩
  subst hf0 hf1 hf2 hf3 hf4
  sl_exec! (disch := first
    | (guard_target = k0_cond1 _ _ = _; exact h1)
    | (guard_target = ¬(k0_cond2 _ _ = _); exact h2))
  sl_step
  iapply Hk
  isplitl [H0 H1 H2 H3 H4 HT0 HT1]
  · isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [HT0]; · iexact HT0
    iexact HT1
  iexists _; isplitr
  swap; · iexact H5
  ipureintro
  frame_out

/-- and at any other block zeros. -/
theorem body_idle (h1 : ¬ k0_cond1 i (word (F := F) T1) = 1#1) (h2 : k0_cond2 i (word (F := F) T1) = 1#1) (E : Set ℕ) (K : PUnit → sProp (Res F)) :
    iprop(inputs c arg3 arg4 arg5 arg6 arg7 x0 x1 x2 x3 x4 T0 T1 ∗ (∃ d, owns (c : Thread nD τ) arg8 fullShare d)
        ∗ (iprop(inputs c arg3 arg4 arg5 arg6 arg7 x0 x1 x2 x3 x4 T0 T1 ∗ owns (c : Thread nD τ) arg8 fullShare (k0_pay2 (F := F))) -∗ K ⟨⟩))
      ⊢ wp frame (wpE (defs₀ (F := F)) Variants.none c none) E (cc0_moe_experts i names (Memref.isWhole_whole _) inUse (Memref.isWhole_whole _)
          arg3 harg3 arg4 harg4 arg5 harg5 arg6 harg6 arg7 harg7 arg8 harg8) K := by
  rw [cc0_moe_experts_eq_skeleton]; unfold cc0_moe_experts_skel inputs owns
  iintro ⟨⟨⟨%f0, %hf0, H0⟩, ⟨%f1, %hf1, H1⟩, ⟨%f2, %hf2, H2⟩, ⟨%f3, %hf3, H3⟩, ⟨%f4, %hf4, H4⟩, HT0, HT1⟩, ⟨%d5, %f5, -, H5⟩, Hk⟩
  subst hf0 hf1 hf2 hf3 hf4
  sl_exec! (disch := first
    | (guard_target = ¬(k0_cond1 _ _ = _); exact h1)
    | (guard_target = k0_cond2 _ _ = _; exact h2))
  sl_step
  iapply Hk
  isplitl [H0 H1 H2 H3 H4 HT0 HT1]
  · isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [HT0]; · iexact HT0
    iexact HT1
  iexists _; isplitr
  swap; · iexact H5
  ipureintro
  frame_out

/-- What the body leaves in the result's block. -/
def rows : Vec F S256x2048 .f32 := if k0_cond1 i (word (F := F) T1) = 1#1 then k0_pay1 x0 x1 x2 x3 x4 else k0_pay2

/-- The body, at any block. -/
theorem body_any (E : Set ℕ) (K : PUnit → sProp (Res F)) :
    iprop(inputs c arg3 arg4 arg5 arg6 arg7 x0 x1 x2 x3 x4 T0 T1 ∗ (∃ d, owns (c : Thread nD τ) arg8 fullShare d)
        ∗ (iprop(inputs c arg3 arg4 arg5 arg6 arg7 x0 x1 x2 x3 x4 T0 T1 ∗ owns (c : Thread nD τ) arg8 fullShare (rows c i x0 x1 x2 x3 x4 T1)) -∗ K ⟨⟩))
      ⊢ wp frame (wpE (defs₀ (F := F)) Variants.none c none) E (cc0_moe_experts i names (Memref.isWhole_whole _) inUse (Memref.isWhole_whole _)
          arg3 harg3 arg4 harg4 arg5 harg5 arg6 harg6 arg7 harg7 arg8 harg8) K := by
  unfold rows
  by_cases h : k0_cond1 i (word (F := F) T1) = 1#1
  · rw [if_pos h]
    exact body_used c i arg3 harg3 arg4 harg4 arg5 harg5 arg6 harg6 arg7 harg7 arg8 harg8 x0 x1 x2 x3 x4 T0 T1 h
      (fun h2 => (cond_compl i _).mp h2 h) E K
  · rw [if_neg h]
    exact body_idle c i arg3 harg3 arg4 harg4 arg5 harg5 arg6 harg6 arg7 harg7 arg8 harg8 x0 x1 x2 x3 x4 T0 T1 h
      ((cond_compl i _).mpr h) E K

end body

/-! ## The pipeline over the tables a memory holds -/

variable (m : (ℓ : Loc nD τ sig) → Buf (Elt F) ℓ) (ρ : Dev nD → PrngReg)

/-- A core's buffers when the pipeline starts: as launched. -/
abbrev start (c : Dev nD) (b : Ref sig .tc) : Buf (Elt F) ((c : Thread nD τ).loc b) := m ((c : Thread nD τ).loc b)

/-- The tables. -/
def tables : pre0.Contents (Elt F) := fun j => start m (0 : Dev nD) (pre0.ref j)

theorem start_table (c : Dev nD) (j : Fin 2) : start m c (pre0.ref j) = tables m j := by
  obtain rfl : c = 0 := Subsingleton.elim _ _
  rfl

/-- Tables that name experts that are there name blocks inside the weights. -/
theorem ok_of_lt (h : ∀ y : S288.Idx, (show BitVec 32 from tables m 0 y).toNat < 32) : ok0 (F := F) (tables m) := by
  have hw : ∀ i : grid0.Coords, (show BitVec 32 from (tables m).at 0 (Rect.unit (s := S288) (k0_off1 i) S1.size (k0_off1_inb i)) numel1_S1).toNat < 32 :=
    fun i => h _
  exact ⟨fun i => ⟨fun a => match a with
    | ⟨0, _⟩ => (by
      show (_ + 1) * 1 ≤ 32
      rw [Nat.mul_one]; exact hw i)
    | ⟨1, _⟩ => (by decide : (0 + 1) * 2048 ≤ 2048)
    | ⟨2, _⟩ => (by decide : (0 + 1) * 1024 ≤ 1024), .inr (Affine.block_words_dvd (of_decide_eq_true rfl) (by decide))⟩,
  fun i => ⟨fun a => match a with
    | ⟨0, _⟩ => (by
      show (_ + 1) * 1 ≤ 32
      rw [Nat.mul_one]; exact hw i)
    | ⟨1, _⟩ => (by decide : (0 + 1) * 2048 ≤ 2048)
    | ⟨2, _⟩ => (by decide : (0 + 1) * 1024 ≤ 1024), .inr (Affine.block_words_dvd (of_decide_eq_true rfl) (by decide))⟩,
  fun i => ⟨fun a => match a with
    | ⟨0, _⟩ => (by
      show (_ + 1) * 1 ≤ 32
      rw [Nat.mul_one]; exact hw i)
    | ⟨1, _⟩ => (by decide : (0 + 1) * 1024 ≤ 1024)
    | ⟨2, _⟩ => (by decide : (0 + 1) * 2048 ≤ 2048), .inr (Affine.block_words_dvd (of_decide_eq_true rfl) (by decide))⟩⟩

variable (hO : ok0 (F := F) (tables m))

/-- The pipeline at those tables, which name blocks inside the weights. -/
abbrev held : (pcfg0 (F := F)).Adm := ⟨tables m, hO⟩
abbrev pipe : Cfg sig Λ₀ := cfg0 (held m hO)

/-- The block of window `w` at a point, as the arrays are at the start. -/
def block (c : Dev nD) (w : Fin (pipe m hO).W) (t : Fin (pipe m hO).N) :
    (((pipe m hO).win w).xblock ((pipe m hO).grid.coords t)).Idx → Elt F ((pipe m hO).win w).elt :=
  (((pipe m hO).win w).blk t).view.read (Elt F) (start m c (Pipeline.arrRef spec0 w))

/-- What every buffer holds after each point: the inputs their blocks, the result's block its rows. -/
def data (_ : Fin 1) (c : Dev nD) : Dat τ (Elt F) Unit ℕ (UR sig nD τ) ℕ (pipe m hO) c where
  A w := start m c (Pipeline.arrRef spec0 w)
  after w t := match w with
    | ⟨0, _⟩ => block m hO c 0 t
    | ⟨1, _⟩ => block m hO c 1 t
    | ⟨2, _⟩ => block m hO c 2 t
    | ⟨3, _⟩ => block m hO c 3 t
    | ⟨4, _⟩ => block m hO c 4 t
    | ⟨5, _⟩ => rows c (grid0.coords t) (block m hO c 0 t) (block m hO c 1 t) (block m hO c 2 t) (block m hO c 3 t) (block m hO c 4 t) (tables m 1)
  Φ _ := iprop(Pipeline.ΦA spec0 c ∗ Pipeline.ΦT pre0 (tables m) c)
  q _ := fullShare
  owed _ := 0

theorem data_A (c : Dev nD) (w : Fin (pipe m hO).W) : (data m hO 0 c).A w = start m c (Pipeline.arrRef spec0 w) := by dsimp only [data]
theorem after_0 (c : Dev nD) (t : Fin (pipe m hO).N) : (data m hO 0 c).after 0 t = block m hO c 0 t := by dsimp only [data]; rfl
theorem after_1 (c : Dev nD) (t : Fin (pipe m hO).N) : (data m hO 0 c).after 1 t = block m hO c 1 t := by dsimp only [data]; rfl
theorem after_2 (c : Dev nD) (t : Fin (pipe m hO).N) : (data m hO 0 c).after 2 t = block m hO c 2 t := by dsimp only [data]; rfl
theorem after_3 (c : Dev nD) (t : Fin (pipe m hO).N) : (data m hO 0 c).after 3 t = block m hO c 3 t := by dsimp only [data]; rfl
theorem after_4 (c : Dev nD) (t : Fin (pipe m hO).N) : (data m hO 0 c).after 4 t = block m hO c 4 t := by dsimp only [data]; rfl
theorem after_5 (c : Dev nD) (t : Fin (pipe m hO).N) : (data m hO 0 c).after 5 t =
    rows c (grid0.coords t) (block m hO c 0 t) (block m hO c 1 t) (block m hO c 2 t) (block m hO c 3 t) (block m hO c 4 t) (tables m 1) := by
  dsimp only [data]; rfl

/-! Each input's buffer holds its block when the body runs, fetched at that point or kept from an earlier one. -/
theorem before_0 (c : Dev nD) (t : Fin (pipe m hO).N) (d) : (data m hO 0 c).before 0 t d = block m hO c 0 t :=
  ((data m hO 0 c).before_in_eq_fetched 0 rfl (fun _ => rfl) (fun _ _ _ => rfl)
    (fun t => by rw [after_0]; unfold Dat.blockOf block; rw [data_A]; try rfl) t d).trans
    (by unfold Dat.fetched Dat.blockOf block; rw [data_A]; try rfl)
theorem before_1 (c : Dev nD) (t : Fin (pipe m hO).N) (d) : (data m hO 0 c).before 1 t d = block m hO c 1 t :=
  ((data m hO 0 c).before_in_eq_fetched 1 rfl (fun _ => rfl) (fun _ _ _ => rfl)
    (fun t => by rw [after_1]; unfold Dat.blockOf block; rw [data_A]; try rfl) t d).trans
    (by unfold Dat.fetched Dat.blockOf block; rw [data_A]; try rfl)
theorem before_2 (c : Dev nD) (t : Fin (pipe m hO).N) (d) : (data m hO 0 c).before 2 t d = block m hO c 2 t :=
  ((data m hO 0 c).before_in_eq_fetched 2 rfl (fun _ => rfl) (fun _ _ _ => rfl)
    (fun t => by rw [after_2]; unfold Dat.blockOf block; rw [data_A]; try rfl) t d).trans
    (by unfold Dat.fetched Dat.blockOf block; rw [data_A]; try rfl)
theorem before_3 (c : Dev nD) (t : Fin (pipe m hO).N) (d) : (data m hO 0 c).before 3 t d = block m hO c 3 t :=
  ((data m hO 0 c).before_in_eq_fetched 3 rfl (fun _ => rfl) (fun _ _ _ => rfl)
    (fun t => by rw [after_3]; unfold Dat.blockOf block; rw [data_A]; try rfl) t d).trans
    (by unfold Dat.fetched Dat.blockOf block; rw [data_A]; try rfl)
theorem before_4 (c : Dev nD) (t : Fin (pipe m hO).N) (d) : (data m hO 0 c).before 4 t d = block m hO c 4 t :=
  ((data m hO 0 c).before_in_eq_fetched 4 rfl (fun _ => rfl) (fun _ _ _ => rfl)
    (fun t => by rw [after_4]; unfold Dat.blockOf block; rw [data_A]; try rfl) t d).trans
    (by unfold Dat.fetched Dat.blockOf block; rw [data_A]; try rfl)

/-- The result's window is stored at every point. -/
theorem never_idle (t : Fin (pipe m hO).N) : idle0 (tables m) 5 ((pcfg0.gridAt (tables m)).coords t) = false := by
  show (!(k0_cond1 (grid0.coords t) ((tables m).atD 1 ![0]) == 1#1) && !(k0_cond2 (grid0.coords t) ((tables m).atD 1 ![0]) == 1#1)) = false
  have h := cond_compl (grid0.coords t) ((tables m).atD 1 ![0])
  by_cases h1 : k0_cond1 (grid0.coords t) ((tables m).atD 1 ![0]) = 1#1
  · rw [h1]; rfl
  · rw [h.mpr h1, Bool.and_comm]; rfl

/-- The window buffers at a point, as the pipeline hands them to the body. -/
abbrev buf0 (t : Fin (pipe m hO).N) : Memref sig .tc .vmem S256x2048 .bf16 := spec0_0.stage ((pipe m hO).slots t 0)
abbrev buf1 (t : Fin (pipe m hO).N) : Memref sig .tc .vmem S1x2048x1024 .bf16 := spec0_1.stage ((pipe m hO).slots t 1)
abbrev buf2 (t : Fin (pipe m hO).N) : Memref sig .tc .vmem S1x2048x1024 .bf16 := spec0_2.stage ((pipe m hO).slots t 2)
abbrev buf3 (t : Fin (pipe m hO).N) : Memref sig .tc .vmem S1x1024x2048 .bf16 := spec0_3.stage ((pipe m hO).slots t 3)
abbrev buf4 (t : Fin (pipe m hO).N) : Memref sig .tc .vmem S256x1 .f32 := spec0_4.stage ((pipe m hO).slots t 4)
abbrev buf5 (t : Fin (pipe m hO).N) : Memref sig .tc .vmem S256x2048 .f32 := spec0_5.stage ((pipe m hO).slots t 5)

/-- The body at a point, on those buffers. -/
abbrev bodyAt (t : Fin (pipe m hO).N) : Prog (TpuEff nD τ sig (Elt F) Λ₀ .tc) PUnit :=
  cc0_moe_experts (grid0.coords t) names (Memref.isWhole_whole _) inUse (Memref.isWhole_whole _)
    (buf0 m hO t) (hstage0_0 (((pipe m hO).slots t 0).cast nbuf0_0)) (buf1 m hO t) (hstage0_1 (((pipe m hO).slots t 1).cast nbuf0_1))
    (buf2 m hO t) (hstage0_2 (((pipe m hO).slots t 2).cast nbuf0_2)) (buf3 m hO t) (hstage0_3 (((pipe m hO).slots t 3).cast nbuf0_3))
    (buf4 m hO t) (hstage0_4 (((pipe m hO).slots t 4).cast nbuf0_4)) (buf5 m hO t) (hstage0_5 (((pipe m hO).slots t 5).cast nbuf0_5))

/-- What the body is handed at a point, -/
def handed (c : Dev nD) (t : Fin (pipe m hO).N) : sProp (Res F) :=
  iprop((data m hO 0 c).Φ t.castSucc ∗ (data m hO 0 c).owesAt () t.castSucc
    ∗ (∃ d, owns (c : Thread nD τ) (buf0 m hO t) fullShare ((data m hO 0 c).before 0 t d))
    ∗ (∃ d, owns (c : Thread nD τ) (buf1 m hO t) fullShare ((data m hO 0 c).before 1 t d))
    ∗ (∃ d, owns (c : Thread nD τ) (buf2 m hO t) fullShare ((data m hO 0 c).before 2 t d))
    ∗ (∃ d, owns (c : Thread nD τ) (buf3 m hO t) fullShare ((data m hO 0 c).before 3 t d))
    ∗ (∃ d, owns (c : Thread nD τ) (buf4 m hO t) fullShare ((data m hO 0 c).before 4 t d))
    ∗ (∃ d, owns (c : Thread nD τ) (buf5 m hO t) fullShare ((data m hO 0 c).before 5 t d)))

/-- and what it gives back. -/
def returned (c : Dev nD) (t : Fin (pipe m hO).N) : sProp (Res F) :=
  iprop((data m hO 0 c).Φ t.succ ∗ (data m hO 0 c).owesAt () t.succ
    ∗ owns (c : Thread nD τ) (buf0 m hO t) fullShare ((data m hO 0 c).after 0 t)
    ∗ owns (c : Thread nD τ) (buf1 m hO t) fullShare ((data m hO 0 c).after 1 t)
    ∗ owns (c : Thread nD τ) (buf2 m hO t) fullShare ((data m hO 0 c).after 2 t)
    ∗ owns (c : Thread nD τ) (buf3 m hO t) fullShare ((data m hO 0 c).after 3 t)
    ∗ owns (c : Thread nD τ) (buf4 m hO t) fullShare ((data m hO 0 c).after 4 t)
    ∗ owns (c : Thread nD τ) (buf5 m hO t) fullShare ((data m hO 0 c).after 5 t))

/-- The pipeline's halves of the tables, one by one. -/
theorem halves (c : Dev nD) : (Pipeline.ΦT pre0 (tables m) c : sProp (Res F)) = iprop(halfOf c names (tables m 0) ∗ halfOf c inUse (tables m 1)) := by
  unfold Pipeline.ΦT Pipeline.prefHeld
  rw [show (Finset.univ : Finset (Fin 2)) = {0, 1} from by decide, bigSep_insert (by decide), bigSep_singleton]
  rfl

/-- The body at any point takes the one to the other. -/
theorem body_runs (c : Dev nD) (t : Fin (pipe m hO).N) :
    handed m hO c t ⊢ wp frame (wpE (defs₀ (F := F)) Variants.none c none) Set.univ (bodyAt m hO t) (fun _ => returned m hO c t) := by
  unfold handed returned bodyAt
  simp only [before_0, before_1, before_2, before_3, before_4]
  rw [show (data m hO 0 c).Φ t.succ = (data m hO 0 c).Φ t.castSucc from rfl,
    show (data m hO 0 c).owesAt () t.succ = (data m hO 0 c).owesAt () t.castSucc from rfl,
    after_0, after_1, after_2, after_3, after_4, after_5,
    show (data m hO 0 c).Φ t.castSucc = iprop(Pipeline.ΦA spec0 c ∗ Pipeline.ΦT pre0 (tables m) c) from rfl, halves]
  iintro ⟨⟨HΦ, HT0, HT1⟩, Ho, ⟨%d0, H0⟩, ⟨%d1, H1⟩, ⟨%d2, H2⟩, ⟨%d3, H3⟩, ⟨%d4, H4⟩, ⟨%d5, H5⟩⟩
  iapply (body_any c (grid0.coords t) _ _ _ _ _ _ _ _ _ _ _ _ (block m hO c 0 t) (block m hO c 1 t) (block m hO c 2 t) (block m hO c 3 t)
    (block m hO c 4 t) (tables m 0) (tables m 1) Set.univ _)
  unfold inputs
  isplitl [H0 H1 H2 H3 H4 HT0 HT1]
  · isplitl [H0]; · iexact H0
    isplitl [H1]; · iexact H1
    isplitl [H2]; · iexact H2
    isplitl [H3]; · iexact H3
    isplitl [H4]; · iexact H4
    isplitl [HT0]; · iexact HT0
    iexact HT1
  isplitl [H5]; · iexists _; iexact H5
  iintro ⟨⟨H0, H1, H2, H3, H4, HT0, HT1⟩, H5⟩
  isplitl [HΦ HT0 HT1]
  · isplitl [HΦ]; · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

theorem body_row (t : Fin (pipe m hO).N) :
    defs₀ (F := F) .tc (pipe m hO).body ((pipe m hO).bodyArgs t ((pipe m hO).slots t)) = bodyAt m hO t := by
  unfold defs₀; rw [Defs.onTc_tc]

/-- So the body does at every point what the pipeline asks of it. -/
theorem body_ok (c : Dev nD) : BodyObligation (data (F := F) m hO 0 c) (defs₀ (F := F)) Variants.none () Set.univ := fun t => by
  rw [bigSep_W0, bigSep_W0, body_row m hO]
  refine triple_restated (body_runs m hO c t) rfl .rfl fun _ => ?_
  simp only []
  generalize hi : idle0 (tables m) 5 ((pcfg0.gridAt (tables m)).coords t) = b
  obtain rfl : b = false := hi.symm.trans (never_idle m hO t)
  exact .rfl

/-! ## The whole run -/

theorem to_region : Pipeline.HMainP (Ix := Unit) (Name := ℕ) (U := UR sig nD τ) (Lvl := ℕ) pcfgs 0 defs₀ Variants.none m (main (F := F)) (start m) :=
  Pipeline.hmainP_region pcfgs 0 defs₀ Variants.none m main fun c => (main_chain c).trans rfl

set_option backward.isDefEq.respectTransparency.types false in
/-- From any memory whose tables name experts that are there, the kernel runs to its end with every array at what the
    points left in it, every other buffer as it was, and no semaphore counter left. -/
theorem runs : θ_run defs (onTc (τ := τ) (main (F := F))) (s₀ m ρ)
    (fun r => Pipeline.FramePost (Pipeline.pin pcfgs fun _ => held m hO) (data m hO) 0 (start m) r ∧ r.2.sem = fun _ => 0) :=
  Pipeline.θ_run_frameP (Q' := _) pcfgs (fun _ => held m hO) (data m hO) (0 : Fin 1) launch0 defs₀ Variants.none m ρ main
    (hbody := fun c => (body_ok m hO c).loose) (hshare := fun c => (data m hO 0 c).share_full fun _ => rfl)
    (howed := fun _ _ => rfl) (V := start m) (hmain := to_region m) (hA := data_A m hO) (hpf := start_table m)
    (hΦ := fun _ _ => rfl)

/-- So the result is what the points left, and every argument ends as it began. -/
theorem runs_to : θ_run defs (onTc (τ := τ) (main (F := F))) ⟨m, fun _ => 0, ρ⟩ (fun r => (∀ c : Dev nD,
      r.2.mem ((c.tc : Thread nD τ).loc main_v0) = (data m hO 0 c).arrAt 5 (pipe m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => by
    have hin := fun w hw => ((h.1 c).1 w).trans (((data m hO 0 c).arrAt_in w hw _).trans (data_A m hO c w))
    exact ⟨(h.1 c).1 5, (h.1 c).2 main_arg0 (by decide : main_arg0 ∈ Pipeline.restRefs sig spec0),
      (h.1 c).2 main_arg1 (by decide : main_arg1 ∈ Pipeline.restRefs sig spec0),
      hin 0 rfl, hin 1 rfl, hin 2 rfl, hin 3 rfl, hin 4 rfl⟩, h.2⟩) (runs m ρ hO)

end Cert.Experts
-- ==== Proof.ExpertsValue.lean ====
/- The array the experts' kernel leaves, where every expert named is there. Row block `n`, of 256 rows, belongs to the expert
   the first table names for it. At row `i` and column `j` of a block in use it is the gated unit of that expert over row `i`,
   taken into column `j` and weighted by the row's weight. At every other block it is zero. -/
module

public import proofs.«01_k».proof.Proof.ExpertsFrame
public import Idealize.ShloMosaic.Lib.Pointwise

@[expose] public section

set_option maxRecDepth 16384

noncomputable section

namespace Cert.Experts

open Cert.Kernel3Ideal Cert.Kernel3Ideal.Gen Idealize.ShloMosaic Idealize.ShloMosaic.TcCoe Idealize.SL.Sem

/-- The hidden unit `e` of an expert over a row: the gate through the logistic, times the other product. -/
def hidden (x g u : Fin 2048 → EReal) : EReal :=
  (∑ d, x d * g d) * Ideal.logistic (∑ d, x d * g d) * ∑ d, x d * u d

/-- The expert a block belongs to: the number the table holds, kept among the experts. -/
def who (T : IVec S288 32) (n : Fin 288) : Fin 32 := ⟨min (T (ix1 n)).toInt.toNat 31, by omega⟩

/-- The block row `i` lies in. -/
def blockOf (i : Fin 73728) : Fin 288 := ⟨i.val / 256, by omega⟩

/-- Whether block `n` is in use. -/
abbrev used (U : IVec S1 32) (n : Fin 288) : Prop := IntOp.cmpi .slt (BitVec.ofNat 32 n.val) (U (ix1 0)) = 1#1

/-- An expert's result at a row and a column. -/
def expert (X : Vec Ideal S73728x2048 .bf16) (WG WU : Vec Ideal S32x2048x1024 .bf16) (WD : Vec Ideal S32x1024x2048 .bf16)
    (R : Vec Ideal S73728x1 .f32) (k : Fin 32) (i : Fin 73728) (j : Fin 2048) : EReal :=
  (∑ e : Fin 1024, hidden (fun d => X (ix2 i d)) (fun d => WG (ix3 k d e)) (fun d => WU (ix3 k d e)) * WD (ix3 k e j)) * R (ix2 i 0)

/-- The whole array. -/
def experts (T : IVec S288 32) (U : IVec S1 32) (X : Vec Ideal S73728x2048 .bf16) (WG WU : Vec Ideal S32x2048x1024 .bf16)
    (WD : Vec Ideal S32x1024x2048 .bf16) (R : Vec Ideal S73728x1 .f32) : Vec Ideal S73728x2048 .f32 :=
  fun y => if used U (blockOf (y 0)) then expert X WG WU WD R (who T (blockOf (y 0))) (y 0) (y 1) else 0

/-- A block in use at an element. -/
theorem pay1_at (x : Vec Ideal S256x2048 .bf16) (wg wu : Vec Ideal S1x2048x1024 .bf16) (wd : Vec Ideal S1x1024x2048 .bf16)
    (cw : Vec Ideal S256x1 .f32) (r : Fin 256) (j : Fin 2048) :
    k0_pay1 (F := Ideal) x wg wu wd cw (ix2 r j) =
      (∑ e : Fin 1024, hidden (fun d => x (ix2 r d)) (fun d => wg (ix3 0 d e)) (fun d => wu (ix3 0 d e)) * wd (ix3 0 e j)) * cw (ix2 r 0) := by
  pointwise [k0_pay1, hidden]

/-- Any other block at an element. -/
theorem pay2_at (r : Fin 256) (j : Fin 2048) : k0_pay2 (F := Ideal) (ix2 r j) = 0 := by
  pointwise [k0_pay2]

/-- The kernel's condition is that the block is in use. -/
theorem cond1_iff (i : grid0.Coords) (w : BitVec 32) :
    k0_cond1 i w = 1#1 ↔ IntOp.cmpi .slt (BitVec.ofNat 32 (i 0).val) w = 1#1 := by
  unfold k0_cond1
  simp only [Scalar.cmpi, Scalar.extui, IntOp.cmpi]
  cases BitVec.slt (BitVec.ofNat 32 (i 0).val) w <;> decide

/-! ## Where the blocks lie -/

variable (m : (ℓ : Loc nD τ sig) → Buf (Elt Ideal) ℓ) (hO : ok0 (F := Ideal) (tables m)) (c : Dev nD)

theorem tlt (t : Fin (pipe m hO).N) : t.val < 288 := t.isLt.trans_eq N_0

/-- Point `t` is row block `t`. -/
theorem coord : ∀ t : Fin grid0.N, (grid0.coords t 0).val = t.val := by decide +kernel

theorem idx0 (t : Fin (pipe m hO).N) : ((pipe m hO).win 0).index t = ![t.val, 0] :=
  (by decide +kernel : ∀ t : Fin grid0.N, cc0_transform_0 (grid0.coords t) = ![t.val, 0]) t
theorem idx4 (t : Fin (pipe m hO).N) : ((pipe m hO).win 4).index t = ![t.val, 0] :=
  (by decide +kernel : ∀ t : Fin grid0.N, cc0_transform_4 (grid0.coords t) = ![t.val, 0]) t
theorem idx5 (t : Fin (pipe m hO).N) : ((pipe m hO).win 5).index t = ![t.val, 0] :=
  (by decide +kernel : ∀ t : Fin grid0.N, cc0_transform_5 (grid0.coords t) = ![t.val, 0]) t

/-- The number the first table holds for a point's block. -/
abbrev num (t : Fin (pipe m hO).N) : BitVec 32 := tables m 0 (ix1 (⟨t.val, tlt m hO t⟩ : Fin 288))

theorem at_num (t : Fin (pipe m hO).N) :
    (tables m).at 0 (Rect.unit (s := S288) (k0_off1 (grid0.coords t)) S1.size (k0_off1_inb _)) numel1_S1 = num m hO t := by
  refine congrArg (tables m 0) (funext fun (a : Fin 1) => Fin.ext ?_)
  obtain rfl : a = 0 := Subsingleton.elim _ _
  show k0_off1 (grid0.coords t) 0 + 0 * 1 = t.val
  rw [k0_off1_eq]
  exact coord t

theorem idx1 (t : Fin (pipe m hO).N) : ((pipe m hO).win 1).index t = ![(num m hO t).toNat, 0, 0] :=
  congrArg (fun w : BitVec 32 => ![w.toNat, 0, 0]) (at_num m hO t)
theorem idx2 (t : Fin (pipe m hO).N) : ((pipe m hO).win 2).index t = ![(num m hO t).toNat, 0, 0] :=
  congrArg (fun w : BitVec 32 => ![w.toNat, 0, 0]) (at_num m hO t)
theorem idx3 (t : Fin (pipe m hO).N) : ((pipe m hO).win 3).index t = ![(num m hO t).toNat, 0, 0] :=
  congrArg (fun w : BitVec 32 => ![w.toNat, 0, 0]) (at_num m hO t)

/-! ## The blocks, at an element -/

/-- The two tables, the rows, the three weights and the rows' weights of core `c`. -/
abbrev T : IVec S288 32 := m ((c : Thread nD τ).loc main_arg0)
abbrev U : IVec S1 32 := m ((c : Thread nD τ).loc main_arg1)
abbrev X : Vec Ideal S73728x2048 .bf16 := m ((c : Thread nD τ).loc main_arg2)
abbrev WG : Vec Ideal S32x2048x1024 .bf16 := m ((c : Thread nD τ).loc main_arg3)
abbrev WU : Vec Ideal S32x2048x1024 .bf16 := m ((c : Thread nD τ).loc main_arg4)
abbrev WD : Vec Ideal S32x1024x2048 .bf16 := m ((c : Thread nD τ).loc main_arg5)
abbrev R : Vec Ideal S73728x1 .f32 := m ((c : Thread nD τ).loc main_arg6)

/-- The row of the whole array that row `r` of point `t`'s block is. -/
def rt (t : Fin (pipe m hO).N) (r : Fin 256) : Fin 73728 := ⟨t.val * 256 + r.val, by have := tlt m hO t; omega⟩

theorem blk_x (t : Fin (pipe m hO).N) (r : Fin 256) (d : Fin 2048) :
    (block m hO c 0 t : Vec Ideal S256x2048 .bf16) (ix2 r d) = X m c (ix2 (rt m hO t r) d) := by
  have e := idx0 m hO t
  simp only [X, rt]
  blk_ext [block, start, e]

theorem blk_r (t : Fin (pipe m hO).N) (r : Fin 256) :
    (block m hO c 4 t : Vec Ideal S256x1 .f32) (ix2 r 0) = R m c (ix2 (rt m hO t r) 0) := by
  have e := idx4 m hO t
  simp only [R, rt]
  blk_ext [block, start, e]

theorem blk_wg (t : Fin (pipe m hO).N) (k : Fin 32) (hk : (num m hO t).toNat = k.val) (d : Fin 2048) (e : Fin 1024) :
    (block m hO c 1 t : Vec Ideal S1x2048x1024 .bf16) (ix3 0 d e) = WG m c (ix3 k d e) := by
  have h := idx1 m hO t
  rw [hk] at h
  simp only [WG]
  blk_ext [block, start, h]

theorem blk_wu (t : Fin (pipe m hO).N) (k : Fin 32) (hk : (num m hO t).toNat = k.val) (d : Fin 2048) (e : Fin 1024) :
    (block m hO c 2 t : Vec Ideal S1x2048x1024 .bf16) (ix3 0 d e) = WU m c (ix3 k d e) := by
  have h := idx2 m hO t
  rw [hk] at h
  simp only [WU]
  blk_ext [block, start, h]

theorem blk_wd (t : Fin (pipe m hO).N) (k : Fin 32) (hk : (num m hO t).toNat = k.val) (e : Fin 1024) (j : Fin 2048) :
    (block m hO c 3 t : Vec Ideal S1x1024x2048 .bf16) (ix3 0 e j) = WD m c (ix3 k e j) := by
  have h := idx3 m hO t
  rw [hk] at h
  simp only [WD]
  blk_ext [block, start, h]

/-- Where element `(r, j)` of point `t`'s block lies in the array. -/
theorem emb_out (t : Fin (pipe m hO).N) (r : Fin 256) (j : Fin 2048) :
    ((((pipe m hO).win 5).blk t).view.emb (ix2 r j : S256x2048.Idx) : S73728x2048.Idx) = ix2 (rt m hO t r) j := by
  have e := idx5 m hO t
  simp only [rt]
  blk_ext [e]

/-- The word the body reads off the second table. -/
theorem word_eq : word (F := Ideal) (tables m 1) = U m 0 (ix1 0) := by
  refine congrArg (U m 0) (funext fun (a : Fin 1) => ?_)
  obtain rfl : a = 0 := Subsingleton.elim _ _
  exact Subsingleton.elim (α := Fin 1) _ _

variable (hT : ∀ y : S288.Idx, (T m 0 y).toNat < 32)
include hT

/-- A number below the number of experts is the expert it names. -/
theorem num_who (t : Fin (pipe m hO).N) : (num m hO t).toNat = (who (T m 0) ⟨t.val, tlt m hO t⟩).val := by
  have h := hT (ix1 (⟨t.val, tlt m hO t⟩ : Fin 288))
  have e : (num m hO t).toInt = ((num m hO t).toNat : ℤ) := WordCmp.toInt_eq_toNat_of_lt_half (by
    show (T m 0 (ix1 (⟨t.val, tlt m hO t⟩ : Fin 288))).toNat < 2 ^ 31
    omega)
  show (num m hO t).toNat = min (num m hO t).toInt.toNat 31
  rw [e]
  have h' : (num m hO t).toNat < 32 := h
  omega

/-- The block a grid point writes back. -/
theorem out_at (t : Fin (pipe m hO).N) (r : Fin 256) (j : Fin 2048) :
    ((data m hO 0 0).after 5 t : Vec Ideal S256x2048 .f32) (ix2 r j) =
      experts (T m 0) (U m 0) (X m 0) (WG m 0) (WU m 0) (WD m 0) (R m 0) (ix2 (rt m hO t r) j) := by
  have hk := num_who m hO hT t
  have hb : blockOf (rt m hO t r) = ⟨t.val, tlt m hO t⟩ := Fin.ext (by simp only [blockOf, rt]; omega)
  have hu : k0_cond1 (grid0.coords t) (word (F := Ideal) (tables m 1)) = 1#1 ↔ used (U m 0) (blockOf (rt m hO t r)) := by
    rw [cond1_iff, word_eq, hb, used]
    exact iff_of_eq (congrArg (fun n => IntOp.cmpi .slt (BitVec.ofNat 32 n) (U m 0 (ix1 0)) = 1#1) (coord t))
  rw [after_5]
  unfold rows experts
  show _ = if used (U m 0) (blockOf (rt m hO t r)) then expert (X m 0) (WG m 0) (WU m 0) (WD m 0) (R m 0)
    (who (T m 0) (blockOf (rt m hO t r))) (rt m hO t r) j else 0
  by_cases h : used (U m 0) (blockOf (rt m hO t r))
  · rw [if_pos h, if_pos (hu.mpr h)]
    refine (pay1_at _ _ _ _ _ r j).trans ?_
    rw [hb, expert, blk_r]
    simp only [blk_x, blk_wg m hO 0 t _ hk, blk_wu m hO 0 t _ hk, blk_wd m hO 0 t _ hk]
  · rw [if_neg h, if_neg (fun h' => h (hu.mp h')), pay2_at]

omit hT in
/-- The result is written back at every point, -/
theorem flush5 : ∀ t : Fin (pipe m hO).N, ((pipe m hO).win 5).flush t = true :=
  (fun t => (Pipeline.Window.flushOf_reads cc0_transform_5 reads0_5 hreads0_5 0 (by decide) (by decide)
    (Pipeline.Window.sep_of_coord cc0_transform_5 0 0 (fun _ => rfl) (by decide)) (P := 1) (m := 0) (by decide) rfl t).mpr (Nat.mod_one _) :
    ∀ t : Fin grid0.N, Pipeline.Window.flushOf grid0 true cc0_transform_5 t = true)

omit hT in
/-- and its blocks fill the array. -/
theorem covers5 : ((pipe m hO).win 5).Covers := by
  refine ⟨fun a => ?_, fun β => ⟨⟨(β (0 : Fin 2)).val, ?_⟩, flush5 m hO _, fun a => ⟨?_, .inl rfl⟩⟩⟩
  · match a with
    | ⟨0, _⟩ => exact (by decide : 0 < 256)
    | ⟨1, _⟩ => exact (by decide : 0 < 2048)
  · have h0 : (β (0 : Fin 2)).val < (73728 + 256 - 1) / 256 := (β (0 : Fin 2)).isLt
    exact (show (β (0 : Fin 2)).val < 288 by omega).trans_eq N_0.symm
  · rw [idx5]
    match a with
    | ⟨0, _⟩ => rfl
    | ⟨1, _⟩ =>
      have h1 : (β (1 : Fin 2)).val < (2048 + 2048 - 1) / 2048 := (β (1 : Fin 2)).isLt
      exact (show 0 = (β (1 : Fin 2)).val by omega)

/-- The array the kernel leaves. -/
theorem array_eq : ((data m hO 0 0).arrAt 5 (pipe m hO).N : Vec Ideal S73728x2048 .f32) =
    experts (T m 0) (U m 0) (X m 0) (WG m 0) (WU m 0) (WD m 0) (R m 0) := by
  refine (data m hO 0 0).arrAt_eq_of_covers 5 _ (covers5 m hO) fun t _ y => ?_
  blk_simp
  have hy : ∀ y : S256x2048.Idx, ((data m hO 0 0).after 5 t : Vec Ideal S256x2048 .f32) y =
      experts (T m 0) (U m 0) (X m 0) (WG m 0) (WU m 0) (WD m 0) (R m 0)
        ((((pipe m hO).win 5).blk t).view.emb y : S73728x2048.Idx) := fun y => by
    obtain ⟨r, j, e⟩ : ∃ (r : Fin 256) (j : Fin 2048), y = (ix2 r j : S256x2048.Idx) := ⟨y 0, y 1, by idx_vars y⟩
    rw [e, out_at m hO hT, emb_out]
  exact hy y

end Cert.Experts

end
-- ==== Proof.ExpertsReference.lean ====
/- The experts' reference, its composed term read at an index. -/
module

public import proofs.«01_k».proof.Proof.ExpertsValue
public import proofs.«01_k».proof.Proof.Gen.Reference3Ideal.Run
public import Idealize.ShloMosaic.Lib.Pointwise

@[expose] public section

set_option maxRecDepth 16384

noncomputable section

namespace Cert.Experts

open Cert.Reference3Ideal Cert.Reference3Ideal.Gen Idealize.ShloMosaic Idealize.ShloMosaic.TcCoe
  Idealize.SL.Sem Idealize.ShloMosaic.StableHlo

section taken

variable {α : Type} {N A B n : ℕ} {sl : Fin 3 → ℕ}
  (wf : GatherDims.WF ⟨3, ![N, A, B]⟩ ⟨2, ![n, 1]⟩ ⟨3, ![n, A, B]⟩ [1, 2] [0] [] [0] [] 1 sl)

/-- Whole matrices taken out of a stack of them, by number. -/
abbrev takeWhole : GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := sl
  wf := wf

/-- Such a matrix at an element: its number is read signed and kept inside the stack. -/
theorem takeWhole_at (hN : 0 < N) (x : (⟨3, ![N, A, B]⟩ : Shape).Idx → α) (idx : IVec ⟨2, ![n, 1]⟩ 32)
    (c : Fin n) (a : Fin A) (b : Fin B) :
    Host.gather (takeWhole wf) x idx (ix3 c a b) = x (ix3 ⟨min (idx (ix2 c 0)).toInt.toNat (N - 1), by omega⟩ a b) := by
  unfold Host.gather
  refine congrArg x (funext fun k => Fin.ext ?_)
  have hb : ∀ k, (takeWhole wf).batchCoord (ix3 c a b) k = 0 := fun k => GatherDims.batchCoord_eq_zero _ _ _ List.not_mem_nil
  have hsl : sl 0 = 1 := (takeWhole wf).slice_collapsed 0 (List.mem_singleton.mpr rfl)
  show (takeWhole wf).start (ix3 c a b) idx k + (takeWhole wf).batchCoord (ix3 c a b) k + (takeWhole wf).offCoord (ix3 c a b) k = _
  rw [hb, Nat.add_zero]
  match k with
  | ⟨0, _⟩ =>
    show (takeWhole wf).start (ix3 c a b) idx (0 : Fin 3) + (takeWhole wf).offCoord (ix3 c a b) (0 : Fin 3) = _
    rw [show (takeWhole wf).offCoord (ix3 c a b) (0 : Fin 3) = 0 from
      GatherDims.offCoord_eq_zero _ _ _ (fun h => ((GatherDims.mem_sKept _ _).mp h).1 (List.mem_singleton.mpr rfl)), Nat.add_zero]
    unfold GatherDims.start
    rw [dif_pos (show (0 : Fin 3) ∈ (takeWhole wf).startIndexMap from List.mem_singleton.mpr rfl)]
    have hsi : (takeWhole wf).siIdx (ix3 c a b) ⟨List.idxOf (0 : Fin 3) (takeWhole wf).startIndexMap,
        List.idxOf_lt_length_iff.2 (List.mem_singleton.mpr rfl)⟩ = ix2 c 0 := by
      funext e
      refine Fin.ext ?_
      match e with
      | ⟨0, _⟩ => rfl
      | ⟨1, _⟩ => rfl
    rw [hsi]
    show min _ (N - sl 0) = min _ (N - 1)
    rw [hsl]
  | ⟨1, _⟩ =>
    have hs : (takeWhole wf).start (ix3 c a b) idx (1 : Fin 3) = 0 := by
      unfold GatherDims.start
      exact dif_neg (fun h => absurd (show (1 : Fin 3) = 0 from List.mem_singleton.mp h) (by decide))
    refine (congrArg (· + _) hs).trans ((Nat.zero_add _).trans ?_)
    rfl
  | ⟨2, _⟩ =>
    have hs : (takeWhole wf).start (ix3 c a b) idx (2 : Fin 3) = 0 := by
      unfold GatherDims.start
      exact dif_neg (fun h => absurd (show (2 : Fin 3) = 0 from List.mem_singleton.mp h) (by decide))
    refine (congrArg (· + _) hs).trans ((Nat.zero_add _).trans ?_)
    rfl

end taken

/-- The reference's product of every block's rows with its expert's weight. -/
def refP (T : IVec S288 32) (X : FVec Ideal S73728x2048 .bf16) (W : FVec Ideal S32x2048x1024 .bf16) : FVec Ideal S288x256x1024 .f32 :=
  Host.dotGeneral dot_S288x256x2048_S288x2048x1024_S288x256x1024_2_1_1_2_0_0 none
    (shapeCast _ (extf .f32 X bitsLt_bf16_f32) shapeCasts_S73728x2048_S288x256x2048)
    (Host.gather gather_S32x2048x1024_S288x1_S288x2048x1024_12_0_n_n_0_1_120481024 (extf .f32 W bitsLt_bf16_f32)
      (broadcastInDim S288x1 ![0] bcast_S288_S288x1_0 T))

/-- The reference's hidden units. -/
def refA (P Q : FVec Ideal S288x256x1024 .f32) : FVec Ideal S288x256x1024 .f32 :=
  mulf (mulf P (Host.divf (broadcastInDim S288x256x1024 ![] bcast_S_S288x256x1024 (constant S_ .f32 0x3F800000#32))
    (addf (broadcastInDim S288x256x1024 ![] bcast_S_S288x256x1024 (constant S_ .f32 0x3F800000#32)) (Host.exp (Host.negf P))))) Q

/-- The reference's result, from the hidden units. -/
def refY (T : IVec S288 32) (U : IVec S1 32) (A : FVec Ideal S288x256x1024 .f32) (W : FVec Ideal S32x1024x2048 .bf16)
    (R : FVec Ideal S73728x1 .f32) : FVec Ideal S73728x2048 .f32 :=
  shapeCast _ (select
    (broadcastInDim S288x256x2048 ![0, 1, 2] bcast_S288x1x1_S288x256x2048_0_1_2 (broadcastInDim S288x1x1 ![0] bcast_S288_S288x1x1_0
      (cmpi .slt (iotaInDim S288 32 0) (broadcastInDim S288 ![0] bcast_S1_S288_0 U))))
    (mulf (Host.dotGeneral dot_S288x256x1024_S288x1024x2048_S288x256x2048_2_1_1_2_0_0 none A
        (Host.gather gather_S32x1024x2048_S288x1_S288x1024x2048_12_0_n_n_0_1_110242048 (extf .f32 W bitsLt_bf16_f32)
          (broadcastInDim S288x1 ![0] bcast_S288_S288x1_0 T)))
      (broadcastInDim S288x256x2048 ![0, 1, 2] bcast_S288x256x1_S288x256x2048_0_1_2 (shapeCast _ R shapeCasts_S73728x1_S288x256x1)))
    (broadcastInDim S288x256x2048 ![] bcast_S_S288x256x2048 (id (constant S_ .f32 0x00000000#32)))) shapeCasts_S288x256x2048_S73728x2048

/-- The weights the reference takes for a block, at an element. -/
theorem gather1_at (T : IVec S288 32) (W : FVec Ideal S32x2048x1024 .bf16) (n : Fin 288) (d : Fin 2048) (e : Fin 1024) :
    Host.gather gather_S32x2048x1024_S288x1_S288x2048x1024_12_0_n_n_0_1_120481024 (extf .f32 W bitsLt_bf16_f32)
      (broadcastInDim S288x1 ![0] bcast_S288_S288x1_0 T) (ix3 n d e) = W (ix3 (who T n) d e) :=
  (takeWhole_at _ (by decide) _ _ n d e).trans (by pointwise [who])

theorem gather2_at (T : IVec S288 32) (W : FVec Ideal S32x1024x2048 .bf16) (n : Fin 288) (e : Fin 1024) (j : Fin 2048) :
    Host.gather gather_S32x1024x2048_S288x1_S288x1024x2048_12_0_n_n_0_1_110242048 (extf .f32 W bitsLt_bf16_f32)
      (broadcastInDim S288x1 ![0] bcast_S288_S288x1_0 T) (ix3 n e j) = W (ix3 (who T n) e j) :=
  (takeWhole_at _ (by decide) _ _ n e j).trans (by pointwise [who])

/-- Row `r` of block `n`, in the whole array. -/
def row (n : Fin 288) (r : Fin 256) : Fin 73728 := ⟨n.val * 256 + r.val, by omega⟩

/-- The product of every block's rows with a matrix of its own, at an element. -/
theorem dot1_at (X : FVec Ideal S73728x2048 .bf16) (V : FVec Ideal S288x2048x1024 .f32) (n : Fin 288) (r : Fin 256) (e : Fin 1024) :
    Host.dotGeneral dot_S288x256x2048_S288x2048x1024_S288x256x1024_2_1_1_2_0_0 none
      (shapeCast _ (extf .f32 X bitsLt_bf16_f32) shapeCasts_S73728x2048_S288x256x2048) V (ix3 n r e) =
      ∑ d : Fin 2048, X (ix2 (row n r) d) * V (ix3 n d e) := by
  simp only [row]
  pointwise []

theorem dot2_at (A : FVec Ideal S288x256x1024 .f32) (V : FVec Ideal S288x1024x2048 .f32) (n : Fin 288) (r : Fin 256) (j : Fin 2048) :
    Host.dotGeneral dot_S288x256x1024_S288x1024x2048_S288x256x2048_2_1_1_2_0_0 none A V (ix3 n r j) =
      ∑ e : Fin 1024, A (ix3 n r e) * V (ix3 n e j) := by
  pointwise []

/-- The reference's product at an element. -/
theorem refP_at (T : IVec S288 32) (X : FVec Ideal S73728x2048 .bf16) (W : FVec Ideal S32x2048x1024 .bf16)
    (n : Fin 288) (r : Fin 256) (e : Fin 1024) :
    refP T X W (ix3 n r e) = ∑ d : Fin 2048, X (ix2 (row n r) d) * W (ix3 (who T n) d e) := by
  rw [refP, dot1_at]
  exact Finset.sum_congr rfl fun d _ => congrArg _ (gather1_at T W n d e)

/-- The reference's hidden units at an element. -/
theorem refA_at (P Q : FVec Ideal S288x256x1024 .f32) (n : Fin 288) (r : Fin 256) (e : Fin 1024) :
    refA P Q (ix3 n r e) = P (ix3 n r e) * Ideal.logistic (P (ix3 n r e)) * Q (ix3 n r e) := by
  rw [Ideal.logistic]
  pointwise [refA]

/-- The choice between a block's result and zero, at an element. -/
theorem pick_at (U : IVec S1 32) (Y : FVec Ideal S288x256x2048 .f32) (R : FVec Ideal S73728x1 .f32) (i : Fin 73728) (j : Fin 2048) :
    shapeCast S73728x2048 (select
      (broadcastInDim S288x256x2048 ![0, 1, 2] bcast_S288x1x1_S288x256x2048_0_1_2 (broadcastInDim S288x1x1 ![0] bcast_S288_S288x1x1_0
        (cmpi .slt (iotaInDim S288 32 0) (broadcastInDim S288 ![0] bcast_S1_S288_0 U))))
      (mulf Y (broadcastInDim S288x256x2048 ![0, 1, 2] bcast_S288x256x1_S288x256x2048_0_1_2
        (shapeCast _ R shapeCasts_S73728x1_S288x256x1)))
      (broadcastInDim S288x256x2048 ![] bcast_S_S288x256x2048 (id (constant S_ .f32 0x00000000#32))))
      shapeCasts_S288x256x2048_S73728x2048 (ix2 i j) =
      if used U (blockOf i) then Y (ix3 (blockOf i) (⟨i.val % 256, by omega⟩ : Fin 256) j) * R (ix2 i 0) else 0 := by
  have h0 : id (constant (F := Ideal) S_ .f32 0x00000000#32) ix0 = (0 : EReal) := by
    rw [id]
    pointwise []
  simp only [used, blockOf]
  pointwise []
  rw [h0, Scalar.select]
  rfl

/-- The reference's result is the kernel's. -/
theorem ref_eq (T : IVec S288 32) (U : IVec S1 32) (X : FVec Ideal S73728x2048 .bf16) (WG WU : FVec Ideal S32x2048x1024 .bf16)
    (WD : FVec Ideal S32x1024x2048 .bf16) (R : FVec Ideal S73728x1 .f32) :
    refY T U (refA (refP T X WG) (refP T X WU)) WD R = experts T U X WG WU WD R := by
  funext y
  obtain ⟨i, j, rfl⟩ : ∃ (i : Fin 73728) (j : Fin 2048), y = (ix2 i j : S73728x2048.Idx) := ⟨y 0, y 1, by idx_vars y⟩
  have hr : row (blockOf i) (⟨i.val % 256, by omega⟩ : Fin 256) = i := Fin.ext (by simp only [row, blockOf]; omega)
  rw [refY, pick_at, dot2_at]
  show _ = if used U (blockOf i) then expert X WG WU WD R (who T (blockOf i)) i j else 0
  congr 1
  rw [expert]
  refine congrArg (· * _) (Finset.sum_congr rfl fun e _ => ?_)
  rw [refA_at, refP_at, refP_at, hr]
  exact congrArg _ (gather2_at T WD _ e j)

end Cert.Experts

end
-- ==== Proof.ExpertsPrecondition.lean ====
/- What the precondition on the experts' first table says: every number in it is below the number of experts. -/
module

public import proofs.«01_k».proof.Defs
public import Idealize.ShloMosaic.Lib.Pointwise
public import Idealize.ShloMosaic.Lib.WordCmp

@[expose] public section

noncomputable section

namespace Cert.Experts

open Idealize.ShloMosaic

/-- The shape facts the precondition states. -/
theorem preFacts : Cert.Pre_experts_named.Facts := ⟨by decide⟩

/-- A word between zero and 32 as a signed number is below 32 as a natural one. -/
theorem below_of_words {w : BitVec 32} (h : IntOp.andi (IntOp.cmpi .sge w 0#32) (IntOp.cmpi .slt w 32#32) = 1#1) : w.toNat < 32 := by
  have h2 : ∀ a b : BitVec 1, IntOp.andi a b = 1#1 → a = 1#1 ∧ b = 1#1 := by decide
  have h3 : ∀ b : Bool, BitVec.ofBool b = 1#1 → b = true := by decide
  obtain ⟨ha, hb⟩ := h2 _ _ h
  have ha := h3 _ ha
  have hb := h3 _ hb
  rw [BitVec.sle_iff_toInt_le] at ha
  rw [BitVec.slt_iff_toInt_lt] at hb
  have e0 : (0#32 : BitVec 32).toInt = 0 := by decide
  have e1 : (32#32 : BitVec 32).toInt = 32 := by decide
  have e := BitVec.toInt_eq_toNat_cond w
  have hw := w.isLt
  rw [e0] at ha
  rw [e1] at hb
  split at e <;> omega

/-- The precondition gives that every expert named is there. -/
theorem named_of_pre {F : FTy → Type} [FloatOps F] [Cert.Pre_experts_named.Facts] {T : IVec Cert.Pre_experts_named.S288 32}
    {U : IVec Cert.Pre_experts_named.S1 32} {X : FVec F Cert.Pre_experts_named.S73728x2048 .bf16}
    {WG WU : FVec F Cert.Pre_experts_named.S32x2048x1024 .bf16} {WD : FVec F Cert.Pre_experts_named.S32x1024x2048 .bf16}
    {R : FVec F Cert.Pre_experts_named.S73728x1 .f32}
    (h : Cert.Pre_experts_named.fn (F := F) T U X WG WU WD R = fun _ => 1#1) (y : Cert.Pre_experts_named.S288.Idx) :
    (T y).toNat < 32 :=
  below_of_words (congrFun h y)

end Cert.Experts

end
-- ==== Proof.MergeValue.lean ====
/- The array the gated merge leaves: at row `i` and column `j` the sum over the three branches of the branch's gate times
   the branch's row `i` against column `j` of its weight. Point `t` is row block `t / 4`, column block `t % 4`; the gates of
   branch `b` lie at column `3584 + 2048·b + j` of the input projection. -/
module

public import proofs.«01_k».proof.Proof.Gen.Kernel4Ideal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Merge

open Cert.Kernel4Ideal Cert.Kernel4Ideal.Gen Idealize.ShloMosaic Idealize.ShloMosaic.TcCoe Idealize.SL.Sem

/-- The gate of a projected element and its bias. -/
def gate (z b : EReal) : EReal := Ideal.logistic (z + b)

section block

variable (x0 : Vec Ideal S1024x1024 .bf16) (x1 x2 x3 : Vec Ideal S1024x512 .bf16) (x4 x5 : Vec Ideal S512x512 .bf16)
  (x6 x7 x8 : Vec Ideal S1024x512 .f32) (x9 x10 x11 : Vec Ideal S1x512 .f32)

/-- The block a point stores, at an element. -/
theorem out_block (r : Fin 1024) (j : Fin 512) :
    out0_12 (F := Ideal) x0 x1 x2 x3 x4 x5 x6 x7 x8 x9 x10 x11 (ix2 r j) =
      gate (x6 (ix2 r j)) (x9 (ix2 0 j)) * (∑ d : Fin 1024, x0 (ix2 r d) * x3 (ix2 d j)) +
      gate (x7 (ix2 r j)) (x10 (ix2 0 j)) * (∑ d : Fin 512, x1 (ix2 r d) * x4 (ix2 d j)) +
      gate (x8 (ix2 r j)) (x11 (ix2 0 j)) * (∑ d : Fin 512, x2 (ix2 r d) * x5 (ix2 d j)) := by
  frame_out
  pointwise [k0_pay1, k0_pay2, k0_pay3, gate]

end block

/-- The block index of each window at point `t`. -/
theorem idx0 : ∀ t : Fin cfg0.N, (cfg0.win 0).index t = ![t.val / 4, 0] := by decide +kernel
theorem idx1 : ∀ t : Fin cfg0.N, (cfg0.win 1).index t = ![t.val / 4, 0] := by decide +kernel
theorem idx2 : ∀ t : Fin cfg0.N, (cfg0.win 2).index t = ![t.val / 4, 0] := by decide +kernel
theorem idx3 : ∀ t : Fin cfg0.N, (cfg0.win 3).index t = ![0, t.val % 4] := by decide +kernel
theorem idx4 : ∀ t : Fin cfg0.N, (cfg0.win 4).index t = ![0, t.val % 4] := by decide +kernel
theorem idx5 : ∀ t : Fin cfg0.N, (cfg0.win 5).index t = ![0, t.val % 4] := by decide +kernel
theorem idx6 : ∀ t : Fin cfg0.N, (cfg0.win 6).index t = ![t.val / 4, 7 + t.val % 4] := by decide +kernel
theorem idx7 : ∀ t : Fin cfg0.N, (cfg0.win 7).index t = ![t.val / 4, 11 + t.val % 4] := by decide +kernel
theorem idx8 : ∀ t : Fin cfg0.N, (cfg0.win 8).index t = ![t.val / 4, 15 + t.val % 4] := by decide +kernel
theorem idx9 : ∀ t : Fin cfg0.N, (cfg0.win 9).index t = ![0, t.val % 4] := by decide +kernel
theorem idx10 : ∀ t : Fin cfg0.N, (cfg0.win 10).index t = ![0, 4 + t.val % 4] := by decide +kernel
theorem idx11 : ∀ t : Fin cfg0.N, (cfg0.win 11).index t = ![0, 8 + t.val % 4] := by decide +kernel
theorem idx12 : ∀ t : Fin cfg0.N, (cfg0.win 12).index t = ![t.val / 4, t.val % 4] := by decide +kernel

theorem tlt (t : Fin cfg0.N) : t.val < 128 := t.isLt.trans_eq (show cfg0.N = 128 from N_0)

variable (m : (ℓ : Loc nD τ sig) → Buf (Elt Ideal) ℓ) (c : Dev nD)

/-- The three branches' rows, their weights, the input projection and the gates' bias. -/
abbrev A : Vec Ideal S32768x1024 .bf16 := m ((c : Thread nD τ).loc main_arg0)
abbrev H : Vec Ideal S32768x512 .bf16 := m ((c : Thread nD τ).loc main_arg1)
abbrev M : Vec Ideal S32768x512 .bf16 := m ((c : Thread nD τ).loc main_arg2)
abbrev WA : Vec Ideal S1024x2048 .bf16 := m ((c : Thread nD τ).loc main_arg3)
abbrev WH : Vec Ideal S512x2048 .bf16 := m ((c : Thread nD τ).loc main_arg4)
abbrev WM : Vec Ideal S512x2048 .bf16 := m ((c : Thread nD τ).loc main_arg5)
abbrev Z : Vec Ideal S32768x9728 .f32 := m ((c : Thread nD τ).loc main_arg6)
abbrev B : Vec Ideal S6144 .f32 := m ((c : Thread nD τ).loc main_arg7)

/-- The row of the whole array that row `r` of point `t`'s block is. -/
def rt (t : Fin cfg0.N) (r : Fin 1024) : Fin 32768 := ⟨t.val / 4 * 1024 + r.val, by have := tlt t; omega⟩
/-- The column of the whole array that column `j` of point `t`'s block is. -/
def ct (t : Fin cfg0.N) (j : Fin 512) : Fin 2048 := ⟨t.val % 4 * 512 + j.val, by omega⟩
/-- Branch `b`'s gate for column `j`: its place in the input projection, and in the bias. -/
def zc (b : Fin 3) (j : Fin 2048) : Fin 9728 := ⟨3584 + b.val * 2048 + j.val, by omega⟩
def bc (b : Fin 3) (j : Fin 2048) : Fin 6144 := ⟨b.val * 2048 + j.val, by omega⟩

theorem blk_a (t : Fin cfg0.N) (r : Fin 1024) (d : Fin 1024) :
    (iblk m c 0 t : Vec Ideal S1024x1024 .bf16) (ix2 r d) = A m c (ix2 (rt t r) d) := by
  have e := idx0 t
  simp only [A, rt]
  blk_ext [iblk, V_main_arg0, e]

theorem blk_h (t : Fin cfg0.N) (r : Fin 1024) (d : Fin 512) :
    (iblk m c 1 t : Vec Ideal S1024x512 .bf16) (ix2 r d) = H m c (ix2 (rt t r) d) := by
  have e := idx1 t
  simp only [H, rt]
  blk_ext [iblk, V_main_arg1, e]

theorem blk_m (t : Fin cfg0.N) (r : Fin 1024) (d : Fin 512) :
    (iblk m c 2 t : Vec Ideal S1024x512 .bf16) (ix2 r d) = M m c (ix2 (rt t r) d) := by
  have e := idx2 t
  simp only [M, rt]
  blk_ext [iblk, V_main_arg2, e]

theorem blk_wa (t : Fin cfg0.N) (d : Fin 1024) (j : Fin 512) :
    (iblk m c 3 t : Vec Ideal S1024x512 .bf16) (ix2 d j) = WA m c (ix2 d (ct t j)) := by
  have e := idx3 t
  simp only [WA, ct]
  blk_ext [iblk, V_main_arg3, e]

theorem blk_wh (t : Fin cfg0.N) (d : Fin 512) (j : Fin 512) :
    (iblk m c 4 t : Vec Ideal S512x512 .bf16) (ix2 d j) = WH m c (ix2 d (ct t j)) := by
  have e := idx4 t
  simp only [WH, ct]
  blk_ext [iblk, V_main_arg4, e]

theorem blk_wm (t : Fin cfg0.N) (d : Fin 512) (j : Fin 512) :
    (iblk m c 5 t : Vec Ideal S512x512 .bf16) (ix2 d j) = WM m c (ix2 d (ct t j)) := by
  have e := idx5 t
  simp only [WM, ct]
  blk_ext [iblk, V_main_arg5, e]

theorem blk_z0 (t : Fin cfg0.N) (r : Fin 1024) (j : Fin 512) :
    (iblk m c 6 t : Vec Ideal S1024x512 .f32) (ix2 r j) = Z m c (ix2 (rt t r) (zc 0 (ct t j))) := by
  have e := idx6 t
  simp only [Z, rt, zc, ct]
  blk_ext [iblk, V_main_arg6, e]

theorem blk_z1 (t : Fin cfg0.N) (r : Fin 1024) (j : Fin 512) :
    (iblk m c 7 t : Vec Ideal S1024x512 .f32) (ix2 r j) = Z m c (ix2 (rt t r) (zc 1 (ct t j))) := by
  have e := idx7 t
  simp only [Z, rt, zc, ct]
  blk_ext [iblk, V_main_arg6, e]

theorem blk_z2 (t : Fin cfg0.N) (r : Fin 1024) (j : Fin 512) :
    (iblk m c 8 t : Vec Ideal S1024x512 .f32) (ix2 r j) = Z m c (ix2 (rt t r) (zc 2 (ct t j))) := by
  have e := idx8 t
  simp only [Z, rt, zc, ct]
  blk_ext [iblk, V_main_arg6, e]

/-- The bias as the kernel is given it, a row. -/
theorem bias (j : Fin 6144) : (V m c main_v0 : Vec Ideal S1x6144 .f32) (ix2 0 j) = B m c (ix1 j) := by
  have e : V m c main_v0 = shapeCast S1x6144 (m ((c : Thread nD τ).loc main_arg7)) shapeCasts_S6144_S1x6144 := by
    dsimp only [V, hostOps0]
    after_results
    rfl
  rw [e]
  exact (shapeCast_addUnit_apply ![6144] _ _ (ix2 0 j)).trans (congrArg _ (Fin.forall_fin_one.2 rfl |> funext))

theorem blk_b0 (t : Fin cfg0.N) (j : Fin 512) :
    (iblk m c 9 t : Vec Ideal S1x512 .f32) (ix2 0 j) = B m c (ix1 (bc 0 (ct t j))) := by
  have e := idx9 t
  rw [← bias, bc, ct]
  blk_ext [iblk, e]

theorem blk_b1 (t : Fin cfg0.N) (j : Fin 512) :
    (iblk m c 10 t : Vec Ideal S1x512 .f32) (ix2 0 j) = B m c (ix1 (bc 1 (ct t j))) := by
  have e := idx10 t
  rw [← bias, bc, ct]
  blk_ext [iblk, e]

theorem blk_b2 (t : Fin cfg0.N) (j : Fin 512) :
    (iblk m c 11 t : Vec Ideal S1x512 .f32) (ix2 0 j) = B m c (ix1 (bc 2 (ct t j))) := by
  have e := idx11 t
  rw [← bias, bc, ct]
  blk_ext [iblk, e]

/-- The merge at row `i`, column `j`. -/
def mergeAt (A : Vec Ideal S32768x1024 .bf16) (H M : Vec Ideal S32768x512 .bf16) (WA : Vec Ideal S1024x2048 .bf16)
    (WH WM : Vec Ideal S512x2048 .bf16) (Z : Vec Ideal S32768x9728 .f32) (B : Vec Ideal S6144 .f32) (i : Fin 32768)
    (j : Fin 2048) : EReal :=
  gate (Z (ix2 i (zc 0 j))) (B (ix1 (bc 0 j))) * (∑ d : Fin 1024, A (ix2 i d) * WA (ix2 d j)) +
  gate (Z (ix2 i (zc 1 j))) (B (ix1 (bc 1 j))) * (∑ d : Fin 512, H (ix2 i d) * WH (ix2 d j)) +
  gate (Z (ix2 i (zc 2 j))) (B (ix1 (bc 2 j))) * (∑ d : Fin 512, M (ix2 i d) * WM (ix2 d j))

/-- The merge over the whole array. -/
def merged (A : Vec Ideal S32768x1024 .bf16) (H M : Vec Ideal S32768x512 .bf16) (WA : Vec Ideal S1024x2048 .bf16)
    (WH WM : Vec Ideal S512x2048 .bf16) (Z : Vec Ideal S32768x9728 .f32) (B : Vec Ideal S6144 .f32) :
    Vec Ideal S32768x2048 .bf16 :=
  fun y => mergeAt A H M WA WH WM Z B (y 0) (y 1)

/-- Where element `(r, j)` of point `t`'s block lies in the array. -/
theorem emb_out (t : Fin cfg0.N) (r : Fin 1024) (j : Fin 512) :
    ((win0_12.blk t).view.emb (ix2 r j : S1024x512.Idx) : S32768x2048.Idx) = ix2 (rt t r) (ct t j) := by
  have e := idx12 t
  simp only [rt, ct]
  blk_ext [e]

/-- The array the kernel leaves is the merge of its arguments. -/
theorem array_eq :
    ((dats m 0 c).arrAt 12 cfg0.N : Vec Ideal S32768x2048 .bf16) =
      merged (A m c) (H m c) (M m c) (WA m c) (WH m c) (WM m c) (Z m c) (B m c) := by
  refine (dats m 0 c).arrAt_eq_of_covers 12 _ (by decide +kernel) fun t _ y => ?_
  blk_simp
  rw [after0_12]
  have hy : ∀ y : S1024x512.Idx, out0_12 (F := Ideal) (iblk m c 0 t) (iblk m c 1 t) (iblk m c 2 t) (iblk m c 3 t)
        (iblk m c 4 t) (iblk m c 5 t) (iblk m c 6 t) (iblk m c 7 t) (iblk m c 8 t) (iblk m c 9 t) (iblk m c 10 t)
        (iblk m c 11 t) y =
      merged (A m c) (H m c) (M m c) (WA m c) (WH m c) (WM m c) (Z m c) (B m c)
        ((win0_12.blk t).view.emb y : S32768x2048.Idx) := fun y => by
    obtain ⟨r, j, e⟩ : ∃ (r : Fin 1024) (j : Fin 512), y = (ix2 r j : S1024x512.Idx) := ⟨y 0, y 1, by idx_vars y⟩
    rw [e, out_block, emb_out]
    simp only [blk_a, blk_h, blk_m, blk_wa, blk_wh, blk_wm, blk_z0, blk_z1, blk_z2, blk_b0, blk_b1, blk_b2, merged,
      mergeAt, ix2_0, ix2_1]
  exact hy y

end Cert.Merge

end
-- ==== Proof.MergeReference.lean ====
/- The gated merge's reference, its composed term read at an index. -/
module

public import proofs.«01_k».proof.Proof.MergeValue
public import proofs.«01_k».proof.Proof.Gen.Reference4Ideal.Run
public import Idealize.ShloMosaic.Lib.Pointwise

@[expose] public section

set_option maxRecDepth 16384

noncomputable section

namespace Cert.Merge

open Cert.Reference4Ideal Cert.Reference4Ideal.Gen Idealize.ShloMosaic Idealize.ShloMosaic.TcCoe
  Idealize.SL.Sem Idealize.ShloMosaic.StableHlo

/-- The reference's gates, all three branches side by side. -/
def refG (Z : FVec Ideal S32768x9728 .f32) (B : FVec Ideal S6144 .f32) : FVec Ideal S32768x6144 .f32 :=
  Host.divf (broadcastInDim S32768x6144 ![] bcast_S_S32768x6144 (constant S_ .f32 0x3F800000#32))
    (addf (broadcastInDim S32768x6144 ![] bcast_S_S32768x6144 (constant S_ .f32 0x3F800000#32))
      (Host.exp (Host.negf (addf (extractStridedSlice S32768x6144 ![0, 3584] Z slices_S32768x9728_S32768x6144_0_3584)
        (broadcastInDim S32768x6144 ![0, 1] bcast_S1x6144_S32768x6144_0_1
          (broadcastInDim S1x6144 ![1] bcast_S6144_S1x6144_1 B))))))

/-- The reference's merge. -/
def refR (A : FVec Ideal S32768x1024 .bf16) (H M : FVec Ideal S32768x512 .bf16) (WA : FVec Ideal S1024x2048 .bf16)
    (WH WM : FVec Ideal S512x2048 .bf16) (G : FVec Ideal S32768x6144 .f32) : FVec Ideal S32768x2048 .bf16 :=
  truncf .bf16 (addf (addf
    (mulf (shapeCast _ (extractStridedSlice S32768x1x2048 ![0, 0, 0] (shapeCast _ G shapeCasts_S32768x6144_S32768x3x2048) slices_S32768x3x2048_S32768x1x2048_0_0_0) shapeCasts_S32768x1x2048_S32768x2048) (Host.dotGeneral dot_S32768x1024_S1024x2048_S32768x2048_1_0_0_1_n_n none (extf .f32 A bitsLt_bf16_f32) (extf .f32 WA bitsLt_bf16_f32)))
    (mulf (shapeCast _ (extractStridedSlice S32768x1x2048 ![0, 1, 0] (shapeCast _ G shapeCasts_S32768x6144_S32768x3x2048) slices_S32768x3x2048_S32768x1x2048_0_1_0) shapeCasts_S32768x1x2048_S32768x2048) (Host.dotGeneral dot_S32768x512_S512x2048_S32768x2048_1_0_0_1_n_n none (extf .f32 H bitsLt_bf16_f32) (extf .f32 WH bitsLt_bf16_f32))))
    (mulf (shapeCast _ (extractStridedSlice S32768x1x2048 ![0, 2, 0] (shapeCast _ G shapeCasts_S32768x6144_S32768x3x2048) slices_S32768x3x2048_S32768x1x2048_0_2_0) shapeCasts_S32768x1x2048_S32768x2048) (Host.dotGeneral dot_S32768x512_S512x2048_S32768x2048_1_0_0_1_n_n none (extf .f32 M bitsLt_bf16_f32) (extf .f32 WM bitsLt_bf16_f32)))) bitsLt_bf16_f32

/-- The reference's gates at an element. -/
theorem refG_col (Z : FVec Ideal S32768x9728 .f32) (B : FVec Ideal S6144 .f32) (i : Fin 32768) (k : Fin 6144) :
    refG Z B (ix2 i k) = Ideal.logistic (Z (ix2 i (⟨3584 + k.val, by omega⟩ : Fin 9728)) + B (ix1 k)) := by
  rw [Ideal.logistic]
  pointwise [refG]

/-- The reference's gates of branch `b`. -/
theorem refG_at (Z : FVec Ideal S32768x9728 .f32) (B : FVec Ideal S6144 .f32) (i : Fin 32768) (b : Fin 3) (j : Fin 2048) :
    refG Z B (ix2 i (bc b j)) = gate (Z (ix2 i (zc b j))) (B (ix1 (bc b j))) := by
  rw [refG_col, gate]
  congr 4
  exact Fin.ext (by simp only [zc, bc]; omega)

set_option maxRecDepth 131072 in
/-- The reference's merge at an element. -/
theorem refR_at (A : FVec Ideal S32768x1024 .bf16) (H M : FVec Ideal S32768x512 .bf16) (WA : FVec Ideal S1024x2048 .bf16)
    (WH WM : FVec Ideal S512x2048 .bf16) (G : FVec Ideal S32768x6144 .f32) (i : Fin 32768) (j : Fin 2048) :
    refR A H M WA WH WM G (ix2 i j) =
      G (ix2 i (bc 0 j)) * (∑ d : Fin 1024, A (ix2 i d) * WA (ix2 d j)) +
      G (ix2 i (bc 1 j)) * (∑ d : Fin 512, H (ix2 i d) * WH (ix2 d j)) +
      G (ix2 i (bc 2 j)) * (∑ d : Fin 512, M (ix2 i d) * WM (ix2 d j)) := by
  simp only [bc]
  pointwise [refR]

/-- The reference's merge is the kernel's. -/
theorem ref_eq (A : FVec Ideal S32768x1024 .bf16) (H M : FVec Ideal S32768x512 .bf16) (WA : FVec Ideal S1024x2048 .bf16)
    (WH WM : FVec Ideal S512x2048 .bf16) (Z : FVec Ideal S32768x9728 .f32) (B : FVec Ideal S6144 .f32) :
    refR A H M WA WH WM (refG Z B) = merged A H M WA WH WM Z B := by
  funext y
  obtain ⟨i, j, rfl⟩ : ∃ (i : Fin 32768) (j : Fin 2048), y = (ix2 i j : S32768x2048.Idx) := ⟨y 0, y 1, by idx_vars y⟩
  rw [refR_at, refG_at, refG_at, refG_at]
  rfl

end Cert.Merge

end
-- ==== Proof.RouterValue.lean ====
/- What the output projection and router leave: the residual row plus the merged row's product with the output weight, that
   row normed, and the router's logits of the normed row, its weight given as a sum of two halves. Point `t` holds rows
   `512·t … 512·t + 511`. -/
module

public import proofs.«01_k».proof.Proof.Gen.Kernel5Ideal.Value
public import proofs.«01_k».proof.Proof.NormedValue
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Router

open Cert.Kernel5Ideal Cert.Kernel5Ideal.Gen Idealize.ShloMosaic Idealize.ShloMosaic.TcCoe Idealize.SL.Sem
open Cert.Normed (rms)

section block

variable (x0 : Vec Ideal S512x2048 .bf16) (x1 : Vec Ideal S512x2048 .f32) (x2 : Vec Ideal S2048x2048 .bf16)
  (x3 : Vec Ideal S1x2048 .f32) (x4 x5 : Vec Ideal S2048x128 .bf16) (x6 : Vec Ideal S1x128 .f32)

/-- The projected row with its residual, at an element. -/
def bres (r : Fin 512) (d : Fin 2048) : EReal := x1 (ix2 r d) + ∑ e : Fin 2048, x0 (ix2 r e) * x2 (ix2 e d)

/-- The same row normed. -/
def bnorm (r : Fin 512) (d : Fin 2048) : EReal := rms (bres x0 x1 x2 r) (fun d => x3 (ix2 0 d)) d

theorem pay2_at (r : Fin 512) (d : Fin 2048) : k0_pay2 (F := Ideal) x1 x0 x2 (ix2 r d) = bres x0 x1 x2 r d := by
  pointwise [k0_pay2, bres]

theorem pay3_at (r : Fin 512) (d : Fin 2048) :
    k0_pay3 (F := Ideal) x1 x0 x2 x3 (ix2 r d) = bnorm x0 x1 x2 x3 r d := by
  pointwise [k0_pay3, bnorm, rms]
  simp only [pay2_at]

theorem pay4_at (r : Fin 512) (d : Fin 2048) :
    k0_pay4 (F := Ideal) x1 x0 x2 x3 (ix2 r d) = bnorm x0 x1 x2 x3 r d := by
  rw [← pay3_at]
  pointwise [k0_pay4]

/-- The three blocks a point stores, at an element. -/
theorem out7_at (r : Fin 512) (d : Fin 2048) :
    out0_7 (F := Ideal) x0 x1 x2 x3 x4 x5 x6 (ix2 r d) = bres x0 x1 x2 r d := by
  frame_out
  exact pay2_at x0 x1 x2 r d

theorem out8_at (r : Fin 512) (d : Fin 2048) :
    out0_8 (F := Ideal) x0 x1 x2 x3 x4 x5 x6 (ix2 r d) = bnorm x0 x1 x2 x3 r d := by
  frame_out
  exact pay4_at x0 x1 x2 x3 r d

theorem out9_at (r : Fin 512) (j : Fin 128) :
    out0_9 (F := Ideal) x0 x1 x2 x3 x4 x5 x6 (ix2 r j) =
      (∑ d : Fin 2048, bnorm x0 x1 x2 x3 r d * x4 (ix2 d j)) +
        (∑ d : Fin 2048, (bnorm x0 x1 x2 x3 r d - bnorm x0 x1 x2 x3 r d) * x4 (ix2 d j)) +
        (∑ d : Fin 2048, bnorm x0 x1 x2 x3 r d * x5 (ix2 d j)) + x6 (ix2 0 j) := by
  frame_out
  pointwise [k0_pay1, k0_pay5, k0_pay6]
  simp only [pay3_at, pay4_at]

end block

/-- The block index of each window at point `t`. -/
theorem idx0 : ∀ t : Fin cfg0.N, (cfg0.win 0).index t = ![t.val, 0] := by decide +kernel
theorem idx1 : ∀ t : Fin cfg0.N, (cfg0.win 1).index t = ![t.val, 0] := by decide +kernel
theorem idx2 : ∀ t : Fin cfg0.N, (cfg0.win 2).index t = ![0, 0] := by decide +kernel
theorem idx3 : ∀ t : Fin cfg0.N, (cfg0.win 3).index t = ![0, 0] := by decide +kernel
theorem idx4 : ∀ t : Fin cfg0.N, (cfg0.win 4).index t = ![0, 0] := by decide +kernel
theorem idx5 : ∀ t : Fin cfg0.N, (cfg0.win 5).index t = ![0, 0] := by decide +kernel
theorem idx6 : ∀ t : Fin cfg0.N, (cfg0.win 6).index t = ![0, 0] := by decide +kernel
theorem idx7 : ∀ t : Fin cfg0.N, (cfg0.win 7).index t = ![t.val, 0] := by decide +kernel
theorem idx8 : ∀ t : Fin cfg0.N, (cfg0.win 8).index t = ![t.val, 0] := by decide +kernel
theorem idx9 : ∀ t : Fin cfg0.N, (cfg0.win 9).index t = ![t.val, 0] := by decide +kernel

theorem tlt (t : Fin cfg0.N) : t.val < 64 := t.isLt.trans_eq (show cfg0.N = 64 from N_0)

variable (m : (ℓ : Loc nD τ sig) → Buf (Elt Ideal) ℓ) (c : Dev nD)

/-- The merged rows, the residual rows, the output weight, the gain, the router weight's two halves and its bias. -/
abbrev M : Vec Ideal S32768x2048 .bf16 := m ((c : Thread nD τ).loc main_arg0)
abbrev X : Vec Ideal S32768x2048 .f32 := m ((c : Thread nD τ).loc main_arg1)
abbrev W : Vec Ideal S2048x2048 .bf16 := m ((c : Thread nD τ).loc main_arg2)
abbrev G : Vec Ideal S2048 .f32 := m ((c : Thread nD τ).loc main_arg3)
abbrev RH : Vec Ideal S2048x128 .bf16 := m ((c : Thread nD τ).loc main_arg4)
abbrev RL : Vec Ideal S2048x128 .bf16 := m ((c : Thread nD τ).loc main_arg5)
abbrev B : Vec Ideal S1x128 .f32 := m ((c : Thread nD τ).loc main_arg6)

/-- The row of the whole array that row `r` of point `t`'s block is. -/
def rt (t : Fin cfg0.N) (r : Fin 512) : Fin 32768 := ⟨t.val * 512 + r.val, by have := tlt t; omega⟩

theorem blk_m (t : Fin cfg0.N) (r : Fin 512) (d : Fin 2048) :
    (iblk m c 0 t : Vec Ideal S512x2048 .bf16) (ix2 r d) = M m c (ix2 (rt t r) d) := by
  have e := idx0 t
  simp only [M, rt]
  blk_ext [iblk, V_main_arg0, e]

theorem blk_x (t : Fin cfg0.N) (r : Fin 512) (d : Fin 2048) :
    (iblk m c 1 t : Vec Ideal S512x2048 .f32) (ix2 r d) = X m c (ix2 (rt t r) d) := by
  have e := idx1 t
  simp only [X, rt]
  blk_ext [iblk, V_main_arg1, e]

theorem blk_w (t : Fin cfg0.N) (d : Fin 2048) (j : Fin 2048) :
    (iblk m c 2 t : Vec Ideal S2048x2048 .bf16) (ix2 d j) = W m c (ix2 d j) := by
  have e := idx2 t
  simp only [W]
  blk_ext [iblk, V_main_arg2, e]

theorem blk_g (t : Fin cfg0.N) (d : Fin 2048) :
    (iblk m c 3 t : Vec Ideal S1x2048 .f32) (ix2 0 d) = G m c (ix1 d) := by
  have e := idx3 t
  have e2 : (iblk m c 3 t : Vec Ideal S1x2048 .f32) (ix2 0 d) = V m c main_v0 (ix2 0 d) := by
    blk_ext [iblk, e]
  have e3 : V m c main_v0 = shapeCast S1x2048 (m ((c : Thread nD τ).loc main_arg3)) shapeCasts_S2048_S1x2048 := by
    dsimp only [V, hostOps0]
    after_results
    rfl
  rw [e2, e3]
  exact (shapeCast_addUnit_apply ![2048] _ _ (ix2 0 d)).trans (congrArg _ (Fin.forall_fin_one.2 rfl |> funext))

theorem blk_rh (t : Fin cfg0.N) (d : Fin 2048) (j : Fin 128) :
    (iblk m c 4 t : Vec Ideal S2048x128 .bf16) (ix2 d j) = RH m c (ix2 d j) := by
  have e := idx4 t
  simp only [RH]
  blk_ext [iblk, V_main_arg4, e]

theorem blk_rl (t : Fin cfg0.N) (d : Fin 2048) (j : Fin 128) :
    (iblk m c 5 t : Vec Ideal S2048x128 .bf16) (ix2 d j) = RL m c (ix2 d j) := by
  have e := idx5 t
  simp only [RL]
  blk_ext [iblk, V_main_arg5, e]

theorem blk_b (t : Fin cfg0.N) (j : Fin 128) :
    (iblk m c 6 t : Vec Ideal S1x128 .f32) (ix2 0 j) = B m c (ix2 0 j) := by
  have e := idx6 t
  simp only [B]
  blk_ext [iblk, V_main_arg6, e]

/-- The residual row plus the projected row, at row `i` and column `d`. -/
def res (M : Vec Ideal S32768x2048 .bf16) (X : Vec Ideal S32768x2048 .f32) (W : Vec Ideal S2048x2048 .bf16)
    (i : Fin 32768) (d : Fin 2048) : EReal :=
  X (ix2 i d) + ∑ e : Fin 2048, M (ix2 i e) * W (ix2 e d)

/-- That row normed. -/
def nrm (M : Vec Ideal S32768x2048 .bf16) (X : Vec Ideal S32768x2048 .f32) (W : Vec Ideal S2048x2048 .bf16)
    (G : Vec Ideal S2048 .f32) (i : Fin 32768) (d : Fin 2048) : EReal :=
  rms (res M X W i) (fun d => G (ix1 d)) d

/-- The three results over their whole arrays. -/
def resAll (M : Vec Ideal S32768x2048 .bf16) (X : Vec Ideal S32768x2048 .f32) (W : Vec Ideal S2048x2048 .bf16) :
    Vec Ideal S32768x2048 .f32 := fun y => res M X W (y 0) (y 1)
def nrmAll (M : Vec Ideal S32768x2048 .bf16) (X : Vec Ideal S32768x2048 .f32) (W : Vec Ideal S2048x2048 .bf16)
    (G : Vec Ideal S2048 .f32) : Vec Ideal S32768x2048 .bf16 := fun y => nrm M X W G (y 0) (y 1)
def logits (M : Vec Ideal S32768x2048 .bf16) (X : Vec Ideal S32768x2048 .f32) (W : Vec Ideal S2048x2048 .bf16)
    (G : Vec Ideal S2048 .f32) (RH RL : Vec Ideal S2048x128 .bf16) (B : Vec Ideal S1x128 .f32) :
    Vec Ideal S32768x128 .f32 :=
  fun y => (∑ d : Fin 2048, nrm M X W G (y 0) d * (RH (ix2 d (y 1)) + RL (ix2 d (y 1)))) + B (ix2 0 (y 1))

theorem bres_eq (t : Fin cfg0.N) (r : Fin 512) :
    bres (iblk m c 0 t) (iblk m c 1 t) (iblk m c 2 t) r = res (M m c) (X m c) (W m c) (rt t r) := by
  funext d
  simp only [bres, res, blk_m, blk_x, blk_w]

theorem bnorm_eq (t : Fin cfg0.N) (r : Fin 512) :
    bnorm (iblk m c 0 t) (iblk m c 1 t) (iblk m c 2 t) (iblk m c 3 t) r =
      nrm (M m c) (X m c) (W m c) (G m c) (rt t r) := by
  funext d
  simp only [bnorm, nrm, bres_eq, blk_g]

theorem emb7 (t : Fin cfg0.N) (r : Fin 512) (d : Fin 2048) :
    ((win0_7.blk t).view.emb (ix2 r d : S512x2048.Idx) : S32768x2048.Idx) = ix2 (rt t r) d := by
  have e := idx7 t
  simp only [rt]
  blk_ext [e]

theorem emb8 (t : Fin cfg0.N) (r : Fin 512) (d : Fin 2048) :
    ((win0_8.blk t).view.emb (ix2 r d : S512x2048.Idx) : S32768x2048.Idx) = ix2 (rt t r) d := by
  have e := idx8 t
  simp only [rt]
  blk_ext [e]

theorem emb9 (t : Fin cfg0.N) (r : Fin 512) (j : Fin 128) :
    ((win0_9.blk t).view.emb (ix2 r j : S512x128.Idx) : S32768x128.Idx) = ix2 (rt t r) j := by
  have e := idx9 t
  simp only [rt]
  blk_ext [e]

/-- The residual array the kernel leaves. -/
theorem array7_eq :
    ((dats m 0 c).arrAt 7 cfg0.N : Vec Ideal S32768x2048 .f32) = resAll (M m c) (X m c) (W m c) := by
  refine (dats m 0 c).arrAt_eq_of_covers 7 _ (by decide +kernel) fun t _ y => ?_
  blk_simp
  rw [after0_7]
  have hy : ∀ y : S512x2048.Idx, out0_7 (F := Ideal) (iblk m c 0 t) (iblk m c 1 t) (iblk m c 2 t) (iblk m c 3 t)
        (iblk m c 4 t) (iblk m c 5 t) (iblk m c 6 t) y =
      resAll (M m c) (X m c) (W m c) ((win0_7.blk t).view.emb y : S32768x2048.Idx) := fun y => by
    obtain ⟨r, d, e⟩ : ∃ (r : Fin 512) (d : Fin 2048), y = (ix2 r d : S512x2048.Idx) := ⟨y 0, y 1, by idx_vars y⟩
    rw [e, out7_at, emb7, bres_eq]
    rfl
  exact hy y

/-- The array of normed rows the kernel leaves. -/
theorem array8_eq :
    ((dats m 0 c).arrAt 8 cfg0.N : Vec Ideal S32768x2048 .bf16) = nrmAll (M m c) (X m c) (W m c) (G m c) := by
  refine (dats m 0 c).arrAt_eq_of_covers 8 _ (by decide +kernel) fun t _ y => ?_
  blk_simp
  rw [after0_8]
  have hy : ∀ y : S512x2048.Idx, out0_8 (F := Ideal) (iblk m c 0 t) (iblk m c 1 t) (iblk m c 2 t) (iblk m c 3 t)
        (iblk m c 4 t) (iblk m c 5 t) (iblk m c 6 t) y =
      nrmAll (M m c) (X m c) (W m c) (G m c) ((win0_8.blk t).view.emb y : S32768x2048.Idx) := fun y => by
    obtain ⟨r, d, e⟩ : ∃ (r : Fin 512) (d : Fin 2048), y = (ix2 r d : S512x2048.Idx) := ⟨y 0, y 1, by idx_vars y⟩
    rw [e, out8_at, emb8, bnorm_eq]
    rfl
  exact hy y

/-- Where a row and a column pair are real numbers, the sum over the two halves of the weight, and over the remainder that
    is zero, is the sum over the weight. -/
theorem split_sum (h a b : Fin 2048 → EReal) (hh : ∀ d, ∃ r : ℝ, h d = r) (ha : ∀ d, ∃ r : ℝ, a d = r)
    (hb : ∀ d, ∃ r : ℝ, b d = r) :
    (∑ d, h d * a d) + (∑ d, (h d - h d) * a d) + (∑ d, h d * b d) = ∑ d, h d * (a d + b d) := by
  choose h' hh using hh
  choose a' ha using ha
  choose b' hb using hb
  have e0 : (∑ d, (h d - h d) * a d) = 0 := Finset.sum_eq_zero fun d _ => by
    rw [hh, ← EReal.coe_sub, sub_self, EReal.coe_zero, zero_mul]
  rw [e0, add_zero, ← Finset.sum_add_distrib]
  refine Finset.sum_congr rfl fun d _ => ?_
  rw [hh, ha, hb]
  norm_cast
  ring

/-- A sum of real numbers is a real number. -/
theorem real_sum {n : ℕ} (f : Fin n → EReal) (hf : ∀ d, ∃ r : ℝ, f d = r) : ∃ r : ℝ, ∑ d, f d = r := by
  choose f' hf using hf
  exact ⟨∑ d, f' d, by simp only [hf]; exact (map_sum (⟨⟨Real.toEReal, EReal.coe_zero⟩, EReal.coe_add⟩ : ℝ →+ EReal) f' Finset.univ).symm⟩

/-- A real row normed with a real gain is a real row. -/
theorem rms_real (x g : Fin 2048 → EReal) (hx : ∀ d, ∃ r : ℝ, x d = r) (hg : ∀ d, ∃ r : ℝ, g d = r) (d : Fin 2048) :
    ∃ r : ℝ, rms x g d = r := by
  choose x' hx using hx
  choose g' hg using hg
  obtain ⟨s, hs, hs0⟩ : ∃ s : ℝ, ∑ e, x e * x e = s ∧ 0 ≤ s := by
    refine ⟨∑ e, x' e * x' e, ?_, Finset.sum_nonneg fun e _ => mul_self_nonneg _⟩
    simp only [hx, ← EReal.coe_mul]
    exact (map_sum (⟨⟨Real.toEReal, EReal.coe_zero⟩, EReal.coe_add⟩ : ℝ →+ EReal) (fun e => x' e * x' e) Finset.univ).symm
  obtain ⟨n, hn, hn0⟩ : ∃ n : ℝ, Ideal.ofBits .f32 1157627904#32 = n ∧ 0 < n := by
    simp only [Ideal.ofBits, Ideal.ieee]; norm_num [-EReal.coe_mul]
    exact ⟨_, rfl, by rw [if_neg (by decide)]; positivity⟩
  obtain ⟨ε, hε, hε0⟩ : ∃ ε : ℝ, Ideal.ofBits .f32 897988541#32 = ε ∧ 0 < ε := by
    simp only [Ideal.ofBits, Ideal.ieee]; norm_num [-EReal.coe_mul]
    exact ⟨_, rfl, by rw [if_neg (by decide)]; positivity⟩
  have hp : 0 < s * n⁻¹ + ε := by positivity
  have e1 : Ideal.div (s : EReal) (n : EReal) = ((s * n⁻¹ : ℝ) : EReal) := by
    rw [Ideal.div, if_neg (by exact_mod_cast hn0.ne'), ← EReal.coe_inv, ← EReal.coe_mul]
  have e2 : Ideal.rsqrt ((s * n⁻¹ + ε : ℝ) : EReal) = ((Real.sqrt (s * n⁻¹ + ε))⁻¹ : ℝ) := by
    show (if s * n⁻¹ + ε < 0 then (⊥ : EReal) else if s * n⁻¹ + ε = 0 then ⊤ else ((Real.sqrt (s * n⁻¹ + ε))⁻¹ : ℝ)) = _
    rw [if_neg (not_lt.2 hp.le), if_neg hp.ne']
  rw [rms, hs, hn, hε, e1, ← EReal.coe_add, e2, hx, hg, ← EReal.coe_mul, ← EReal.coe_mul]
  exact ⟨_, rfl⟩

/-- Every element of the arguments that the logits are computed from is a real number. -/
structure Finite (M : Vec Ideal S32768x2048 .bf16) (X : Vec Ideal S32768x2048 .f32) (W : Vec Ideal S2048x2048 .bf16)
    (G : Vec Ideal S2048 .f32) (RH RL : Vec Ideal S2048x128 .bf16) : Prop where
  m : ∀ i, ∃ r : ℝ, M i = r
  x : ∀ i, ∃ r : ℝ, X i = r
  w : ∀ i, ∃ r : ℝ, W i = r
  g : ∀ i, ∃ r : ℝ, G i = r
  h : ∀ i, ∃ r : ℝ, RH i = r
  l : ∀ i, ∃ r : ℝ, RL i = r

/-- The normed row of real arguments is real. -/
theorem nrm_real {M : Vec Ideal S32768x2048 .bf16} {X : Vec Ideal S32768x2048 .f32} {W : Vec Ideal S2048x2048 .bf16}
    {G : Vec Ideal S2048 .f32} {RH RL : Vec Ideal S2048x128 .bf16} (hf : Finite M X W G RH RL) (i : Fin 32768)
    (d : Fin 2048) : ∃ r : ℝ, nrm M X W G i d = r := by
  refine rms_real _ _ (fun d => ?_) (fun d => hf.g _) d
  obtain ⟨x, hx⟩ := hf.x (ix2 i d)
  obtain ⟨s, hs⟩ := real_sum (fun e : Fin 2048 => M (ix2 i e) * W (ix2 e d)) fun e => by
    obtain ⟨a, ha⟩ := hf.m (ix2 i e)
    obtain ⟨b, hb⟩ := hf.w (ix2 e d)
    exact ⟨a * b, by rw [ha, hb, EReal.coe_mul]⟩
  exact ⟨x + s, by rw [res, hx, hs, EReal.coe_add]⟩

/-- The array of logits the kernel leaves. -/
theorem array9_eq (hf : Finite (M m c) (X m c) (W m c) (G m c) (RH m c) (RL m c)) :
    ((dats m 0 c).arrAt 9 cfg0.N : Vec Ideal S32768x128 .f32) =
      logits (M m c) (X m c) (W m c) (G m c) (RH m c) (RL m c) (B m c) := by
  refine (dats m 0 c).arrAt_eq_of_covers 9 _ (by decide +kernel) fun t _ y => ?_
  blk_simp
  rw [after0_9]
  have hy : ∀ y : S512x128.Idx, out0_9 (F := Ideal) (iblk m c 0 t) (iblk m c 1 t) (iblk m c 2 t) (iblk m c 3 t)
        (iblk m c 4 t) (iblk m c 5 t) (iblk m c 6 t) y =
      logits (M m c) (X m c) (W m c) (G m c) (RH m c) (RL m c) (B m c)
        ((win0_9.blk t).view.emb y : S32768x128.Idx) := fun y => by
    obtain ⟨r, j, e⟩ : ∃ (r : Fin 512) (j : Fin 128), y = (ix2 r j : S512x128.Idx) := ⟨y 0, y 1, by idx_vars y⟩
    rw [e, out9_at, emb9]
    simp only [bnorm_eq, blk_rh, blk_rl, blk_b, logits, ix2_0, ix2_1]
    rw [split_sum (nrm (M m c) (X m c) (W m c) (G m c) (rt t r)) (fun d => RH m c (ix2 d j)) (fun d => RL m c (ix2 d j))
      (nrm_real hf _) (fun d => hf.h _) (fun d => hf.l _)]
  exact hy y

end Cert.Router

end
-- ==== Proof.RouterReference.lean ====
/- The output projection and router's reference, its composed terms read at an index; and what the precondition says. -/
module

public import proofs.«01_k».proof.Proof.RouterValue
public import proofs.«01_k».proof.Proof.Precondition
public import proofs.«01_k».proof.Proof.Gen.Reference5Ideal.Run
public import Idealize.ShloMosaic.Lib.Pointwise

@[expose] public section

set_option maxRecDepth 16384

noncomputable section

namespace Cert.Router

open Cert.Reference5Ideal Cert.Reference5Ideal.Gen Idealize.ShloMosaic Idealize.ShloMosaic.TcCoe
  Idealize.SL.Sem Idealize.ShloMosaic.StableHlo
open Cert.Normed (rms)

section terms

variable (M : FVec Ideal S32768x2048 .bf16) (X : FVec Ideal S32768x2048 .f32) (W : FVec Ideal S2048x2048 .bf16)
  (G : FVec Ideal S2048 .f32) (RH RL : FVec Ideal S2048x128 .bf16) (B : FVec Ideal S1x128 .f32)

/-- The reference's projected rows with their residual. -/
def refRes : FVec Ideal S32768x2048 .f32 :=
  addf X (Host.dotGeneral dot_S32768x2048_S2048x2048_S32768x2048_1_0_0_1_n_n none (extf .f32 M bitsLt_bf16_f32)
    (extf .f32 W bitsLt_bf16_f32))

/-- The reference's normed rows, of the rows it norms. -/
def refNrm (x : FVec Ideal S32768x2048 .f32) : FVec Ideal S32768x2048 .f32 :=
  mulf (mulf x (broadcastInDim S32768x2048 ![0, 1] bcast_S32768x1_S32768x2048_0_1 (Host.rsqrt (addf (Host.divf
    (broadcastInDim S32768x1 ![0] bcast_S32768_S32768x1_0 (Host.reduceAdd (mulf x x) (constant S_ .f32 0x00000000#32)
      reducesTo_S32768x2048_S32768_d1 h_S_))
    (broadcastInDim S32768x1 ![] bcast_S_S32768x1 (constant S_ .f32 0x45000000#32)))
    (broadcastInDim S32768x1 ![] bcast_S_S32768x1 (constant S_ .f32 0x358637BD#32))))))
    (broadcastInDim S32768x2048 ![0, 1] bcast_S1x2048_S32768x2048_0_1 (broadcastInDim S1x2048 ![1] bcast_S2048_S1x2048_1 G))

/-- The reference's logits, of the normed rows. -/
def refLogits (h : FVec Ideal S32768x2048 .f32) : FVec Ideal S32768x128 .f32 :=
  addf (Host.dotGeneral dot_S32768x2048_S2048x128_S32768x128_1_0_0_1_n_n none h
    (addf (extf .f32 RH bitsLt_bf16_f32) (extf .f32 RL bitsLt_bf16_f32)))
    (broadcastInDim S32768x128 ![0, 1] bcast_S1x128_S32768x128_0_1 B)

theorem refRes_at (i : Fin 32768) (d : Fin 2048) : refRes M X W (ix2 i d) = res M X W i d := by
  pointwise [refRes, res]

theorem refNrm_at (x : FVec Ideal S32768x2048 .f32) (i : Fin 32768) (d : Fin 2048) :
    refNrm G x (ix2 i d) = rms (fun d => x (ix2 i d)) (fun d => G (ix1 d)) d := by
  pointwise [refNrm, rms]

theorem refLogits_at (h : FVec Ideal S32768x2048 .f32) (i : Fin 32768) (j : Fin 128) :
    refLogits RH RL B h (ix2 i j) =
      (∑ d : Fin 2048, h (ix2 i d) * (RH (ix2 d j) + RL (ix2 d j))) + B (ix2 0 j) := by
  pointwise [refLogits]

/-- The reference's three results are the kernel's. -/
theorem ref7_eq : refRes M X W = resAll M X W := by
  funext y
  obtain ⟨i, d, rfl⟩ : ∃ (i : Fin 32768) (d : Fin 2048), y = (ix2 i d : S32768x2048.Idx) := ⟨y 0, y 1, by idx_vars y⟩
  exact refRes_at M X W i d

theorem refNrm_res_at (i : Fin 32768) (d : Fin 2048) : refNrm G (refRes M X W) (ix2 i d) = nrm M X W G i d := by
  rw [refNrm_at]
  simp only [refRes_at]
  rfl

theorem ref8_eq : truncf .bf16 (refNrm G (refRes M X W)) bitsLt_bf16_f32 = nrmAll M X W G := by
  funext y
  obtain ⟨i, d, rfl⟩ : ∃ (i : Fin 32768) (d : Fin 2048), y = (ix2 i d : S32768x2048.Idx) := ⟨y 0, y 1, by idx_vars y⟩
  exact refNrm_res_at M X W G i d

theorem ref9_eq : refLogits RH RL B (refNrm G (refRes M X W)) = logits M X W G RH RL B := by
  funext y
  obtain ⟨i, j, rfl⟩ : ∃ (i : Fin 32768) (j : Fin 128), y = (ix2 i j : S32768x128.Idx) := ⟨y 0, y 1, by idx_vars y⟩
  rw [refLogits_at]
  simp only [refNrm_res_at]
  rfl

end terms

/-- An index of two coordinates from their values. -/
theorem eq_ix2 {n k : ℕ} (i : Shape.Idx ⟨2, ![n, k]⟩) (a : Fin n) (b : Fin k) (h0 : (i 0).val = a.val)
    (h1 : (i 1).val = b.val) : i = ix2 a b :=
  funext (Fin.forall_fin_two.2 ⟨Fin.ext h0, Fin.ext h1⟩)

/-- The side conditions of the precondition's operations. -/
theorem preFacts : Cert.Pre_finite_router.Facts := ⟨by decide, by decide, by decide, by decide, by decide⟩

/-- The precondition gives that every array the logits are computed from is real. -/
theorem finite_of_pre [Cert.Pre_finite_router.Facts] {M : FVec Ideal S32768x2048 .bf16} {X : FVec Ideal S32768x2048 .f32}
    {W : FVec Ideal S2048x2048 .bf16} {G : FVec Ideal S2048 .f32} {RH RL : FVec Ideal S2048x128 .bf16}
    {B : FVec Ideal S1x128 .f32}
    (h : Cert.Pre_finite_router.fn (F := Ideal) M X W G RH RL B = fun _ => 1#1) : Finite M X W G RH RL := by
  constructor
  · intro i
    have h0 : (i 0).val < 32768 := (i 0).isLt
    have e := congrFun h (ix2 (⟨(i 0).val, by omega⟩ : Fin 67841) (i 1))
    revert e
    pointwise [Cert.Pre_finite_router.fn]
    exact Cert.Attention.real_of_word
  · intro i
    have h0 : (i 0).val < 32768 := (i 0).isLt
    have e := congrFun h (ix2 (⟨32768 + (i 0).val, by omega⟩ : Fin 67841) (i 1))
    revert e
    pointwise [Cert.Pre_finite_router.fn]
    exact Cert.Attention.real_of_word
  · intro i
    have h0 : (i 0).val < 2048 := (i 0).isLt
    have e := congrFun h (ix2 (⟨65536 + (i 0).val, by omega⟩ : Fin 67841) (i 1))
    revert e
    pointwise [Cert.Pre_finite_router.fn]
    rw [dif_neg (by omega), dif_neg (by omega), dif_pos (by omega)]
    intro e
    obtain ⟨r, hr⟩ := Cert.Attention.real_of_word e
    refine ⟨r, Eq.trans ?_ hr⟩
    exact congrArg W (eq_ix2 i _ _ (by dsimp only; omega) rfl)
  · intro i
    have e := congrFun h (ix2 (⟨67584, by omega⟩ : Fin 67841) (i 0))
    revert e
    pointwise [Cert.Pre_finite_router.fn]
    exact Cert.Attention.real_of_word
  · intro i
    have h1 : (i 1).val < 128 := (i 1).isLt
    have e := congrFun h (ix2 (⟨67585 + (i 1).val, by omega⟩ : Fin 67841) (i 0))
    revert e
    pointwise [Cert.Pre_finite_router.fn]
    rw [dif_neg (by omega), dif_neg (by omega), dif_neg (by omega), dif_neg (by omega), dif_pos (by omega)]
    intro e
    obtain ⟨r, hr⟩ := Cert.Attention.real_of_word e
    refine ⟨r, Eq.trans ?_ hr⟩
    exact congrArg RH (eq_ix2 i _ _ rfl (by dsimp only; omega))
  · intro i
    have h1 : (i 1).val < 128 := (i 1).isLt
    have e := congrFun h (ix2 (⟨67713 + (i 1).val, by omega⟩ : Fin 67841) (i 0))
    revert e
    pointwise [Cert.Pre_finite_router.fn]
    rw [dif_neg (by omega), dif_neg (by omega), dif_neg (by omega), dif_neg (by omega), dif_neg (by omega)]
    intro e
    obtain ⟨r, hr⟩ := Cert.Attention.real_of_word e
    refine ⟨r, Eq.trans ?_ hr⟩
    exact congrArg RL (eq_ix2 i _ _ rfl (by dsimp only; omega))

end Cert.Router

end
-- ==== Proof.MemoryValue.lean ====
/- The array the memory attention leaves: every query row, normed and scaled, weighs the memory's normed key rows by their
   softmax, and the value rows are summed by those weights. Point `t` is batch `t / 32`, row block `t % 32`; the four heads
   of a point run the same arithmetic on their own 128 lanes. -/
module

public import proofs.«01_k».proof.Proof.Gen.Kernel6Ideal.Value
public import proofs.«01_k».proof.Proof.OnlineSoftmax
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Memory

open Cert.Kernel6Ideal Cert.Kernel6Ideal.Gen Idealize.ShloMosaic Idealize.ShloMosaic.TcCoe Idealize.SL.Sem
open Cert.OnlineSoftmax

/-- A head's row divided by its root mean square and scaled by the gain, at lane `d`. -/
def nr (x g : Fin 128 → EReal) (d : Fin 128) : EReal :=
  x d * Ideal.rsqrt (Ideal.div (∑ e, x e * x e) (Ideal.ofBits .f32 1124073472#32) + Ideal.ofBits .f32 897988541#32) * g d

/-- The literal that scales the queries. -/
abbrev scl : EReal := Ideal.ofBits .f32 1035273459#32

/-- The kernel's score of a query row against a key row: the normed query is scaled before the product. -/
def ksc (gq gk q k : Fin 128 → EReal) : EReal := ∑ e, nr q gq e * scl * nr k gk e

/-- The same score with the product scaled. -/
def rsc (gq gk q k : Fin 128 → EReal) : EReal := (∑ e, nr q gq e * nr k gk e) * scl

/-- A weighted sum over the sum of the weights, each weight the exponential of a score less the largest. -/
def quot (s v : Fin 256 → EReal) : EReal :=
  Ideal.div (∑ j, Ideal.exp (s j - Finset.fold max (⊥ : EReal) s Finset.univ) * v j)
    (∑ j, Ideal.exp (s j - Finset.fold max (⊥ : EReal) s Finset.univ))

/-- The sum of the values by their softmax weights. -/
def soft (s v : Fin 256 → EReal) : EReal :=
  ∑ j, Ideal.div (Ideal.exp (s j - max (⊥ : EReal) (Finset.fold max (⊥ : EReal) s Finset.univ)))
    (∑ j', Ideal.exp (s j' - max (⊥ : EReal) (Finset.fold max (⊥ : EReal) s Finset.univ))) * v j

/-! ### The arithmetic -/

/-- Where the scores are real numbers the quotient is the softmax-weighted sum, whatever the values. -/
theorem quot_eq (s v : Fin 256 → EReal) (hs : ∀ j, ∃ r : ℝ, s j = r) : quot s v = soft s v := by
  choose s' hs' using hs
  obtain rfl : s = fun j => ((s' j : ℝ) : EReal) := funext hs'
  obtain ⟨M, hM⟩ := fold_max_coe (by decide : 0 < 256) s'
  have hpos : 0 < ∑ j, Real.exp (s' j - M) := Finset.sum_pos (fun _ _ => Real.exp_pos _) ⟨0, Finset.mem_univ _⟩
  rw [quot, soft, hM, max_eq_right bot_le]
  simp only [exp_sub_coe]
  rw [← coe_sum, div_coe_right _ _ hpos.ne', coe_mul_sum _ (inv_pos.mpr hpos).le]
  refine Finset.sum_congr rfl fun j _ => ?_
  rw [div_coe _ _ hpos.ne', ← mul_assoc, ← EReal.coe_mul, div_eq_mul_inv, mul_comm (Real.exp _)]

/-- The scaling literal is a real number at least zero. -/
theorem scl_real : ∃ c : ℝ, scl = c ∧ 0 ≤ c := by
  simp only [scl, Ideal.ofBits, Ideal.ieee]; norm_num [-EReal.coe_mul]
  exact ⟨_, rfl, by rw [if_neg (by decide)]; positivity⟩

/-- It may scale the query or the product. -/
theorem ksc_eq (gq gk q k : Fin 128 → EReal) : ksc gq gk q k = rsc gq gk q k := by
  obtain ⟨c, hc, hc0⟩ := scl_real
  rw [ksc, rsc, hc, mul_comm, coe_mul_sum c hc0]
  exact Finset.sum_congr rfl fun e _ => by rw [mul_comm _ (c : EReal), mul_assoc]

/-- A square is at least zero. -/
theorem sq_nonneg' (x : EReal) : 0 ≤ x * x := by
  induction x with
  | bot => simp
  | top => simp
  | coe r => exact_mod_cast mul_self_nonneg r

/-- A row normed with a real gain is a real row, whatever the row: an infinite element makes the root infinite and every
    quotient zero. -/
theorem nr_real (x g : Fin 128 → EReal) (hg : ∀ d, ∃ r : ℝ, g d = r) (d : Fin 128) : ∃ r : ℝ, nr x g d = r := by
  obtain ⟨n, hn, hn0⟩ : ∃ n : ℝ, Ideal.ofBits .f32 1124073472#32 = n ∧ 0 < n := by
    simp only [Ideal.ofBits, Ideal.ieee]; norm_num [-EReal.coe_mul]
    exact ⟨_, rfl, by rw [if_neg (by decide)]; positivity⟩
  obtain ⟨ε, hε, hε0⟩ : ∃ ε : ℝ, Ideal.ofBits .f32 897988541#32 = ε ∧ 0 < ε := by
    simp only [Ideal.ofBits, Ideal.ieee]; norm_num [-EReal.coe_mul]
    exact ⟨_, rfl, by rw [if_neg (by decide)]; positivity⟩
  choose g' hg using hg
  by_cases hx : ∀ e, ∃ r : ℝ, x e = r
  · choose x' hx using hx
    obtain ⟨s, hs, hs0⟩ : ∃ s : ℝ, ∑ e, x e * x e = s ∧ 0 ≤ s := by
      refine ⟨∑ e, x' e * x' e, ?_, Finset.sum_nonneg fun e _ => mul_self_nonneg _⟩
      rw [coe_sum]
      exact Finset.sum_congr rfl fun e _ => by rw [hx, EReal.coe_mul]
    have hp : 0 < s * n⁻¹ + ε := by positivity
    have e1 : Ideal.div (s : EReal) (n : EReal) = ((s * n⁻¹ : ℝ) : EReal) := by
      rw [div_coe _ _ hn0.ne', div_eq_mul_inv]
    have e2 : Ideal.rsqrt ((s * n⁻¹ + ε : ℝ) : EReal) = ((Real.sqrt (s * n⁻¹ + ε))⁻¹ : ℝ) := by
      show (if s * n⁻¹ + ε < 0 then (⊥ : EReal) else if s * n⁻¹ + ε = 0 then ⊤ else ((Real.sqrt (s * n⁻¹ + ε))⁻¹ : ℝ)) = _
      rw [if_neg (not_lt.2 hp.le), if_neg hp.ne']
    rw [nr, hs, hn, hε, e1, ← EReal.coe_add, e2, hx, hg, ← EReal.coe_mul, ← EReal.coe_mul]
    exact ⟨_, rfl⟩
  · obtain ⟨e, he⟩ := not_forall.1 hx
    have h1 : x e * x e = ⊤ := by
      revert he
      induction x e with
      | bot => simp
      | top => simp
      | coe r => exact fun h => (h ⟨r, rfl⟩).elim
    have h2 : ∑ e, x e * x e = ⊤ :=
      top_le_iff.1 (h1 ▸ Finset.single_le_sum (f := fun e => x e * x e) (fun e _ => sq_nonneg' (x e)) (Finset.mem_univ e))
    have h3 : Ideal.div (⊤ : EReal) (n : EReal) = ⊤ := by
      rw [div_coe_right _ _ hn0.ne', EReal.coe_mul_top_of_pos (inv_pos.2 hn0)]
    have h4 : Ideal.rsqrt (⊤ : EReal) = 0 := rfl
    refine ⟨0, ?_⟩
    rw [nr, h2, hn, hε, h3, EReal.top_add_coe, h4, mul_zero, zero_mul, EReal.coe_zero]

/-- With real gains every score is a real number. -/
theorem rsc_real (gq gk q k : Fin 128 → EReal) (hq : ∀ d, ∃ r : ℝ, gq d = r) (hk : ∀ d, ∃ r : ℝ, gk d = r) :
    ∃ r : ℝ, rsc gq gk q k = r := by
  obtain ⟨c, hc, -⟩ := scl_real
  rw [rsc, hc, sum_mul_coe _ _ (nr_real q gq hq) (nr_real k gk hk), ← EReal.coe_mul]
  exact ⟨_, rfl⟩

/-! ### One head of a point -/

section head

variable (q : Vec Ideal S1x512x128 .f32) (gq gk : Vec Ideal S1x128 .f32) (k v : Vec Ideal S1x256x128 .f32)

/-- What a head stores, from the lanes it reads. -/
def head : FVec Ideal S1x512x128 .bf16 := k0_pay5 (F := Ideal) (k0_pay2 q gq) (k0_pay3 k gk) (k0_pay4 v)

theorem pay2_at (r : Fin 512) (d : Fin 128) : k0_pay2 (F := Ideal) q gq (ix2 r d) =
    nr (fun d => q (ix3 0 r d)) (fun d => gq (ix2 0 d)) d * scl := by
  pointwise [k0_pay2, nr]

theorem pay3_at (j : Fin 256) (d : Fin 128) : k0_pay3 (F := Ideal) k gk (ix2 j d) =
    nr (fun d => k (ix3 0 j d)) (fun d => gk (ix2 0 d)) d := by
  pointwise [k0_pay3, nr]

theorem pay4_at (j : Fin 256) (d : Fin 128) : k0_pay4 (F := Ideal) v (ix2 j d) = v (ix3 0 j d) := by
  pointwise [k0_pay4]

/-- The literal the row maximum starts from is minus infinity. -/
theorem lit_bot : Ideal.ofBits FTy.f32 4286578688#32 = (⊥ : EReal) := by
  simp [Ideal.ofBits, Ideal.ieee]

theorem pay5_at (a : FVec Ideal S512x128 .bf16) (b : FVec Ideal S256x128 .bf16) (w : FVec Ideal S256x128 .f32)
    (r : Fin 512) (d : Fin 128) : k0_pay5 (F := Ideal) a b w (ix3 0 r d) =
      quot (fun j => ∑ e : Fin 128, a (ix2 r e) * b (ix2 j e)) (fun j => w (ix2 j d)) := by
  pointwise [k0_pay5, quot, lit_bot]

theorem head_at (r : Fin 512) (d : Fin 128) : head q gq gk k v (ix3 0 r d) =
    quot (fun j => ksc (fun d => gq (ix2 0 d)) (fun d => gk (ix2 0 d)) (fun d => q (ix3 0 r d)) (fun d => k (ix3 0 j d)))
      (fun j => v (ix3 0 j d)) := by
  rw [head, pay5_at]
  simp only [pay2_at, pay3_at, pay4_at, ksc]

/-- The four heads are written out one by one in the body, cut at different places; each is the same arithmetic. -/
theorem head0 : k0_pay5 (F := Ideal) (k0_pay2 q gq) (k0_pay3 k gk) (k0_pay4 v) = head q gq gk k v := rfl

theorem head1 : k0_pay8 (F := Ideal) (k0_pay6 q gq) (k0_pay7 k) gk v = head q gq gk k v := by
  simp only [head, k0_pay2, k0_pay3, k0_pay4, k0_pay5, k0_pay6, k0_pay7, k0_pay8]

theorem head2 : k0_pay15 (F := Ideal) (k0_pay13 (k0_pay9 q) (k0_pay10 gq) (k0_pay11 q) k gk v)
    (k0_pay14 (k0_pay9 q) (k0_pay10 gq) (k0_pay11 q) k gk) = head q gq gk k v := by
  simp only [head, k0_pay2, k0_pay3, k0_pay4, k0_pay5, k0_pay9, k0_pay10, k0_pay11, k0_pay12, k0_pay13, k0_pay14, k0_pay15]

theorem head3 : k0_pay1 (F := Ideal) (k0_pay16 q gq) (k0_pay17 k) (k0_pay18 gk) (k0_pay19 k) v = head q gq gk k v := by
  simp only [head, k0_pay1, k0_pay2, k0_pay3, k0_pay4, k0_pay5, k0_pay16, k0_pay17, k0_pay18, k0_pay19]

end head

/-! ### The four heads of a point -/

section block

variable (x0 : Vec Ideal S1x512x512 .f32) (x1 : Vec Ideal S1x256x1024 .f32) (x2 x3 : Vec Ideal S1x128 .f32)

/-- What head `h` leaves at row `r` and lane `d`. -/
def bhead (h : Fin 4) (r : Fin 512) (d : Fin 128) : EReal :=
  quot (fun j => ksc (fun d => x2 (ix2 0 d)) (fun d => x3 (ix2 0 d))
      (fun d => x0 (ix3 0 r (⟨h.val * 128 + d.val, by omega⟩ : Fin 512)))
      (fun d => x1 (ix3 0 j (⟨h.val * 128 + d.val, by omega⟩ : Fin 1024))))
    (fun j => x1 (ix3 0 j (⟨512 + h.val * 128 + d.val, by omega⟩ : Fin 1024)))

/-- A gain is read whole. -/
theorem ld_g (x : Vec Ideal S1x128 .f32) : View.ld x r0_1 = x :=
  funext fun y => View.ld_unit_apply_of _ _ _ _ _ _ fun a => by
    fin_cases a <;> simp

theorem ld_q (h : Fin 4) {o : Nat} (e : o = h.val * 128) (inb) (r : Fin 512) (d : Fin 128) :
    View.ld x0 (Rect.unit ![0, 0, o] ![1, 512, 128] inb) (ix3 0 r d) =
      x0 (ix3 0 r (⟨h.val * 128 + d.val, by omega⟩ : Fin 512)) :=
  View.ld_unit_apply_of _ _ _ _ _ _ fun a => by
    fin_cases a <;> simp [ix3, e]

theorem ld_k (h : Fin 4) {o : Nat} (e : o = h.val * 128) (inb) (j : Fin 256) (d : Fin 128) :
    View.ld x1 (Rect.unit ![0, 0, o] ![1, 256, 128] inb) (ix3 0 j d) =
      x1 (ix3 0 j (⟨h.val * 128 + d.val, by omega⟩ : Fin 1024)) :=
  View.ld_unit_apply_of _ _ _ _ _ _ fun a => by
    fin_cases a <;> simp [ix3, e]

theorem ld_v (h : Fin 4) {o : Nat} (e : o = 512 + h.val * 128) (inb) (j : Fin 256) (d : Fin 128) :
    View.ld x1 (Rect.unit ![0, 0, o] ![1, 256, 128] inb) (ix3 0 j d) =
      x1 (ix3 0 j (⟨512 + h.val * 128 + d.val, by omega⟩ : Fin 1024)) :=
  View.ld_unit_apply_of _ _ _ _ _ _ fun a => by
    fin_cases a <;> simp [ix3, e]

/-- A head's stored lanes are its own. -/
theorem piece (h : Fin 4) {o o' : Nat} (e : o = h.val * 128) (e' : o' = 512 + h.val * 128) (inb inb1 inb2)
    (x : S1x512x128.Idx) (y : S1x512x512.Idx) (h1 : (y 1).val = (x 1).val) (h2 : (y 2).val = o + (x 2).val) :
    head (View.ld x0 (Rect.unit ![0, 0, o] ![1, 512, 128] inb)) x2 x3
      (View.ld x1 (Rect.unit ![0, 0, o] ![1, 256, 128] inb1)) (View.ld x1 (Rect.unit ![0, 0, o'] ![1, 256, 128] inb2)) x =
    bhead x0 x1 x2 x3 (⟨(y 2).val / 128, by have : (y 2).val < 512 := (y 2).isLt; omega⟩ : Fin 4) (y 1)
      (⟨(y 2).val % 128, by omega⟩ : Fin 128) := by
  obtain ⟨z, r, d, rfl⟩ : ∃ (a : Fin 1) (r : Fin 512) (d : Fin 128), x = ix3 a r d := ⟨x 0, x 1, x 2, by idx_vars x⟩
  obtain rfl := Subsingleton.elim z 0
  have hd := d.isLt
  have e2 : (y 2).val = h.val * 128 + d.val := by rw [h2, e]; rfl
  have a1 : (y 1 : Fin 512) = r := Fin.ext h1
  have a2 : (⟨(y 2).val / 128, by have : (y 2).val < 512 := (y 2).isLt; omega⟩ : Fin 4) = h := Fin.ext (by dsimp only; omega)
  have a3 : (⟨(y 2).val % 128, by omega⟩ : Fin 128) = d := Fin.ext (by dsimp only; omega)
  rw [a1, a2, a3, head_at, bhead]
  simp only [ld_q x0 h e inb, ld_k x1 h e inb1, ld_v x1 h e' inb2]

/-- The block a point stores. -/
theorem out_at (y : S1x512x512.Idx) : out0_4 (F := Ideal) x0 x1 x2 x3 y =
    bhead x0 x1 x2 x3 (⟨(y 2).val / 128, by have : (y 2).val < 512 := (y 2).isLt; omega⟩ : Fin 4) (y 1)
      (⟨(y 2).val % 128, by omega⟩ : Fin 128) := by
  frame_out
  canon_tiles x h
  · refine (congrFun (head3 (View.ld x0 r0_10) x2 x3 (View.ld x1 r0_11) (View.ld x1 r0_12)) x).trans ?_
    exact piece x0 x1 x2 x3 3 (o := 384) (o' := 896) rfl rfl _ _ _ x y h1 h2
  · unfold k0_pay20 k0_pay21 k0_pay22
    rw [ld_g]
    refine (congrFun (head2 (View.ld x0 r0_7) x2 x3 (View.ld x1 r0_8) (View.ld x1 r0_9)) x).trans ?_
    exact piece x0 x1 x2 x3 2 (o := 256) (o' := 768) rfl rfl _ _ _ x y h1 h2
  · refine (congrFun (head1 (View.ld x0 r0_4) x2 x3 (View.ld x1 r0_5) (View.ld x1 r0_6)) x).trans ?_
    exact piece x0 x1 x2 x3 1 (o := 128) (o' := 640) rfl rfl _ _ _ x y h1 h2
  · refine (congrFun (head0 (View.ld x0 r0_0) x2 x3 (View.ld x1 r0_2) (View.ld x1 r0_3)) x).trans ?_
    exact piece x0 x1 x2 x3 0 (o := 0) (o' := 512) rfl rfl _ _ _ x y h1 (by omega)

end block

/-! ### The points -/

/-- The block index of each window at point `t`. -/
theorem idx0 : ∀ t : Fin cfg0.N, (cfg0.win 0).index t = ![t.val / 32, t.val % 32, 6] := by decide +kernel
theorem idx1 : ∀ t : Fin cfg0.N, (cfg0.win 1).index t = ![t.val / 32, 0, 0] := by decide +kernel
theorem idx2 : ∀ t : Fin cfg0.N, (cfg0.win 2).index t = ![0, 0] := by decide +kernel
theorem idx3 : ∀ t : Fin cfg0.N, (cfg0.win 3).index t = ![0, 0] := by decide +kernel
theorem idx4 : ∀ t : Fin cfg0.N, (cfg0.win 4).index t = ![t.val / 32, t.val % 32, 0] := by decide +kernel

theorem tlt (t : Fin cfg0.N) : t.val < 64 := t.isLt.trans_eq (show cfg0.N = 64 from N_0)

variable (m : (ℓ : Loc nD τ sig) → Buf (Elt Ideal) ℓ) (c : Dev nD)

/-- The projection, the memory's keys and values, and the two gains. -/
abbrev Z : Vec Ideal S2x16384x9728 .f32 := m ((c : Thread nD τ).loc main_arg0)
abbrev KV : Vec Ideal S2x256x1024 .f32 := m ((c : Thread nD τ).loc main_arg1)
abbrev GQ : Vec Ideal S128 .f32 := m ((c : Thread nD τ).loc main_arg2)
abbrev GK : Vec Ideal S128 .f32 := m ((c : Thread nD τ).loc main_arg3)

/-- The batch of point `t`, and the row of the whole array that row `r` of its block is. -/
def bt (t : Fin cfg0.N) : Fin 2 := ⟨t.val / 32, by have := tlt t; omega⟩
def rt (t : Fin cfg0.N) (r : Fin 512) : Fin 16384 := ⟨t.val % 32 * 512 + r.val, by omega⟩

theorem blk_z (t : Fin cfg0.N) (r : Fin 512) (l : Fin 512) :
    (iblk m c 0 t : Vec Ideal S1x512x512 .f32) (ix3 0 r l) =
      Z m c (ix3 (bt t) (rt t r) (⟨3072 + l.val, by omega⟩ : Fin 9728)) := by
  have e := idx0 t
  simp only [Z, bt, rt]
  blk_ext [iblk, V_main_arg0, e]

theorem blk_kv (t : Fin cfg0.N) (j : Fin 256) (l : Fin 1024) :
    (iblk m c 1 t : Vec Ideal S1x256x1024 .f32) (ix3 0 j l) = KV m c (ix3 (bt t) j l) := by
  have e := idx1 t
  simp only [KV, bt]
  blk_ext [iblk, V_main_arg1, e]

theorem blk_gq (t : Fin cfg0.N) (d : Fin 128) :
    (iblk m c 2 t : Vec Ideal S1x128 .f32) (ix2 0 d) = GQ m c (ix1 d) := by
  have e := idx2 t
  have e2 : (iblk m c 2 t : Vec Ideal S1x128 .f32) (ix2 0 d) = V m c main_v0 (ix2 0 d) := by
    blk_ext [iblk, e]
  have e3 : V m c main_v0 = shapeCast S1x128 (m ((c : Thread nD τ).loc main_arg2)) shapeCasts_S128_S1x128 := by
    dsimp only [V, hostOps0]
    after_results
    rfl
  rw [e2, e3]
  exact (shapeCast_addUnit_apply ![128] _ _ (ix2 0 d)).trans (congrArg _ (Fin.forall_fin_one.2 rfl |> funext))

theorem blk_gk (t : Fin cfg0.N) (d : Fin 128) :
    (iblk m c 3 t : Vec Ideal S1x128 .f32) (ix2 0 d) = GK m c (ix1 d) := by
  have e := idx3 t
  have e2 : (iblk m c 3 t : Vec Ideal S1x128 .f32) (ix2 0 d) = V m c main_v1 (ix2 0 d) := by
    blk_ext [iblk, e]
  have e3 : V m c main_v1 = shapeCast S1x128 (m ((c : Thread nD τ).loc main_arg3)) shapeCasts_S128_S1x128 := by
    dsimp only [V, hostOps0]
    after_results
    rfl
  rw [e2, e3]
  exact (shapeCast_addUnit_apply ![128] _ _ (ix2 0 d)).trans (congrArg _ (Fin.forall_fin_one.2 rfl |> funext))

/-- The score of query row `i` of head `h` against the memory's row `j`. -/
def score (Z : Vec Ideal S2x16384x9728 .f32) (KV : Vec Ideal S2x256x1024 .f32) (GQ GK : Vec Ideal S128 .f32)
    (b : Fin 2) (h : Fin 4) (i : Fin 16384) (j : Fin 256) : EReal :=
  rsc (fun d => GQ (ix1 d)) (fun d => GK (ix1 d))
    (fun d => Z (ix3 b i (⟨3072 + (h.val * 128 + d.val), by omega⟩ : Fin 9728)))
    (fun d => KV (ix3 b j (⟨h.val * 128 + d.val, by omega⟩ : Fin 1024)))

/-- The memory attention at batch `b`, row `i`, head `h` and lane `d`. -/
def attend (Z : Vec Ideal S2x16384x9728 .f32) (KV : Vec Ideal S2x256x1024 .f32) (GQ GK : Vec Ideal S128 .f32)
    (b : Fin 2) (h : Fin 4) (i : Fin 16384) (d : Fin 128) : EReal :=
  soft (score Z KV GQ GK b h i) (fun j => KV (ix3 b j (⟨512 + h.val * 128 + d.val, by omega⟩ : Fin 1024)))

/-- The memory attention over the whole result array. -/
def G (Z : Vec Ideal S2x16384x9728 .f32) (KV : Vec Ideal S2x256x1024 .f32) (GQ GK : Vec Ideal S128 .f32) :
    Vec Ideal S2x16384x512 .bf16 :=
  fun y => attend Z KV GQ GK (y 0) (⟨(y 2).val / 128, by have : (y 2).val < 512 := (y 2).isLt; omega⟩ : Fin 4) (y 1)
    (⟨(y 2).val % 128, by omega⟩ : Fin 128)

/-- Every element of the two gains is a real number. -/
structure Finite (GQ GK : Vec Ideal S128 .f32) : Prop where
  q : ∀ i, ∃ r : ℝ, GQ i = r
  k : ∀ i, ∃ r : ℝ, GK i = r

theorem bhead_eq (hf : Finite (GQ m c) (GK m c)) (t : Fin cfg0.N) (h : Fin 4) (r : Fin 512) (d : Fin 128) :
    bhead (iblk m c 0 t) (iblk m c 1 t) (iblk m c 2 t) (iblk m c 3 t) h r d =
      attend (Z m c) (KV m c) (GQ m c) (GK m c) (bt t) h (rt t r) d := by
  simp only [bhead, blk_z, blk_kv, blk_gq, blk_gk, ksc_eq]
  exact quot_eq _ _ fun j => rsc_real _ _ _ _ (fun d => hf.q _) fun d => hf.k _

theorem emb_out (t : Fin cfg0.N) (r l : Fin 512) :
    ((win0_4.blk t).view.emb (ix3 0 r l : S1x512x512.Idx) : S2x16384x512.Idx) = ix3 (bt t) (rt t r) l := by
  have e := idx4 t
  simp only [bt, rt]
  blk_ext [e]

/-- The array the kernel leaves is the memory attention of its arguments, where the gains are real. -/
theorem array_eq (hf : Finite (GQ m c) (GK m c)) :
    ((dats m 0 c).arrAt 4 cfg0.N : Vec Ideal S2x16384x512 .bf16) = G (Z m c) (KV m c) (GQ m c) (GK m c) := by
  refine (dats m 0 c).arrAt_eq_of_covers 4 _ (by decide +kernel) fun t _ y => ?_
  blk_simp
  rw [after0_4]
  have hy : ∀ y : S1x512x512.Idx, out0_4 (F := Ideal) (iblk m c 0 t) (iblk m c 1 t) (iblk m c 2 t) (iblk m c 3 t) y =
      G (Z m c) (KV m c) (GQ m c) (GK m c) ((win0_4.blk t).view.emb y : S2x16384x512.Idx) := fun y => by
    obtain ⟨a, r, l, rfl⟩ : ∃ (a : Fin 1) (r l : Fin 512), y = (ix3 a r l : S1x512x512.Idx) := ⟨y 0, y 1, y 2, by idx_vars y⟩
    obtain rfl := Subsingleton.elim a 0
    rw [emb_out]
    exact (out_at _ _ _ _ _).trans (bhead_eq m c hf t (⟨l.val / 128, by omega⟩ : Fin 4) r (⟨l.val % 128, by omega⟩ : Fin 128))
  exact hy y

end Cert.Memory

end
-- ==== Proof.MemoryReference.lean ====
/- The memory attention's reference, its composed term read at an index; and what the precondition says. -/
module

public import proofs.«01_k».proof.Proof.MemoryValue
public import proofs.«01_k».proof.Proof.Precondition
public import proofs.«01_k».proof.Proof.Gen.Reference6Ideal.Run
public import Idealize.ShloMosaic.Lib.Pointwise

@[expose] public section

set_option maxRecDepth 16384

noncomputable section

namespace Cert.Memory

open Cert.Reference6Ideal Cert.Reference6Ideal.Gen Idealize.ShloMosaic Idealize.ShloMosaic.TcCoe
  Idealize.SL.Sem Idealize.ShloMosaic.StableHlo

/-- The reference's query lanes, head by head. -/
def refZ (Z : FVec Ideal S2x16384x9728 .f32) : FVec Ideal S2x16384x4x128 .f32 :=
  shapeCast _ (extractStridedSlice S2x16384x512 ![0, 0, 3072] Z slices_S2x16384x9728_S2x16384x512_0_0_3072) shapeCasts_S2x16384x512_S2x16384x4x128

/-- The memory's key lanes and value lanes, head by head. -/
def refK (KV : FVec Ideal S2x256x1024 .f32) : FVec Ideal S2x256x4x128 .f32 :=
  shapeCast _ (extractStridedSlice S2x256x1x4x128 ![0, 0, 0, 0, 0] (shapeCast _ KV shapeCasts_S2x256x1024_S2x256x2x4x128) slices_S2x256x2x4x128_S2x256x1x4x128_0_0_0_0_0) shapeCasts_S2x256x1x4x128_S2x256x4x128
def refV (KV : FVec Ideal S2x256x1024 .f32) : FVec Ideal S2x256x4x128 .f32 :=
  shapeCast _ (extractStridedSlice S2x256x1x4x128 ![0, 0, 1, 0, 0] (shapeCast _ KV shapeCasts_S2x256x1024_S2x256x2x4x128) slices_S2x256x2x4x128_S2x256x1x4x128_0_0_1_0_0) shapeCasts_S2x256x1x4x128_S2x256x4x128

/-- The normed queries. -/
def refNQ (X : FVec Ideal S2x16384x4x128 .f32) (GQ : FVec Ideal S128 .f32) : FVec Ideal S2x16384x4x128 .f32 :=
  mulf (mulf X (broadcastInDim S2x16384x4x128 ![0, 1, 2, 3] bcast_S2x16384x4x1_S2x16384x4x128_0_1_2_3 (Host.rsqrt (addf (Host.divf (broadcastInDim S2x16384x4x1 ![0, 1, 2] bcast_S2x16384x4_S2x16384x4x1_0_1_2 (Host.reduceAdd (mulf X X) (constant S_ .f32 0x00000000#32) reducesTo_S2x16384x4x128_S2x16384x4_d3 h_S_)) (broadcastInDim S2x16384x4x1 ![] bcast_S_S2x16384x4x1 (constant S_ .f32 0x43000000#32))) (broadcastInDim S2x16384x4x1 ![] bcast_S_S2x16384x4x1 (constant S_ .f32 0x358637BD#32)))))) (broadcastInDim S2x16384x4x128 ![0, 1, 2, 3] bcast_S1x1x1x128_S2x16384x4x128_0_1_2_3 (broadcastInDim S1x1x1x128 ![3] bcast_S128_S1x1x1x128_3 GQ))

/-- The normed keys. -/
def refNK (X : FVec Ideal S2x256x4x128 .f32) (GK : FVec Ideal S128 .f32) : FVec Ideal S2x256x4x128 .f32 :=
  mulf (mulf X (broadcastInDim S2x256x4x128 ![0, 1, 2, 3] bcast_S2x256x4x1_S2x256x4x128_0_1_2_3 (Host.rsqrt (addf (Host.divf (broadcastInDim S2x256x4x1 ![0, 1, 2] bcast_S2x256x4_S2x256x4x1_0_1_2 (Host.reduceAdd (mulf X X) (constant S_ .f32 0x00000000#32) reducesTo_S2x256x4x128_S2x256x4_d3 h_S_)) (broadcastInDim S2x256x4x1 ![] bcast_S_S2x256x4x1 (constant S_ .f32 0x43000000#32))) (broadcastInDim S2x256x4x1 ![] bcast_S_S2x256x4x1 (constant S_ .f32 0x358637BD#32)))))) (broadcastInDim S2x256x4x128 ![0, 1, 2, 3] bcast_S1x1x1x128_S2x256x4x128_0_1_2_3 (broadcastInDim S1x1x1x128 ![3] bcast_S128_S1x1x1x128_3 GK))

/-- The scores. -/
def refS (A : FVec Ideal S2x16384x4x128 .f32) (B : FVec Ideal S2x256x4x128 .f32) : FVec Ideal S2x4x16384x256 .f32 :=
  mulf (Host.dotGeneral dot_S2x16384x4x128_S2x256x4x128_S2x4x16384x256_3_3_1_1_02_02 none A B) (broadcastInDim S2x4x16384x256 ![] bcast_S_S2x4x16384x256 (constant S_ .f32 0x3DB504F3#32))

/-- The largest score of each row. -/
def refM (S : FVec Ideal S2x4x16384x256 .f32) : FVec Ideal S2x4x16384 .f32 :=
  Host.reduce FloatOps.maximumf S (constant S_ .f32 0xFF800000#32) reducesTo_S2x4x16384x256_S2x4x16384_d3 h_S_

/-- The exponentials of the scores less their row's maximum. -/
def refE (S : FVec Ideal S2x4x16384x256 .f32) (M : FVec Ideal S2x4x16384 .f32) : FVec Ideal S2x4x16384x256 .f32 :=
  Host.exp (subf S (broadcastInDim S2x4x16384x256 ![0, 1, 2, 3] bcast_S2x4x16384x1_S2x4x16384x256_0_1_2_3 (broadcastInDim S2x4x16384x1 ![0, 1, 2] bcast_S2x4x16384_S2x4x16384x1_0_1_2 (maximumf (broadcastInDim S2x4x16384 ![] bcast_S_S2x4x16384 (constant S_ .f32 0xFF800000#32)) M))))

/-- The weights: the exponentials over their row's sum. -/
def refP (E : FVec Ideal S2x4x16384x256 .f32) : FVec Ideal S2x4x16384x256 .f32 :=
  Host.divf E (broadcastInDim S2x4x16384x256 ![0, 1, 2, 3] bcast_S2x4x16384x1_S2x4x16384x256_0_1_2_3 (broadcastInDim S2x4x16384x1 ![0, 1, 2] bcast_S2x4x16384_S2x4x16384x1_0_1_2 (Host.reduceAdd E (constant S_ .f32 0x00000000#32) reducesTo_S2x4x16384x256_S2x4x16384_d3 h_S_)))

/-- The values summed by the weights, back in the result's layout. -/
def refO (P : FVec Ideal S2x4x16384x256 .f32) (W : FVec Ideal S2x256x4x128 .f32) : FVec Ideal S2x16384x512 .bf16 :=
  truncf .bf16 (shapeCast _ (transpose S2x16384x4x128 [0, 3, 1, 2] (Host.dotGeneral dot_S2x256x4x128_S2x4x16384x256_S2x4x128x16384_1_3_3_2_02_01 none W P) transposes_S2x4x128x16384_S2x16384x4x128_0_3_1_2) shapeCasts_S2x16384x4x128_S2x16384x512) bitsLt_bf16_f32

theorem refZ_at (Z : FVec Ideal S2x16384x9728 .f32) (b : Fin 2) (i : Fin 16384) (h : Fin 4) (d : Fin 128) :
    refZ Z (ix4 b i h d) = Z (ix3 b i (⟨3072 + (h.val * 128 + d.val), by omega⟩ : Fin 9728)) := by
  pointwise [refZ]

theorem refK_at (KV : FVec Ideal S2x256x1024 .f32) (b : Fin 2) (j : Fin 256) (h : Fin 4) (d : Fin 128) :
    refK KV (ix4 b j h d) = KV (ix3 b j (⟨h.val * 128 + d.val, by omega⟩ : Fin 1024)) := by
  pointwise [refK]

theorem refV_at (KV : FVec Ideal S2x256x1024 .f32) (b : Fin 2) (j : Fin 256) (h : Fin 4) (d : Fin 128) :
    refV KV (ix4 b j h d) = KV (ix3 b j (⟨512 + h.val * 128 + d.val, by omega⟩ : Fin 1024)) := by
  pointwise [refV]

theorem refNQ_at (X : FVec Ideal S2x16384x4x128 .f32) (GQ : FVec Ideal S128 .f32) (b : Fin 2) (i : Fin 16384) (h : Fin 4)
    (d : Fin 128) : refNQ X GQ (ix4 b i h d) = nr (fun d => X (ix4 b i h d)) (fun d => GQ (ix1 d)) d := by
  pointwise [refNQ, nr]

theorem refNK_at (X : FVec Ideal S2x256x4x128 .f32) (GK : FVec Ideal S128 .f32) (b : Fin 2) (j : Fin 256) (h : Fin 4)
    (d : Fin 128) : refNK X GK (ix4 b j h d) = nr (fun d => X (ix4 b j h d)) (fun d => GK (ix1 d)) d := by
  pointwise [refNK, nr]

theorem refS_at (A : FVec Ideal S2x16384x4x128 .f32) (B : FVec Ideal S2x256x4x128 .f32) (b : Fin 2) (h : Fin 4)
    (i : Fin 16384) (j : Fin 256) : refS A B (ix4 b h i j) = (∑ e : Fin 128, A (ix4 b i h e) * B (ix4 b j h e)) * scl := by
  pointwise [refS]

theorem refM_at (S : FVec Ideal S2x4x16384x256 .f32) (b : Fin 2) (h : Fin 4) (i : Fin 16384) :
    refM S (ix3 b h i) = Finset.fold max (⊥ : EReal) (fun j => S (ix4 b h i j)) Finset.univ := by
  pointwise [refM, lit_bot]

theorem refE_at (S : FVec Ideal S2x4x16384x256 .f32) (M : FVec Ideal S2x4x16384 .f32) (b : Fin 2) (h : Fin 4)
    (i : Fin 16384) (j : Fin 256) :
    refE S M (ix4 b h i j) = Ideal.exp (S (ix4 b h i j) - max (⊥ : EReal) (M (ix3 b h i))) := by
  pointwise [refE, lit_bot]

theorem refP_at (E : FVec Ideal S2x4x16384x256 .f32) (b : Fin 2) (h : Fin 4) (i : Fin 16384) (j : Fin 256) :
    refP E (ix4 b h i j) = Ideal.div (E (ix4 b h i j)) (∑ j', E (ix4 b h i j')) := by
  pointwise [refP]

theorem refO_at (P : FVec Ideal S2x4x16384x256 .f32) (W : FVec Ideal S2x256x4x128 .f32) (b : Fin 2) (h : Fin 4)
    (i : Fin 16384) (d : Fin 128) :
    refO P W (ix3 b i (⟨h.val * 128 + d.val, by omega⟩ : Fin 512)) = ∑ j, P (ix4 b h i j) * W (ix4 b j h d) := by
  pointwise [refO]
  exact Finset.sum_congr rfl fun j _ => mul_comm _ _

/-- The memory attention at an element of the result. -/
theorem G_at (Z : FVec Ideal S2x16384x9728 .f32) (KV : FVec Ideal S2x256x1024 .f32) (GQ GK : FVec Ideal S128 .f32) (b : Fin 2)
    (h : Fin 4) (i : Fin 16384) (d : Fin 128) :
    G Z KV GQ GK (ix3 b i (⟨h.val * 128 + d.val, by omega⟩ : Fin 512)) = attend Z KV GQ GK b h i d := by
  have e1 : (⟨(h.val * 128 + d.val) / 128, by omega⟩ : Fin 4) = h := Fin.ext (by dsimp only; omega)
  have e2 : (⟨(h.val * 128 + d.val) % 128, by omega⟩ : Fin 128) = d := Fin.ext (by dsimp only; omega)
  simp only [G, ix3_0, ix3_1, ix3_2, e1, e2]

/-- The reference's scores of the arguments. -/
abbrev refA (Z : FVec Ideal S2x16384x9728 .f32) (KV : FVec Ideal S2x256x1024 .f32) (GQ GK : FVec Ideal S128 .f32) :
    FVec Ideal S2x4x16384x256 .f32 := refS (refNQ (refZ Z) GQ) (refNK (refK KV) GK)

theorem refA_at (Z : FVec Ideal S2x16384x9728 .f32) (KV : FVec Ideal S2x256x1024 .f32) (GQ GK : FVec Ideal S128 .f32)
    (b : Fin 2) (h : Fin 4) (i : Fin 16384) (j : Fin 256) : refA Z KV GQ GK (ix4 b h i j) = score Z KV GQ GK b h i j := by
  rw [refA, refS_at]
  simp only [refNQ_at, refNK_at, refZ_at, refK_at]
  rfl

/-- The reference's composed term is the memory attention of its arguments. -/
theorem ref_eq (Z : FVec Ideal S2x16384x9728 .f32) (KV : FVec Ideal S2x256x1024 .f32) (GQ GK : FVec Ideal S128 .f32) :
    refO (refP (refE (refA Z KV GQ GK) (refM (refA Z KV GQ GK)))) (refV KV) = G Z KV GQ GK := by
  funext y
  have h2 : (y 2).val < 512 := (y 2).isLt
  obtain ⟨b, h, i, d, e⟩ : ∃ (b : Fin 2) (h : Fin 4) (i : Fin 16384) (d : Fin 128),
      y = (ix3 b i (⟨h.val * 128 + d.val, by omega⟩ : Fin 512) : S2x16384x512.Idx) := by
    refine ⟨y 0, ⟨(y 2).val / 128, by omega⟩, y 1, ⟨(y 2).val % 128, by omega⟩, ?_⟩
    idx_vars y
    blk_ext []
  rw [e, G_at, refO_at, attend]
  simp only [refP_at, refE_at, refM_at, refA_at, refV_at]
  rfl

/-- The side conditions of the precondition's operations. -/
theorem preFacts : Cert.Pre_finite_gains.Facts := ⟨by decide, by decide, by decide⟩

/-- The precondition gives that the two gains are real. -/
theorem finite_of_pre [Cert.Pre_finite_gains.Facts] {Z : FVec Ideal S2x16384x9728 .f32} {KV : FVec Ideal S2x256x1024 .f32}
    {GQ GK : FVec Ideal S128 .f32}
    (h : Cert.Pre_finite_gains.fn (F := Ideal) Z KV GQ GK = fun _ => 1#1) : Finite GQ GK := by
  constructor
  · intro i
    obtain ⟨d, rfl⟩ : ∃ d : Fin 128, i = (ix1 d : S128.Idx) := ⟨i 0, by idx_vars i⟩
    have e := congrFun h (ix2 (0 : Fin 2) d)
    revert e
    pointwise [Cert.Pre_finite_gains.fn]
    exact Cert.Attention.real_of_word
  · intro i
    obtain ⟨d, rfl⟩ : ∃ d : Fin 128, i = (ix1 d : S128.Idx) := ⟨i 0, by idx_vars i⟩
    have e := congrFun h (ix2 (1 : Fin 2) d)
    revert e
    pointwise [Cert.Pre_finite_gains.fn]
    exact Cert.Attention.real_of_word

end Cert.Memory

end
-- ==== Proof.MemoryKeysValue.lean ====
/- The array the memory's key and value projection leaves: the normed product again, of the memory's 512 rows, which are one
   row block, with the 1024 columns in two column blocks. Point `t` is column block `t`; the normed rows are made at the first
   point and kept in a scratch for the second. -/
module

public import proofs.«01_k».proof.Proof.Gen.Kernel7Ideal.Value
public import proofs.«01_k».proof.Proof.NormedValue
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MemoryKeys

open Cert.Kernel7Ideal Cert.Kernel7Ideal.Gen Idealize.ShloMosaic Idealize.ShloMosaic.TcCoe Idealize.SL.Sem
open Cert.Normed (rms)

/-- The block of normed rows at an element. -/
theorem pay1_at (x : Vec Ideal S512x2048 .f32) (g : Vec Ideal S1x2048 .f32) (r : Fin 512) (d : Fin 2048) :
    k0_pay1 (F := Ideal) x g (ix2 r d) = rms (fun d => x (ix2 r d)) (fun d => g (ix2 0 d)) d := by
  pointwise [k0_pay1, rms]

/-- The block of the product at an element. -/
theorem pay2_at (x : Vec Ideal S512x2048 .bf16) (w : Vec Ideal S2048x512 .bf16) (r : Fin 512) (j : Fin 512) :
    k0_pay2 (F := Ideal) x w (ix2 r j) = ∑ d : Fin 2048, x (ix2 r d) * w (ix2 d j) := by
  pointwise [k0_pay2]

section cases

variable (c : Dev nD) (i : grid0.Coords) (arg2 : Memref sig .tc .vmem S512x2048 .f32) (harg2 : arg2.IsWhole)
  (arg3 : Memref sig .tc .vmem S1x2048 .f32) (harg3 : arg3.IsWhole)
  (arg4 : Memref sig .tc .vmem S2048x512 .bf16) (harg4 : arg4.IsWhole)
  (arg5 : Memref sig .tc .vmem S512x512 .f32) (harg5 : arg5.IsWhole)
  (arg6 : Memref sig .tc .vmem S512x2048 .bf16) (harg6 : arg6.IsWhole)
  (x0 : Vec Ideal S512x2048 .f32) (x1 : Vec Ideal S1x2048 .f32) (x2 : Vec Ideal S2048x512 .bf16)
  (xs : Vec Ideal S512x2048 .bf16)

/-- The first point: the product block. -/
theorem outA (hc : cond0_0 i) :
    out0_A_3 (F := Ideal) c i arg2 harg2 arg3 harg3 arg4 harg4 arg5 harg5 arg6 harg6 hc x0 x1 x2 =
      k0_pay2 (F := Ideal) (k0_pay1 (F := Ideal) x0 x1) x2 := by
  funext y
  frame_open
  frame_out

/-- The first point: the scratch. -/
theorem soutA (hc : cond0_0 i) :
    sout0_A_0 (F := Ideal) c i arg2 harg2 arg3 harg3 arg4 harg4 arg5 harg5 arg6 harg6 hc x0 x1 x2 =
      k0_pay1 (F := Ideal) x0 x1 := by
  funext y
  frame_open
  frame_out

/-- The second point: the product block. -/
theorem outB (hc : ¬cond0_0 i) :
    out0_B_3 (F := Ideal) c i arg2 harg2 arg3 harg3 arg4 harg4 arg5 harg5 arg6 harg6 hc x0 x1 x2 xs =
      k0_pay2 (F := Ideal) xs x2 := by
  funext y
  frame_open
  frame_out

/-- The second point: the scratch is kept. -/
theorem soutB (hc : ¬cond0_0 i) :
    sout0_B_0 (F := Ideal) c i arg2 harg2 arg3 harg3 arg4 harg4 arg5 harg5 arg6 harg6 hc x0 x1 x2 xs = xs := by
  funext y
  frame_open
  rfl

end cases

/-- The block index of each window at point `t`. -/
theorem idx0 : ∀ t : Fin cfg0.N, (cfg0.win 0).index t = ![0, 0] := by decide +kernel
theorem idx1 : ∀ t : Fin cfg0.N, (cfg0.win 1).index t = ![0, 0] := by decide +kernel
theorem idx2 : ∀ t : Fin cfg0.N, (cfg0.win 2).index t = ![0, t.val] := by decide +kernel
theorem idx3 : ∀ t : Fin cfg0.N, (cfg0.win 3).index t = ![0, t.val] := by decide +kernel

theorem tlt (t : Fin cfg0.N) : t.val < 2 := t.isLt.trans_eq (show cfg0.N = 2 from N_0)

variable (m : (ℓ : Loc nD τ sig) → Buf (Elt Ideal) ℓ) (c : Dev nD)

/-- The input rows of core `c`. -/
abbrev X : Vec Ideal S512x2048 .f32 := m ((c : Thread nD τ).loc main_arg0)
/-- The gain. -/
abbrev G : Vec Ideal S2048 .f32 := m ((c : Thread nD τ).loc main_arg1)
/-- The weight. -/
abbrev W : Vec Ideal S2048x1024 .bf16 := m ((c : Thread nD τ).loc main_arg2)

/-- The column of the whole array that column `j` of point `t`'s block is. -/
def ct (t : Fin cfg0.N) (j : Fin 512) : Fin 1024 := ⟨t.val * 512 + j.val, by have := tlt t; omega⟩

/-- The row block at an element. -/
theorem blk_x (t : Fin cfg0.N) (r : Fin 512) (d : Fin 2048) :
    (iblk m c 0 t : Vec Ideal S512x2048 .f32) (ix2 r d) = X m c (ix2 r d) := by
  have e := idx0 t
  simp only [X]
  blk_ext [iblk, V_main_arg0, e]

/-- The gain at an element. -/
theorem blk_g (t : Fin cfg0.N) (d : Fin 2048) :
    (iblk m c 1 t : Vec Ideal S1x2048 .f32) (ix2 0 d) = G m c (ix1 d) := by
  have e := idx1 t
  simp only [G]
  have e2 : (iblk m c 1 t : Vec Ideal S1x2048 .f32) (ix2 0 d) = V m c main_v0 (ix2 0 d) := by
    blk_ext [iblk, e]
  have e3 : V m c main_v0 = shapeCast S1x2048 (m ((c : Thread nD τ).loc main_arg1)) shapeCasts_S2048_S1x2048 := by
    dsimp only [V, hostOps0]
    after_results
    rfl
  rw [e2, e3]
  pointwise []

/-- The weight block at an element. -/
theorem blk_w (t : Fin cfg0.N) (d : Fin 2048) (j : Fin 512) :
    (iblk m c 2 t : Vec Ideal S2048x512 .bf16) (ix2 d j) = W m c (ix2 d (ct t j)) := by
  have e := idx2 t
  simp only [W, ct]
  blk_ext [iblk, V_main_arg2, e]

/-- The scratch after every point: the normed rows. -/
theorem scratch (n : ℕ) (hn : n < cfg0.N) (r : Fin 512) (d : Fin 2048) :
    (outsAt0 m c n hn).2 (ix2 r d) = rms (fun d => X m c (ix2 r d)) (fun d => G m c (ix1 d)) d := by
  induction n using Nat.strong_induction_on with
  | _ n ih =>
    set t : Fin cfg0.N := ⟨n, hn⟩ with ht
    have hO : outsAt0 m c n hn = outsAt0 m c t.val t.isLt := rfl
    by_cases h0 : t.val % 2 = 0
    · rw [hO, outsAt0_A m c t h0]
      dsimp only
      rw [soutA, pay1_at]
      simp only [blk_x, blk_g]
    · have hv : t.val = n := rfl
      have hp : n - 1 < n := by omega
      rw [hO, outsAt0_B m c t h0]
      dsimp only
      rw [soutB]
      exact ih (n - 1) hp _

/-- The product over the whole array. -/
def projected (X : Vec Ideal S512x2048 .f32) (G : Vec Ideal S2048 .f32) (W : Vec Ideal S2048x1024 .bf16) :
    Vec Ideal S512x1024 .f32 :=
  fun y => ∑ d : Fin 2048, rms (fun d => X (ix2 (y 0) d)) (fun d => G (ix1 d)) d * W (ix2 d (y 1))

/-- The block a grid point writes back. -/
theorem out_at (t : Fin cfg0.N) (r : Fin 512) (j : Fin 512) :
    (outsAt0 m c t.val t.isLt).1 (ix2 r j) = projected (X m c) (G m c) (W m c) (ix2 r (ct t j)) := by
  have hs := scratch m c t.val t.isLt r
  have e : (outsAt0 m c t.val t.isLt).1 =
      k0_pay2 (F := Ideal) (outsAt0 m c t.val t.isLt).2 (iblk m c 2 t) := by
    by_cases h0 : t.val % 2 = 0
    · rw [outsAt0_A m c t h0]
      dsimp only
      rw [outA, soutA]
    · rw [outsAt0_B m c t h0]
      dsimp only
      rw [outB, soutB]
  rw [e, pay2_at, projected]
  exact Finset.sum_congr rfl fun d _ => by rw [hs, blk_w]; rfl

/-- Where element `(r, j)` of point `t`'s block lies in the array. -/
theorem emb_out (t : Fin cfg0.N) (r : Fin 512) (j : Fin 512) :
    ((win0_3.blk t).view.emb (ix2 r j : S512x512.Idx) : S512x1024.Idx) = ix2 r (ct t j) := by
  have e := idx3 t
  simp only [ct]
  blk_ext [e]

/-- The array the kernel leaves is the normed product of its arguments. -/
theorem array_eq :
    ((dats m 0 c).arrAt 3 cfg0.N : Vec Ideal S512x1024 .f32) = projected (X m c) (G m c) (W m c) := by
  refine (dats m 0 c).arrAt_eq_of_covers 3 _ (by decide +kernel) fun t _ y => ?_
  blk_simp
  rw [after0_3]
  have hy : ∀ y : S512x512.Idx, (outsAt0 m c t.val t.isLt).1 y =
      projected (X m c) (G m c) (W m c) ((win0_3.blk t).view.emb y : S512x1024.Idx) := fun y => by
    obtain ⟨r, j, e⟩ : ∃ (r : Fin 512) (j : Fin 512), y = (ix2 r j : S512x512.Idx) := ⟨y 0, y 1, by idx_vars y⟩
    rw [e, out_at, emb_out]
  exact hy y

end Cert.MemoryKeys

end
-- ==== Proof.MemoryKeysReference.lean ====
/- The reference of the memory's key and value projection, its composed term read at an index. -/
module

public import proofs.«01_k».proof.Proof.MemoryKeysValue
public import proofs.«01_k».proof.Proof.Gen.Reference7Ideal.Run
public import Idealize.ShloMosaic.Lib.Pointwise

@[expose] public section

set_option maxRecDepth 16384

noncomputable section

namespace Cert.MemoryKeys

open Cert.Reference7Ideal Cert.Reference7Ideal.Gen Idealize.ShloMosaic Idealize.ShloMosaic.TcCoe
  Idealize.SL.Sem Idealize.ShloMosaic.StableHlo
open Cert.Normed (rms)

/-- The reference's normed rows. -/
def refX (X : FVec Ideal S512x2048 .f32) (G : FVec Ideal S2048 .f32) : FVec Ideal S512x2048 .f32 :=
  mulf (mulf X (broadcastInDim S512x2048 ![0, 1] bcast_S512x1_S512x2048_0_1 (Host.rsqrt (addf (Host.divf
    (broadcastInDim S512x1 ![0] bcast_S512_S512x1_0 (Host.reduceAdd (mulf X X) (constant S_ .f32 0x00000000#32)
      reducesTo_S512x2048_S512_d1 h_S_))
    (broadcastInDim S512x1 ![] bcast_S_S512x1 (constant S_ .f32 0x45000000#32)))
    (broadcastInDim S512x1 ![] bcast_S_S512x1 (constant S_ .f32 0x358637BD#32))))))
    (broadcastInDim S512x2048 ![0, 1] bcast_S1x2048_S512x2048_0_1 (broadcastInDim S1x2048 ![1] bcast_S2048_S1x2048_1 G))

/-- The reference's normed rows at an element. -/
theorem refX_at (X : FVec Ideal S512x2048 .f32) (G : FVec Ideal S2048 .f32) (i : Fin 512) (d : Fin 2048) :
    refX X G (ix2 i d) = rms (fun d => X (ix2 i d)) (fun d => G (ix1 d)) d := by
  pointwise [refX, rms]

/-- The reference's product is the kernel's. -/
theorem ref_eq (X : FVec Ideal S512x2048 .f32) (G : FVec Ideal S2048 .f32) (W : FVec Ideal S2048x1024 .bf16) :
    Host.dotGeneral dot_S512x2048_S2048x1024_S512x1024_1_0_0_1_n_n none (refX X G) (extf .f32 W bitsLt_bf16_f32) =
      projected X G W := by
  funext y
  obtain ⟨i, j, rfl⟩ : ∃ (i : Fin 512) (j : Fin 1024), y = (ix2 i j : S512x1024.Idx) := ⟨y 0, y 1, by idx_vars y⟩
  rw [projected]
  pointwise []
  simp only [refX_at]

end Cert.MemoryKeys

end
-- ==== Proof.RotaryValue.lean ====
/- The three arrays the attention's preparation leaves. A query head's row of 128 lanes is divided by its root mean square,
   scaled by a gain, and turned: lanes `2p` and `2p + 1` are a pair, rotated by the row's angle `p`, given by its cosine and
   sine; then it is scaled by a literal. A key head's row is the same without the literal. A value row is as it is. Point `t`
   is batch `t / 32`, row block `t % 32`; the heads of a point run the same arithmetic on their own lanes. -/
module

public import proofs.«01_k».proof.Proof.Gen.Kernel8Ideal.Value
public import proofs.«01_k».proof.Proof.MemoryValue
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Rotary

open Cert.Kernel8Ideal Cert.Kernel8Ideal.Gen Idealize.ShloMosaic Idealize.ShloMosaic.TcCoe Idealize.SL.Sem
open Cert.Memory (nr scl)

/-! ### The rotation -/

/-- The lane before and the lane after, around the end. -/
abbrev prv (d : Fin 128) : Fin 128 := ⟨(d.val + 128 - 1) % 128, by omega⟩
abbrev nxt (d : Fin 128) : Fin 128 := ⟨(d.val + 128 - 127) % 128, by omega⟩

/-- The pair a lane belongs to. -/
abbrev pr (d : Fin 128) : Fin 64 := ⟨d.val / 2, by omega⟩

/-- The kernel's rotation, from the two tables it is given. -/
def krot (y cf sf : Fin 128 → EReal) (d : Fin 128) : EReal :=
  y d * cf d + (if d.val % 2 = 0 then y (nxt d) else y (prv d)) * sf d

/-- The rotation of a pair by an angle. -/
def rot (y : Fin 128 → EReal) (co si : Fin 64 → EReal) (d : Fin 128) : EReal :=
  if d.val % 2 = 0 then y d * co (pr d) - y (nxt d) * si (pr d) else y (prv d) * si (pr d) + y d * co (pr d)

/-- With each cosine twice, and each sine twice, first negated, the kernel's rotation is the rotation of the pairs. -/
theorem krot_eq (y : Fin 128 → EReal) (co si : Fin 64 → EReal) (d : Fin 128) :
    krot y (fun d => co (pr d)) (fun d => if d.val % 2 = 0 then -si (pr d) else si (pr d)) d = rot y co si d := by
  unfold krot rot
  by_cases h : d.val % 2 = 0
  · simp only [if_pos h]
    rw [mul_neg, sub_eq_add_neg]
  · simp only [if_neg h]
    rw [add_comm]

/-! ### One head of a point -/

section head

variable (x : Vec Ideal S1x512x128 .f32) (g : Vec Ideal S1x128 .f32) (cf sf : Vec Ideal S512x128 .f32)

/-- What a query head stores, and what a key head stores. -/
def hq : FVec Ideal S1x512x128 .bf16 := k0_pay7 (F := Ideal) (k0_pay3 cf) (k0_pay4 sf) k0_pay5 (k0_pay6 x g)
def hk : FVec Ideal S1x512x128 .bf16 := k0_pay1 (F := Ideal) (k0_pay3 cf) (k0_pay4 sf) k0_pay5 x g

/-- The mask of the even lanes. -/
theorem mask (r : Fin 512) (d : Fin 128) : k0_pay5 (ix2 r d) = if d.val % 2 = 0 then 1#1 else 0#1 := by
  pointwise [k0_pay5]
  revert d
  decide +kernel

theorem select_ite {p : Prop} [Decidable p] (a b : EReal) :
    Scalar.select (if p then 1#1 else 0#1) a b = if p then a else b := by
  split <;> rfl

theorem pay6_at (r : Fin 512) (d : Fin 128) : k0_pay6 (F := Ideal) x g (ix2 r d) =
    nr (fun d => x (ix3 0 r d)) (fun d => g (ix2 0 d)) d := by
  pointwise [k0_pay6, nr]

theorem pay7_at (a b : FVec Ideal S512x128 .f32) (k : IVec S512x128 1) (y : FVec Ideal S512x128 .f32) (r : Fin 512)
    (d : Fin 128) : k0_pay7 (F := Ideal) a b k y (ix3 0 r d) =
      (y (ix2 r d) * a (ix2 r d) + Scalar.select (k (ix2 r d)) (y (ix2 r (nxt d))) (y (ix2 r (prv d))) * b (ix2 r d)) * scl := by
  pointwise [k0_pay7]

theorem pay1_at (a b : FVec Ideal S512x128 .f32) (k : IVec S512x128 1) (r : Fin 512)
    (d : Fin 128) : k0_pay1 (F := Ideal) a b k x g (ix3 0 r d) =
      nr (fun d => x (ix3 0 r d)) (fun d => g (ix2 0 d)) d * a (ix2 r d) +
        Scalar.select (k (ix2 r d)) (nr (fun d => x (ix3 0 r d)) (fun d => g (ix2 0 d)) (nxt d))
          (nr (fun d => x (ix3 0 r d)) (fun d => g (ix2 0 d)) (prv d)) * b (ix2 r d) := by
  pointwise [k0_pay1, nr]

theorem pay3_at (r : Fin 512) (d : Fin 128) : k0_pay3 (F := Ideal) cf (ix2 r d) = cf (ix2 r d) := by
  pointwise [k0_pay3]

theorem pay4_at (r : Fin 512) (d : Fin 128) : k0_pay4 (F := Ideal) sf (ix2 r d) = sf (ix2 r d) := by
  pointwise [k0_pay4]

theorem hq_at (r : Fin 512) (d : Fin 128) : hq x g cf sf (ix3 0 r d) =
    krot (nr (fun d => x (ix3 0 r d)) (fun d => g (ix2 0 d))) (fun d => cf (ix2 r d)) (fun d => sf (ix2 r d)) d * scl := by
  rw [hq, pay7_at, mask, select_ite, pay3_at, pay4_at, pay6_at, pay6_at, pay6_at]
  rfl

theorem hk_at (r : Fin 512) (d : Fin 128) : hk x g cf sf (ix3 0 r d) =
    krot (nr (fun d => x (ix3 0 r d)) (fun d => g (ix2 0 d))) (fun d => cf (ix2 r d)) (fun d => sf (ix2 r d)) d := by
  rw [hk, pay1_at, mask, select_ite, pay3_at, pay4_at]
  rfl

/-- The heads are written out one by one in the body, cut at different places; each is the same arithmetic. -/
theorem hq1 : k0_pay9 (F := Ideal) (k0_pay8 (k0_pay3 cf) (k0_pay4 sf) k0_pay5 x g) = hq x g cf sf := by
  simp only [hq, k0_pay6, k0_pay7, k0_pay8, k0_pay9]

theorem hq2 : k0_pay10 (F := Ideal) (k0_pay3 cf) (k0_pay4 sf) k0_pay5 x g = hq x g cf sf := by
  simp only [hq, k0_pay6, k0_pay7, k0_pay10]

theorem hq3 : k0_pay15 (F := Ideal) (k0_pay3 cf) (k0_pay4 sf) k0_pay5 (k0_pay11 x) (k0_pay12 g) (k0_pay13 x) k0_pay14 =
    hq x g cf sf := by
  simp only [hq, k0_pay6, k0_pay7, k0_pay11, k0_pay12, k0_pay13, k0_pay14, k0_pay15]

theorem hq4 : k0_pay17 (F := Ideal) (k0_pay16 (k0_pay3 cf) (k0_pay4 sf) k0_pay5 x g) = hq x g cf sf := by
  simp only [hq, k0_pay6, k0_pay7, k0_pay16, k0_pay17]

theorem hq5 : k0_pay18 (F := Ideal) (k0_pay3 cf) (k0_pay4 sf) k0_pay5 x g = hq x g cf sf := by
  simp only [hq, k0_pay6, k0_pay7, k0_pay18]

theorem hq6 : k0_pay20 (F := Ideal) (k0_pay3 cf) (k0_pay4 sf) k0_pay5 (k0_pay19 x) g = hq x g cf sf := by
  simp only [hq, k0_pay6, k0_pay7, k0_pay19, k0_pay20]

theorem hq7 : k0_pay23 (F := Ideal) (k0_pay3 cf) (k0_pay4 sf) k0_pay5 (k0_pay21 x) (k0_pay22 g) = hq x g cf sf := by
  simp only [hq, k0_pay6, k0_pay7, k0_pay21, k0_pay22, k0_pay23]

theorem hk0 : k0_pay24 (F := Ideal) (k0_pay3 cf) (k0_pay4 sf) k0_pay5 x g = hk x g cf sf := by
  simp only [hk, k0_pay1, k0_pay24]

end head

/-! ### The heads of a point -/

section block

variable (x0 : Vec Ideal S1x512x1024 .f32) (x1 : Vec Ideal S1x512x256 .f32) (g : Vec Ideal S1x128 .f32)
  (cf sf : Vec Ideal S512x128 .f32)

/-- What query head `h` leaves at row `r` and lane `d`. -/
def bq (h : Fin 8) (r : Fin 512) (d : Fin 128) : EReal :=
  krot (nr (fun d => x0 (ix3 0 r (⟨h.val * 128 + d.val, by omega⟩ : Fin 1024))) (fun d => g (ix2 0 d)))
    (fun d => cf (ix2 r d)) (fun d => sf (ix2 r d)) d * scl

/-- What key head `h` leaves at row `r` and lane `d`. -/
def bk (h : Fin 2) (r : Fin 512) (d : Fin 128) : EReal :=
  krot (nr (fun d => x1 (ix3 0 r (⟨h.val * 128 + d.val, by omega⟩ : Fin 256))) (fun d => g (ix2 0 d)))
    (fun d => cf (ix2 r d)) (fun d => sf (ix2 r d)) d

theorem ld_q (h : Fin 8) {o : Nat} (e : o = h.val * 128) (inb) (r : Fin 512) (d : Fin 128) :
    View.ld x0 (Rect.unit ![0, 0, o] ![1, 512, 128] inb) (ix3 0 r d) =
      x0 (ix3 0 r (⟨h.val * 128 + d.val, by omega⟩ : Fin 1024)) :=
  View.ld_unit_apply_of _ _ _ _ _ _ fun a => by
    fin_cases a <;> simp [ix3, e]

theorem ld_k (h : Fin 2) {o : Nat} (e : o = h.val * 128) (inb) (r : Fin 512) (d : Fin 128) :
    View.ld x1 (Rect.unit ![0, 0, o] ![1, 512, 128] inb) (ix3 0 r d) =
      x1 (ix3 0 r (⟨h.val * 128 + d.val, by omega⟩ : Fin 256)) :=
  View.ld_unit_apply_of _ _ _ _ _ _ fun a => by
    fin_cases a <;> simp [ix3, e]

/-- A query head's stored lanes are its own. -/
theorem piece_q (h : Fin 8) {o : Nat} (e : o = h.val * 128) (inb) (x : S1x512x128.Idx) (y : S1x512x1024.Idx)
    (h1 : (y 1).val = (x 1).val) (h2 : (y 2).val = o + (x 2).val) :
    hq (View.ld x0 (Rect.unit ![0, 0, o] ![1, 512, 128] inb)) g cf sf x =
    bq x0 g cf sf (⟨(y 2).val / 128, by have : (y 2).val < 1024 := (y 2).isLt; omega⟩ : Fin 8) (y 1)
      (⟨(y 2).val % 128, by omega⟩ : Fin 128) := by
  obtain ⟨z, r, d, rfl⟩ : ∃ (a : Fin 1) (r : Fin 512) (d : Fin 128), x = ix3 a r d := ⟨x 0, x 1, x 2, by idx_vars x⟩
  obtain rfl := Subsingleton.elim z 0
  have hd := d.isLt
  have e2 : (y 2).val = h.val * 128 + d.val := by rw [h2, e]; rfl
  have a1 : (y 1 : Fin 512) = r := Fin.ext h1
  have a2 : (⟨(y 2).val / 128, by have : (y 2).val < 1024 := (y 2).isLt; omega⟩ : Fin 8) = h := Fin.ext (by dsimp only; omega)
  have a3 : (⟨(y 2).val % 128, by omega⟩ : Fin 128) = d := Fin.ext (by dsimp only; omega)
  rw [a1, a2, a3, hq_at, bq]
  simp only [ld_q x0 h e inb]

/-- A key head's stored lanes are its own. -/
theorem piece_k (h : Fin 2) {o : Nat} (e : o = h.val * 128) (inb) (x : S1x512x128.Idx) (y : S1x512x256.Idx)
    (h1 : (y 1).val = (x 1).val) (h2 : (y 2).val = o + (x 2).val) :
    hk (View.ld x1 (Rect.unit ![0, 0, o] ![1, 512, 128] inb)) g cf sf x =
    bk x1 g cf sf (⟨(y 2).val / 128, by have : (y 2).val < 256 := (y 2).isLt; omega⟩ : Fin 2) (y 1)
      (⟨(y 2).val % 128, by omega⟩ : Fin 128) := by
  obtain ⟨z, r, d, rfl⟩ : ∃ (a : Fin 1) (r : Fin 512) (d : Fin 128), x = ix3 a r d := ⟨x 0, x 1, x 2, by idx_vars x⟩
  obtain rfl := Subsingleton.elim z 0
  have hd := d.isLt
  have e2 : (y 2).val = h.val * 128 + d.val := by rw [h2, e]; rfl
  have a1 : (y 1 : Fin 512) = r := Fin.ext h1
  have a2 : (⟨(y 2).val / 128, by have : (y 2).val < 256 := (y 2).isLt; omega⟩ : Fin 2) = h := Fin.ext (by dsimp only; omega)
  have a3 : (⟨(y 2).val % 128, by omega⟩ : Fin 128) = d := Fin.ext (by dsimp only; omega)
  rw [a1, a2, a3, hk_at, bk]
  simp only [ld_k x1 h e inb]

end block

/-! ### The points -/

/-- The block index of each window at point `t`. -/
theorem idx0 : ∀ t : Fin cfg0.N, (cfg0.win 0).index t = ![t.val / 32, t.val % 32, 0] := by decide +kernel
theorem idx1 : ∀ t : Fin cfg0.N, (cfg0.win 1).index t = ![t.val / 32, t.val % 32, 4] := by decide +kernel
theorem idx2 : ∀ t : Fin cfg0.N, (cfg0.win 2).index t = ![t.val / 32, t.val % 32, 5] := by decide +kernel
theorem idx3 : ∀ t : Fin cfg0.N, (cfg0.win 3).index t = ![t.val % 32, 0] := by decide +kernel
theorem idx4 : ∀ t : Fin cfg0.N, (cfg0.win 4).index t = ![t.val % 32, 0] := by decide +kernel
theorem idx5 : ∀ t : Fin cfg0.N, (cfg0.win 5).index t = ![0, 0] := by decide +kernel
theorem idx6 : ∀ t : Fin cfg0.N, (cfg0.win 6).index t = ![0, 0] := by decide +kernel
theorem idx7 : ∀ t : Fin cfg0.N, (cfg0.win 7).index t = ![t.val / 32, t.val % 32, 0] := by decide +kernel
theorem idx8 : ∀ t : Fin cfg0.N, (cfg0.win 8).index t = ![t.val / 32, t.val % 32, 0] := by decide +kernel
theorem idx9 : ∀ t : Fin cfg0.N, (cfg0.win 9).index t = ![t.val / 32, t.val % 32, 0] := by decide +kernel

theorem tlt (t : Fin cfg0.N) : t.val < 64 := t.isLt.trans_eq (show cfg0.N = 64 from N_0)

variable (m : (ℓ : Loc nD τ sig) → Buf (Elt Ideal) ℓ) (c : Dev nD)

/-- The projection, the cosines, the sines and the two gains. -/
abbrev Z : Vec Ideal S2x16384x9728 .f32 := m ((c : Thread nD τ).loc main_arg0)
abbrev CO : Vec Ideal S16384x64 .f32 := m ((c : Thread nD τ).loc main_arg1)
abbrev SI : Vec Ideal S16384x64 .f32 := m ((c : Thread nD τ).loc main_arg2)
abbrev GQ : Vec Ideal S128 .f32 := m ((c : Thread nD τ).loc main_arg3)
abbrev GK : Vec Ideal S128 .f32 := m ((c : Thread nD τ).loc main_arg4)

/-- The batch of point `t`, and the row of the whole array that row `r` of its block is. -/
def bt (t : Fin cfg0.N) : Fin 2 := ⟨t.val / 32, by have := tlt t; omega⟩
def rt (t : Fin cfg0.N) (r : Fin 512) : Fin 16384 := ⟨t.val % 32 * 512 + r.val, by omega⟩

theorem blk_q (t : Fin cfg0.N) (r : Fin 512) (l : Fin 1024) :
    (X0_0 m c t : Vec Ideal S1x512x1024 .f32) (ix3 0 r l) =
      Z m c (ix3 (bt t) (rt t r) (⟨l.val, by omega⟩ : Fin 9728)) := by
  have e := idx0 t
  simp only [Z, bt, rt]
  unfold X0_0 Pipeline.Window.fill
  rw [dif_pos (moved0_0 t _)]
  blk_ext [iblk, V_main_arg0, e]

theorem blk_k (t : Fin cfg0.N) (r : Fin 512) (l : Fin 256) :
    (iblk m c 1 t : Vec Ideal S1x512x256 .f32) (ix3 0 r l) =
      Z m c (ix3 (bt t) (rt t r) (⟨1024 + l.val, by omega⟩ : Fin 9728)) := by
  have e := idx1 t
  simp only [Z, bt, rt]
  blk_ext [iblk, V_main_arg0, e]

theorem blk_v (t : Fin cfg0.N) (r : Fin 512) (l : Fin 256) :
    (iblk m c 2 t : Vec Ideal S1x512x256 .f32) (ix3 0 r l) =
      Z m c (ix3 (bt t) (rt t r) (⟨1280 + l.val, by omega⟩ : Fin 9728)) := by
  have e := idx2 t
  simp only [Z, bt, rt]
  blk_ext [iblk, V_main_arg0, e]

/-- The table of cosines has each cosine twice. -/
theorem cosv (r : Fin 16384) (d : Fin 128) :
    (V m c main_v1 : Vec Ideal S16384x128 .f32) (ix2 r d) = CO m c (ix2 r (pr d)) := by
  have e3 : V m c main_v1 = shapeCast S16384x128 (broadcastInDim S16384x64x2 ![0, 1] bcast_S16384x64_S16384x64x2_0_1
      (m ((c : Thread nD τ).loc main_arg1))) shapeCasts_S16384x64x2_S16384x128 := by
    dsimp only [V, hostOps0]
    after_results
    rfl
  rw [e3]
  pointwise

/-- The pairs of a sine negated and the sine. -/
def sn (s : FVec Ideal S16384x64 .f32) : FVec Ideal S16384x128 .f32 :=
  shapeCast S16384x128 (concatenate S16384x64x2 2
    [⟨S16384x64x1, (broadcastInDim S16384x64x1 ![0, 1] bcast_S16384x64_S16384x64x1_0_1 (Host.negf s))⟩,
      ⟨S16384x64x1, (broadcastInDim S16384x64x1 ![0, 1] bcast_S16384x64_S16384x64x1_0_1 s)⟩]
    concatenates_S16384x64x1_S16384x64x1_S16384x64x2_d2) shapeCasts_S16384x64x2_S16384x128

theorem sn_at (s : FVec Ideal S16384x64 .f32) (r : Fin 16384) (d : Fin 128) :
    sn s (ix2 r d) = if d.val % 2 = 0 then -s (ix2 r (pr d)) else s (ix2 r (pr d)) := by
  pointwise [sn]
  by_cases h : d.val % 2 = 0
  · rw [dif_pos (by omega), if_pos h]
  · rw [dif_neg (by omega), if_neg h]

/-- The table of sines has each sine twice, first negated. -/
theorem sinv (r : Fin 16384) (d : Fin 128) : (V m c main_v6 : Vec Ideal S16384x128 .f32) (ix2 r d) =
    if d.val % 2 = 0 then -SI m c (ix2 r (pr d)) else SI m c (ix2 r (pr d)) := by
  have e3 : V m c main_v6 = sn (m ((c : Thread nD τ).loc main_arg2)) := by
    dsimp only [V, hostOps0]
    after_results
    rfl
  rw [e3]
  exact sn_at _ r d

theorem blk_c (t : Fin cfg0.N) (r : Fin 512) (d : Fin 128) :
    (iblk m c 3 t : Vec Ideal S512x128 .f32) (ix2 r d) = CO m c (ix2 (rt t r) (pr d)) := by
  have e := idx3 t
  rw [← cosv, rt]
  blk_ext [iblk, e]

theorem blk_s (t : Fin cfg0.N) (r : Fin 512) (d : Fin 128) :
    (iblk m c 4 t : Vec Ideal S512x128 .f32) (ix2 r d) =
      if d.val % 2 = 0 then -SI m c (ix2 (rt t r) (pr d)) else SI m c (ix2 (rt t r) (pr d)) := by
  have e := idx4 t
  rw [← sinv, rt]
  blk_ext [iblk, e]

theorem blk_gq (t : Fin cfg0.N) (d : Fin 128) :
    (iblk m c 5 t : Vec Ideal S1x128 .f32) (ix2 0 d) = GQ m c (ix1 d) := by
  have e := idx5 t
  have e2 : (iblk m c 5 t : Vec Ideal S1x128 .f32) (ix2 0 d) = V m c main_v7 (ix2 0 d) := by
    blk_ext [iblk, e]
  have e3 : V m c main_v7 = shapeCast S1x128 (m ((c : Thread nD τ).loc main_arg3)) shapeCasts_S128_S1x128 := by
    dsimp only [V, hostOps0]
    after_results
    rfl
  rw [e2, e3]
  exact (shapeCast_addUnit_apply ![128] _ _ (ix2 0 d)).trans (congrArg _ (Fin.forall_fin_one.2 rfl |> funext))

theorem blk_gk (t : Fin cfg0.N) (d : Fin 128) :
    (iblk m c 6 t : Vec Ideal S1x128 .f32) (ix2 0 d) = GK m c (ix1 d) := by
  have e := idx6 t
  have e2 : (iblk m c 6 t : Vec Ideal S1x128 .f32) (ix2 0 d) = V m c main_v8 (ix2 0 d) := by
    blk_ext [iblk, e]
  have e3 : V m c main_v8 = shapeCast S1x128 (m ((c : Thread nD τ).loc main_arg4)) shapeCasts_S128_S1x128 := by
    dsimp only [V, hostOps0]
    after_results
    rfl
  rw [e2, e3]
  exact (shapeCast_addUnit_apply ![128] _ _ (ix2 0 d)).trans (congrArg _ (Fin.forall_fin_one.2 rfl |> funext))

/-! ### The arrays -/

/-- Query head `h` at batch `b`, row `i`, lane `d`. -/
def rq (Z : Vec Ideal S2x16384x9728 .f32) (CO SI : Vec Ideal S16384x64 .f32) (G : Vec Ideal S128 .f32) (b : Fin 2)
    (h : Fin 8) (i : Fin 16384) (d : Fin 128) : EReal :=
  rot (nr (fun d => Z (ix3 b i (⟨h.val * 128 + d.val, by omega⟩ : Fin 9728))) (fun d => G (ix1 d)))
    (fun p => CO (ix2 i p)) (fun p => SI (ix2 i p)) d * scl

/-- Key head `h` at batch `b`, row `i`, lane `d`. -/
def rk (Z : Vec Ideal S2x16384x9728 .f32) (CO SI : Vec Ideal S16384x64 .f32) (G : Vec Ideal S128 .f32) (b : Fin 2)
    (h : Fin 2) (i : Fin 16384) (d : Fin 128) : EReal :=
  rot (nr (fun d => Z (ix3 b i (⟨1024 + (h.val * 128 + d.val), by omega⟩ : Fin 9728))) (fun d => G (ix1 d)))
    (fun p => CO (ix2 i p)) (fun p => SI (ix2 i p)) d

/-- The queries, the keys and the values over their whole arrays. -/
def Gq (Z : Vec Ideal S2x16384x9728 .f32) (CO SI : Vec Ideal S16384x64 .f32) (G : Vec Ideal S128 .f32) :
    Vec Ideal S2x16384x1024 .bf16 :=
  fun y => rq Z CO SI G (y 0) (⟨(y 2).val / 128, by have : (y 2).val < 1024 := (y 2).isLt; omega⟩ : Fin 8) (y 1)
    (⟨(y 2).val % 128, by omega⟩ : Fin 128)

def Gk (Z : Vec Ideal S2x16384x9728 .f32) (CO SI : Vec Ideal S16384x64 .f32) (G : Vec Ideal S128 .f32) :
    Vec Ideal S2x16384x256 .bf16 :=
  fun y => rk Z CO SI G (y 0) (⟨(y 2).val / 128, by have : (y 2).val < 256 := (y 2).isLt; omega⟩ : Fin 2) (y 1)
    (⟨(y 2).val % 128, by omega⟩ : Fin 128)

def Gv (Z : Vec Ideal S2x16384x9728 .f32) : Vec Ideal S2x16384x256 .bf16 :=
  fun y => Z (ix3 (y 0 : Fin 2) (y 1 : Fin 16384) (⟨1280 + (y 2).val, by have : (y 2).val < 256 := (y 2).isLt; omega⟩ : Fin 9728))

theorem bq_eq (t : Fin cfg0.N) (h : Fin 8) (r : Fin 512) (d : Fin 128) :
    bq (X0_0 m c t) (iblk m c 5 t) (iblk m c 3 t) (iblk m c 4 t) h r d =
      rq (Z m c) (CO m c) (SI m c) (GQ m c) (bt t) h (rt t r) d := by
  unfold bq rq
  rw [← krot_eq]
  simp only [blk_q, blk_c, blk_s, blk_gq]

theorem bk_eq (t : Fin cfg0.N) (h : Fin 2) (r : Fin 512) (d : Fin 128) :
    bk (iblk m c 1 t) (iblk m c 6 t) (iblk m c 3 t) (iblk m c 4 t) h r d =
      rk (Z m c) (CO m c) (SI m c) (GK m c) (bt t) h (rt t r) d := by
  unfold bk rk
  rw [← krot_eq]
  simp only [blk_k, blk_c, blk_s, blk_gk]

/-- The query block a point stores. -/
theorem out7 (t : Fin cfg0.N) (y : S1x512x1024.Idx) : (outsAt0 (F := Ideal) m c t).1 y =
    bq (X0_0 m c t) (iblk m c 5 t) (iblk m c 3 t) (iblk m c 4 t)
      (⟨(y 2).val / 128, by have : (y 2).val < 1024 := (y 2).isLt; omega⟩ : Fin 8) (y 1)
      (⟨(y 2).val % 128, by omega⟩ : Fin 128) := by
  unfold outsAt0
  dsimp only
  frame_out
  canon_tiles x h
  · exact (congrFun (hq7 _ _ _ _) x).trans (piece_q _ _ _ _ 7 (o := 896) rfl _ x y h1 h2)
  · exact (congrFun (hq6 _ _ _ _) x).trans (piece_q _ _ _ _ 6 (o := 768) rfl _ x y h1 h2)
  · exact (congrFun (hq5 _ _ _ _) x).trans (piece_q _ _ _ _ 5 (o := 640) rfl _ x y h1 h2)
  · exact (congrFun (hq4 _ _ _ _) x).trans (piece_q _ _ _ _ 4 (o := 512) rfl _ x y h1 h2)
  · exact (congrFun (hq3 _ _ _ _) x).trans (piece_q _ _ _ _ 3 (o := 384) rfl _ x y h1 h2)
  · exact (congrFun (hq2 _ _ _ _) x).trans (piece_q _ _ _ _ 2 (o := 256) rfl _ x y h1 h2)
  · exact (congrFun (hq1 _ _ _ _) x).trans (piece_q _ _ _ _ 1 (o := 128) rfl _ x y h1 h2)
  · exact piece_q _ _ _ _ 0 (o := 0) rfl _ x y h1 (by omega)

/-- The key block a point stores. -/
theorem out8 (t : Fin cfg0.N) (y : S1x512x256.Idx) : (outsAt0 (F := Ideal) m c t).2.1 y =
    bk (iblk m c 1 t) (iblk m c 6 t) (iblk m c 3 t) (iblk m c 4 t)
      (⟨(y 2).val / 128, by have : (y 2).val < 256 := (y 2).isLt; omega⟩ : Fin 2) (y 1)
      (⟨(y 2).val % 128, by omega⟩ : Fin 128) := by
  unfold outsAt0
  dsimp only
  frame_out
  canon_tiles x h
  · exact piece_k _ _ _ _ 1 (o := 128) rfl _ x y h1 h2
  · exact (congrFun (hk0 _ _ _ _) x).trans (piece_k _ _ _ _ 0 (o := 0) rfl _ x y h1 (by omega))

/-- The value block a point stores. -/
theorem out9 (t : Fin cfg0.N) (y : S1x512x256.Idx) : (outsAt0 (F := Ideal) m c t).2.2 y =
    (iblk m c 2 t : Vec Ideal S1x512x256 .f32) y := by
  unfold outsAt0
  dsimp only
  frame_out
  rfl

theorem emb7 (t : Fin cfg0.N) (r : Fin 512) (l : Fin 1024) :
    ((win0_7.blk t).view.emb (ix3 0 r l : S1x512x1024.Idx) : S2x16384x1024.Idx) = ix3 (bt t) (rt t r) l := by
  have e := idx7 t
  simp only [bt, rt]
  blk_ext [e]

theorem emb8 (t : Fin cfg0.N) (r : Fin 512) (l : Fin 256) :
    ((win0_8.blk t).view.emb (ix3 0 r l : S1x512x256.Idx) : S2x16384x256.Idx) = ix3 (bt t) (rt t r) l := by
  have e := idx8 t
  simp only [bt, rt]
  blk_ext [e]

theorem emb9 (t : Fin cfg0.N) (r : Fin 512) (l : Fin 256) :
    ((win0_9.blk t).view.emb (ix3 0 r l : S1x512x256.Idx) : S2x16384x256.Idx) = ix3 (bt t) (rt t r) l := by
  have e := idx9 t
  simp only [bt, rt]
  blk_ext [e]

/-- The array of queries the kernel leaves. -/
theorem array7 : ((dats m 0 c).arrAt 7 cfg0.N : Vec Ideal S2x16384x1024 .bf16) =
    Gq (Z m c) (CO m c) (SI m c) (GQ m c) := by
  refine (dats m 0 c).arrAt_eq_of_covers 7 _ (by decide +kernel) fun t _ y => ?_
  blk_simp
  rw [after0_7]
  have hy : ∀ y : S1x512x1024.Idx, (outsAt0 (F := Ideal) m c t).1 y =
      Gq (Z m c) (CO m c) (SI m c) (GQ m c) ((win0_7.blk t).view.emb y : S2x16384x1024.Idx) := fun y => by
    obtain ⟨a, r, l, rfl⟩ : ∃ (a : Fin 1) (r : Fin 512) (l : Fin 1024), y = (ix3 a r l : S1x512x1024.Idx) :=
      ⟨y 0, y 1, y 2, by idx_vars y⟩
    obtain rfl := Subsingleton.elim a 0
    rw [emb7]
    exact (out7 m c t _).trans (bq_eq m c t (⟨l.val / 128, by omega⟩ : Fin 8) r (⟨l.val % 128, by omega⟩ : Fin 128))
  exact hy y

/-- The array of keys the kernel leaves. -/
theorem array8 : ((dats m 0 c).arrAt 8 cfg0.N : Vec Ideal S2x16384x256 .bf16) =
    Gk (Z m c) (CO m c) (SI m c) (GK m c) := by
  refine (dats m 0 c).arrAt_eq_of_covers 8 _ (by decide +kernel) fun t _ y => ?_
  blk_simp
  rw [after0_8]
  have hy : ∀ y : S1x512x256.Idx, (outsAt0 (F := Ideal) m c t).2.1 y =
      Gk (Z m c) (CO m c) (SI m c) (GK m c) ((win0_8.blk t).view.emb y : S2x16384x256.Idx) := fun y => by
    obtain ⟨a, r, l, rfl⟩ : ∃ (a : Fin 1) (r : Fin 512) (l : Fin 256), y = (ix3 a r l : S1x512x256.Idx) :=
      ⟨y 0, y 1, y 2, by idx_vars y⟩
    obtain rfl := Subsingleton.elim a 0
    rw [emb8]
    exact (out8 m c t _).trans (bk_eq m c t (⟨l.val / 128, by omega⟩ : Fin 2) r (⟨l.val % 128, by omega⟩ : Fin 128))
  exact hy y

/-- The array of values the kernel leaves. -/
theorem array9 : ((dats m 0 c).arrAt 9 cfg0.N : Vec Ideal S2x16384x256 .bf16) = Gv (Z m c) := by
  refine (dats m 0 c).arrAt_eq_of_covers 9 _ (by decide +kernel) fun t _ y => ?_
  blk_simp
  rw [after0_9]
  have hy : ∀ y : S1x512x256.Idx, (outsAt0 (F := Ideal) m c t).2.2 y =
      Gv (Z m c) ((win0_9.blk t).view.emb y : S2x16384x256.Idx) := fun y => by
    obtain ⟨a, r, l, rfl⟩ : ∃ (a : Fin 1) (r : Fin 512) (l : Fin 256), y = (ix3 a r l : S1x512x256.Idx) :=
      ⟨y 0, y 1, y 2, by idx_vars y⟩
    obtain rfl := Subsingleton.elim a 0
    rw [emb9]
    exact (out9 m c t _).trans (blk_v m c t r l)
  exact hy y

end Cert.Rotary

end
-- ==== Proof.RotaryReference.lean ====
/- The reference of the attention's preparation, its composed terms read at an index. -/
module

public import proofs.«01_k».proof.Proof.RotaryValue
public import proofs.«01_k».proof.Proof.Gen.Reference8Ideal.Run
public import Idealize.ShloMosaic.Lib.Pointwise

@[expose] public section

set_option maxRecDepth 16384

noncomputable section

namespace Cert.Rotary

open Cert.Reference8Ideal Cert.Reference8Ideal.Gen Idealize.ShloMosaic Idealize.ShloMosaic.TcCoe
  Idealize.SL.Sem Idealize.ShloMosaic.StableHlo
open Cert.Memory (nr scl)

/-! ### The queries -/

/-- The queries' lanes, head by head. -/
def refZq (Z : FVec Ideal S2x16384x9728 .f32) : FVec Ideal S2x16384x8x128 .f32 :=
  shapeCast _ (extractStridedSlice S2x16384x1024 ![0, 0, 0] Z slices_S2x16384x9728_S2x16384x1024_0_0_0) shapeCasts_S2x16384x1024_S2x16384x8x128

/-- Normed. -/
def refNq (X : FVec Ideal S2x16384x8x128 .f32) (G : FVec Ideal S128 .f32) : FVec Ideal S2x16384x8x128 .f32 :=
  mulf (mulf X (broadcastInDim S2x16384x8x128 ![0, 1, 2, 3] bcast_S2x16384x8x1_S2x16384x8x128_0_1_2_3 (Host.rsqrt (addf (Host.divf (broadcastInDim S2x16384x8x1 ![0, 1, 2] bcast_S2x16384x8_S2x16384x8x1_0_1_2 (Host.reduceAdd (mulf X X) (constant S_ .f32 0x00000000#32) reducesTo_S2x16384x8x128_S2x16384x8_d3 h_S_)) (broadcastInDim S2x16384x8x1 ![] bcast_S_S2x16384x8x1 (constant S_ .f32 0x43000000#32))) (broadcastInDim S2x16384x8x1 ![] bcast_S_S2x16384x8x1 (constant S_ .f32 0x358637BD#32)))))) (broadcastInDim S2x16384x8x128 ![0, 1, 2, 3] bcast_S1x1x1x128_S2x16384x8x128_0_1_2_3 (broadcastInDim S1x1x1x128 ![3] bcast_S128_S1x1x1x128_3 G))

/-- The first and the second lanes of the pairs, and a table over the heads. -/
def refAq (Y : FVec Ideal S2x16384x8x128 .f32) : FVec Ideal S2x16384x8x64 .f32 :=
  shapeCast _ (extractStridedSlice S2x16384x8x64x1 ![0, 0, 0, 0, 0] (shapeCast _ Y shapeCasts_S2x16384x8x128_S2x16384x8x64x2) slices_S2x16384x8x64x2_S2x16384x8x64x1_0_0_0_0_0) shapeCasts_S2x16384x8x64x1_S2x16384x8x64
def refBq (Y : FVec Ideal S2x16384x8x128 .f32) : FVec Ideal S2x16384x8x64 .f32 :=
  shapeCast _ (extractStridedSlice S2x16384x8x64x1 ![0, 0, 0, 0, 1] (shapeCast _ Y shapeCasts_S2x16384x8x128_S2x16384x8x64x2) slices_S2x16384x8x64x2_S2x16384x8x64x1_0_0_0_0_1) shapeCasts_S2x16384x8x64x1_S2x16384x8x64
def refTq (C : FVec Ideal S16384x64 .f32) : FVec Ideal S2x16384x8x64 .f32 :=
  broadcastInDim S2x16384x8x64 ![0, 1, 2, 3] bcast_S1x16384x1x64_S2x16384x8x64_0_1_2_3 (broadcastInDim S1x16384x1x64 ![1, 3] bcast_S16384x64_S1x16384x1x64_1_3 C)

/-- The rotated pairs, back as lanes. -/
def refIq (E O : FVec Ideal S2x16384x8x64 .f32) : FVec Ideal S2x16384x8x128 .f32 :=
  shapeCast _ (concatenate S2x16384x8x64x2 4 [⟨S2x16384x8x64x1, (broadcastInDim S2x16384x8x64x1 ![0, 1, 2, 3] bcast_S2x16384x8x64_S2x16384x8x64x1_0_1_2_3 E)⟩, ⟨S2x16384x8x64x1, (broadcastInDim S2x16384x8x64x1 ![0, 1, 2, 3] bcast_S2x16384x8x64_S2x16384x8x64x1_0_1_2_3 O)⟩] concatenates_S2x16384x8x64x1_S2x16384x8x64x1_S2x16384x8x64x2_d4) shapeCasts_S2x16384x8x64x2_S2x16384x8x128

/-- The lanes of the heads, back in the result's layout. -/
def refRq (X : FVec Ideal S2x16384x8x128 .f32) : FVec Ideal S2x16384x1024 .bf16 :=
  truncf .bf16 (shapeCast _ (mulf X (broadcastInDim S2x16384x8x128 ![] bcast_S_S2x16384x8x128 (constant S_ .f32 0x3DB504F3#32))) shapeCasts_S2x16384x8x128_S2x16384x1024) bitsLt_bf16_f32

/-- The whole result, from the normed lanes and the tables. -/
def refQ (Y : FVec Ideal S2x16384x8x128 .f32) (C S : FVec Ideal S2x16384x8x64 .f32) : FVec Ideal S2x16384x1024 .bf16 :=
  refRq (refIq (subf (mulf (refAq Y) C) (mulf (refBq Y) S)) (addf (mulf (refAq Y) S) (mulf (refBq Y) C)))

section at_q

variable (b : Fin 2) (i : Fin 16384) (h : Fin 8)

theorem refZq_at (Z : FVec Ideal S2x16384x9728 .f32) (d : Fin 128) :
    refZq Z (ix4 b i h d) = Z (ix3 b i (⟨h.val * 128 + d.val, by omega⟩ : Fin 9728)) := by
  pointwise [refZq]

theorem refNq_at (X : FVec Ideal S2x16384x8x128 .f32) (G : FVec Ideal S128 .f32) (d : Fin 128) :
    refNq X G (ix4 b i h d) = nr (fun d => X (ix4 b i h d)) (fun d => G (ix1 d)) d := by
  pointwise [refNq, nr]

theorem refAq_at (Y : FVec Ideal S2x16384x8x128 .f32) (p : Fin 64) :
    refAq Y (ix4 b i h p) = Y (ix4 b i h (⟨p.val * 2, by omega⟩ : Fin 128)) := by
  pointwise [refAq]

theorem refBq_at (Y : FVec Ideal S2x16384x8x128 .f32) (p : Fin 64) :
    refBq Y (ix4 b i h p) = Y (ix4 b i h (⟨p.val * 2 + 1, by omega⟩ : Fin 128)) := by
  pointwise [refBq]

theorem refTq_at (C : FVec Ideal S16384x64 .f32) (p : Fin 64) : refTq C (ix4 b i h p) = C (ix2 i p) := by
  pointwise [refTq]

theorem refIq_at (E O : FVec Ideal S2x16384x8x64 .f32) (d : Fin 128) : refIq E O (ix4 b i h d) =
    if d.val % 2 = 0 then E (ix4 b i h (pr d)) else O (ix4 b i h (pr d)) := by
  pointwise [refIq]
  by_cases e : d.val % 2 = 0
  · rw [dif_pos (by omega), if_pos e]
  · rw [dif_neg (by omega), if_neg e]

theorem refRq_at (X : FVec Ideal S2x16384x8x128 .f32) (d : Fin 128) :
    refRq X (ix3 b i (⟨h.val * 128 + d.val, by omega⟩ : Fin 1024)) = X (ix4 b i h d) * scl := by
  pointwise [refRq]

theorem refQ_at (Y : FVec Ideal S2x16384x8x128 .f32) (C S : FVec Ideal S16384x64 .f32) (d : Fin 128) :
    refQ Y (refTq C) (refTq S) (ix3 b i (⟨h.val * 128 + d.val, by omega⟩ : Fin 1024)) =
      rot (fun d => Y (ix4 b i h d)) (fun p => C (ix2 i p)) (fun p => S (ix2 i p)) d * scl := by
  rw [refQ, refRq_at, refIq_at, rot]
  refine congrArg (· * scl) ?_
  by_cases e : d.val % 2 = 0
  · have e1 : (⟨(pr d).val * 2, by omega⟩ : Fin 128) = d := Fin.ext (by show d.val / 2 * 2 = d.val; omega)
    have e2 : (⟨(pr d).val * 2 + 1, by omega⟩ : Fin 128) = nxt d :=
      Fin.ext (by show d.val / 2 * 2 + 1 = (d.val + 128 - 127) % 128; omega)
    simp only [if_pos e]
    pointwise [refAq_at, refBq_at, refTq_at, e1, e2]
  · have e1 : (⟨(pr d).val * 2, by omega⟩ : Fin 128) = prv d :=
      Fin.ext (by show d.val / 2 * 2 = (d.val + 128 - 1) % 128; omega)
    have e2 : (⟨(pr d).val * 2 + 1, by omega⟩ : Fin 128) = d := Fin.ext (by show d.val / 2 * 2 + 1 = d.val; omega)
    simp only [if_neg e]
    pointwise [refAq_at, refBq_at, refTq_at, e1, e2]

end at_q

/-- The reference's queries are the kernel's. -/
theorem refq_eq (Z : FVec Ideal S2x16384x9728 .f32) (C S : FVec Ideal S16384x64 .f32) (G : FVec Ideal S128 .f32) :
    refQ (refNq (refZq Z) G) (refTq C) (refTq S) = Gq Z C S G := by
  funext y
  obtain ⟨b, i, l, rfl⟩ : ∃ (b : Fin 2) (i : Fin 16384) (l : Fin 1024), y = (ix3 b i l : S2x16384x1024.Idx) :=
    ⟨y 0, y 1, y 2, by idx_vars y⟩
  have e : l = (⟨(⟨l.val / 128, by omega⟩ : Fin 8).val * 128 + (⟨l.val % 128, by omega⟩ : Fin 128).val, by dsimp only; omega⟩ : Fin 1024) :=
    Fin.ext (by show l.val = l.val / 128 * 128 + l.val % 128; omega)
  refine (congrArg (fun l => refQ (refNq (refZq Z) G) (refTq C) (refTq S) (ix3 b i l)) e).trans ?_
  rw [refQ_at]
  simp only [refNq_at, refZq_at]
  rfl

/-! ### The keys -/

/-- The keys' lanes, head by head. -/
def refZk (Z : FVec Ideal S2x16384x9728 .f32) : FVec Ideal S2x16384x2x128 .f32 :=
  shapeCast _ (extractStridedSlice S2x16384x256 ![0, 0, 1024] Z slices_S2x16384x9728_S2x16384x256_0_0_1024) shapeCasts_S2x16384x256_S2x16384x2x128

/-- Normed. -/
def refNk (X : FVec Ideal S2x16384x2x128 .f32) (G : FVec Ideal S128 .f32) : FVec Ideal S2x16384x2x128 .f32 :=
  mulf (mulf X (broadcastInDim S2x16384x2x128 ![0, 1, 2, 3] bcast_S2x16384x2x1_S2x16384x2x128_0_1_2_3 (Host.rsqrt (addf (Host.divf (broadcastInDim S2x16384x2x1 ![0, 1, 2] bcast_S2x16384x2_S2x16384x2x1_0_1_2 (Host.reduceAdd (mulf X X) (constant S_ .f32 0x00000000#32) reducesTo_S2x16384x2x128_S2x16384x2_d3 h_S_)) (broadcastInDim S2x16384x2x1 ![] bcast_S_S2x16384x2x1 (constant S_ .f32 0x43000000#32))) (broadcastInDim S2x16384x2x1 ![] bcast_S_S2x16384x2x1 (constant S_ .f32 0x358637BD#32)))))) (broadcastInDim S2x16384x2x128 ![0, 1, 2, 3] bcast_S1x1x1x128_S2x16384x2x128_0_1_2_3 (broadcastInDim S1x1x1x128 ![3] bcast_S128_S1x1x1x128_3 G))

/-- The first and the second lanes of the pairs, and a table over the heads. -/
def refAk (Y : FVec Ideal S2x16384x2x128 .f32) : FVec Ideal S2x16384x2x64 .f32 :=
  shapeCast _ (extractStridedSlice S2x16384x2x64x1 ![0, 0, 0, 0, 0] (shapeCast _ Y shapeCasts_S2x16384x2x128_S2x16384x2x64x2) slices_S2x16384x2x64x2_S2x16384x2x64x1_0_0_0_0_0) shapeCasts_S2x16384x2x64x1_S2x16384x2x64
def refBk (Y : FVec Ideal S2x16384x2x128 .f32) : FVec Ideal S2x16384x2x64 .f32 :=
  shapeCast _ (extractStridedSlice S2x16384x2x64x1 ![0, 0, 0, 0, 1] (shapeCast _ Y shapeCasts_S2x16384x2x128_S2x16384x2x64x2) slices_S2x16384x2x64x2_S2x16384x2x64x1_0_0_0_0_1) shapeCasts_S2x16384x2x64x1_S2x16384x2x64
def refTk (C : FVec Ideal S16384x64 .f32) : FVec Ideal S2x16384x2x64 .f32 :=
  broadcastInDim S2x16384x2x64 ![0, 1, 2, 3] bcast_S1x16384x1x64_S2x16384x2x64_0_1_2_3 (broadcastInDim S1x16384x1x64 ![1, 3] bcast_S16384x64_S1x16384x1x64_1_3 C)

/-- The rotated pairs, back as lanes. -/
def refIk (E O : FVec Ideal S2x16384x2x64 .f32) : FVec Ideal S2x16384x2x128 .f32 :=
  shapeCast _ (concatenate S2x16384x2x64x2 4 [⟨S2x16384x2x64x1, (broadcastInDim S2x16384x2x64x1 ![0, 1, 2, 3] bcast_S2x16384x2x64_S2x16384x2x64x1_0_1_2_3 E)⟩, ⟨S2x16384x2x64x1, (broadcastInDim S2x16384x2x64x1 ![0, 1, 2, 3] bcast_S2x16384x2x64_S2x16384x2x64x1_0_1_2_3 O)⟩] concatenates_S2x16384x2x64x1_S2x16384x2x64x1_S2x16384x2x64x2_d4) shapeCasts_S2x16384x2x64x2_S2x16384x2x128

/-- The lanes of the heads, back in the result's layout. -/
def refRk (X : FVec Ideal S2x16384x2x128 .f32) : FVec Ideal S2x16384x256 .bf16 :=
  truncf .bf16 (shapeCast _ X shapeCasts_S2x16384x2x128_S2x16384x256) bitsLt_bf16_f32

/-- The whole result, from the normed lanes and the tables. -/
def refK (Y : FVec Ideal S2x16384x2x128 .f32) (C S : FVec Ideal S2x16384x2x64 .f32) : FVec Ideal S2x16384x256 .bf16 :=
  refRk (refIk (subf (mulf (refAk Y) C) (mulf (refBk Y) S)) (addf (mulf (refAk Y) S) (mulf (refBk Y) C)))

section at_k

variable (b : Fin 2) (i : Fin 16384) (h : Fin 2)

theorem refZk_at (Z : FVec Ideal S2x16384x9728 .f32) (d : Fin 128) :
    refZk Z (ix4 b i h d) = Z (ix3 b i (⟨1024 + (h.val * 128 + d.val), by omega⟩ : Fin 9728)) := by
  pointwise [refZk]

theorem refNk_at (X : FVec Ideal S2x16384x2x128 .f32) (G : FVec Ideal S128 .f32) (d : Fin 128) :
    refNk X G (ix4 b i h d) = nr (fun d => X (ix4 b i h d)) (fun d => G (ix1 d)) d := by
  pointwise [refNk, nr]

theorem refAk_at (Y : FVec Ideal S2x16384x2x128 .f32) (p : Fin 64) :
    refAk Y (ix4 b i h p) = Y (ix4 b i h (⟨p.val * 2, by omega⟩ : Fin 128)) := by
  pointwise [refAk]

theorem refBk_at (Y : FVec Ideal S2x16384x2x128 .f32) (p : Fin 64) :
    refBk Y (ix4 b i h p) = Y (ix4 b i h (⟨p.val * 2 + 1, by omega⟩ : Fin 128)) := by
  pointwise [refBk]

theorem refTk_at (C : FVec Ideal S16384x64 .f32) (p : Fin 64) : refTk C (ix4 b i h p) = C (ix2 i p) := by
  pointwise [refTk]

theorem refIk_at (E O : FVec Ideal S2x16384x2x64 .f32) (d : Fin 128) : refIk E O (ix4 b i h d) =
    if d.val % 2 = 0 then E (ix4 b i h (pr d)) else O (ix4 b i h (pr d)) := by
  pointwise [refIk]
  by_cases e : d.val % 2 = 0
  · rw [dif_pos (by omega), if_pos e]
  · rw [dif_neg (by omega), if_neg e]

theorem refRk_at (X : FVec Ideal S2x16384x2x128 .f32) (d : Fin 128) :
    refRk X (ix3 b i (⟨h.val * 128 + d.val, by omega⟩ : Fin 256)) = X (ix4 b i h d) := by
  pointwise [refRk]

theorem refK_at (Y : FVec Ideal S2x16384x2x128 .f32) (C S : FVec Ideal S16384x64 .f32) (d : Fin 128) :
    refK Y (refTk C) (refTk S) (ix3 b i (⟨h.val * 128 + d.val, by omega⟩ : Fin 256)) =
      rot (fun d => Y (ix4 b i h d)) (fun p => C (ix2 i p)) (fun p => S (ix2 i p)) d := by
  rw [refK, refRk_at, refIk_at, rot]
  by_cases e : d.val % 2 = 0
  · have e1 : (⟨(pr d).val * 2, by omega⟩ : Fin 128) = d := Fin.ext (by show d.val / 2 * 2 = d.val; omega)
    have e2 : (⟨(pr d).val * 2 + 1, by omega⟩ : Fin 128) = nxt d :=
      Fin.ext (by show d.val / 2 * 2 + 1 = (d.val + 128 - 127) % 128; omega)
    simp only [if_pos e]
    pointwise [refAk_at, refBk_at, refTk_at, e1, e2]
  · have e1 : (⟨(pr d).val * 2, by omega⟩ : Fin 128) = prv d :=
      Fin.ext (by show d.val / 2 * 2 = (d.val + 128 - 1) % 128; omega)
    have e2 : (⟨(pr d).val * 2 + 1, by omega⟩ : Fin 128) = d := Fin.ext (by show d.val / 2 * 2 + 1 = d.val; omega)
    simp only [if_neg e]
    pointwise [refAk_at, refBk_at, refTk_at, e1, e2]

end at_k

/-- The reference's keys are the kernel's. -/
theorem refk_eq (Z : FVec Ideal S2x16384x9728 .f32) (C S : FVec Ideal S16384x64 .f32) (G : FVec Ideal S128 .f32) :
    refK (refNk (refZk Z) G) (refTk C) (refTk S) = Gk Z C S G := by
  funext y
  obtain ⟨b, i, l, rfl⟩ : ∃ (b : Fin 2) (i : Fin 16384) (l : Fin 256), y = (ix3 b i l : S2x16384x256.Idx) :=
    ⟨y 0, y 1, y 2, by idx_vars y⟩
  have e : l = (⟨(⟨l.val / 128, by omega⟩ : Fin 2).val * 128 + (⟨l.val % 128, by omega⟩ : Fin 128).val, by dsimp only; omega⟩ : Fin 256) :=
    Fin.ext (by show l.val = l.val / 128 * 128 + l.val % 128; omega)
  refine (congrArg (fun l => refK (refNk (refZk Z) G) (refTk C) (refTk S) (ix3 b i l)) e).trans ?_
  rw [refK_at]
  simp only [refNk_at, refZk_at]
  rfl

/-! ### The values -/

/-- The reference's values are the kernel's. -/
theorem refv_eq (Z : FVec Ideal S2x16384x9728 .f32) :
    truncf .bf16 (extractStridedSlice S2x16384x256 ![0, 0, 1280] Z slices_S2x16384x9728_S2x16384x256_0_0_1280) bitsLt_bf16_f32 =
      Gv Z := by
  funext y
  obtain ⟨b, i, l, rfl⟩ : ∃ (b : Fin 2) (i : Fin 16384) (l : Fin 256), y = (ix3 b i l : S2x16384x256.Idx) :=
    ⟨y 0, y 1, y 2, by idx_vars y⟩
  pointwise [Gv]

end Cert.Rotary

end
-- ==== Proof.StreamsValue.lean ====
/- The two arrays the long convolution's first stage leaves. The 1536 columns are three streams of 512; each column is
   filtered along the rows by three taps, a row outside the array counting as zero, and shifted by a bias. The first result
   is the third stream times the second, the second result is the first stream. Point `t` is batch `t / 32`, row block
   `t % 32`; the row before a block and the row after it come from two windows of eight rows. -/
module

public import proofs.«01_k».proof.Proof.Gen.Kernel9Ideal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Streams

open Cert.Kernel9Ideal Cert.Kernel9Ideal.Gen Idealize.ShloMosaic Idealize.ShloMosaic.TcCoe Idealize.SL.Sem

/-! ### The filter -/

/-- The row before row `i`, zero before the first. -/
def lag (Z : Vec Ideal S2x16384x9728 .f32) (b : Fin 2) (i : Fin 16384) (k : Fin 1536) : EReal :=
  if i.val = 0 then 0 else Z (ix3 b (⟨i.val - 1, by omega⟩ : Fin 16384) (⟨1536 + k.val, by omega⟩ : Fin 9728))

/-- The row after row `i`, zero after the last. -/
def lead (Z : Vec Ideal S2x16384x9728 .f32) (b : Fin 2) (i : Fin 16384) (k : Fin 1536) : EReal :=
  if h : i.val + 1 < 16384 then Z (ix3 b (⟨i.val + 1, h⟩ : Fin 16384) (⟨1536 + k.val, by omega⟩ : Fin 9728)) else 0

/-- Column `k` at row `i`: three taps and the bias. -/
def taps (Z : Vec Ideal S2x16384x9728 .f32) (W : Vec Ideal S3x1x1536 .f32) (B : Vec Ideal S1536 .f32) (b : Fin 2)
    (i : Fin 16384) (k : Fin 1536) : EReal :=
  W (ix3 0 0 k) * lag Z b i k + W (ix3 1 0 k) * Z (ix3 b i (⟨1536 + k.val, by omega⟩ : Fin 9728)) +
    W (ix3 2 0 k) * lead Z b i k + B (ix1 k)

/-- The third stream times the second. -/
def G0 (Z : Vec Ideal S2x16384x9728 .f32) (W : Vec Ideal S3x1x1536 .f32) (B : Vec Ideal S1536 .f32) :
    Vec Ideal S2x16384x512 .f32 :=
  fun y => taps Z W B (y 0) (y 1) (⟨1024 + (y 2).val, by have : (y 2).val < 512 := (y 2).isLt; omega⟩ : Fin 1536) *
    taps Z W B (y 0) (y 1) (⟨512 + (y 2).val, by have : (y 2).val < 512 := (y 2).isLt; omega⟩ : Fin 1536)

/-- The first stream. -/
def G1 (Z : Vec Ideal S2x16384x9728 .f32) (W : Vec Ideal S3x1x1536 .f32) (B : Vec Ideal S1536 .f32) :
    Vec Ideal S2x16384x512 .f32 :=
  fun y => taps Z W B (y 0) (y 1) (⟨(y 2).val, by have : (y 2).val < 512 := (y 2).isLt; omega⟩ : Fin 1536)

/-! ### A point's arithmetic -/

theorem first_row : ∀ r : Fin 512, IntOp.cmpi CmpIPredicate.eq (BitVec.ofNat 32 r.val) 0#32 =
    if r.val = 0 then 1#1 else 0#1 := by decide +kernel

theorem last_row : ∀ r : Fin 512, IntOp.cmpi CmpIPredicate.eq (BitVec.ofNat 32 r.val) 511#32 =
    if r.val = 511 then 1#1 else 0#1 := by decide +kernel

theorem some_before : ∀ i : Fin 32, Scalar.cmpi CmpIPredicate.sgt (BitVec.ofNat 32 i.val) 0#32 =
    if 0 < i.val then 1#1 else 0#1 := by decide +kernel

theorem some_after : ∀ i : Fin 32, Scalar.cmpi CmpIPredicate.slt (BitVec.ofNat 32 i.val) 31#32 =
    if i.val < 31 then 1#1 else 0#1 := by decide +kernel

theorem select_ite {p : Prop} [Decidable p] (a b : EReal) :
    Scalar.select (if p then 1#1 else 0#1) a b = if p then a else b := by
  split <;> rfl

/-- The row after: the block's next row, and at its last row the window's row or zero. -/
theorem pay5_at (i : grid0.Coords) (x : Vec Ideal S1x512x1536 .f32) (n : Vec Ideal S1x1x1536 .f32) (r : Fin 512)
    (k : Fin 1536) : k0_pay5 (F := Ideal) i x n (ix2 r k) =
      if r.val = 511 then (if (i 1).val < 31 then n (ix3 0 0 k) else 0)
      else x (ix3 0 (⟨(r.val + 512 - 511) % 512, by omega⟩ : Fin 512) k) := by
  have e : k0_pay5 (F := Ideal) i x n (ix2 r k) =
      Scalar.select (IntOp.cmpi CmpIPredicate.eq (BitVec.ofNat 32 r.val) 511#32)
        (Scalar.select (Scalar.cmpi CmpIPredicate.slt (BitVec.ofNat 32 (i 1).val) 31#32) (n (ix3 0 0 k)) 0)
        (x (ix3 0 (⟨(r.val + 512 - 511) % 512, by omega⟩ : Fin 512) k)) := by
    pointwise [k0_pay5, k0_pay4]
  rw [e, last_row, some_after (i 1), select_ite, select_ite]

/-- The first two taps: the row before is the block's row before, and at its first row the window's row or zero. -/
theorem pay6_at (i : grid0.Coords) (x : Vec Ideal S1x512x1536 .f32) (p : Vec Ideal S1x1x1536 .f32)
    (w0 w1 : Vec Ideal S1x1536 .f32) (r : Fin 512) (k : Fin 1536) : k0_pay6 (F := Ideal) i x p w0 w1 (ix2 r k) =
      w0 (ix2 0 k) * (if r.val = 0 then (if 0 < (i 1).val then p (ix3 0 0 k) else 0)
        else x (ix3 0 (⟨(r.val + 512 - 1) % 512, by omega⟩ : Fin 512) k)) + w1 (ix2 0 k) * x (ix3 0 r k) := by
  have e : k0_pay6 (F := Ideal) i x p w0 w1 (ix2 r k) =
      w0 (ix2 0 k) * Scalar.select (IntOp.cmpi CmpIPredicate.eq (BitVec.ofNat 32 r.val) 0#32)
          (Scalar.select (Scalar.cmpi CmpIPredicate.sgt (BitVec.ofNat 32 (i 1).val) 0#32) (p (ix3 0 0 k)) 0)
          (x (ix3 0 (⟨(r.val + 512 - 1) % 512, by omega⟩ : Fin 512) k)) + w1 (ix2 0 k) * x (ix3 0 r k) := by
    pointwise [k0_pay6, k0_pay4]
  rw [e, first_row, some_before (i 1), select_ite, select_ite]

theorem pay1_at (a b : FVec Ideal S512x1536 .f32) (w c : Vec Ideal S1x1536 .f32) (r : Fin 512) (k : Fin 1536) :
    k0_pay1 (F := Ideal) a b w c (ix2 r k) = b (ix2 r k) + w (ix2 0 k) * a (ix2 r k) + c (ix2 0 k) := by
  pointwise [k0_pay1]

theorem pay2_at (a b : FVec Ideal S512x1536 .f32) (w c : Vec Ideal S1x1536 .f32) (r j : Fin 512) :
    k0_pay2 (F := Ideal) a b w c (ix3 0 r j) =
      k0_pay1 (F := Ideal) a b w c (ix2 r (⟨1024 + j.val, by omega⟩ : Fin 1536)) *
      k0_pay1 (F := Ideal) a b w c (ix2 r (⟨512 + j.val, by omega⟩ : Fin 1536)) := by
  pointwise [k0_pay2]

theorem pay3_at (a b : FVec Ideal S512x1536 .f32) (w c : Vec Ideal S1x1536 .f32) (r j : Fin 512) :
    k0_pay3 (F := Ideal) a b w c (ix3 0 r j) =
      k0_pay1 (F := Ideal) a b w c (ix2 r (⟨j.val, by omega⟩ : Fin 1536)) := by
  pointwise [k0_pay3]

/-! ### The points -/

/-- The block index of each window at point `t`. -/
theorem idx0 : ∀ t : Fin cfg0.N, (cfg0.win 0).index t = ![t.val / 32, t.val % 32, 1] := by decide +kernel
theorem idx1 : ∀ t : Fin cfg0.N, (cfg0.win 1).index t = ![t.val / 32, t.val % 32 * 64 - 1, 1] := by decide +kernel
theorem idx2 : ∀ t : Fin cfg0.N, (cfg0.win 2).index t = ![t.val / 32, min (t.val % 32 * 64 + 64) 2047, 1] := by
  decide +kernel
theorem idx3 : ∀ t : Fin cfg0.N, (cfg0.win 3).index t = ![0, 0] := by decide +kernel
theorem idx4 : ∀ t : Fin cfg0.N, (cfg0.win 4).index t = ![0, 0] := by decide +kernel
theorem idx5 : ∀ t : Fin cfg0.N, (cfg0.win 5).index t = ![t.val / 32, t.val % 32, 0] := by decide +kernel
theorem idx6 : ∀ t : Fin cfg0.N, (cfg0.win 6).index t = ![t.val / 32, t.val % 32, 0] := by decide +kernel

/-- The row block of point `t`, as the body reads it. -/
theorem crd : ∀ t : Fin cfg0.N, (grid0.coords t 1).val = t.val % 32 := by decide +kernel

theorem tlt (t : Fin cfg0.N) : t.val < 64 := t.isLt.trans_eq (show cfg0.N = 64 from N_0)

variable (m : (ℓ : Loc nD τ sig) → Buf (Elt Ideal) ℓ) (c : Dev nD)

/-- The projection, the taps and the bias. -/
abbrev Z : Vec Ideal S2x16384x9728 .f32 := m ((c : Thread nD τ).loc main_arg0)
abbrev W : Vec Ideal S3x1x1536 .f32 := m ((c : Thread nD τ).loc main_arg1)
abbrev B : Vec Ideal S1536 .f32 := m ((c : Thread nD τ).loc main_arg2)

/-- The batch of point `t`, and the row of the whole array that row `r` of its block is. -/
def bt (t : Fin cfg0.N) : Fin 2 := ⟨t.val / 32, by have := tlt t; omega⟩
def rt (t : Fin cfg0.N) (r : Fin 512) : Fin 16384 := ⟨t.val % 32 * 512 + r.val, by omega⟩

theorem blk_x (t : Fin cfg0.N) (r : Fin 512) (k : Fin 1536) :
    (X0_0 m c t : Vec Ideal S1x512x1536 .f32) (ix3 0 r k) =
      Z m c (ix3 (bt t) (rt t r) (⟨1536 + k.val, by omega⟩ : Fin 9728)) := by
  have e := idx0 t
  simp only [Z, bt, rt]
  unfold X0_0 Pipeline.Window.fill
  rw [dif_pos (moved0_0 t _)]
  blk_ext [iblk, V_main_arg0, e]

theorem blk_p (t : Fin cfg0.N) (r : Fin 8) (k : Fin 1536) :
    (X0_1 m c t : Vec Ideal S1x8x1536 .f32) (ix3 0 r k) =
      Z m c (ix3 (bt t) (⟨(t.val % 32 * 64 - 1) * 8 + r.val, by omega⟩ : Fin 16384) (⟨1536 + k.val, by omega⟩ : Fin 9728)) := by
  have e := idx1 t
  simp only [Z, bt]
  unfold X0_1 Pipeline.Window.fill
  rw [dif_pos (moved0_1 t _)]
  blk_ext [iblk, V_main_arg0, e]

theorem blk_n (t : Fin cfg0.N) (r : Fin 8) (k : Fin 1536) :
    (X0_2 m c t : Vec Ideal S1x8x1536 .f32) (ix3 0 r k) =
      Z m c (ix3 (bt t) (⟨min (t.val % 32 * 64 + 64) 2047 * 8 + r.val, by omega⟩ : Fin 16384)
        (⟨1536 + k.val, by omega⟩ : Fin 9728)) := by
  have e := idx2 t
  simp only [Z, bt]
  unfold X0_2 Pipeline.Window.fill
  rw [dif_pos (moved0_2 t _)]
  blk_ext [iblk, V_main_arg0, e]

theorem blk_w (t : Fin cfg0.N) (a : Fin 3) (k : Fin 1536) :
    (iblk m c 3 t : Vec Ideal S3x1536 .f32) (ix2 a k) = W m c (ix3 a 0 k) := by
  have e := idx3 t
  have e2 : (iblk m c 3 t : Vec Ideal S3x1536 .f32) (ix2 a k) = V m c main_v0 (ix2 a k) := by
    blk_ext [iblk, e]
  have e3 : V m c main_v0 = shapeCast S3x1536 (m ((c : Thread nD τ).loc main_arg1)) shapeCasts_S3x1x1536_S3x1536 := by
    dsimp only [V, hostOps0]
    after_results
    rfl
  rw [e2, e3]
  pointwise

theorem blk_b (t : Fin cfg0.N) (k : Fin 1536) :
    (iblk m c 4 t : Vec Ideal S1x1536 .f32) (ix2 0 k) = B m c (ix1 k) := by
  have e := idx4 t
  have e2 : (iblk m c 4 t : Vec Ideal S1x1536 .f32) (ix2 0 k) = V m c main_v1 (ix2 0 k) := by
    blk_ext [iblk, e]
  have e3 : V m c main_v1 = shapeCast S1x1536 (m ((c : Thread nD τ).loc main_arg2)) shapeCasts_S1536_S1x1536 := by
    dsimp only [V, hostOps0]
    after_results
    rfl
  rw [e2, e3]
  exact (shapeCast_addUnit_apply ![1536] _ _ (ix2 0 k)).trans (congrArg _ (Fin.forall_fin_one.2 rfl |> funext))

/-- A tap is read as one row, and so are the last row of the window before and the first of the window after. -/
theorem ld_w (x : Vec Ideal S3x1536 .f32) (a : Fin 3) {o : Nat} (e : o = a.val) (inb) (k : Fin 1536) :
    View.ld x (Rect.unit ![o, 0] ![1, 1536] inb) (ix2 0 k) = x (ix2 a k) :=
  View.ld_unit_apply_of _ _ _ _ _ _ fun i => by
    fin_cases i <;> simp [ix2, e]

theorem ld_r (x : Vec Ideal S1x8x1536 .f32) (r : Fin 8) {o : Nat} (e : o = r.val) (inb) (k : Fin 1536) :
    View.ld x (Rect.unit ![0, o, 0] ![1, 1, 1536] inb) (ix3 0 0 k) = x (ix3 0 r k) :=
  View.ld_unit_apply_of _ _ _ _ _ _ fun i => by
    fin_cases i <;> simp [ix3, e]

/-- The filtered columns of a block `x`, from the rows before and after it, the taps and the bias. -/
def mixv (i : grid0.Coords) (x : Vec Ideal S1x512x1536 .f32) (p n : Vec Ideal S1x8x1536 .f32)
    (w : Vec Ideal S3x1536 .f32) (b : Vec Ideal S1x1536 .f32) : FVec Ideal S512x1536 .f32 :=
  k0_pay1 (F := Ideal) (k0_pay5 i x (View.ld n (Rect.unit ![0, 0, 0] ![1, 1, 1536] inb_S1x8x1536_S1x1x1536_0_0_0)))
    (k0_pay6 i x (View.ld p (Rect.unit ![0, 7, 0] ![1, 1, 1536] inb_S1x8x1536_S1x1x1536_0_7_0))
      (View.ld w (Rect.unit ![0, 0] ![1, 1536] inb_S3x1536_S1x1536_0_0))
      (View.ld w (Rect.unit ![1, 0] ![1, 1536] inb_S3x1536_S1x1536_1_0)))
    (View.ld w (Rect.unit ![2, 0] ![1, 1536] inb_S3x1536_S1x1536_2_0)) b

theorem mixv_at (i : grid0.Coords) (x : Vec Ideal S1x512x1536 .f32) (p n : Vec Ideal S1x8x1536 .f32)
    (w : Vec Ideal S3x1536 .f32) (b : Vec Ideal S1x1536 .f32) (r : Fin 512) (k : Fin 1536) :
    mixv i x p n w b (ix2 r k) =
      w (ix2 0 k) * (if r.val = 0 then (if 0 < (i 1).val then p (ix3 0 7 k) else 0)
        else x (ix3 0 (⟨(r.val + 512 - 1) % 512, by omega⟩ : Fin 512) k)) + w (ix2 1 k) * x (ix3 0 r k) +
      w (ix2 2 k) * (if r.val = 511 then (if (i 1).val < 31 then n (ix3 0 0 k) else 0)
        else x (ix3 0 (⟨(r.val + 512 - 511) % 512, by omega⟩ : Fin 512) k)) + b (ix2 0 k) := by
  rw [mixv, pay1_at, pay5_at, pay6_at, ld_r p 7 (o := 7) rfl, ld_r n 0 (o := 0) rfl, ld_w w 0 (o := 0) rfl,
    ld_w w 1 (o := 1) rfl, ld_w w 2 (o := 2) rfl]

/-- The filtered columns of a point's block. -/
def mix (t : Fin cfg0.N) : FVec Ideal S512x1536 .f32 :=
  mixv (grid0.coords t) (X0_0 m c t) (X0_1 m c t) (X0_2 m c t) (iblk m c 3 t) (iblk m c 4 t)

/-- The row before a block's row, from the window before it. -/
theorem lag_eq (z : Vec Ideal S2x16384x9728 .f32) (b : Fin 2) (T : Nat) (hT : T < 32) (r : Fin 512) (k : Fin 1536) :
    (if r.val = 0 then (if 0 < T then z (ix3 b (⟨(T * 64 - 1) * 8 + 7, by omega⟩ : Fin 16384)
        (⟨1536 + k.val, by omega⟩ : Fin 9728)) else 0)
      else z (ix3 b (⟨T * 512 + (r.val + 512 - 1) % 512, by omega⟩ : Fin 16384) (⟨1536 + k.val, by omega⟩ : Fin 9728))) =
    lag z b (⟨T * 512 + r.val, by omega⟩ : Fin 16384) k := by
  have hr := r.isLt
  unfold lag
  by_cases h0 : r.val = 0
  · by_cases h1 : 0 < T
    · rw [if_pos h0, if_pos h1, if_neg (by dsimp only; omega)]
      congr 3
      dsimp only; omega
    · rw [if_pos h0, if_neg h1, if_pos (by dsimp only; omega)]
  · rw [if_neg h0, if_neg (by dsimp only; omega)]
    congr 3
    dsimp only; omega

/-- The row after a block's row, from the window after it. -/
theorem lead_eq (z : Vec Ideal S2x16384x9728 .f32) (b : Fin 2) (T : Nat) (hT : T < 32) (r : Fin 512) (k : Fin 1536) :
    (if r.val = 511 then (if T < 31 then z (ix3 b (⟨min (T * 64 + 64) 2047 * 8 + 0, by omega⟩ : Fin 16384)
        (⟨1536 + k.val, by omega⟩ : Fin 9728)) else 0)
      else z (ix3 b (⟨T * 512 + (r.val + 512 - 511) % 512, by omega⟩ : Fin 16384) (⟨1536 + k.val, by omega⟩ : Fin 9728))) =
    lead z b (⟨T * 512 + r.val, by omega⟩ : Fin 16384) k := by
  have hr := r.isLt
  unfold lead
  by_cases h0 : r.val = 511
  · by_cases h1 : T < 31
    · rw [if_pos h0, if_pos h1, dif_pos (by dsimp only; omega)]
      congr 3
      dsimp only; omega
    · rw [if_pos h0, if_neg h1, dif_neg (by dsimp only; omega)]
  · rw [if_neg h0, dif_pos (by dsimp only; omega)]
    congr 3
    dsimp only; omega

/-- The columns are the filter of the whole array at the block's rows. -/
theorem mix_at (t : Fin cfg0.N) (r : Fin 512) (k : Fin 1536) :
    mix m c t (ix2 r k) = taps (Z m c) (W m c) (B m c) (bt t) (rt t r) k := by
  have e1 : _ = lag (Z m c) (bt t) (rt t r) k := lag_eq (Z m c) (bt t) (t.val % 32) (Nat.mod_lt _ (by decide)) r k
  have e2 : _ = lead (Z m c) (bt t) (rt t r) k := lead_eq (Z m c) (bt t) (t.val % 32) (Nat.mod_lt _ (by decide)) r k
  have e3 := mixv_at (grid0.coords t) (X0_0 m c t) (X0_1 m c t) (X0_2 m c t) (iblk m c 3 t) (iblk m c 4 t) r k
  simp only [crd, blk_x, blk_p, blk_n, blk_w, blk_b] at e3
  refine e3.trans ?_
  unfold taps
  rw [← e1, ← e2]
  rfl

theorem out5 (t : Fin cfg0.N) (r j : Fin 512) : (outsAt0 (F := Ideal) m c t).1 (ix3 0 r j : S1x512x512.Idx) =
    mix m c t (ix2 r (⟨1024 + j.val, by omega⟩ : Fin 1536)) * mix m c t (ix2 r (⟨512 + j.val, by omega⟩ : Fin 1536)) := by
  refine Eq.trans ?_ (pay2_at _ _ _ _ r j)
  unfold outsAt0
  dsimp only
  frame_out

theorem out6 (t : Fin cfg0.N) (r j : Fin 512) : (outsAt0 (F := Ideal) m c t).2 (ix3 0 r j : S1x512x512.Idx) =
    mix m c t (ix2 r (⟨j.val, by omega⟩ : Fin 1536)) := by
  refine Eq.trans ?_ (pay3_at _ _ _ _ r j)
  unfold outsAt0
  dsimp only
  frame_out

theorem emb5 (t : Fin cfg0.N) (r j : Fin 512) :
    ((win0_5.blk t).view.emb (ix3 0 r j : S1x512x512.Idx) : S2x16384x512.Idx) = ix3 (bt t) (rt t r) j := by
  have e := idx5 t
  simp only [bt, rt]
  blk_ext [e]

theorem emb6 (t : Fin cfg0.N) (r j : Fin 512) :
    ((win0_6.blk t).view.emb (ix3 0 r j : S1x512x512.Idx) : S2x16384x512.Idx) = ix3 (bt t) (rt t r) j := by
  have e := idx6 t
  simp only [bt, rt]
  blk_ext [e]

/-- The first array the kernel leaves. -/
theorem array5 : ((dats m 0 c).arrAt 5 cfg0.N : Vec Ideal S2x16384x512 .f32) = G0 (Z m c) (W m c) (B m c) := by
  refine (dats m 0 c).arrAt_eq_of_covers 5 _ (by decide +kernel) fun t _ y => ?_
  blk_simp
  rw [after0_5]
  have hy : ∀ y : S1x512x512.Idx, (outsAt0 (F := Ideal) m c t).1 y =
      G0 (Z m c) (W m c) (B m c) ((win0_5.blk t).view.emb y : S2x16384x512.Idx) := fun y => by
    obtain ⟨a, r, j, rfl⟩ : ∃ (a : Fin 1) (r j : Fin 512), y = (ix3 a r j : S1x512x512.Idx) := ⟨y 0, y 1, y 2, by idx_vars y⟩
    obtain rfl := Subsingleton.elim a 0
    rw [emb5, out5, mix_at, mix_at]
    rfl
  exact hy y

/-- The second array the kernel leaves. -/
theorem array6 : ((dats m 0 c).arrAt 6 cfg0.N : Vec Ideal S2x16384x512 .f32) = G1 (Z m c) (W m c) (B m c) := by
  refine (dats m 0 c).arrAt_eq_of_covers 6 _ (by decide +kernel) fun t _ y => ?_
  blk_simp
  rw [after0_6]
  have hy : ∀ y : S1x512x512.Idx, (outsAt0 (F := Ideal) m c t).2 y =
      G1 (Z m c) (W m c) (B m c) ((win0_6.blk t).view.emb y : S2x16384x512.Idx) := fun y => by
    obtain ⟨a, r, j, rfl⟩ : ∃ (a : Fin 1) (r j : Fin 512), y = (ix3 a r j : S1x512x512.Idx) := ⟨y 0, y 1, y 2, by idx_vars y⟩
    obtain rfl := Subsingleton.elim a 0
    rw [emb6, out6, mix_at]
    rfl
  exact hy y

end Cert.Streams

end
-- ==== Proof.StreamsReference.lean ====
/- The reference of the long convolution's first stage, its composed terms read at an index. -/
module

public import proofs.«01_k».proof.Proof.StreamsValue
public import proofs.«01_k».proof.Proof.Gen.Reference9Ideal.Run
public import Idealize.ShloMosaic.Lib.Pointwise

@[expose] public section

set_option maxRecDepth 16384

noncomputable section

namespace Cert.Streams

open Cert.Reference9Ideal Cert.Reference9Ideal.Gen Idealize.ShloMosaic Idealize.ShloMosaic.TcCoe
  Idealize.SL.Sem Idealize.ShloMosaic.StableHlo

/-- The reference's columns with a row of zeros before and after them. -/
def refP (Z : FVec Ideal S2x16384x9728 .f32) : FVec Ideal S2x16386x1536 .f32 :=
  pad S2x16386x1536 ![0, 1, 0] ![0, 1, 0] ![0, 0, 0] (extractStridedSlice S2x16384x1536 ![0, 0, 1536] Z slices_S2x16384x9728_S2x16384x1536_0_0_1536) (sitofp .f32 (constantI S_ 32 0#32)) pads_S2x16384x1536_S2x16386x1536_000_110_000 h_S_

/-- The reference's filtered columns, from the padded ones. -/
def refU (P : FVec Ideal S2x16386x1536 .f32) (W : FVec Ideal S3x1x1536 .f32) (B : FVec Ideal S1536 .f32) :
    FVec Ideal S2x16384x1536 .f32 :=
  addf (addf (addf (addf (broadcastInDim S2x16384x1536 ![] bcast_S_S2x16384x1536 (constant S_ .f32 0x00000000#32))
    (mulf (broadcastInDim S2x16384x1536 ![0, 1, 2] bcast_S1x1x1536_S2x16384x1536_0_1_2 (broadcastInDim S1x1x1536 ![2] bcast_S1536_S1x1x1536_2 (shapeCast _ (extractStridedSlice S1x1x1536 ![0, 0, 0] W slices_S3x1x1536_S1x1x1536_0_0_0) shapeCasts_S1x1x1536_S1536))) (extractStridedSlice S2x16384x1536 ![0, 0, 0] P slices_S2x16386x1536_S2x16384x1536_0_0_0)))
    (mulf (broadcastInDim S2x16384x1536 ![0, 1, 2] bcast_S1x1x1536_S2x16384x1536_0_1_2 (broadcastInDim S1x1x1536 ![2] bcast_S1536_S1x1x1536_2 (shapeCast _ (extractStridedSlice S1x1x1536 ![1, 0, 0] W slices_S3x1x1536_S1x1x1536_1_0_0) shapeCasts_S1x1x1536_S1536))) (extractStridedSlice S2x16384x1536 ![0, 1, 0] P slices_S2x16386x1536_S2x16384x1536_0_1_0)))
    (mulf (broadcastInDim S2x16384x1536 ![0, 1, 2] bcast_S1x1x1536_S2x16384x1536_0_1_2 (broadcastInDim S1x1x1536 ![2] bcast_S1536_S1x1x1536_2 (shapeCast _ (extractStridedSlice S1x1x1536 ![2, 0, 0] W slices_S3x1x1536_S1x1x1536_2_0_0) shapeCasts_S1x1x1536_S1536))) (extractStridedSlice S2x16384x1536 ![0, 2, 0] P slices_S2x16386x1536_S2x16384x1536_0_2_0)))
    (broadcastInDim S2x16384x1536 ![0, 1, 2] bcast_S1x1x1536_S2x16384x1536_0_1_2 (broadcastInDim S1x1x1536 ![2] bcast_S1536_S1x1x1536_2 B))

/-- The reference's first result, from its filtered columns. -/
def refV (U : FVec Ideal S2x16384x1536 .f32) : FVec Ideal S2x16384x512 .f32 :=
  mulf (extractStridedSlice S2x16384x512 ![0, 0, 1024] U slices_S2x16384x1536_S2x16384x512_0_0_1024)
    (extractStridedSlice S2x16384x512 ![0, 0, 512] U slices_S2x16384x1536_S2x16384x512_0_0_512)

/-- The reference's second result, from its filtered columns. -/
def refX (U : FVec Ideal S2x16384x1536 .f32) : FVec Ideal S2x16384x512 .f32 :=
  extractStridedSlice S2x16384x512 ![0, 0, 0] U slices_S2x16384x1536_S2x16384x512_0_0_0

/-- The integer zero as a float. -/
theorem pad_zero : (FloatOps.sitofp (F := Ideal) FTy.f32 0#32 : EReal) = 0 := by
  show ((((0#32 : BitVec 32).toInt : ℤ) : ℝ) : EReal) = 0
  simp

/-- The padded columns at row `a`. -/
theorem refP_at (Z : FVec Ideal S2x16384x9728 .f32) (b : Fin 2) (a : Fin 16386) (k : Fin 1536) :
    refP Z (ix3 b a k) = if h : 1 ≤ a.val ∧ a.val - 1 < 16384 then
      Z (ix3 b (⟨a.val - 1, h.2⟩ : Fin 16384) (⟨1536 + k.val, by omega⟩ : Fin 9728)) else 0 := by
  pointwise [refP, pad_zero]

theorem refU_at (P : FVec Ideal S2x16386x1536 .f32) (W : FVec Ideal S3x1x1536 .f32) (B : FVec Ideal S1536 .f32)
    (b : Fin 2) (i : Fin 16384) (k : Fin 1536) : refU P W B (ix3 b i k) =
      W (ix3 0 0 k) * P (ix3 b (⟨i.val, by omega⟩ : Fin 16386) k) +
      W (ix3 1 0 k) * P (ix3 b (⟨1 + i.val, by omega⟩ : Fin 16386) k) +
      W (ix3 2 0 k) * P (ix3 b (⟨2 + i.val, by omega⟩ : Fin 16386) k) + B (ix1 k) := by
  pointwise [refU]

theorem refV_at (U : FVec Ideal S2x16384x1536 .f32) (b : Fin 2) (i : Fin 16384) (j : Fin 512) : refV U (ix3 b i j) =
    U (ix3 b i (⟨1024 + j.val, by omega⟩ : Fin 1536)) * U (ix3 b i (⟨512 + j.val, by omega⟩ : Fin 1536)) := by
  pointwise [refV]

theorem refX_at (U : FVec Ideal S2x16384x1536 .f32) (b : Fin 2) (i : Fin 16384) (j : Fin 512) : refX U (ix3 b i j) =
    U (ix3 b i (⟨j.val, by omega⟩ : Fin 1536)) := by
  pointwise [refX]

/-- The reference's filter is the kernel's. -/
theorem refU_eq (Z : FVec Ideal S2x16384x9728 .f32) (W : FVec Ideal S3x1x1536 .f32) (B : FVec Ideal S1536 .f32)
    (b : Fin 2) (i : Fin 16384) (k : Fin 1536) : refU (refP Z) W B (ix3 b i k) = taps Z W B b i k := by
  have hi := i.isLt
  have e0 : refP Z (ix3 b (⟨i.val, by omega⟩ : Fin 16386) k) = lag Z b i k := by
    rw [refP_at, lag]
    by_cases h : i.val = 0
    · rw [dif_neg (by dsimp only; omega), if_pos h]
    · rw [dif_pos (by dsimp only; omega), if_neg h]
  have e1 : refP Z (ix3 b (⟨1 + i.val, by omega⟩ : Fin 16386) k) = Z (ix3 b i (⟨1536 + k.val, by omega⟩ : Fin 9728)) := by
    rw [refP_at, dif_pos (by dsimp only; omega)]
    congr 3
    show 1 + i.val - 1 = i.val
    omega
  have e2 : refP Z (ix3 b (⟨2 + i.val, by omega⟩ : Fin 16386) k) = lead Z b i k := by
    rw [refP_at, lead]
    by_cases h : i.val + 1 < 16384
    · rw [dif_pos (by dsimp only; omega), dif_pos h]
      congr 3
      dsimp only; omega
    · rw [dif_neg (by dsimp only; omega), dif_neg h]
  rw [refU_at, e0, e1, e2, taps]

theorem ref0_eq (Z : FVec Ideal S2x16384x9728 .f32) (W : FVec Ideal S3x1x1536 .f32) (B : FVec Ideal S1536 .f32) :
    refV (refU (refP Z) W B) = G0 Z W B := by
  funext y
  obtain ⟨b, i, j, rfl⟩ : ∃ (b : Fin 2) (i : Fin 16384) (j : Fin 512), y = (ix3 b i j : S2x16384x512.Idx) :=
    ⟨y 0, y 1, y 2, by idx_vars y⟩
  rw [refV_at, refU_eq, refU_eq]
  rfl

theorem ref1_eq (Z : FVec Ideal S2x16384x9728 .f32) (W : FVec Ideal S3x1x1536 .f32) (B : FVec Ideal S1536 .f32) :
    refX (refU (refP Z) W B) = G1 Z W B := by
  funext y
  obtain ⟨b, i, j, rfl⟩ : ∃ (b : Fin 2) (i : Fin 16384) (j : Fin 512), y = (ix3 b i j : S2x16384x512.Idx) :=
    ⟨y 0, y 1, y 2, by idx_vars y⟩
  rw [refX_at, refU_eq]
  rfl

end Cert.Streams

end
-- ==== Proof.OuterValue.lean ====
/- The array the product with the left matrix leaves where it ends the long convolution: each column of the input is
   multiplied by the matrix, the second input times its column's bias is added, and the sum is multiplied by the third. Point
   `t` is column block `t`.  -/
module

public import proofs.«01_k».proof.Proof.Gen.Kernel10Ideal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Outer

open Cert.Kernel10Ideal Cert.Kernel10Ideal.Gen Idealize.ShloMosaic Idealize.ShloMosaic.TcCoe Idealize.SL.Sem

/-- The block a point stores, at an element. -/
theorem out_block (x0 : Vec Ideal S128x256 .bf16) (x1 : Vec Ideal S1x256x2048 .f32) (x2 x3 : Vec Ideal S1x128x2048 .f32)
    (x4 : Vec Ideal S1x2048 .f32) (r : Fin 128) (j : Fin 2048) : out0_5 (F := Ideal) x0 x1 x2 x3 x4 (ix3 0 r j) =
      ((∑ d : Fin 256, x0 (ix2 r d) * x1 (ix3 0 d j)) + x2 (ix3 0 r j) * x4 (ix2 0 j)) * x3 (ix3 0 r j) := by
  frame_out
  pointwise [k0_pay1]

/-- The block index of each window at point `t`. -/
theorem idx0 : ∀ t : Fin cfg0.N, (cfg0.win 0).index t = ![0, 0] := by decide +kernel
theorem idx1 : ∀ t : Fin cfg0.N, (cfg0.win 1).index t = ![0, 0, t.val] := by decide +kernel
theorem idx2 : ∀ t : Fin cfg0.N, (cfg0.win 2).index t = ![0, 0, t.val] := by decide +kernel
theorem idx3 : ∀ t : Fin cfg0.N, (cfg0.win 3).index t = ![0, 0, t.val] := by decide +kernel
theorem idx4 : ∀ t : Fin cfg0.N, (cfg0.win 4).index t = ![0, t.val] := by decide +kernel
theorem idx5 : ∀ t : Fin cfg0.N, (cfg0.win 5).index t = ![0, 0, t.val] := by decide +kernel

theorem tlt (t : Fin cfg0.N) : t.val < 64 := t.isLt.trans_eq (show cfg0.N = 64 from N_0)

variable (m : (ℓ : Loc nD τ sig) → Buf (Elt Ideal) ℓ) (c : Dev nD)

/-- The matrix, the columns, the two inputs beside them and the bias. -/
abbrev M : Vec Ideal S128x256 .bf16 := m ((c : Thread nD τ).loc main_arg0)
abbrev X : Vec Ideal S1x256x131072 .f32 := m ((c : Thread nD τ).loc main_arg1)
abbrev U : Vec Ideal S1x128x131072 .f32 := m ((c : Thread nD τ).loc main_arg2)
abbrev Y : Vec Ideal S1x128x131072 .f32 := m ((c : Thread nD τ).loc main_arg3)
abbrev B : Vec Ideal S1x131072 .f32 := m ((c : Thread nD τ).loc main_arg4)

/-- The column of the whole array that column `j` of point `t`'s block is. -/
def ct (t : Fin cfg0.N) (j : Fin 2048) : Fin 131072 := ⟨t.val * 2048 + j.val, by have := tlt t; omega⟩

theorem blk_m (t : Fin cfg0.N) (r : Fin 128) (d : Fin 256) :
    (iblk m c 0 t : Vec Ideal S128x256 .bf16) (ix2 r d) = M m c (ix2 r d) := by
  have e := idx0 t
  simp only [M]
  blk_ext [iblk, V_main_arg0, e]

theorem blk_x (t : Fin cfg0.N) (d : Fin 256) (j : Fin 2048) :
    (iblk m c 1 t : Vec Ideal S1x256x2048 .f32) (ix3 0 d j) = X m c (ix3 0 d (ct t j)) := by
  have e := idx1 t
  simp only [X, ct]
  blk_ext [iblk, V_main_arg1, e]

theorem blk_u (t : Fin cfg0.N) (r : Fin 128) (j : Fin 2048) :
    (iblk m c 2 t : Vec Ideal S1x128x2048 .f32) (ix3 0 r j) = U m c (ix3 0 r (ct t j)) := by
  have e := idx2 t
  simp only [U, ct]
  blk_ext [iblk, V_main_arg2, e]

theorem blk_y (t : Fin cfg0.N) (r : Fin 128) (j : Fin 2048) :
    (iblk m c 3 t : Vec Ideal S1x128x2048 .f32) (ix3 0 r j) = Y m c (ix3 0 r (ct t j)) := by
  have e := idx3 t
  simp only [Y, ct]
  blk_ext [iblk, V_main_arg3, e]

theorem blk_b (t : Fin cfg0.N) (j : Fin 2048) :
    (iblk m c 4 t : Vec Ideal S1x2048 .f32) (ix2 0 j) = B m c (ix2 0 (ct t j)) := by
  have e := idx4 t
  simp only [B, ct]
  blk_ext [iblk, V_main_arg4, e]

/-- The result over the whole array. -/
def G (M : Vec Ideal S128x256 .bf16) (X : Vec Ideal S1x256x131072 .f32) (U Y : Vec Ideal S1x128x131072 .f32)
    (B : Vec Ideal S1x131072 .f32) : Vec Ideal S1x128x131072 .bf16 :=
  fun y => ((∑ d : Fin 256, M (ix2 (y 1 : Fin 128) d) * X (ix3 0 d (y 2 : Fin 131072))) +
    U (ix3 0 (y 1 : Fin 128) (y 2 : Fin 131072)) * B (ix2 0 (y 2 : Fin 131072))) * Y (ix3 0 (y 1 : Fin 128) (y 2 : Fin 131072))

/-- Where element `(r, j)` of point `t`'s block lies in the array. -/
theorem emb_out (t : Fin cfg0.N) (r : Fin 128) (j : Fin 2048) :
    ((win0_5.blk t).view.emb (ix3 0 r j : S1x128x2048.Idx) : S1x128x131072.Idx) = ix3 0 r (ct t j) := by
  have e := idx5 t
  simp only [ct]
  blk_ext [e]

/-- The array the kernel leaves. -/
theorem array_eq : ((dats m 0 c).arrAt 5 cfg0.N : Vec Ideal S1x128x131072 .bf16) = G (M m c) (X m c) (U m c) (Y m c) (B m c) := by
  refine (dats m 0 c).arrAt_eq_of_covers 5 _ (by decide +kernel) fun t _ y => ?_
  blk_simp
  rw [after0_5]
  have hy : ∀ y : S1x128x2048.Idx, out0_5 (F := Ideal) (iblk m c 0 t) (iblk m c 1 t) (iblk m c 2 t) (iblk m c 3 t) (iblk m c 4 t) y =
      G (M m c) (X m c) (U m c) (Y m c) (B m c) ((win0_5.blk t).view.emb y : S1x128x131072.Idx) := fun y => by
    obtain ⟨a, r, j, rfl⟩ : ∃ (a : Fin 1) (r : Fin 128) (j : Fin 2048), y = (ix3 a r j : S1x128x2048.Idx) :=
      ⟨y 0, y 1, y 2, by idx_vars y⟩
    obtain rfl := Subsingleton.elim a 0
    rw [emb_out]
    refine (out_block _ _ _ _ _ r j).trans ?_
    simp only [blk_m, blk_x, blk_u, blk_y, blk_b]
    rfl
  exact hy y

end Cert.Outer

end
-- ==== Proof.OuterReference.lean ====
/- The reference of the product that ends the long convolution, its composed term read at an index. -/
module

public import proofs.«01_k».proof.Proof.OuterValue
public import proofs.«01_k».proof.Proof.Gen.Reference10Ideal.Run
public import Idealize.ShloMosaic.Lib.Pointwise

@[expose] public section

set_option maxRecDepth 16384

noncomputable section

namespace Cert.Outer

open Cert.Reference10Ideal Cert.Reference10Ideal.Gen Idealize.ShloMosaic Idealize.ShloMosaic.TcCoe Idealize.SL.Sem Idealize.ShloMosaic.StableHlo

theorem ref_eq (M : FVec Ideal S128x256 .bf16) (X : FVec Ideal S1x256x131072 .f32) (U Y : FVec Ideal S1x128x131072 .f32)
    (B : FVec Ideal S1x131072 .f32) :
    truncf .bf16 (mulf (addf (transpose S1x128x131072 [0, 2, 1] (Host.dotGeneral dot_S1x256x131072_S128x256_S1x131072x128_1_1_02_0_n_n none X (extf .f32 M bitsLt_bf16_f32)) transposes_S1x131072x128_S1x128x131072_0_2_1) (mulf U (broadcastInDim S1x128x131072 ![0, 1, 2] bcast_S1x1x131072_S1x128x131072_0_1_2 (broadcastInDim S1x1x131072 ![1, 2] bcast_S1x131072_S1x1x131072_1_2 B)))) Y) bitsLt_bf16_f32 =
      G M X U Y B := by
  funext y
  obtain ⟨a, r, j, rfl⟩ : ∃ (a : Fin 1) (r : Fin 128) (j : Fin 131072), y = (ix3 a r j : S1x128x131072.Idx) :=
    ⟨y 0, y 1, y 2, by idx_vars y⟩
  obtain rfl := Subsingleton.elim a 0
  pointwise [G]
  refine congrArg (fun s => (s + _) * _) ?_
  exact Finset.sum_congr rfl fun d _ => mul_comm _ _

end Cert.Outer

end
-- ==== Proof.ForwardValue.lean ====
/- The array the product with the left matrix leaves where it starts the long convolution: each column of the input
   multiplied by the matrix. Point `t` is column block `t`.  -/
module

public import proofs.«01_k».proof.Proof.Gen.Kernel11Ideal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Forward

open Cert.Kernel11Ideal Cert.Kernel11Ideal.Gen Idealize.ShloMosaic Idealize.ShloMosaic.TcCoe Idealize.SL.Sem

/-- The block a point stores, at an element. -/
theorem out_block (x0 : Vec Ideal S256x128 .bf16) (x1 : Vec Ideal S1x128x2048 .f32) (r : Fin 256) (j : Fin 2048) :
    out0_2 (F := Ideal) x0 x1 (ix3 0 r j) = ∑ d : Fin 128, x0 (ix2 r d) * x1 (ix3 0 d j) := by
  frame_out
  pointwise [k0_pay1]

/-- The block index of each window at point `t`. -/
theorem idx0 : ∀ t : Fin cfg0.N, (cfg0.win 0).index t = ![0, 0] := by decide +kernel
theorem idx1 : ∀ t : Fin cfg0.N, (cfg0.win 1).index t = ![0, 0, t.val] := by decide +kernel
theorem idx2 : ∀ t : Fin cfg0.N, (cfg0.win 2).index t = ![0, 0, t.val] := by decide +kernel

theorem tlt (t : Fin cfg0.N) : t.val < 64 := t.isLt.trans_eq (show cfg0.N = 64 from N_0)

variable (m : (ℓ : Loc nD τ sig) → Buf (Elt Ideal) ℓ) (c : Dev nD)

/-- The matrix and the columns. -/
abbrev M : Vec Ideal S256x128 .bf16 := m ((c : Thread nD τ).loc main_arg0)
abbrev X : Vec Ideal S1x128x131072 .f32 := m ((c : Thread nD τ).loc main_arg1)

/-- The column of the whole array that column `j` of point `t`'s block is. -/
def ct (t : Fin cfg0.N) (j : Fin 2048) : Fin 131072 := ⟨t.val * 2048 + j.val, by have := tlt t; omega⟩

theorem blk_m (t : Fin cfg0.N) (r : Fin 256) (d : Fin 128) :
    (iblk m c 0 t : Vec Ideal S256x128 .bf16) (ix2 r d) = M m c (ix2 r d) := by
  have e := idx0 t
  simp only [M]
  blk_ext [iblk, V_main_arg0, e]

theorem blk_x (t : Fin cfg0.N) (d : Fin 128) (j : Fin 2048) :
    (iblk m c 1 t : Vec Ideal S1x128x2048 .f32) (ix3 0 d j) = X m c (ix3 0 d (ct t j)) := by
  have e := idx1 t
  simp only [X, ct]
  blk_ext [iblk, V_main_arg1, e]

/-- The result over the whole array. -/
def G (M : Vec Ideal S256x128 .bf16) (X : Vec Ideal S1x128x131072 .f32) : Vec Ideal S1x256x131072 .f32 :=
  fun y => ∑ d : Fin 128, M (ix2 (y 1 : Fin 256) d) * X (ix3 0 d (y 2 : Fin 131072))

/-- Where element `(r, j)` of point `t`'s block lies in the array. -/
theorem emb_out (t : Fin cfg0.N) (r : Fin 256) (j : Fin 2048) :
    ((win0_2.blk t).view.emb (ix3 0 r j : S1x256x2048.Idx) : S1x256x131072.Idx) = ix3 0 r (ct t j) := by
  have e := idx2 t
  simp only [ct]
  blk_ext [e]

/-- The array the kernel leaves. -/
theorem array_eq : ((dats m 0 c).arrAt 2 cfg0.N : Vec Ideal S1x256x131072 .f32) = G (M m c) (X m c) := by
  refine (dats m 0 c).arrAt_eq_of_covers 2 _ (by decide +kernel) fun t _ y => ?_
  blk_simp
  rw [after0_2]
  have hy : ∀ y : S1x256x2048.Idx, out0_2 (F := Ideal) (iblk m c 0 t) (iblk m c 1 t) y =
      G (M m c) (X m c) ((win0_2.blk t).view.emb y : S1x256x131072.Idx) := fun y => by
    obtain ⟨a, r, j, rfl⟩ : ∃ (a : Fin 1) (r : Fin 256) (j : Fin 2048), y = (ix3 a r j : S1x256x2048.Idx) :=
      ⟨y 0, y 1, y 2, by idx_vars y⟩
    obtain rfl := Subsingleton.elim a 0
    rw [emb_out]
    refine (out_block _ _ r j).trans ?_
    simp only [blk_m, blk_x]
    rfl
  exact hy y

end Cert.Forward

end
-- ==== Proof.ForwardReference.lean ====
/- The reference of the product that starts the long convolution, its composed term read at an index. -/
module

public import proofs.«01_k».proof.Proof.ForwardValue
public import proofs.«01_k».proof.Proof.Gen.Reference11Ideal.Run
public import Idealize.ShloMosaic.Lib.Pointwise

@[expose] public section

set_option maxRecDepth 16384

noncomputable section

namespace Cert.Forward

open Cert.Reference11Ideal Cert.Reference11Ideal.Gen Idealize.ShloMosaic Idealize.ShloMosaic.TcCoe Idealize.SL.Sem Idealize.ShloMosaic.StableHlo

theorem ref_eq (M : FVec Ideal S256x128 .bf16) (X : FVec Ideal S1x128x131072 .f32) :
    transpose S1x256x131072 [0, 2, 1] (Host.dotGeneral dot_S1x128x131072_S256x128_S1x131072x256_1_1_02_0_n_n none X (extf .f32 M bitsLt_bf16_f32)) transposes_S1x131072x256_S1x256x131072_0_2_1 =
      G M X := by
  funext y
  obtain ⟨a, r, j, rfl⟩ : ∃ (a : Fin 1) (r : Fin 256) (j : Fin 131072), y = (ix3 a r j : S1x256x131072.Idx) :=
    ⟨y 0, y 1, y 2, by idx_vars y⟩
  obtain rfl := Subsingleton.elim a 0
  pointwise [G]
  exact Finset.sum_congr rfl fun d _ => mul_comm _ _

end Cert.Forward

end
-- ==== Proof.InnerValue.lean ====
/- The array one point of the long convolution's inner transforms leaves, and all of them. A complex block is stacked, its
   real rows over its imaginary ones. Point `t` multiplies its stacked block by its first matrix, multiplies the product by
   the filter's spectrum as complex numbers, and multiplies that by its second matrix.  -/
module

public import proofs.«01_k».proof.Proof.Gen.Kernel12Ideal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Inner

open Cert.Kernel12Ideal Cert.Kernel12Ideal.Gen Idealize.ShloMosaic Idealize.ShloMosaic.TcCoe Idealize.SL.Sem

/-- A real block over an imaginary one. -/
def stk (a b : Fin 256 → Fin 512 → EReal) (i j : Fin 512) : EReal :=
  if h : i.val < 256 then a ⟨i.val, h⟩ j else b ⟨i.val - 256, by omega⟩ j

/-- A product with a matrix. -/
def prod (g a : Fin 512 → Fin 512 → EReal) (i j : Fin 512) : EReal := ∑ d : Fin 512, g i d * a d j

/-- A stacked block times a complex one, element by element. -/
def cmul (y : Fin 512 → Fin 512 → EReal) (kr ki : Fin 256 → Fin 512 → EReal) : Fin 512 → Fin 512 → EReal :=
  stk (fun i j => y (⟨i.val, by omega⟩ : Fin 512) j * kr i j - y (⟨256 + i.val, by omega⟩ : Fin 512) j * ki i j)
    (fun i j => y (⟨i.val, by omega⟩ : Fin 512) j * ki i j + y (⟨256 + i.val, by omega⟩ : Fin 512) j * kr i j)

/-- The two matrices around the product with the spectrum. -/
def inner (g gi : Fin 512 → Fin 512 → EReal) (ar ai kr ki : Fin 256 → Fin 512 → EReal) : Fin 512 → Fin 512 → EReal :=
  prod gi (cmul (prod g (stk ar ai)) kr ki)

theorem inner_congr (g gi : Fin 512 → Fin 512 → EReal) {ar ai kr ki ar' ai' kr' ki' : Fin 256 → Fin 512 → EReal}
    (h0 : ∀ i j, ar i j = ar' i j) (h1 : ∀ i j, ai i j = ai' i j) (h2 : ∀ i j, kr i j = kr' i j)
    (h3 : ∀ i j, ki i j = ki' i j) : inner g gi ar ai kr ki = inner g gi ar' ai' kr' ki' := by
  obtain rfl : ar = ar' := funext₂ h0
  obtain rfl : ai = ai' := funext₂ h1
  obtain rfl : kr = kr' := funext₂ h2
  obtain rfl : ki = ki' := funext₂ h3
  rfl

/-! ### A point's arithmetic -/

/-- Two blocks, one over the other. -/
def cat (a b : FVec Ideal S256x512 .f32) : FVec Ideal S512x512 .bf16 :=
  truncf .bf16 (concatenate S512x512 0 [⟨S256x512, a⟩, ⟨S256x512, b⟩] concatenates_S256x512_S256x512_S512x512_d0) bitsLt_bf16_f32

theorem cat_at (a b : FVec Ideal S256x512 .f32) (i j : Fin 512) :
    cat a b (ix2 i j) = stk (fun i j => a (ix2 i j)) (fun i j => b (ix2 i j)) i j := by
  pointwise [cat, stk]

/-- A block's product with a matrix. -/
def mm (g : FVec Ideal S1x512x512 .bf16) (x : FVec Ideal S512x512 .bf16) : FVec Ideal S512x512 .f32 :=
  matmul dot_S512x512_S512x512_S512x512_1_0_0_1_n_n none (shapeCast S512x512 g shapeCasts_S1x512x512_S512x512) x
    (constant S512x512 .f32 0x00000000#32)

theorem mm_at (g : FVec Ideal S1x512x512 .bf16) (x : FVec Ideal S512x512 .bf16) (i j : Fin 512) :
    mm g x (ix2 i j) = prod (fun i d => g (ix3 0 i d)) (fun d j => x (ix2 d j)) i j := by
  pointwise [mm, prod]

/-- The two parts of the product with the spectrum. -/
def re (y : FVec Ideal S512x512 .f32) (kr ki : FVec Ideal S1x1x256x512 .f32) : FVec Ideal S256x512 .f32 :=
  subf (mulf (extractStridedSlice S256x512 ![0, 0] y slices_S512x512_o0_0_S256x512) (shapeCast S256x512 kr shapeCasts_S1x1x256x512_S256x512))
    (mulf (extractStridedSlice S256x512 ![256, 0] y slices_S512x512_o256_0_S256x512) (shapeCast S256x512 ki shapeCasts_S1x1x256x512_S256x512))
def im (y : FVec Ideal S512x512 .f32) (kr ki : FVec Ideal S1x1x256x512 .f32) : FVec Ideal S256x512 .f32 :=
  addf (mulf (extractStridedSlice S256x512 ![0, 0] y slices_S512x512_o0_0_S256x512) (shapeCast S256x512 ki shapeCasts_S1x1x256x512_S256x512))
    (mulf (extractStridedSlice S256x512 ![256, 0] y slices_S512x512_o256_0_S256x512) (shapeCast S256x512 kr shapeCasts_S1x1x256x512_S256x512))

theorem re_at (y : FVec Ideal S512x512 .f32) (kr ki : FVec Ideal S1x1x256x512 .f32) (i : Fin 256) (j : Fin 512) :
    re y kr ki (ix2 i j) = y (ix2 (⟨i.val, by omega⟩ : Fin 512) j) * kr (ix4 0 0 i j) -
      y (ix2 (⟨256 + i.val, by omega⟩ : Fin 512) j) * ki (ix4 0 0 i j) := by
  pointwise [re]

theorem im_at (y : FVec Ideal S512x512 .f32) (kr ki : FVec Ideal S1x1x256x512 .f32) (i : Fin 256) (j : Fin 512) :
    im y kr ki (ix2 i j) = y (ix2 (⟨i.val, by omega⟩ : Fin 512) j) * ki (ix4 0 0 i j) +
      y (ix2 (⟨256 + i.val, by omega⟩ : Fin 512) j) * kr (ix4 0 0 i j) := by
  pointwise [im]

/-- A part as a block. -/
def part (v : FVec Ideal S1x1x1x256x512 .f32) : FVec Ideal S256x512 .f32 :=
  shapeCast S256x512 v shapeCasts_S1x1x1x256x512_S256x512

theorem part_at (v : FVec Ideal S1x1x1x256x512 .f32) (i : Fin 256) (j : Fin 512) : part v (ix2 i j) = v (ix5 0 0 0 i j) := by
  pointwise [part]

section point

variable (v0 v2 : Vec Ideal S1x1x1x256x512 .f32) (g gi : Vec Ideal S1x512x512 .bf16) (kr ki : Vec Ideal S1x1x256x512 .f32)

theorem pay3_eq : k0_pay3 (F := Ideal) v0 v2 g kr ki gi =
    mm gi (cat (re (mm g (cat (part v0) (part v2))) kr ki) (im (mm g (cat (part v0) (part v2))) kr ki)) := rfl

theorem pay3_at (i j : Fin 512) : k0_pay3 (F := Ideal) v0 v2 g kr ki gi (ix2 i j) =
    inner (fun i d => g (ix3 0 i d)) (fun i d => gi (ix3 0 i d)) (fun i j => v0 (ix5 0 0 0 i j))
      (fun i j => v2 (ix5 0 0 0 i j)) (fun i j => kr (ix4 0 0 i j)) (fun i j => ki (ix4 0 0 i j)) i j := by
  rw [pay3_eq, mm_at]
  simp only [cat_at, re_at, im_at, mm_at, part_at]
  rfl

theorem pay1_at (v : FVec Ideal S256x512 .f32) (i : Fin 256) (j : Fin 512) :
    k0_pay1 (F := Ideal) v (ix5 0 0 0 i j) = v (ix2 i j) := by
  pointwise [k0_pay1]

theorem pay2_at (v : FVec Ideal S512x512 .f32) (i : Fin 256) (j : Fin 512) :
    k0_pay2 (F := Ideal) v (ix5 0 0 0 i j) = v (ix2 (⟨256 + i.val, by omega⟩ : Fin 512) j) := by
  pointwise [k0_pay2]

theorem pay4_at (i : Fin 256) (j : Fin 512) : k0_pay4 (F := Ideal) v0 v2 g kr ki gi (ix2 i j) =
    k0_pay3 (F := Ideal) v0 v2 g kr ki gi (ix2 (⟨i.val, by omega⟩ : Fin 512) j) := by
  have e : ∀ w : FVec Ideal S512x512 .f32, extractStridedSlice S256x512 ![0, 0] w slices_S512x512_o0_0_S256x512 (ix2 i j) =
      w (ix2 (⟨i.val, by omega⟩ : Fin 512) j) := fun w => by pointwise
  unfold k0_pay4
  exact e _

end point

section block

variable (x0 x1 : Vec Ideal S1x512x512 .bf16) (x2 : Vec Ideal S1x2x1x256x512 .f32) (x3 : Vec Ideal S2x1x256x512 .f32)

/-- What a point computes from its blocks. -/
def bl : Fin 512 → Fin 512 → EReal :=
  inner (fun i d => x0 (ix3 0 i d)) (fun i d => x1 (ix3 0 i d)) (fun i j => x2 (ix5 0 0 0 i j)) (fun i j => x2 (ix5 0 1 0 i j))
    (fun i j => x3 (ix4 0 0 i j)) (fun i j => x3 (ix4 1 0 i j))

/-- The loads of whole blocks and of parts. -/
theorem ld_a (p : Fin 2) {o : Nat} (e : o = p.val) (inb) (i : Fin 256) (j : Fin 512) :
    View.ld x2 (Rect.unit ![0, o, 0, 0, 0] ![1, 1, 1, 256, 512] inb) (ix5 0 0 0 i j) = x2 (ix5 0 p 0 i j) :=
  View.ld_unit_apply_of _ _ _ _ _ _ fun a => by
    fin_cases a <;> simp [ix5, e]

theorem ld_k (p : Fin 2) {o : Nat} (e : o = p.val) (inb) (i : Fin 256) (j : Fin 512) :
    View.ld x3 (Rect.unit ![o, 0, 0, 0] ![1, 1, 256, 512] inb) (ix4 0 0 i j) = x3 (ix4 p 0 i j) :=
  View.ld_unit_apply_of _ _ _ _ _ _ fun a => by
    fin_cases a <;> simp [ix4, e]

theorem ld_a0 (i : Fin 256) (j : Fin 512) : View.ld x2 r0_0 (ix5 0 0 0 i j) = x2 (ix5 0 0 0 i j) := ld_a x2 0 rfl _ i j
theorem ld_a1 (i : Fin 256) (j : Fin 512) : View.ld x2 r0_1 (ix5 0 0 0 i j) = x2 (ix5 0 1 0 i j) := ld_a x2 1 rfl _ i j
theorem ld_k0 (i : Fin 256) (j : Fin 512) : View.ld x3 r0_3 (ix4 0 0 i j) = x3 (ix4 0 0 i j) := ld_k x3 0 rfl _ i j
theorem ld_k1 (i : Fin 256) (j : Fin 512) : View.ld x3 r0_4 (ix4 0 0 i j) = x3 (ix4 1 0 i j) := ld_k x3 1 rfl _ i j

/-- The product, from the blocks. -/
theorem pay3_bl (i j : Fin 512) :
    k0_pay3 (F := Ideal) (View.ld x2 r0_0) (View.ld x2 r0_1) x0 (View.ld x3 r0_3) (View.ld x3 r0_4) x1 (ix2 i j) =
      bl x0 x1 x2 x3 i j := by
  exact (pay3_at _ _ x0 x1 _ _ i j).trans (congrFun (congrFun
    (inner_congr _ _ (ld_a0 x2) (ld_a1 x2) (ld_k0 x3) (ld_k1 x3)) i) j)

/-- The block a point stores, its real and its imaginary part. -/
theorem out_block (p : Fin 2) (i : Fin 256) (j : Fin 512) : out0_4 (F := Ideal) x0 x1 x2 x3 (ix5 0 p 0 i j) =
    bl x0 x1 x2 x3 (⟨p.val * 256 + i.val, by omega⟩ : Fin 512) j := by
  have key : ∀ y : S1x2x1x256x512.Idx, out0_4 (F := Ideal) x0 x1 x2 x3 y =
      bl x0 x1 x2 x3 (⟨(y 1).val * 256 + (y 3).val, by
        have h1 : (y 1).val < 2 := (y 1).isLt
        have h3 : (y 3).val < 256 := (y 3).isLt
        omega⟩ : Fin 512) (y 4 : Fin 512) := fun y => by
    frame_out
    canon_tiles x h
    · obtain ⟨a, b, d, i, j, rfl⟩ : ∃ (a b d : Fin 1) (i : Fin 256) (j : Fin 512), x = ix5 a b d i j :=
        ⟨x 0, x 1, x 2, x 3, x 4, by idx_vars x⟩
      obtain rfl := Subsingleton.elim a 0
      obtain rfl := Subsingleton.elim b 0
      obtain rfl := Subsingleton.elim d 0
      rw [pay2_at, pay3_bl]
      have e3 : (y 3).val = i.val := h3
      have e1 : (y 1).val = 1 := h1
      have e4 : (y 4 : Fin 512) = j := Fin.ext h4
      rw [e4]
      exact congrArg (fun i => bl x0 x1 x2 x3 i j) (Fin.ext (by dsimp only; omega))
    · obtain ⟨a, b, d, i, j, rfl⟩ : ∃ (a b d : Fin 1) (i : Fin 256) (j : Fin 512), x = ix5 a b d i j :=
        ⟨x 0, x 1, x 2, x 3, x 4, by idx_vars x⟩
      obtain rfl := Subsingleton.elim a 0
      obtain rfl := Subsingleton.elim b 0
      obtain rfl := Subsingleton.elim d 0
      rw [pay1_at, pay4_at, pay3_bl]
      have e3 : (y 3).val = i.val := h3
      have e1 : (y 1).val = 0 := h1
      have e4 : (y 4 : Fin 512) = j := Fin.ext h4
      rw [e4]
      exact congrArg (fun i => bl x0 x1 x2 x3 i j) (Fin.ext (by dsimp only; omega))
  exact key (ix5 0 p 0 i j)

end block

/-! ### The points -/

/-- The block index of each window at point `t`. -/
theorem idx0 : ∀ t : Fin cfg0.N, (cfg0.win 0).index t = ![t.val, 0, 0] := by decide +kernel
theorem idx1 : ∀ t : Fin cfg0.N, (cfg0.win 1).index t = ![t.val, 0, 0] := by decide +kernel
theorem idx2 : ∀ t : Fin cfg0.N, (cfg0.win 2).index t = ![0, 0, t.val, 0, 0] := by decide +kernel
theorem idx3 : ∀ t : Fin cfg0.N, (cfg0.win 3).index t = ![0, t.val, 0, 0] := by decide +kernel
theorem idx4 : ∀ t : Fin cfg0.N, (cfg0.win 4).index t = ![0, 0, t.val, 0, 0] := by decide +kernel

theorem tlt (t : Fin cfg0.N) : t.val < 128 := t.isLt.trans_eq (show cfg0.N = 128 from N_0)

variable (m : (ℓ : Loc nD τ sig) → Buf (Elt Ideal) ℓ) (c : Dev nD)

/-- The two families of matrices, the complex input and the filter's spectrum. -/
abbrev M : Vec Ideal S128x512x512 .bf16 := m ((c : Thread nD τ).loc main_arg0)
abbrev N : Vec Ideal S128x512x512 .bf16 := m ((c : Thread nD τ).loc main_arg1)
abbrev X : Vec Ideal S1x2x128x256x512 .f32 := m ((c : Thread nD τ).loc main_arg2)
abbrev K : Vec Ideal S2x128x256x512 .f32 := m ((c : Thread nD τ).loc main_arg3)

/-- The number of point `t`. -/
def nt (t : Fin cfg0.N) : Fin 128 := ⟨t.val, tlt t⟩

theorem blk_m (t : Fin cfg0.N) (i d : Fin 512) :
    (iblk m c 0 t : Vec Ideal S1x512x512 .bf16) (ix3 0 i d) = M m c (ix3 (nt t) i d) := by
  have e := idx0 t
  simp only [M, nt]
  blk_ext [iblk, V_main_arg0, e]

theorem blk_n (t : Fin cfg0.N) (i d : Fin 512) :
    (iblk m c 1 t : Vec Ideal S1x512x512 .bf16) (ix3 0 i d) = N m c (ix3 (nt t) i d) := by
  have e := idx1 t
  simp only [N, nt]
  blk_ext [iblk, V_main_arg1, e]

theorem blk_x (t : Fin cfg0.N) (p : Fin 2) (i : Fin 256) (j : Fin 512) :
    (iblk m c 2 t : Vec Ideal S1x2x1x256x512 .f32) (ix5 0 p 0 i j) = X m c (ix5 0 p (nt t) i j) := by
  have e := idx2 t
  simp only [X, nt]
  blk_ext [iblk, V_main_arg2, e]

theorem blk_k (t : Fin cfg0.N) (p : Fin 2) (i : Fin 256) (j : Fin 512) :
    (iblk m c 3 t : Vec Ideal S2x1x256x512 .f32) (ix4 p 0 i j) = K m c (ix4 p (nt t) i j) := by
  have e := idx3 t
  simp only [K, nt]
  blk_ext [iblk, V_main_arg3, e]

/-- The result of number `k`. -/
def at_ (M N : Vec Ideal S128x512x512 .bf16) (X : Vec Ideal S1x2x128x256x512 .f32) (K : Vec Ideal S2x128x256x512 .f32)
    (k : Fin 128) : Fin 512 → Fin 512 → EReal :=
  inner (fun i d => M (ix3 k i d)) (fun i d => N (ix3 k i d)) (fun i j => X (ix5 0 0 k i j)) (fun i j => X (ix5 0 1 k i j))
    (fun i j => K (ix4 0 k i j)) (fun i j => K (ix4 1 k i j))

/-- The result over the whole array. -/
def G (M N : Vec Ideal S128x512x512 .bf16) (X : Vec Ideal S1x2x128x256x512 .f32) (K : Vec Ideal S2x128x256x512 .f32) :
    Vec Ideal S1x2x128x256x512 .f32 :=
  fun y => at_ M N X K (y 2) (⟨(y 1).val * 256 + (y 3).val, by
    have h1 : (y 1).val < 2 := (y 1).isLt
    have h3 : (y 3).val < 256 := (y 3).isLt
    omega⟩ : Fin 512) (y 4)

theorem bl_eq (t : Fin cfg0.N) (i j : Fin 512) : bl (iblk m c 0 t) (iblk m c 1 t) (iblk m c 2 t) (iblk m c 3 t) i j =
    at_ (M m c) (N m c) (X m c) (K m c) (nt t) i j := by
  unfold bl at_
  simp only [blk_m, blk_n, blk_x, blk_k]

/-- Where an element of point `t`'s block lies in the array. -/
theorem emb_out (t : Fin cfg0.N) (p : Fin 2) (i : Fin 256) (j : Fin 512) :
    ((win0_4.blk t).view.emb (ix5 0 p 0 i j : S1x2x1x256x512.Idx) : S1x2x128x256x512.Idx) = ix5 0 p (nt t) i j := by
  have e := idx4 t
  simp only [nt]
  blk_ext [e]

/-- The array the kernel leaves. -/
theorem array_eq : ((dats m 0 c).arrAt 4 cfg0.N : Vec Ideal S1x2x128x256x512 .f32) = G (M m c) (N m c) (X m c) (K m c) := by
  refine (dats m 0 c).arrAt_eq_of_covers 4 _ (by decide +kernel) fun t _ y => ?_
  blk_simp
  rw [after0_4]
  have hy : ∀ y : S1x2x1x256x512.Idx,
      out0_4 (F := Ideal) (iblk m c 0 t) (iblk m c 1 t) (iblk m c 2 t) (iblk m c 3 t) y =
      G (M m c) (N m c) (X m c) (K m c) ((win0_4.blk t).view.emb y : S1x2x128x256x512.Idx) := fun y => by
    obtain ⟨a, p, b, i, j, rfl⟩ : ∃ (a : Fin 1) (p : Fin 2) (b : Fin 1) (i : Fin 256) (j : Fin 512),
        y = (ix5 a p b i j : S1x2x1x256x512.Idx) := ⟨y 0, y 1, y 2, y 3, y 4, by idx_vars y⟩
    obtain rfl := Subsingleton.elim a 0
    obtain rfl := Subsingleton.elim b 0
    rw [emb_out]
    exact (out_block _ _ _ _ p i j).trans (bl_eq m c t _ j)
  exact hy y

end Cert.Inner

end
-- ==== Proof.InnerReference.lean ====
/- The reference of the long convolution's inner transforms, its composed terms read at an index. -/
module

public import proofs.«01_k».proof.Proof.InnerValue
public import proofs.«01_k».proof.Proof.Gen.Reference12Ideal.Run
public import Idealize.ShloMosaic.Lib.Pointwise

@[expose] public section

set_option maxRecDepth 16384

noncomputable section

namespace Cert.Inner

open Cert.Reference12Ideal Cert.Reference12Ideal.Gen Idealize.ShloMosaic Idealize.ShloMosaic.TcCoe Idealize.SL.Sem Idealize.ShloMosaic.StableHlo

/-- The input, each block's real part over its imaginary one. -/
def refA (X : FVec Ideal S1x2x128x256x512 .f32) : FVec Ideal S1x128x512x512 .f32 :=
  shapeCast _ (transpose S1x128x2x256x512 [0, 2, 1, 3, 4] X transposes_S1x2x128x256x512_S1x128x2x256x512_0_2_1_3_4) shapeCasts_S1x128x2x256x512_S1x128x512x512

/-- The products with a family of matrices. -/
def refP (M : FVec Ideal S128x512x512 .bf16) (A : FVec Ideal S1x128x512x512 .f32) : FVec Ideal S1x128x512x512 .f32 :=
  transpose S1x128x512x512 [1, 0, 3, 2] (Host.dotGeneral dot_S1x128x512x512_S128x512x512_S128x1x512x512_2_2_03_1_1_0 none A (extf .f32 M bitsLt_bf16_f32)) transposes_S128x1x512x512_S1x128x512x512_1_0_3_2

/-- A part of a stacked array, and a part of the spectrum. -/
def refY0 (Y : FVec Ideal S1x128x512x512 .f32) : FVec Ideal S1x128x256x512 .f32 :=
  extractStridedSlice S1x128x256x512 ![0, 0, 0, 0] Y slices_S1x128x512x512_S1x128x256x512_0_0_0_0
def refY1 (Y : FVec Ideal S1x128x512x512 .f32) : FVec Ideal S1x128x256x512 .f32 :=
  extractStridedSlice S1x128x256x512 ![0, 0, 256, 0] Y slices_S1x128x512x512_S1x128x256x512_0_0_256_0
def refK0 (K : FVec Ideal S2x128x256x512 .f32) : FVec Ideal S1x128x256x512 .f32 :=
  broadcastInDim S1x128x256x512 ![1, 2, 3] bcast_S128x256x512_S1x128x256x512_1_2_3 (shapeCast _ (extractStridedSlice S1x128x256x512 ![0, 0, 0, 0] K slices_S2x128x256x512_S1x128x256x512_0_0_0_0) shapeCasts_S1x128x256x512_S128x256x512)
def refK1 (K : FVec Ideal S2x128x256x512 .f32) : FVec Ideal S1x128x256x512 .f32 :=
  broadcastInDim S1x128x256x512 ![1, 2, 3] bcast_S128x256x512_S1x128x256x512_1_2_3 (shapeCast _ (extractStridedSlice S1x128x256x512 ![1, 0, 0, 0] K slices_S2x128x256x512_S1x128x256x512_1_0_0_0) shapeCasts_S1x128x256x512_S128x256x512)

/-- Two parts stacked. -/
def refC (A B : FVec Ideal S1x128x256x512 .f32) : FVec Ideal S1x128x512x512 .f32 :=
  concatenate S1x128x512x512 2 [⟨S1x128x256x512, A⟩, ⟨S1x128x256x512, B⟩] concatenates_S1x128x256x512_S1x128x256x512_S1x128x512x512_d2

/-- The product with the spectrum. -/
def refZ (Y : FVec Ideal S1x128x512x512 .f32) (K : FVec Ideal S2x128x256x512 .f32) : FVec Ideal S1x128x512x512 .f32 :=
  refC (subf (mulf (refY0 Y) (refK0 K)) (mulf (refY1 Y) (refK1 K))) (addf (mulf (refY0 Y) (refK1 K)) (mulf (refY1 Y) (refK0 K)))

/-- A stacked array in the result's layout. -/
def refO (Y : FVec Ideal S1x128x512x512 .f32) : FVec Ideal S1x2x128x256x512 .f32 :=
  concatenate S1x2x128x256x512 1 [⟨S1x1x128x256x512, (broadcastInDim S1x1x128x256x512 ![0, 2, 3, 4] bcast_S1x128x256x512_S1x1x128x256x512_0_2_3_4 (refY0 Y))⟩, ⟨S1x1x128x256x512, (broadcastInDim S1x1x128x256x512 ![0, 2, 3, 4] bcast_S1x128x256x512_S1x1x128x256x512_0_2_3_4 (refY1 Y))⟩] concatenates_S1x1x128x256x512_S1x1x128x256x512_S1x2x128x256x512_d1

section at_

variable (k : Fin 128)

theorem refA_at (X : FVec Ideal S1x2x128x256x512 .f32) (i j : Fin 512) : refA X (ix4 0 k i j) =
    stk (fun i j => X (ix5 0 0 k i j)) (fun i j => X (ix5 0 1 k i j)) i j := by
  have e : refA X (ix4 0 k i j) = X (ix5 0 (⟨i.val / 256, by omega⟩ : Fin 2) k (⟨i.val % 256, by omega⟩ : Fin 256) j) := by
    pointwise [refA]
  rw [e, stk]
  by_cases h : i.val < 256
  · have e1 : (⟨i.val / 256, by omega⟩ : Fin 2) = 0 := Fin.ext (by show i.val / 256 = 0; omega)
    have e2 : (⟨i.val % 256, by omega⟩ : Fin 256) = ⟨i.val, h⟩ := Fin.ext (by show i.val % 256 = i.val; omega)
    rw [dif_pos h, e1, e2]
  · have e1 : (⟨i.val / 256, by omega⟩ : Fin 2) = 1 := Fin.ext (by show i.val / 256 = 1; omega)
    have e2 : (⟨i.val % 256, by omega⟩ : Fin 256) = ⟨i.val - 256, by omega⟩ :=
      Fin.ext (by show i.val % 256 = i.val - 256; omega)
    rw [dif_neg h, e1, e2]

theorem refP_at (M : FVec Ideal S128x512x512 .bf16) (A : FVec Ideal S1x128x512x512 .f32) (i j : Fin 512) :
    refP M A (ix4 0 k i j) = prod (fun i d => M (ix3 k i d)) (fun i j => A (ix4 0 k i j)) i j := by
  pointwise [refP, prod]
  exact Finset.sum_congr rfl fun d _ => mul_comm _ _

theorem refY0_at (Y : FVec Ideal S1x128x512x512 .f32) (i : Fin 256) (j : Fin 512) :
    refY0 Y (ix4 0 k i j) = Y (ix4 0 k (⟨i.val, by omega⟩ : Fin 512) j) := by
  pointwise [refY0]

theorem refY1_at (Y : FVec Ideal S1x128x512x512 .f32) (i : Fin 256) (j : Fin 512) :
    refY1 Y (ix4 0 k i j) = Y (ix4 0 k (⟨256 + i.val, by omega⟩ : Fin 512) j) := by
  pointwise [refY1]

theorem refK0_at (K : FVec Ideal S2x128x256x512 .f32) (i : Fin 256) (j : Fin 512) :
    refK0 K (ix4 0 k i j) = K (ix4 0 k i j) := by
  pointwise [refK0]

theorem refK1_at (K : FVec Ideal S2x128x256x512 .f32) (i : Fin 256) (j : Fin 512) :
    refK1 K (ix4 0 k i j) = K (ix4 1 k i j) := by
  pointwise [refK1]

theorem refC_at (A B : FVec Ideal S1x128x256x512 .f32) (i j : Fin 512) :
    refC A B (ix4 0 k i j) = stk (fun i j => A (ix4 0 k i j)) (fun i j => B (ix4 0 k i j)) i j := by
  pointwise [refC, stk]

theorem refZ_at (Y : FVec Ideal S1x128x512x512 .f32) (K : FVec Ideal S2x128x256x512 .f32) (i j : Fin 512) :
    refZ Y K (ix4 0 k i j) =
      cmul (fun i j => Y (ix4 0 k i j)) (fun i j => K (ix4 0 k i j)) (fun i j => K (ix4 1 k i j)) i j := by
  have e0 : ∀ (i : Fin 256) (j : Fin 512), subf (mulf (refY0 Y) (refK0 K)) (mulf (refY1 Y) (refK1 K)) (ix4 0 k i j) =
      Y (ix4 0 k (⟨i.val, by omega⟩ : Fin 512) j) * K (ix4 0 k i j) -
        Y (ix4 0 k (⟨256 + i.val, by omega⟩ : Fin 512) j) * K (ix4 1 k i j) := fun i j => by
    pointwise [refY0_at, refY1_at, refK0_at, refK1_at]
  have e1 : ∀ (i : Fin 256) (j : Fin 512), addf (mulf (refY0 Y) (refK1 K)) (mulf (refY1 Y) (refK0 K)) (ix4 0 k i j) =
      Y (ix4 0 k (⟨i.val, by omega⟩ : Fin 512) j) * K (ix4 1 k i j) +
        Y (ix4 0 k (⟨256 + i.val, by omega⟩ : Fin 512) j) * K (ix4 0 k i j) := fun i j => by
    pointwise [refY0_at, refY1_at, refK0_at, refK1_at]
  rw [refZ, refC_at, cmul]
  simp only [e0, e1]

theorem refO_at (Y : FVec Ideal S1x128x512x512 .f32) (p : Fin 2) (i : Fin 256) (j : Fin 512) :
    refO Y (ix5 0 p k i j) = Y (ix4 0 k (⟨p.val * 256 + i.val, by omega⟩ : Fin 512) j) := by
  fin_cases p
  · have e : (⟨(0 : Fin 2).val * 256 + i.val, by show 0 * 256 + i.val < 512; omega⟩ : Fin 512) = ⟨i.val, by omega⟩ :=
      Fin.ext (by show 0 * 256 + i.val = i.val; omega)
    refine Eq.trans ?_ (congrArg (fun i => Y (ix4 0 k i j)) e).symm
    refine Eq.trans ?_ (refY0_at k Y i j)
    pointwise [refO]
  · have e : (⟨(1 : Fin 2).val * 256 + i.val, by show 1 * 256 + i.val < 512; omega⟩ : Fin 512) = ⟨256 + i.val, by omega⟩ :=
      Fin.ext (by show 1 * 256 + i.val = 256 + i.val; omega)
    refine Eq.trans ?_ (congrArg (fun i => Y (ix4 0 k i j)) e).symm
    refine Eq.trans ?_ (refY1_at k Y i j)
    pointwise [refO]

end at_

/-- The reference's result is the kernel's. -/
theorem ref_eq (M N : FVec Ideal S128x512x512 .bf16) (X : FVec Ideal S1x2x128x256x512 .f32)
    (K : FVec Ideal S2x128x256x512 .f32) : refO (refP N (refZ (refP M (refA X)) K)) = G M N X K := by
  funext y
  obtain ⟨a, p, k, i, j, rfl⟩ : ∃ (a : Fin 1) (p : Fin 2) (k : Fin 128) (i : Fin 256) (j : Fin 512),
      y = (ix5 a p k i j : S1x2x128x256x512.Idx) := ⟨y 0, y 1, y 2, y 3, y 4, by idx_vars y⟩
  obtain rfl := Subsingleton.elim a 0
  rw [refO_at, refP_at]
  simp only [refZ_at, refP_at, refA_at]
  rfl

end Cert.Inner

end
-- ==== Proof.SpectrumValue.lean ====
/- The array the filter's spectrum is left in. Point `t` multiplies its block, real rows over imaginary ones, by its matrix and
   each column by its scale.  -/
module

public import proofs.«01_k».proof.Proof.Gen.Kernel13Ideal.Value
public import proofs.«01_k».proof.Proof.InnerValue
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Spectrum

open Cert.Kernel13Ideal Cert.Kernel13Ideal.Gen Idealize.ShloMosaic Idealize.ShloMosaic.TcCoe Idealize.SL.Sem

open Cert.Inner (stk prod)

/-! ### A point's arithmetic -/

/-- Two parts, one over the other, as a block. -/
def cat (a b : FVec Ideal S1x1x1x256x512 .f32) : FVec Ideal S512x512 .bf16 :=
  truncf .bf16 (concatenate S512x512 0 [⟨S256x512, shapeCast S256x512 a shapeCasts_S1x1x1x256x512_S256x512⟩,
    ⟨S256x512, shapeCast S256x512 b shapeCasts_S1x1x1x256x512_S256x512⟩] concatenates_S256x512_S256x512_S512x512_d0) bitsLt_bf16_f32

theorem cat_at (a b : FVec Ideal S1x1x1x256x512 .f32) (i j : Fin 512) :
    cat a b (ix2 i j) = stk (fun i j => a (ix5 0 0 0 i j)) (fun i j => b (ix5 0 0 0 i j)) i j := by
  pointwise [cat, stk]

/-- A block's product with a matrix, scaled. -/
def mm (g : FVec Ideal S1x512x512 .bf16) (x : FVec Ideal S512x512 .bf16) (s : FVec Ideal S1x512 .f32) :
    FVec Ideal S512x512 .f32 :=
  mulf (matmul dot_S512x512_S512x512_S512x512_1_0_0_1_n_n none (shapeCast S512x512 g shapeCasts_S1x512x512_S512x512) x
    (constant S512x512 .f32 0x00000000#32)) (broadcastTo S512x512 s broadcasts_S1x512_S512x512)

theorem mm_at (g : FVec Ideal S1x512x512 .bf16) (x : FVec Ideal S512x512 .bf16) (s : FVec Ideal S1x512 .f32) (i j : Fin 512) :
    mm g x s (ix2 i j) = prod (fun i d => g (ix3 0 i d)) (fun d j => x (ix2 d j)) i j * s (ix2 0 j) := by
  pointwise [mm, prod]

section point

variable (v0 v2 : Vec Ideal S1x1x1x256x512 .f32) (g : Vec Ideal S1x512x512 .bf16) (s : Vec Ideal S1x512 .f32)

theorem pay1_eq : k0_pay1 (F := Ideal) v0 v2 g s = mm g (cat v0 v2) s := rfl

theorem pay1_at (i j : Fin 512) : k0_pay1 (F := Ideal) v0 v2 g s (ix2 i j) =
    prod (fun i d => g (ix3 0 i d)) (stk (fun i j => v0 (ix5 0 0 0 i j)) (fun i j => v2 (ix5 0 0 0 i j))) i j * s (ix2 0 j) := by
  rw [pay1_eq, mm_at]
  simp only [cat_at]

theorem pay2_at (i : Fin 256) (j : Fin 512) : k0_pay2 (F := Ideal) v0 v2 g s (ix4 0 0 i j) =
    k0_pay1 (F := Ideal) v0 v2 g s (ix2 (⟨i.val, by omega⟩ : Fin 512) j) := by
  have e : ∀ w : FVec Ideal S512x512 .f32, shapeCast S1x1x256x512 (extractStridedSlice S256x512 ![0, 0] w
      slices_S512x512_o0_0_S256x512) shapeCasts_S256x512_S1x1x256x512 (ix4 0 0 i j) =
      w (ix2 (⟨i.val, by omega⟩ : Fin 512) j) := fun w => by pointwise
  unfold k0_pay2
  exact e _

theorem pay3_at (i : Fin 256) (j : Fin 512) : k0_pay3 (F := Ideal) v0 v2 g s (ix4 0 0 i j) =
    k0_pay1 (F := Ideal) v0 v2 g s (ix2 (⟨256 + i.val, by omega⟩ : Fin 512) j) := by
  have e : ∀ w : FVec Ideal S512x512 .f32, shapeCast S1x1x256x512 (extractStridedSlice S256x512 ![256, 0] w
      slices_S512x512_o256_0_S256x512) shapeCasts_S256x512_S1x1x256x512 (ix4 0 0 i j) =
      w (ix2 (⟨256 + i.val, by omega⟩ : Fin 512) j) := fun w => by pointwise
  unfold k0_pay3
  exact e _

end point

section block

variable (x0 : Vec Ideal S1x512x512 .bf16) (x1 : Vec Ideal S1x2x1x256x512 .f32) (x2 : Vec Ideal S1x512 .f32)

/-- What a point computes from its blocks. -/
def bl (i j : Fin 512) : EReal :=
  prod (fun i d => x0 (ix3 0 i d)) (stk (fun i j => x1 (ix5 0 0 0 i j)) (fun i j => x1 (ix5 0 1 0 i j))) i j * x2 (ix2 0 j)

theorem ld_a (p : Fin 2) {o : Nat} (e : o = p.val) (inb) (i : Fin 256) (j : Fin 512) :
    View.ld x1 (Rect.unit ![0, o, 0, 0, 0] ![1, 1, 1, 256, 512] inb) (ix5 0 0 0 i j) = x1 (ix5 0 p 0 i j) :=
  View.ld_unit_apply_of _ _ _ _ _ _ fun a => by
    fin_cases a <;> simp [ix5, e]

theorem ld_a0 (i : Fin 256) (j : Fin 512) : View.ld x1 r0_0 (ix5 0 0 0 i j) = x1 (ix5 0 0 0 i j) := ld_a x1 0 rfl _ i j
theorem ld_a1 (i : Fin 256) (j : Fin 512) : View.ld x1 r0_1 (ix5 0 0 0 i j) = x1 (ix5 0 1 0 i j) := ld_a x1 1 rfl _ i j

theorem stk_congr {a b a' b' : Fin 256 → Fin 512 → EReal} (h0 : ∀ i j, a i j = a' i j) (h1 : ∀ i j, b i j = b' i j) :
    stk a b = stk a' b' := by
  obtain rfl : a = a' := funext₂ h0
  obtain rfl : b = b' := funext₂ h1
  rfl

/-- The product, from the blocks. -/
theorem pay1_bl (i j : Fin 512) :
    k0_pay1 (F := Ideal) (View.ld x1 r0_0) (View.ld x1 r0_1) x0 x2 (ix2 i j) = bl x0 x1 x2 i j :=
  (pay1_at _ _ x0 x2 i j).trans
    (congrArg (fun a => prod (fun i d => x0 (ix3 0 i d)) a i j * x2 (ix2 0 j)) (stk_congr (ld_a0 x1) (ld_a1 x1)))

/-- The block a point stores, its real and its imaginary part. -/
theorem out_block (p : Fin 2) (i : Fin 256) (j : Fin 512) : out0_3 (F := Ideal) x0 x1 x2 (ix4 p 0 i j) =
    bl x0 x1 x2 (⟨p.val * 256 + i.val, by omega⟩ : Fin 512) j := by
  have key : ∀ y : S2x1x256x512.Idx, out0_3 (F := Ideal) x0 x1 x2 y =
      bl x0 x1 x2 (⟨(y 0).val * 256 + (y 2).val, by
        have h1 : (y 0).val < 2 := (y 0).isLt
        have h3 : (y 2).val < 256 := (y 2).isLt
        omega⟩ : Fin 512) (y 3 : Fin 512) := fun y => by
    frame_out
    canon_tiles x h
    · obtain ⟨a, b, i, j, rfl⟩ : ∃ (a b : Fin 1) (i : Fin 256) (j : Fin 512), x = ix4 a b i j :=
        ⟨x 0, x 1, x 2, x 3, by idx_vars x⟩
      obtain rfl := Subsingleton.elim a 0
      obtain rfl := Subsingleton.elim b 0
      rw [pay3_at, pay1_bl]
      have e3 : (y 2).val = i.val := h2
      have e1 : (y 0).val = 1 := h0
      have e4 : (y 3 : Fin 512) = j := Fin.ext h3
      rw [e4]
      exact congrArg (fun i => bl x0 x1 x2 i j) (Fin.ext (by dsimp only; omega))
    · obtain ⟨a, b, i, j, rfl⟩ : ∃ (a b : Fin 1) (i : Fin 256) (j : Fin 512), x = ix4 a b i j :=
        ⟨x 0, x 1, x 2, x 3, by idx_vars x⟩
      obtain rfl := Subsingleton.elim a 0
      obtain rfl := Subsingleton.elim b 0
      rw [pay2_at, pay1_bl]
      have e3 : (y 2).val = i.val := h2
      have e1 : (y 0).val = 0 := h0
      have e4 : (y 3 : Fin 512) = j := Fin.ext h3
      rw [e4]
      exact congrArg (fun i => bl x0 x1 x2 i j) (Fin.ext (by dsimp only; omega))
  exact key (ix4 p 0 i j)

end block

/-! ### The points -/

/-- The block index of each window at point `t`. -/
theorem idx0 : ∀ t : Fin cfg0.N, (cfg0.win 0).index t = ![t.val, 0, 0] := by decide +kernel
theorem idx1 : ∀ t : Fin cfg0.N, (cfg0.win 1).index t = ![0, 0, t.val, 0, 0] := by decide +kernel
theorem idx2 : ∀ t : Fin cfg0.N, (cfg0.win 2).index t = ![0, 0] := by decide +kernel
theorem idx3 : ∀ t : Fin cfg0.N, (cfg0.win 3).index t = ![0, t.val, 0, 0] := by decide +kernel

theorem tlt (t : Fin cfg0.N) : t.val < 128 := t.isLt.trans_eq (show cfg0.N = 128 from N_0)

variable (m : (ℓ : Loc nD τ sig) → Buf (Elt Ideal) ℓ) (c : Dev nD)

/-- The matrices, the complex input and the scales. -/
abbrev M : Vec Ideal S128x512x512 .bf16 := m ((c : Thread nD τ).loc main_arg0)
abbrev X : Vec Ideal S1x2x128x256x512 .f32 := m ((c : Thread nD τ).loc main_arg1)
abbrev S : Vec Ideal S1x512 .f32 := m ((c : Thread nD τ).loc main_arg2)

/-- The number of point `t`. -/
def nt (t : Fin cfg0.N) : Fin 128 := ⟨t.val, tlt t⟩

theorem blk_m (t : Fin cfg0.N) (i d : Fin 512) :
    (iblk m c 0 t : Vec Ideal S1x512x512 .bf16) (ix3 0 i d) = M m c (ix3 (nt t) i d) := by
  have e := idx0 t
  simp only [M, nt]
  blk_ext [iblk, V_main_arg0, e]

theorem blk_x (t : Fin cfg0.N) (p : Fin 2) (i : Fin 256) (j : Fin 512) :
    (iblk m c 1 t : Vec Ideal S1x2x1x256x512 .f32) (ix5 0 p 0 i j) = X m c (ix5 0 p (nt t) i j) := by
  have e := idx1 t
  simp only [X, nt]
  blk_ext [iblk, V_main_arg1, e]

theorem blk_s (t : Fin cfg0.N) (j : Fin 512) :
    (iblk m c 2 t : Vec Ideal S1x512 .f32) (ix2 0 j) = S m c (ix2 0 j) := by
  have e := idx2 t
  simp only [S]
  blk_ext [iblk, V_main_arg2, e]

/-- The result of number `k`. -/
def at_ (M : Vec Ideal S128x512x512 .bf16) (X : Vec Ideal S1x2x128x256x512 .f32) (S : Vec Ideal S1x512 .f32)
    (k : Fin 128) (i j : Fin 512) : EReal :=
  prod (fun i d => M (ix3 k i d)) (stk (fun i j => X (ix5 0 0 k i j)) (fun i j => X (ix5 0 1 k i j))) i j * S (ix2 0 j)

/-- The result over the whole array. -/
def G (M : Vec Ideal S128x512x512 .bf16) (X : Vec Ideal S1x2x128x256x512 .f32) (S : Vec Ideal S1x512 .f32) :
    Vec Ideal S2x128x256x512 .f32 :=
  fun y => at_ M X S (y 1) (⟨(y 0).val * 256 + (y 2).val, by
    have h1 : (y 0).val < 2 := (y 0).isLt
    have h3 : (y 2).val < 256 := (y 2).isLt
    omega⟩ : Fin 512) (y 3)

theorem bl_eq (t : Fin cfg0.N) (i j : Fin 512) : bl (iblk m c 0 t) (iblk m c 1 t) (iblk m c 2 t) i j =
    at_ (M m c) (X m c) (S m c) (nt t) i j := by
  unfold bl at_
  simp only [blk_m, blk_x, blk_s]

/-- Where an element of point `t`'s block lies in the array. -/
theorem emb_out (t : Fin cfg0.N) (p : Fin 2) (i : Fin 256) (j : Fin 512) :
    ((win0_3.blk t).view.emb (ix4 p 0 i j : S2x1x256x512.Idx) : S2x128x256x512.Idx) = ix4 p (nt t) i j := by
  have e := idx3 t
  simp only [nt]
  blk_ext [e]

/-- The array the kernel leaves. -/
theorem array_eq : ((dats m 0 c).arrAt 3 cfg0.N : Vec Ideal S2x128x256x512 .f32) = G (M m c) (X m c) (S m c) := by
  refine (dats m 0 c).arrAt_eq_of_covers 3 _ (by decide +kernel) fun t _ y => ?_
  blk_simp
  rw [after0_3]
  have hy : ∀ y : S2x1x256x512.Idx,
      out0_3 (F := Ideal) (iblk m c 0 t) (iblk m c 1 t) (iblk m c 2 t) y =
      G (M m c) (X m c) (S m c) ((win0_3.blk t).view.emb y : S2x128x256x512.Idx) := fun y => by
    obtain ⟨p, b, i, j, rfl⟩ : ∃ (p : Fin 2) (b : Fin 1) (i : Fin 256) (j : Fin 512),
        y = (ix4 p b i j : S2x1x256x512.Idx) := ⟨y 0, y 1, y 2, y 3, by idx_vars y⟩
    obtain rfl := Subsingleton.elim b 0
    rw [emb_out]
    exact (out_block _ _ _ p i j).trans (bl_eq m c t _ j)
  exact hy y

end Cert.Spectrum

end
-- ==== Proof.SpectrumReference.lean ====
/- The reference of the filter's spectrum, its composed terms read at an index. -/
module

public import proofs.«01_k».proof.Proof.SpectrumValue
public import proofs.«01_k».proof.Proof.Gen.Reference13Ideal.Run
public import Idealize.ShloMosaic.Lib.Pointwise

@[expose] public section

set_option maxRecDepth 16384

noncomputable section

namespace Cert.Spectrum

open Cert.Reference13Ideal Cert.Reference13Ideal.Gen Idealize.ShloMosaic Idealize.ShloMosaic.TcCoe Idealize.SL.Sem Idealize.ShloMosaic.StableHlo

open Cert.Inner (stk prod)

/-- The input, each block's real part over its imaginary one. -/
def refA (X : FVec Ideal S1x2x128x256x512 .f32) : FVec Ideal S128x512x512 .f32 :=
  shapeCast _ (shapeCast _ (transpose S1x128x2x256x512 [0, 2, 1, 3, 4] X transposes_S1x2x128x256x512_S1x128x2x256x512_0_2_1_3_4) shapeCasts_S1x128x2x256x512_S1x128x512x512) shapeCasts_S1x128x512x512_S128x512x512

/-- The scaled products with the matrices. -/
def refP (M : FVec Ideal S128x512x512 .bf16) (A : FVec Ideal S128x512x512 .f32) (S : FVec Ideal S1x512 .f32) :
    FVec Ideal S128x512x512 .f32 :=
  mulf (Host.dotGeneral dot_S128x512x512_S128x512x512_S128x512x512_2_1_1_2_0_0 none (extf .f32 M bitsLt_bf16_f32) A)
    (broadcastInDim S128x512x512 ![0, 1, 2] bcast_S1x1x512_S128x512x512_0_1_2 (broadcastInDim S1x1x512 ![1, 2] bcast_S1x512_S1x1x512_1_2 S))

/-- A stacked array in the result's layout. -/
def refO (Y : FVec Ideal S128x512x512 .f32) : FVec Ideal S2x128x256x512 .f32 :=
  concatenate S2x128x256x512 0 [⟨S1x128x256x512, (broadcastInDim S1x128x256x512 ![1, 2, 3] bcast_S128x256x512_S1x128x256x512_1_2_3 (extractStridedSlice S128x256x512 ![0, 0, 0] Y slices_S128x512x512_S128x256x512_0_0_0))⟩, ⟨S1x128x256x512, (broadcastInDim S1x128x256x512 ![1, 2, 3] bcast_S128x256x512_S1x128x256x512_1_2_3 (extractStridedSlice S128x256x512 ![0, 256, 0] Y slices_S128x512x512_S128x256x512_0_256_0))⟩] concatenates_S1x128x256x512_S1x128x256x512_S2x128x256x512_d0

section at_

variable (k : Fin 128)

theorem refA_at (X : FVec Ideal S1x2x128x256x512 .f32) (i j : Fin 512) : refA X (ix3 k i j) =
    stk (fun i j => X (ix5 0 0 k i j)) (fun i j => X (ix5 0 1 k i j)) i j := by
  have e : refA X (ix3 k i j) = X (ix5 0 (⟨i.val / 256, by omega⟩ : Fin 2) k (⟨i.val % 256, by omega⟩ : Fin 256) j) := by
    pointwise [refA]
  rw [e, stk]
  by_cases h : i.val < 256
  · have e1 : (⟨i.val / 256, by omega⟩ : Fin 2) = 0 := Fin.ext (by show i.val / 256 = 0; omega)
    have e2 : (⟨i.val % 256, by omega⟩ : Fin 256) = ⟨i.val, h⟩ := Fin.ext (by show i.val % 256 = i.val; omega)
    rw [dif_pos h, e1, e2]
  · have e1 : (⟨i.val / 256, by omega⟩ : Fin 2) = 1 := Fin.ext (by show i.val / 256 = 1; omega)
    have e2 : (⟨i.val % 256, by omega⟩ : Fin 256) = ⟨i.val - 256, by omega⟩ :=
      Fin.ext (by show i.val % 256 = i.val - 256; omega)
    rw [dif_neg h, e1, e2]

theorem refP_at (M : FVec Ideal S128x512x512 .bf16) (A : FVec Ideal S128x512x512 .f32) (S : FVec Ideal S1x512 .f32)
    (i j : Fin 512) :
    refP M A S (ix3 k i j) = prod (fun i d => M (ix3 k i d)) (fun i j => A (ix3 k i j)) i j * S (ix2 0 j) := by
  pointwise [refP, prod]

theorem refO_at (Y : FVec Ideal S128x512x512 .f32) (p : Fin 2) (i : Fin 256) (j : Fin 512) :
    refO Y (ix4 p k i j) = Y (ix3 k (⟨p.val * 256 + i.val, by omega⟩ : Fin 512) j) := by
  fin_cases p
  · have e : (⟨(0 : Fin 2).val * 256 + i.val, by show 0 * 256 + i.val < 512; omega⟩ : Fin 512) = ⟨i.val, by omega⟩ :=
      Fin.ext (by show 0 * 256 + i.val = i.val; omega)
    refine Eq.trans ?_ (congrArg (fun i => Y (ix3 k i j)) e).symm
    pointwise [refO]
  · have e : (⟨(1 : Fin 2).val * 256 + i.val, by show 1 * 256 + i.val < 512; omega⟩ : Fin 512) = ⟨256 + i.val, by omega⟩ :=
      Fin.ext (by show 1 * 256 + i.val = 256 + i.val; omega)
    refine Eq.trans ?_ (congrArg (fun i => Y (ix3 k i j)) e).symm
    pointwise [refO]

end at_

/-- The reference's result is the kernel's. -/
theorem ref_eq (M : FVec Ideal S128x512x512 .bf16) (X : FVec Ideal S1x2x128x256x512 .f32) (S : FVec Ideal S1x512 .f32) :
    refO (refP M (refA X) S) = G M X S := by
  funext y
  obtain ⟨p, k, i, j, rfl⟩ : ∃ (p : Fin 2) (k : Fin 128) (i : Fin 256) (j : Fin 512),
      y = (ix4 p k i j : S2x128x256x512.Idx) := ⟨y 0, y 1, y 2, y 3, by idx_vars y⟩
  rw [refO_at, refP_at]
  simp only [refA_at]
  rfl

end Cert.Spectrum

end
-- ==== Proof.FilterValue.lean ====
/- The two arrays the long convolution's filter leaves: at row `i` of the embedding and channel `j` the filter's value, and for
   each channel the sum of its squares. Point `t` is row block `t`; the first half of the points take the forward direction's
   weights, the second half the backward one's. The squares' sum is carried from point to point.  -/
module

public import proofs.«01_k».proof.Proof.Gen.Kernel14Ideal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Filter

open Cert.Kernel14Ideal Cert.Kernel14Ideal.Gen Idealize.ShloMosaic Idealize.ShloMosaic.TcCoe Idealize.SL.Sem

/-! ### The filter's value -/

/-- What a hidden unit takes the sine of. -/
def pre {n : ℕ} (f b : EReal) (w x : Fin n → EReal) : EReal := f * ((∑ d, x d * w d) + b)

/-- The second hidden layer of an embedding's row `e`. -/
def hid (e : Fin 32 → EReal) (w1 : Fin 32 → Fin 64 → EReal) (b1 : Fin 64 → EReal) (w2 : Fin 64 → Fin 64 → EReal)
    (b2 f : Fin 64 → EReal) (l : Fin 64) : EReal :=
  Ideal.sin (pre (f l) (b2 l) (fun k => w2 k l) fun k => Ideal.sin (pre (f k) (b1 k) (fun d => w1 d k) e))

/-- The filter's output before it is decayed. -/
def lin (h w3 : Fin 64 → EReal) (b3 : EReal) : EReal := (∑ l, h l * w3 l) + b3

/-- The exponent of the decay at time `e`. -/
def expo (e d : EReal) : EReal := -e * max d (-d)

/-- The decayed output, zero where the row is not in use. -/
def val (o x v : EReal) : EReal := o * Ideal.exp x * v

/-! ### A point's arithmetic -/

section point

variable (v0 : FVec Ideal S512x32 .f32) (v3 : FVec Ideal S1x64 .f32) (v4 : FVec Ideal S32x64 .f32) (v6 : FVec Ideal S1x64 .f32)
  (v12 : FVec Ideal S64x64 .f32) (v14 : FVec Ideal S1x64 .f32) (v20 : FVec Ideal S64x512 .f32) (v22 v27 : FVec Ideal S1x512 .f32)

def pre1 : FVec Ideal S512x64 .f32 :=
  mulf (broadcastTo S512x64 v3 broadcasts_S1x64_S512x64) (addf (matmul dot_S512x32_S32x64_S512x64_1_0_0_1_n_n (some .fp32) v0 v4
    (constant S512x64 .f32 0x00000000#32)) (broadcastTo S512x64 v6 broadcasts_S1x64_S512x64))

theorem pre1_at (r : Fin 512) (k : Fin 64) : pre1 v0 v3 v4 v6 (ix2 r k) =
    pre (v3 (ix2 0 k)) (v6 (ix2 0 k)) (fun d => v4 (ix2 d k)) (fun d => v0 (ix2 r d)) := by
  pointwise [pre1, pre]

def pre2 (h : FVec Ideal S512x64 .f32) : FVec Ideal S512x64 .f32 :=
  mulf (broadcastTo S512x64 v3 broadcasts_S1x64_S512x64) (addf (matmul dot_S512x64_S64x64_S512x64_1_0_0_1_n_n (some .fp32) h v12
    (constant S512x64 .f32 0x00000000#32)) (broadcastTo S512x64 v14 broadcasts_S1x64_S512x64))

theorem pre2_at (h : FVec Ideal S512x64 .f32) (r : Fin 512) (k : Fin 64) : pre2 v3 v12 v14 h (ix2 r k) =
    pre (v3 (ix2 0 k)) (v14 (ix2 0 k)) (fun d => v12 (ix2 d k)) (fun d => h (ix2 r d)) := by
  pointwise [pre2, pre]

def lin3 (h : FVec Ideal S512x64 .f32) : FVec Ideal S512x512 .f32 :=
  addf (matmul dot_S512x64_S64x512_S512x512_1_0_0_1_n_n (some .fp32) h v20 (constant S512x512 .f32 0x00000000#32))
    (broadcastTo S512x512 v22 broadcasts_S1x512_S512x512)

theorem lin3_at (h : FVec Ideal S512x64 .f32) (r : Fin 512) (j : Fin 512) : lin3 v20 v22 h (ix2 r j) =
    lin (fun l => h (ix2 r l)) (fun l => v20 (ix2 l j)) (v22 (ix2 0 j)) := by
  pointwise [lin3, lin]

def dec : FVec Ideal S512x512 .f32 :=
  mulf (broadcastTo S512x512 (subf (broadcast S512x1 (Scalar.ofBits .f32 0x00000000#32))
    (extractStridedSlice S512x1 ![0, 0] v0 slices_S512x32_o0_0_S512x1)) broadcasts_S512x1_S512x512)
    (broadcastTo S512x512 (absf v27) broadcasts_S1x512_S512x512)

theorem abs_at {s : Shape} (x : FVec Ideal s .f32) (y : s.Idx) : absf x y = max (x y) (-x y) := rfl
theorem sin_at {s : Shape} (x : FVec Ideal s .f32) (y : s.Idx) : sin x y = Ideal.sin (x y) := rfl

theorem dec_at (r j : Fin 512) : dec v0 v27 (ix2 r j) = expo (v0 (ix2 r 0)) (v27 (ix2 0 j)) := by
  pointwise [dec, expo, abs_at]
  rw [zero_sub]

def use : FVec Ideal S512x512 .f32 :=
  broadcastTo S512x512 (extractStridedSlice S512x1 ![0, 17] v0 slices_S512x32_o0_17_S512x1) broadcasts_S512x1_S512x512

theorem use_at (r j : Fin 512) : use v0 (ix2 r j) = v0 (ix2 r 17) := by
  pointwise [use]

theorem pay3_eq : k0_pay3 (F := Ideal) v0 v3 v4 v6 v12 v14 v20 v22 v27 =
    mulf (mulf (lin3 v20 v22 (sin (pre2 v3 v12 v14 (sin (pre1 v0 v3 v4 v6))))) (exp (dec v0 v27))) (use v0) := rfl

theorem val_at (o x v : FVec Ideal S512x512 .f32) (y : S512x512.Idx) :
    mulf (mulf o (exp x)) v y = val (o y) (x y) (v y) := rfl

theorem pay3_at (r j : Fin 512) : k0_pay3 (F := Ideal) v0 v3 v4 v6 v12 v14 v20 v22 v27 (ix2 r j) =
    val (lin (hid (fun d => v0 (ix2 r d)) (fun d k => v4 (ix2 d k)) (fun k => v6 (ix2 0 k)) (fun d k => v12 (ix2 d k))
      (fun k => v14 (ix2 0 k)) (fun k => v3 (ix2 0 k))) (fun l => v20 (ix2 l j)) (v22 (ix2 0 j)))
      (expo (v0 (ix2 r 0)) (v27 (ix2 0 j))) (v0 (ix2 r 17)) := by
  rw [pay3_eq, val_at, lin3_at, dec_at, use_at]
  simp only [sin_at, pre2_at, pre1_at]
  rfl

theorem pay2_at (v : FVec Ideal S512x512 .f32) (s : Vec Ideal S1x512 .f32) (j : Fin 512) :
    k0_pay2 (F := Ideal) v s (ix2 0 j) = s (ix2 0 j) + ∑ r : Fin 512, v (ix2 r j) * v (ix2 r j) := by
  pointwise [k0_pay2]

theorem pay1_at (j : Fin 512) : k0_pay1 (F := Ideal) (ix2 0 j) = 0 := by
  pointwise [k0_pay1]

end point

section cases

variable (c : Dev nD) (i : grid0.Coords) (arg1 : Memref sig .tc .vmem S512x32 .f32) (harg1 : arg1.IsWhole)
  (arg2 : Memref sig .tc .vmem S32x64 .f32) (harg2 : arg2.IsWhole) (arg3 : Memref sig .tc .vmem S1x64 .f32) (harg3 : arg3.IsWhole)
  (arg4 : Memref sig .tc .vmem S64x64 .f32) (harg4 : arg4.IsWhole) (arg5 : Memref sig .tc .vmem S1x64 .f32) (harg5 : arg5.IsWhole)
  (arg6 : Memref sig .tc .vmem S64x512 .f32) (harg6 : arg6.IsWhole) (arg7 : Memref sig .tc .vmem S1x512 .f32) (harg7 : arg7.IsWhole)
  (arg8 : Memref sig .tc .vmem S1x64 .f32) (harg8 : arg8.IsWhole) (arg9 : Memref sig .tc .vmem S1x512 .f32) (harg9 : arg9.IsWhole)
  (arg10 : Memref sig .tc .vmem S512x512 .f32) (harg10 : arg10.IsWhole) (arg11 : Memref sig .tc .vmem S1x512 .f32)
  (harg11 : arg11.IsWhole) (x0 : Vec Ideal S512x32 .f32) (x1 : Vec Ideal S32x64 .f32) (x2 : Vec Ideal S1x64 .f32)
  (x3 : Vec Ideal S64x64 .f32) (x4 : Vec Ideal S1x64 .f32) (x5 : Vec Ideal S64x512 .f32) (x6 : Vec Ideal S1x512 .f32)
  (x7 : Vec Ideal S1x64 .f32) (x8 xs : Vec Ideal S1x512 .f32)

/-- The first point: the values. -/
theorem outA (hc : cond0_0 i) : out0_A_9 (F := Ideal) c i arg1 harg1 arg2 harg2 arg3 harg3 arg4 harg4 arg5 harg5 arg6 harg6 arg7 harg7 arg8 harg8 arg9 harg9 arg10 harg10
      arg11 harg11 hc x0 x1 x2 x3 x4 x5 x6 x7 x8 =
      k0_pay3 (F := Ideal) x0 x7 x1 x2 x3 x4 x5 x6 x8 := by
  funext y
  frame_open
  frame_out

/-- The first point: the squares. -/
theorem sumA (hc : cond0_0 i) : out0_A_10 (F := Ideal) c i arg1 harg1 arg2 harg2 arg3 harg3 arg4 harg4 arg5 harg5 arg6 harg6 arg7 harg7 arg8 harg8 arg9 harg9 arg10 harg10
      arg11 harg11 hc x0 x1 x2 x3 x4 x5 x6 x7 x8 =
      k0_pay2 (F := Ideal) (k0_pay3 (F := Ideal) x0 x7 x1 x2 x3 x4 x5 x6 x8) (k0_pay1 (F := Ideal)) := by
  funext y
  frame_open
  frame_out

/-- A later point: the values. -/
theorem outB (hc : ¬cond0_0 i) : out0_B_9 (F := Ideal) c i arg1 harg1 arg2 harg2 arg3 harg3 arg4 harg4 arg5 harg5 arg6 harg6 arg7 harg7 arg8 harg8 arg9 harg9 arg10 harg10
      arg11 harg11 hc x0 x1 x2 x3 x4 x5 x6 x7 x8 xs =
      k0_pay3 (F := Ideal) x0 x7 x1 x2 x3 x4 x5 x6 x8 := by
  funext y
  frame_open
  frame_out

/-- A later point: the squares. -/
theorem sumB (hc : ¬cond0_0 i) : out0_B_10 (F := Ideal) c i arg1 harg1 arg2 harg2 arg3 harg3 arg4 harg4 arg5 harg5 arg6 harg6 arg7 harg7 arg8 harg8 arg9 harg9 arg10 harg10
      arg11 harg11 hc x0 x1 x2 x3 x4 x5 x6 x7 x8 xs =
      k0_pay2 (F := Ideal) (k0_pay3 (F := Ideal) x0 x7 x1 x2 x3 x4 x5 x6 x8) xs := by
  funext y
  frame_open
  frame_out

end cases

/-! ### The points -/

/-- The block index of each window at point `t`. -/
theorem idx0 : ∀ t : Fin cfg0.N, (cfg0.win 0).index t = ![t.val, 0] := by decide +kernel
theorem idx1 : ∀ t : Fin cfg0.N, (cfg0.win 1).index t = ![0, 0] := by decide +kernel
theorem idx2 : ∀ t : Fin cfg0.N, (cfg0.win 2).index t = ![0, 0] := by decide +kernel
theorem idx3 : ∀ t : Fin cfg0.N, (cfg0.win 3).index t = ![0, 0] := by decide +kernel
theorem idx4 : ∀ t : Fin cfg0.N, (cfg0.win 4).index t = ![0, 0] := by decide +kernel
theorem idx5 : ∀ t : Fin cfg0.N, (cfg0.win 5).index t = ![0, t.val / 32] := by decide +kernel
theorem idx6 : ∀ t : Fin cfg0.N, (cfg0.win 6).index t = ![0, t.val / 32] := by decide +kernel
theorem idx7 : ∀ t : Fin cfg0.N, (cfg0.win 7).index t = ![0, 0] := by decide +kernel
theorem idx8 : ∀ t : Fin cfg0.N, (cfg0.win 8).index t = ![0, t.val / 32] := by decide +kernel
theorem idx9 : ∀ t : Fin cfg0.N, (cfg0.win 9).index t = ![t.val, 0] := by decide +kernel
theorem idx10 : ∀ t : Fin cfg0.N, (cfg0.win 10).index t = ![0, 0] := by decide +kernel

theorem tlt (t : Fin cfg0.N) : t.val < 64 := t.isLt.trans_eq (show cfg0.N = 64 from N_0)

variable (m : (ℓ : Loc nD τ sig) → Buf (Elt Ideal) ℓ) (c : Dev nD)

/-- The embedding, the three layers' weights and biases, the frequencies and the decays. -/
abbrev E : Vec Ideal S32768x32 .f32 := m ((c : Thread nD τ).loc main_arg0)
abbrev W1 : Vec Ideal S32x64 .f32 := m ((c : Thread nD τ).loc main_arg1)
abbrev B1 : Vec Ideal S1x64 .f32 := m ((c : Thread nD τ).loc main_arg2)
abbrev W2 : Vec Ideal S64x64 .f32 := m ((c : Thread nD τ).loc main_arg3)
abbrev B2 : Vec Ideal S1x64 .f32 := m ((c : Thread nD τ).loc main_arg4)
abbrev W3 : Vec Ideal S64x1024 .f32 := m ((c : Thread nD τ).loc main_arg5)
abbrev B3 : Vec Ideal S1x1024 .f32 := m ((c : Thread nD τ).loc main_arg6)
abbrev R : Vec Ideal S1x64 .f32 := m ((c : Thread nD τ).loc main_arg7)
abbrev D : Vec Ideal S1x1024 .f32 := m ((c : Thread nD τ).loc main_arg8)

/-- The row of the whole array that row `r` of point `t`'s block is. -/
def rt (t : Fin cfg0.N) (r : Fin 512) : Fin 32768 := ⟨t.val * 512 + r.val, by have := tlt t; omega⟩
/-- The column of the weights that column `j` of point `t`'s block is. -/
def ct (t : Fin cfg0.N) (j : Fin 512) : Fin 1024 := ⟨t.val / 32 * 512 + j.val, by have := tlt t; omega⟩

theorem blk_e (t : Fin cfg0.N) (r : Fin 512) (d : Fin 32) :
    (iblk m c 0 t : Vec Ideal S512x32 .f32) (ix2 r d) = E m c (ix2 (rt t r) d) := by
  have e := idx0 t
  simp only [E, rt]
  blk_ext [iblk, V_main_arg0, e]

theorem blk_w1 (t : Fin cfg0.N) (d : Fin 32) (k : Fin 64) :
    (iblk m c 1 t : Vec Ideal S32x64 .f32) (ix2 d k) = W1 m c (ix2 d k) := by
  have e := idx1 t
  simp only [W1]
  blk_ext [iblk, V_main_arg1, e]

theorem blk_b1 (t : Fin cfg0.N) (k : Fin 64) :
    (iblk m c 2 t : Vec Ideal S1x64 .f32) (ix2 0 k) = B1 m c (ix2 0 k) := by
  have e := idx2 t
  simp only [B1]
  blk_ext [iblk, V_main_arg2, e]

theorem blk_w2 (t : Fin cfg0.N) (d k : Fin 64) :
    (iblk m c 3 t : Vec Ideal S64x64 .f32) (ix2 d k) = W2 m c (ix2 d k) := by
  have e := idx3 t
  simp only [W2]
  blk_ext [iblk, V_main_arg3, e]

theorem blk_b2 (t : Fin cfg0.N) (k : Fin 64) :
    (iblk m c 4 t : Vec Ideal S1x64 .f32) (ix2 0 k) = B2 m c (ix2 0 k) := by
  have e := idx4 t
  simp only [B2]
  blk_ext [iblk, V_main_arg4, e]

theorem blk_w3 (t : Fin cfg0.N) (l : Fin 64) (j : Fin 512) :
    (iblk m c 5 t : Vec Ideal S64x512 .f32) (ix2 l j) = W3 m c (ix2 l (ct t j)) := by
  have e := idx5 t
  simp only [W3, ct]
  blk_ext [iblk, V_main_arg5, e]

theorem blk_b3 (t : Fin cfg0.N) (j : Fin 512) :
    (iblk m c 6 t : Vec Ideal S1x512 .f32) (ix2 0 j) = B3 m c (ix2 0 (ct t j)) := by
  have e := idx6 t
  simp only [B3, ct]
  blk_ext [iblk, V_main_arg6, e]

theorem blk_r (t : Fin cfg0.N) (k : Fin 64) :
    (iblk m c 7 t : Vec Ideal S1x64 .f32) (ix2 0 k) = R m c (ix2 0 k) := by
  have e := idx7 t
  simp only [R]
  blk_ext [iblk, V_main_arg7, e]

theorem blk_d (t : Fin cfg0.N) (j : Fin 512) :
    (iblk m c 8 t : Vec Ideal S1x512 .f32) (ix2 0 j) = D m c (ix2 0 (ct t j)) := by
  have e := idx8 t
  simp only [D, ct]
  blk_ext [iblk, V_main_arg8, e]

/-- The value at row `i` with the weights of column `q`. -/
def at_ (E : Vec Ideal S32768x32 .f32) (W1 : Vec Ideal S32x64 .f32) (B1 : Vec Ideal S1x64 .f32) (W2 : Vec Ideal S64x64 .f32)
    (B2 : Vec Ideal S1x64 .f32) (W3 : Vec Ideal S64x1024 .f32) (B3 : Vec Ideal S1x1024 .f32) (R : Vec Ideal S1x64 .f32)
    (D : Vec Ideal S1x1024 .f32)
    (i : Fin 32768) (q : Fin 1024) : EReal :=
  val (lin (hid (fun d => E (ix2 i d)) (fun d k => W1 (ix2 d k)) (fun k => B1 (ix2 0 k)) (fun d k => W2 (ix2 d k))
    (fun k => B2 (ix2 0 k)) (fun k => R (ix2 0 k))) (fun l => W3 (ix2 l q)) (B3 (ix2 0 q)))
    (expo (E (ix2 i 0)) (D (ix2 0 q))) (E (ix2 i 17))

/-- The filter over all rows: the first half takes the first half of the columns, the second half the second. -/
def K (E : Vec Ideal S32768x32 .f32) (W1 : Vec Ideal S32x64 .f32) (B1 : Vec Ideal S1x64 .f32) (W2 : Vec Ideal S64x64 .f32)
    (B2 : Vec Ideal S1x64 .f32) (W3 : Vec Ideal S64x1024 .f32) (B3 : Vec Ideal S1x1024 .f32) (R : Vec Ideal S1x64 .f32)
    (D : Vec Ideal S1x1024 .f32)
    (i : Fin 32768) (j : Fin 512) : EReal := at_ E W1 B1 W2 B2 W3 B3 R D i ⟨i.val / 16384 * 512 + j.val, by omega⟩

/-- The filter's array. -/
def G (E : Vec Ideal S32768x32 .f32) (W1 : Vec Ideal S32x64 .f32) (B1 : Vec Ideal S1x64 .f32) (W2 : Vec Ideal S64x64 .f32)
    (B2 : Vec Ideal S1x64 .f32) (W3 : Vec Ideal S64x1024 .f32) (B3 : Vec Ideal S1x1024 .f32) (R : Vec Ideal S1x64 .f32)
    (D : Vec Ideal S1x1024 .f32) :
    Vec Ideal S32768x512 .f32 := fun y => K E W1 B1 W2 B2 W3 B3 R D (y 0) (y 1)

/-- The sums of its columns' squares. -/
def G2 (E : Vec Ideal S32768x32 .f32) (W1 : Vec Ideal S32x64 .f32) (B1 : Vec Ideal S1x64 .f32) (W2 : Vec Ideal S64x64 .f32)
    (B2 : Vec Ideal S1x64 .f32) (W3 : Vec Ideal S64x1024 .f32) (B3 : Vec Ideal S1x1024 .f32) (R : Vec Ideal S1x64 .f32)
    (D : Vec Ideal S1x1024 .f32) :
    Vec Ideal S1x512 .f32 := fun y => ∑ i, K E W1 B1 W2 B2 W3 B3 R D i (y 1) * K E W1 B1 W2 B2 W3 B3 R D i (y 1)

/-- The values a point computes. -/
abbrev pt (t : Fin cfg0.N) : FVec Ideal S512x512 .f32 :=
  k0_pay3 (F := Ideal) (iblk m c 0 t) (iblk m c 7 t) (iblk m c 1 t) (iblk m c 2 t) (iblk m c 3 t) (iblk m c 4 t)
    (iblk m c 5 t) (iblk m c 6 t) (iblk m c 8 t)

theorem pt_at (t : Fin cfg0.N) (r j : Fin 512) : pt m c t (ix2 r j) =
    K (E m c) (W1 m c) (B1 m c) (W2 m c) (B2 m c) (W3 m c) (B3 m c) (R m c) (D m c) (rt t r) j := by
  have e : (⟨(rt t r).val / 16384 * 512 + j.val, by omega⟩ : Fin 1024) = ct t j := Fin.ext (by
    have := tlt t
    simp only [rt, ct]
    omega)
  rw [pt, pay3_at, K, e, at_]
  simp only [blk_e, blk_w1, blk_b1, blk_w2, blk_b2, blk_w3, blk_b3, blk_r, blk_d]

theorem out_eq (t : Fin cfg0.N) : (outsAt0 m c t.val t.isLt).1 = pt m c t := by
  by_cases h0 : t.val % 64 = 0
  · rw [outsAt0_A m c t h0]
    dsimp only
    rw [outA]
  · rw [outsAt0_B m c t h0]
    dsimp only
    rw [outB]

/-- The square at a row, zero past the last. -/
def sq (j : Fin 512) (i : ℕ) : EReal :=
  if h : i < 32768 then K (E m c) (W1 m c) (B1 m c) (W2 m c) (B2 m c) (W3 m c) (B3 m c) (R m c) (D m c) ⟨i, h⟩ j *
    K (E m c) (W1 m c) (B1 m c) (W2 m c) (B2 m c) (W3 m c) (B3 m c) (R m c) (D m c) ⟨i, h⟩ j else 0

theorem pt_sq (t : Fin cfg0.N) (j : Fin 512) : ∑ r : Fin 512, pt m c t (ix2 r j) * pt m c t (ix2 r j) =
    ∑ r ∈ Finset.range 512, sq m c j (t.val * 512 + r) := by
  rw [← Fin.sum_univ_eq_sum_range (fun r => sq m c j (t.val * 512 + r)) 512]
  refine Finset.sum_congr rfl fun r _ => ?_
  have h : t.val * 512 + r.val < 32768 := by have := tlt t; omega
  rw [pt_at, sq, dif_pos h]
  rfl

/-- The sums after every point: the squares of the rows so far. -/
theorem sums (n : ℕ) (hn : n < cfg0.N) (j : Fin 512) :
    (outsAt0 m c n hn).2 (ix2 0 j) = ∑ i ∈ Finset.range ((n + 1) * 512), sq m c j i := by
  induction n with
  | zero =>
    have h := outsAt0_A m c ⟨0, hn⟩ (Nat.zero_mod _)
    rw [h]
    dsimp only
    rw [sumA, pay2_at, pay1_at, zero_add]
    refine (pt_sq m c ⟨0, hn⟩ j).trans ?_
    simp only [Nat.zero_mul, Nat.zero_add, Nat.one_mul]
  | succ n ih =>
    have hlt : n + 1 < 64 := tlt ⟨n + 1, hn⟩
    have h := outsAt0_B m c ⟨n + 1, hn⟩ (by show ¬(n + 1) % 64 = 0; omega)
    rw [h]
    dsimp only
    rw [sumB, pay2_at, show (n + 1 + 1) * 512 = (n + 1) * 512 + 512 by omega, Finset.sum_range_add]
    exact congrArg₂ (· + ·) (ih (Nat.lt_of_succ_lt hn)) (pt_sq m c ⟨n + 1, hn⟩ j)

/-- Where an element of point `t`'s block lies in the array. -/
theorem emb_out (t : Fin cfg0.N) (r j : Fin 512) :
    ((win0_9.blk t).view.emb (ix2 r j : S512x512.Idx) : S32768x512.Idx) = ix2 (rt t r) j := by
  have e := idx9 t
  simp only [rt]
  blk_ext [e]

/-- Every point's block of the sums is the whole row. -/
theorem emb_sum (t : Fin cfg0.N) (j : Fin 512) :
    ((win0_10.blk t).view.emb (ix2 0 j : S1x512.Idx) : S1x512.Idx) = ix2 0 j := by
  have e := idx10 t
  blk_ext [e]

/-- The filter's array. -/
theorem array9 : ((dats m 0 c).arrAt 9 cfg0.N : Vec Ideal S32768x512 .f32) =
    G (E m c) (W1 m c) (B1 m c) (W2 m c) (B2 m c) (W3 m c) (B3 m c) (R m c) (D m c) := by
  refine (dats m 0 c).arrAt_eq_of_covers 9 _ (by decide +kernel) fun t _ y => ?_
  blk_simp
  rw [after0_9]
  have hy : ∀ y : S512x512.Idx, (outsAt0 m c t.val t.isLt).1 y =
      G (E m c) (W1 m c) (B1 m c) (W2 m c) (B2 m c) (W3 m c) (B3 m c) (R m c) (D m c)
        ((win0_9.blk t).view.emb y : S32768x512.Idx) := fun y => by
    obtain ⟨r, j, rfl⟩ : ∃ (r j : Fin 512), y = (ix2 r j : S512x512.Idx) := ⟨y 0, y 1, by idx_vars y⟩
    rw [out_eq, emb_out, pt_at]
    rfl
  exact hy y

/-- The sums' array. -/
theorem array10 : ((dats m 0 c).arrAt 10 cfg0.N : Vec Ideal S1x512 .f32) =
    G2 (E m c) (W1 m c) (B1 m c) (W2 m c) (B2 m c) (W3 m c) (B3 m c) (R m c) (D m c) := by
  refine (dats m 0 c).arrAt_eq_of_covers 10 _ (by decide +kernel) fun t hf y => ?_
  have h1 : t.val % 64 = 63 := (flush0_10 t).1 hf
  have h2 : t.val = 63 := by have := tlt t; omega
  blk_simp
  rw [after0_10]
  have hy : ∀ y : S1x512.Idx, (outsAt0 m c t.val t.isLt).2 y =
      G2 (E m c) (W1 m c) (B1 m c) (W2 m c) (B2 m c) (W3 m c) (B3 m c) (R m c) (D m c)
        ((win0_10.blk t).view.emb y : S1x512.Idx) := fun y => by
    obtain ⟨a, j, rfl⟩ : ∃ (a : Fin 1) (j : Fin 512), y = (ix2 a j : S1x512.Idx) := ⟨y 0, y 1, by idx_vars y⟩
    obtain rfl := Subsingleton.elim a 0
    rw [emb_sum, sums, h2, show (63 + 1) * 512 = 32768 from rfl, ← Fin.sum_univ_eq_sum_range (sq m c j) 32768]
    refine Finset.sum_congr rfl fun i _ => ?_
    rw [sq, dif_pos i.isLt]
    rfl
  exact hy y

end Cert.Filter

end
-- ==== Proof.FilterReference.lean ====
/- The reference of the long convolution's filter, its composed terms read at an index. -/
module

public import proofs.«01_k».proof.Proof.FilterValue
public import proofs.«01_k».proof.Proof.Gen.Reference14Ideal.Run
public import Idealize.ShloMosaic.Lib.Pointwise

@[expose] public section

set_option maxRecDepth 16384

noncomputable section

namespace Cert.Filter

open Cert.Reference14Ideal Cert.Reference14Ideal.Gen Idealize.ShloMosaic Idealize.ShloMosaic.TcCoe Idealize.SL.Sem Idealize.ShloMosaic.StableHlo

/-- What the first layer takes the sine of. -/
def refA (E : FVec Ideal S32768x32 .f32) (W1 : FVec Ideal S32x64 .f32) (B1 R : FVec Ideal S1x64 .f32) : FVec Ideal S32768x64 .f32 :=
  mulf (broadcastInDim S32768x64 ![0, 1] bcast_S1x64_S32768x64_0_1 R) (addf (Host.dotGeneral dot_S32768x32_S32x64_S32768x64_1_0_0_1_n_n none E W1) (broadcastInDim S32768x64 ![0, 1] bcast_S1x64_S32768x64_0_1 B1))

/-- What the second layer takes the sine of. -/
def refB (H : FVec Ideal S32768x64 .f32) (W2 : FVec Ideal S64x64 .f32) (B2 R : FVec Ideal S1x64 .f32) : FVec Ideal S32768x64 .f32 :=
  mulf (broadcastInDim S32768x64 ![0, 1] bcast_S1x64_S32768x64_0_1 R) (addf (Host.dotGeneral dot_S32768x64_S64x64_S32768x64_1_0_0_1_n_n none H W2) (broadcastInDim S32768x64 ![0, 1] bcast_S1x64_S32768x64_0_1 B2))

/-- The outputs of both directions. -/
def refL (H : FVec Ideal S32768x64 .f32) (W3 : FVec Ideal S64x1024 .f32) (B3 : FVec Ideal S1x1024 .f32) : FVec Ideal S32768x1024 .f32 :=
  addf (Host.dotGeneral dot_S32768x64_S64x1024_S32768x1024_1_0_0_1_n_n none H W3) (broadcastInDim S32768x1024 ![0, 1] bcast_S1x1024_S32768x1024_0_1 B3)

/-- The decays' exponents. -/
def refX (E : FVec Ideal S32768x32 .f32) (D : FVec Ideal S1x1024 .f32) : FVec Ideal S32768x1024 .f32 :=
  mulf (broadcastInDim S32768x1024 ![0, 1] bcast_S32768x1_S32768x1024_0_1 (Host.negf (extractStridedSlice S32768x1 ![0, 0] E slices_S32768x32_S32768x1_0_0))) (broadcastInDim S32768x1024 ![0, 1] bcast_S1x1024_S32768x1024_0_1 (Host.absf D))

/-- The first half of the rows with the first half of the columns, the second with the second. -/
def refC (O : FVec Ideal S32768x1024 .f32) : FVec Ideal S32768x512 .f32 :=
  concatenate S32768x512 0 [⟨S16384x512, (extractStridedSlice S16384x512 ![0, 0] O slices_S32768x1024_S16384x512_0_0)⟩, ⟨S16384x512, (extractStridedSlice S16384x512 ![16384, 512] O slices_S32768x1024_S16384x512_16384_512)⟩] concatenates_S16384x512_S16384x512_S32768x512_d0

/-- Whether a row is in use. -/
def refV (E : FVec Ideal S32768x32 .f32) : FVec Ideal S32768x512 .f32 :=
  broadcastInDim S32768x512 ![0, 1] bcast_S32768x1_S32768x512_0_1 (extractStridedSlice S32768x1 ![0, 17] E slices_S32768x32_S32768x1_0_17)

/-- The sums of the columns' squares. -/
def refS (K : FVec Ideal S32768x512 .f32) : FVec Ideal S1x512 .f32 :=
  broadcastInDim S1x512 ![1] bcast_S512_S1x512_1 (Host.reduceAdd (mulf K K) (constant S_ .f32 0x00000000#32) reducesTo_S32768x512_S512_d0 h_S_)

section at_

variable (E : FVec Ideal S32768x32 .f32) (W1 : FVec Ideal S32x64 .f32) (B1 R : FVec Ideal S1x64 .f32)
  (W2 : FVec Ideal S64x64 .f32) (B2 : FVec Ideal S1x64 .f32) (W3 : FVec Ideal S64x1024 .f32) (B3 D : FVec Ideal S1x1024 .f32)
  (H : FVec Ideal S32768x64 .f32) (i : Fin 32768)

theorem refA_at (k : Fin 64) : refA E W1 B1 R (ix2 i k) =
    pre (R (ix2 0 k)) (B1 (ix2 0 k)) (fun d => W1 (ix2 d k)) (fun d => E (ix2 i d)) := by
  pointwise [refA, pre]

theorem refB_at (k : Fin 64) : refB H W2 B2 R (ix2 i k) =
    pre (R (ix2 0 k)) (B2 (ix2 0 k)) (fun d => W2 (ix2 d k)) (fun d => H (ix2 i d)) := by
  pointwise [refB, pre]

theorem refL_at (q : Fin 1024) : refL H W3 B3 (ix2 i q) =
    lin (fun l => H (ix2 i l)) (fun l => W3 (ix2 l q)) (B3 (ix2 0 q)) := by
  pointwise [refL, lin]

theorem habs_at {s : Shape} (x : FVec Ideal s .f32) (y : s.Idx) : Host.absf x y = max (x y) (-x y) := rfl
theorem hneg_at {s : Shape} (x : FVec Ideal s .f32) (y : s.Idx) : Host.negf x y = -x y := rfl
theorem hsin_at {s : Shape} (x : FVec Ideal s .f32) (y : s.Idx) : Host.sin x y = Ideal.sin (x y) := rfl
theorem hexp_at {s : Shape} (x : FVec Ideal s .f32) (y : s.Idx) : Host.exp x y = Ideal.exp (x y) := rfl

theorem refX_at (q : Fin 1024) : refX E D (ix2 i q) = expo (E (ix2 i 0)) (D (ix2 0 q)) := by
  pointwise [refX, expo, habs_at, hneg_at]

theorem refV_at (j : Fin 512) : refV E (ix2 i j) = E (ix2 i 17) := by
  pointwise [refV]

theorem refC_at (O : FVec Ideal S32768x1024 .f32) (j : Fin 512) :
    refC O (ix2 i j) = O (ix2 i ⟨i.val / 16384 * 512 + j.val, by omega⟩) := by
  have e : refC O (ix2 i j) = if h : i.val < 16384 then O (ix2 i (⟨j.val, by omega⟩ : Fin 1024)) else
      O (ix2 (⟨16384 + (i.val - 16384), by omega⟩ : Fin 32768) (⟨512 + j.val, by omega⟩ : Fin 1024)) := by
    pointwise [refC]
  rw [e]
  by_cases h : i.val < 16384
  · rw [dif_pos h]
    exact congrArg (fun q => O (ix2 i q)) (Fin.ext (by show j.val = i.val / 16384 * 512 + j.val; omega))
  · rw [dif_neg h]
    exact congrArg₂ (fun i q => O (ix2 i q)) (Fin.ext (by show 16384 + (i.val - 16384) = i.val; omega))
      (Fin.ext (by show 512 + j.val = i.val / 16384 * 512 + j.val; omega))

theorem refS_at (K : FVec Ideal S32768x512 .f32) (j : Fin 512) : refS K (ix2 0 j) = ∑ i, K (ix2 i j) * K (ix2 i j) := by
  pointwise [refS]

end at_

section

variable (E : FVec Ideal S32768x32 .f32) (W1 : FVec Ideal S32x64 .f32) (B1 : FVec Ideal S1x64 .f32)
  (W2 : FVec Ideal S64x64 .f32) (B2 : FVec Ideal S1x64 .f32) (W3 : FVec Ideal S64x1024 .f32) (B3 : FVec Ideal S1x1024 .f32)
  (R : FVec Ideal S1x64 .f32) (D : FVec Ideal S1x1024 .f32)

/-- The reference's filter. -/
def refK : FVec Ideal S32768x512 .f32 :=
  mulf (refC (mulf (refL (Host.sin (refB (Host.sin (refA E W1 B1 R)) W2 B2 R)) W3 B3) (Host.exp (refX E D)))) (refV E)

theorem refK_at (i : Fin 32768) (j : Fin 512) : refK E W1 B1 W2 B2 W3 B3 R D (ix2 i j) = K E W1 B1 W2 B2 W3 B3 R D i j := by
  have e : ∀ a b : FVec Ideal S32768x512 .f32, mulf a b (ix2 i j) = a (ix2 i j) * b (ix2 i j) := fun _ _ => rfl
  have e2 : ∀ (a b : FVec Ideal S32768x1024 .f32) (q : Fin 1024), mulf a b (ix2 i q) = a (ix2 i q) * b (ix2 i q) := fun _ _ _ => rfl
  rw [refK, e, refC_at, e2, refL_at, hexp_at, refX_at, refV_at]
  simp only [hsin_at, refB_at, refA_at]
  rfl

/-- The reference's first result is the kernel's. -/
theorem ref_eq : refK E W1 B1 W2 B2 W3 B3 R D = G E W1 B1 W2 B2 W3 B3 R D := by
  funext y
  obtain ⟨i, j, rfl⟩ : ∃ (i : Fin 32768) (j : Fin 512), y = (ix2 i j : S32768x512.Idx) := ⟨y 0, y 1, by idx_vars y⟩
  exact refK_at E W1 B1 W2 B2 W3 B3 R D i j

/-- The reference's second result is the kernel's. -/
theorem ref2_eq : refS (refK E W1 B1 W2 B2 W3 B3 R D) = G2 E W1 B1 W2 B2 W3 B3 R D := by
  funext y
  obtain ⟨a, j, rfl⟩ : ∃ (a : Fin 1) (j : Fin 512), y = (ix2 a j : S1x512.Idx) := ⟨y 0, y 1, by idx_vars y⟩
  obtain rfl := Subsingleton.elim a 0
  rw [refS_at]
  simp only [refK_at]
  rfl

end

end Cert.Filter

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.ReferenceValue
public import proofs.«01_k».proof.Proof.Precondition
public import proofs.«01_k».proof.Proof.NormedReference
public import proofs.«01_k».proof.Proof.ExpertsFrameFloat
public import proofs.«01_k».proof.Proof.ExpertsReference
public import proofs.«01_k».proof.Proof.ExpertsPrecondition
public import proofs.«01_k».proof.Proof.MergeReference
public import proofs.«01_k».proof.Proof.RouterReference
public import proofs.«01_k».proof.Proof.MemoryReference
public import proofs.«01_k».proof.Proof.MemoryKeysReference
public import proofs.«01_k».proof.Proof.RotaryReference
public import proofs.«01_k».proof.Proof.StreamsReference
public import proofs.«01_k».proof.Proof.OuterReference
public import proofs.«01_k».proof.Proof.ForwardReference
public import proofs.«01_k».proof.Proof.InnerReference
public import proofs.«01_k».proof.Proof.SpectrumReference
public import proofs.«01_k».proof.Proof.FilterReference

@[expose] public section

noncomputable section

namespace Cert.Proof

open Idealize.ShloMosaic Idealize.ShloMosaic.TcCoe Idealize.SL.Sem

/-- The reference runs to its end, its arguments unchanged and no semaphore counter left (it has none). -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run m ρ)

/-- The attention kernel's result is the reference's, at the extended reals, where queries and keys are finite. -/
theorem algebraic : Cert.algebraic_KernelIdeal_ReferenceIdeal_pre_finite_qk (hKernelIdeal := Cert.KernelIdeal.Gen.facts)
    (hReferenceIdeal := Cert.ReferenceIdeal.Gen.facts) (hPre_finite_qk := Cert.Attention.preFacts) :=
  fun m ρ m' ρ' hpre hag =>
  ⟨fun c => Cert.Attention.G (Cert.Attention.Q m c) (Cert.Attention.K m c) (Cert.Attention.W m c),
    (θ_run _ _ _).mono (fun _ h c =>
      ⟨(h c).1.trans (Cert.Attention.array_eq m c
        (haveI := Cert.Attention.preFacts; Cert.Attention.finite_of_pre (hpre c))), (h c).2⟩)
      (Cert.KernelIdeal.Value.run_blocks m ρ),
    (θ_run _ _ _).mono (fun _ h c =>
      ⟨(h c).1.trans (by rw [(hag c).1, (hag c).2.1, (hag c).2.2]; exact Cert.Attention.ref_eq _ _ _), (h c).2⟩)
      (Cert.ReferenceIdeal.Value.run m' ρ')⟩

/-- So do the other references. -/
theorem frame_reference2 : Cert.quiescent_Reference2Ideal (hReference2Ideal := Cert.Reference2Ideal.Gen.facts) :=
  fun m ρ _ =>
  (θ_run _ _ _).mono (fun r h => ⟨fun c => (h c).2, sem_eq_zero_of_no_sems (by decide) r.2⟩)
    (Cert.Reference2Ideal.Value.run m ρ)

theorem frame_reference3 : Cert.quiescent_Reference3Ideal (hReference3Ideal := Cert.Reference3Ideal.Gen.facts) :=
  fun m ρ _ =>
  (θ_run _ _ _).mono (fun r h => ⟨fun c => (h c).2, sem_eq_zero_of_no_sems (by decide) r.2⟩)
    (Cert.Reference3Ideal.Value.run m ρ)

theorem frame_reference4 : Cert.quiescent_Reference4Ideal (hReference4Ideal := Cert.Reference4Ideal.Gen.facts) :=
  fun m ρ _ =>
  (θ_run _ _ _).mono (fun r h => ⟨fun c => (h c).2, sem_eq_zero_of_no_sems (by decide) r.2⟩)
    (Cert.Reference4Ideal.Value.run m ρ)

theorem frame_reference5 : Cert.quiescent_Reference5Ideal (hReference5Ideal := Cert.Reference5Ideal.Gen.facts) :=
  fun m ρ _ =>
  (θ_run _ _ _).mono (fun r h => ⟨fun c => (h c).2.2.2, sem_eq_zero_of_no_sems (by decide) r.2⟩)
    (Cert.Reference5Ideal.Value.run m ρ)

theorem frame_reference6 : Cert.quiescent_Reference6Ideal (hReference6Ideal := Cert.Reference6Ideal.Gen.facts) :=
  fun m ρ _ =>
  (θ_run _ _ _).mono (fun r h => ⟨fun c => (h c).2, sem_eq_zero_of_no_sems (by decide) r.2⟩)
    (Cert.Reference6Ideal.Value.run m ρ)

theorem frame_reference7 : Cert.quiescent_Reference7Ideal (hReference7Ideal := Cert.Reference7Ideal.Gen.facts) :=
  fun m ρ _ =>
  (θ_run _ _ _).mono (fun r h => ⟨fun c => (h c).2, sem_eq_zero_of_no_sems (by decide) r.2⟩)
    (Cert.Reference7Ideal.Value.run m ρ)

theorem frame_reference8 : Cert.quiescent_Reference8Ideal (hReference8Ideal := Cert.Reference8Ideal.Gen.facts) :=
  fun m ρ _ =>
  (θ_run _ _ _).mono (fun r h => ⟨fun c => (h c).2.2.2, sem_eq_zero_of_no_sems (by decide) r.2⟩)
    (Cert.Reference8Ideal.Value.run m ρ)

theorem frame_reference9 : Cert.quiescent_Reference9Ideal (hReference9Ideal := Cert.Reference9Ideal.Gen.facts) :=
  fun m ρ _ =>
  (θ_run _ _ _).mono (fun r h => ⟨fun c => (h c).2.2, sem_eq_zero_of_no_sems (by decide) r.2⟩)
    (Cert.Reference9Ideal.Value.run m ρ)

theorem frame_reference10 : Cert.quiescent_Reference10Ideal (hReference10Ideal := Cert.Reference10Ideal.Gen.facts) :=
  fun m ρ _ =>
  (θ_run _ _ _).mono (fun r h => ⟨fun c => (h c).2, sem_eq_zero_of_no_sems (by decide) r.2⟩)
    (Cert.Reference10Ideal.Value.run m ρ)

theorem frame_reference11 : Cert.quiescent_Reference11Ideal (hReference11Ideal := Cert.Reference11Ideal.Gen.facts) :=
  fun m ρ _ =>
  (θ_run _ _ _).mono (fun r h => ⟨fun c => (h c).2, sem_eq_zero_of_no_sems (by decide) r.2⟩)
    (Cert.Reference11Ideal.Value.run m ρ)

theorem frame_reference12 : Cert.quiescent_Reference12Ideal (hReference12Ideal := Cert.Reference12Ideal.Gen.facts) :=
  fun m ρ _ =>
  (θ_run _ _ _).mono (fun r h => ⟨fun c => (h c).2, sem_eq_zero_of_no_sems (by decide) r.2⟩)
    (Cert.Reference12Ideal.Value.run m ρ)

theorem frame_reference13 : Cert.quiescent_Reference13Ideal (hReference13Ideal := Cert.Reference13Ideal.Gen.facts) :=
  fun m ρ _ =>
  (θ_run _ _ _).mono (fun r h => ⟨fun c => (h c).2, sem_eq_zero_of_no_sems (by decide) r.2⟩)
    (Cert.Reference13Ideal.Value.run m ρ)

theorem frame_reference14 : Cert.quiescent_Reference14Ideal (hReference14Ideal := Cert.Reference14Ideal.Gen.facts) :=
  fun m ρ _ =>
  (θ_run _ _ _).mono (fun r h => ⟨fun c => (h c).2.2, sem_eq_zero_of_no_sems (by decide) r.2⟩)
    (Cert.Reference14Ideal.Value.run m ρ)

/-- The normed product's result is the reference's, at the extended reals. -/
theorem algebraic2 : Cert.algebraic_Kernel2Ideal_Reference2Ideal (hKernel2Ideal := Cert.Kernel2Ideal.Gen.facts)
    (hReference2Ideal := Cert.Reference2Ideal.Gen.facts) :=
  fun m ρ m' ρ' _ hag =>
  ⟨fun c => Cert.Normed.normed (Cert.Normed.X m c) (Cert.Normed.G m c) (Cert.Normed.W m c),
    (θ_run _ _ _).mono (fun _ h c => ⟨(h c).1.trans (Cert.Normed.array_eq m c), (h c).2⟩)
      (Cert.Kernel2Ideal.Value.run_blocks m ρ),
    (θ_run _ _ _).mono (fun _ h c =>
      ⟨(h c).1.trans (by rw [(hag c).1, (hag c).2.1, (hag c).2.2]; exact Cert.Normed.ref_eq _ _ _), (h c).2⟩)
      (Cert.Reference2Ideal.Value.run m' ρ')⟩

/-- The experts' kernel runs to its end, its arguments unchanged, where every expert named is there. -/
theorem frame3 : Cert.quiescent_Kernel3 (hKernel3 := Cert.Kernel3.Gen.facts) (hPre_experts_named := Cert.Experts.preFacts) :=
  fun m ρ hpre =>
  (θ_run _ _ _).mono (fun _ h => ⟨fun c => (h.1 c).2, h.2⟩) (Cert.ExpertsFloat.runs_to m ρ
    (Cert.ExpertsFloat.ok_of_lt m fun y => haveI := Cert.Experts.preFacts; Cert.Experts.named_of_pre (hpre 0) y))

/-- The numbers in the experts' first table, under the precondition. -/
theorem named3 {m : (ℓ : Loc Cert.Kernel3Ideal.nD Cert.Kernel3Ideal.τ Cert.Kernel3Ideal.sig) → Buf (Elt Ideal) ℓ}
    (hpre : Cert.Pre_Kernel3Ideal (hPre_experts_named := Cert.Experts.preFacts) m) (y : Cert.Kernel3Ideal.S288.Idx) :
    (Cert.Experts.T m 0 y).toNat < 32 :=
  haveI := Cert.Experts.preFacts; Cert.Experts.named_of_pre (hpre 0) y

/-- So does its idealization. -/
theorem frame3Ideal : Cert.quiescent_Kernel3Ideal (hKernel3Ideal := Cert.Kernel3Ideal.Gen.facts)
    (hPre_experts_named := Cert.Experts.preFacts) :=
  fun m ρ hpre =>
  (θ_run _ _ _).mono (fun _ h => ⟨fun c => (h.1 c).2, h.2⟩)
    (Cert.Experts.runs_to m ρ (Cert.Experts.ok_of_lt m (named3 hpre)))

/-- The experts' result is the reference's, at the extended reals, where every expert named is there. -/
theorem algebraic3 : Cert.algebraic_Kernel3Ideal_Reference3Ideal (hKernel3Ideal := Cert.Kernel3Ideal.Gen.facts)
    (hReference3Ideal := Cert.Reference3Ideal.Gen.facts) (hPre_experts_named := Cert.Experts.preFacts) :=
  fun m ρ m' ρ' hpre hag =>
  ⟨fun c => Cert.Experts.experts (Cert.Experts.T m c) (Cert.Experts.U m c) (Cert.Experts.X m c) (Cert.Experts.WG m c)
      (Cert.Experts.WU m c) (Cert.Experts.WD m c) (Cert.Experts.R m c),
    (θ_run _ _ _).mono (fun _ h c => by
      obtain rfl : c = 0 := Subsingleton.elim _ _
      exact ⟨(h.1 0).1.trans (Cert.Experts.array_eq m _ (named3 hpre)), (h.1 0).2⟩)
      (Cert.Experts.runs_to m ρ (Cert.Experts.ok_of_lt m (named3 hpre))),
    (θ_run _ _ _).mono (fun _ h c =>
      ⟨(h c).1.trans (by
        rw [(hag c).1, (hag c).2.1, (hag c).2.2.1, (hag c).2.2.2.1, (hag c).2.2.2.2.1, (hag c).2.2.2.2.2.1, (hag c).2.2.2.2.2.2]
        exact Cert.Experts.ref_eq _ _ _ _ _ _ _), (h c).2⟩)
      (Cert.Reference3Ideal.Value.run m' ρ')⟩

/-- The gated merge's result is the reference's, at the extended reals. -/
theorem algebraic4 : Cert.algebraic_Kernel4Ideal_Reference4Ideal (hKernel4Ideal := Cert.Kernel4Ideal.Gen.facts)
    (hReference4Ideal := Cert.Reference4Ideal.Gen.facts) :=
  fun m ρ m' ρ' _ hag =>
  ⟨fun c => Cert.Merge.merged (Cert.Merge.A m c) (Cert.Merge.H m c) (Cert.Merge.M m c) (Cert.Merge.WA m c)
      (Cert.Merge.WH m c) (Cert.Merge.WM m c) (Cert.Merge.Z m c) (Cert.Merge.B m c),
    (θ_run _ _ _).mono (fun _ h c => ⟨(h c).1.trans (Cert.Merge.array_eq m c), (h c).2⟩)
      (Cert.Kernel4Ideal.Value.run_blocks m ρ),
    (θ_run _ _ _).mono (fun _ h c =>
      ⟨(h c).1.trans (by
        rw [(hag c).1, (hag c).2.1, (hag c).2.2.1, (hag c).2.2.2.1, (hag c).2.2.2.2.1, (hag c).2.2.2.2.2.1, (hag c).2.2.2.2.2.2.1, (hag c).2.2.2.2.2.2.2]
        exact Cert.Merge.ref_eq _ _ _ _ _ _ _ _), (h c).2⟩)
      (Cert.Reference4Ideal.Value.run m' ρ')⟩

/-- The three results of the output projection and router are the reference's, at the extended reals, where what the
    logits are computed from is finite. -/
theorem algebraic5 : Cert.algebraic_Kernel5Ideal_Reference5Ideal_pre_finite_router
    (hKernel5Ideal := Cert.Kernel5Ideal.Gen.facts) (hReference5Ideal := Cert.Reference5Ideal.Gen.facts)
    (hPre_finite_router := Cert.Router.preFacts) :=
  fun m ρ m' ρ' hpre hag =>
  ⟨fun c => Cert.Router.resAll (Cert.Router.M m c) (Cert.Router.X m c) (Cert.Router.W m c),
    fun c => Cert.Router.nrmAll (Cert.Router.M m c) (Cert.Router.X m c) (Cert.Router.W m c) (Cert.Router.G m c),
    fun c => Cert.Router.logits (Cert.Router.M m c) (Cert.Router.X m c) (Cert.Router.W m c) (Cert.Router.G m c)
      (Cert.Router.RH m c) (Cert.Router.RL m c) (Cert.Router.B m c),
    (θ_run _ _ _).mono (fun _ h c =>
      ⟨(h c).1.trans (Cert.Router.array7_eq m c), (h c).2.1.trans (Cert.Router.array8_eq m c),
        (h c).2.2.1.trans (Cert.Router.array9_eq m c
          (haveI := Cert.Router.preFacts; Cert.Router.finite_of_pre (hpre c))), (h c).2.2.2⟩)
      (Cert.Kernel5Ideal.Value.run_blocks m ρ),
    (θ_run _ _ _).mono (fun _ h c =>
      ⟨(h c).1.trans (by rw [(hag c).1, (hag c).2.1, (hag c).2.2.1]; exact Cert.Router.ref7_eq _ _ _),
        (h c).2.1.trans (by
          rw [(hag c).1, (hag c).2.1, (hag c).2.2.1, (hag c).2.2.2.1]
          exact Cert.Router.ref8_eq _ _ _ _),
        (h c).2.2.1.trans (by
          rw [(hag c).1, (hag c).2.1, (hag c).2.2.1, (hag c).2.2.2.1, (hag c).2.2.2.2.1, (hag c).2.2.2.2.2.1, (hag c).2.2.2.2.2.2]
          exact Cert.Router.ref9_eq _ _ _ _ _ _ _), (h c).2.2.2⟩)
      (Cert.Reference5Ideal.Value.run m' ρ')⟩

/-- The memory attention's result is the reference's, at the extended reals, where the norms' gains are finite. -/
theorem algebraic6 : Cert.algebraic_Kernel6Ideal_Reference6Ideal_pre_finite_gains
    (hKernel6Ideal := Cert.Kernel6Ideal.Gen.facts) (hReference6Ideal := Cert.Reference6Ideal.Gen.facts)
    (hPre_finite_gains := Cert.Memory.preFacts) :=
  fun m ρ m' ρ' hpre hag =>
  ⟨fun c => Cert.Memory.G (Cert.Memory.Z m c) (Cert.Memory.KV m c) (Cert.Memory.GQ m c) (Cert.Memory.GK m c),
    (θ_run _ _ _).mono (fun _ h c =>
      ⟨(h c).1.trans (Cert.Memory.array_eq m c
        (haveI := Cert.Memory.preFacts; Cert.Memory.finite_of_pre (hpre c))), (h c).2⟩)
      (Cert.Kernel6Ideal.Value.run_blocks m ρ),
    (θ_run _ _ _).mono (fun _ h c =>
      ⟨(h c).1.trans (by
        unfold Cert.Reference6Ideal.Value.res_main_v50
        rw [(hag c).1, (hag c).2.1, (hag c).2.2.1, (hag c).2.2.2]
        exact Cert.Memory.ref_eq _ _ _ _), (h c).2⟩)
      (Cert.Reference6Ideal.Value.run m' ρ')⟩

/-- The memory's key and value projection is the reference's, at the extended reals. -/
theorem algebraic7 : Cert.algebraic_Kernel7Ideal_Reference7Ideal (hKernel7Ideal := Cert.Kernel7Ideal.Gen.facts)
    (hReference7Ideal := Cert.Reference7Ideal.Gen.facts) :=
  fun m ρ m' ρ' _ hag =>
  ⟨fun c => Cert.MemoryKeys.projected (Cert.MemoryKeys.X m c) (Cert.MemoryKeys.G m c) (Cert.MemoryKeys.W m c),
    (θ_run _ _ _).mono (fun _ h c => ⟨(h c).1.trans (Cert.MemoryKeys.array_eq m c), (h c).2⟩)
      (Cert.Kernel7Ideal.Value.run_blocks m ρ),
    (θ_run _ _ _).mono (fun _ h c =>
      ⟨(h c).1.trans (by rw [(hag c).1, (hag c).2.1, (hag c).2.2]; exact Cert.MemoryKeys.ref_eq _ _ _), (h c).2⟩)
      (Cert.Reference7Ideal.Value.run m' ρ')⟩

/-- The queries, keys and values of the attention's preparation are the reference's, at the extended reals. -/
theorem algebraic8 : Cert.algebraic_Kernel8Ideal_Reference8Ideal (hKernel8Ideal := Cert.Kernel8Ideal.Gen.facts)
    (hReference8Ideal := Cert.Reference8Ideal.Gen.facts) :=
  fun m ρ m' ρ' _ hag =>
  ⟨fun c => Cert.Rotary.Gq (Cert.Rotary.Z m c) (Cert.Rotary.CO m c) (Cert.Rotary.SI m c) (Cert.Rotary.GQ m c),
    fun c => Cert.Rotary.Gk (Cert.Rotary.Z m c) (Cert.Rotary.CO m c) (Cert.Rotary.SI m c) (Cert.Rotary.GK m c),
    fun c => Cert.Rotary.Gv (Cert.Rotary.Z m c),
    (θ_run _ _ _).mono (fun _ h c =>
      ⟨(h c).1.trans (Cert.Rotary.array7 m c), (h c).2.1.trans (Cert.Rotary.array8 m c),
        (h c).2.2.1.trans (Cert.Rotary.array9 m c), (h c).2.2.2⟩)
      (Cert.Kernel8Ideal.Value.run_blocks m ρ),
    (θ_run _ _ _).mono (fun _ h c =>
      ⟨(h c).1.trans (by
          unfold Cert.Reference8Ideal.Value.res_main_v76
          rw [(hag c).1, (hag c).2.1, (hag c).2.2.1, (hag c).2.2.2.1]
          exact Cert.Rotary.refq_eq _ _ _ _),
        (h c).2.1.trans (by
          unfold Cert.Reference8Ideal.Value.res_main_v78
          rw [(hag c).1, (hag c).2.1, (hag c).2.2.1, (hag c).2.2.2.2]
          exact Cert.Rotary.refk_eq _ _ _ _),
        (h c).2.2.1.trans (by rw [(hag c).1]; exact Cert.Rotary.refv_eq _), (h c).2.2.2⟩)
      (Cert.Reference8Ideal.Value.run m' ρ')⟩

/-- Both results of the long convolution's first stage are the reference's, at the extended reals. -/
theorem algebraic9 : Cert.algebraic_Kernel9Ideal_Reference9Ideal (hKernel9Ideal := Cert.Kernel9Ideal.Gen.facts)
    (hReference9Ideal := Cert.Reference9Ideal.Gen.facts) :=
  fun m ρ m' ρ' _ hag =>
  ⟨fun c => Cert.Streams.G0 (Cert.Streams.Z m c) (Cert.Streams.W m c) (Cert.Streams.B m c),
    fun c => Cert.Streams.G1 (Cert.Streams.Z m c) (Cert.Streams.W m c) (Cert.Streams.B m c),
    (θ_run _ _ _).mono (fun _ h c =>
      ⟨(h c).1.trans (Cert.Streams.array5 m c), (h c).2.1.trans (Cert.Streams.array6 m c), (h c).2.2⟩)
      (Cert.Kernel9Ideal.Value.run_blocks m ρ),
    (θ_run _ _ _).mono (fun _ h c =>
      ⟨(h c).1.trans (by
          unfold Cert.Reference9Ideal.Value.res_main_v30
          rw [(hag c).1, (hag c).2.1, (hag c).2.2]
          exact Cert.Streams.ref0_eq _ _ _),
        (h c).2.1.trans (by rw [(hag c).1, (hag c).2.1, (hag c).2.2]; exact Cert.Streams.ref1_eq _ _ _), (h c).2.2⟩)
      (Cert.Reference9Ideal.Value.run m' ρ')⟩

/-- The long convolution's last product is the reference's, at the extended reals. -/
theorem algebraic10 : Cert.algebraic_Kernel10Ideal_Reference10Ideal (hKernel10Ideal := Cert.Kernel10Ideal.Gen.facts)
    (hReference10Ideal := Cert.Reference10Ideal.Gen.facts) :=
  fun m ρ m' ρ' _ hag =>
  ⟨fun c => Cert.Outer.G (Cert.Outer.M m c) (Cert.Outer.X m c) (Cert.Outer.U m c) (Cert.Outer.Y m c) (Cert.Outer.B m c),
    (θ_run _ _ _).mono (fun _ h c => ⟨(h c).1.trans (Cert.Outer.array_eq m c), (h c).2⟩)
      (Cert.Kernel10Ideal.Value.run_blocks m ρ),
    (θ_run _ _ _).mono (fun _ h c =>
      ⟨(h c).1.trans (by
          rw [(hag c).1, (hag c).2.1, (hag c).2.2.1, (hag c).2.2.2.1, (hag c).2.2.2.2]
          exact Cert.Outer.ref_eq _ _ _ _ _), (h c).2⟩)
      (Cert.Reference10Ideal.Value.run m' ρ')⟩

/-- The transform's first product is the reference's, at the extended reals. -/
theorem algebraic11 : Cert.algebraic_Kernel11Ideal_Reference11Ideal (hKernel11Ideal := Cert.Kernel11Ideal.Gen.facts)
    (hReference11Ideal := Cert.Reference11Ideal.Gen.facts) :=
  fun m ρ m' ρ' _ hag =>
  ⟨fun c => Cert.Forward.G (Cert.Forward.M m c) (Cert.Forward.X m c),
    (θ_run _ _ _).mono (fun _ h c => ⟨(h c).1.trans (Cert.Forward.array_eq m c), (h c).2⟩)
      (Cert.Kernel11Ideal.Value.run_blocks m ρ),
    (θ_run _ _ _).mono (fun _ h c =>
      ⟨(h c).1.trans (by
          rw [(hag c).1, (hag c).2]
          exact Cert.Forward.ref_eq _ _), (h c).2⟩)
      (Cert.Reference11Ideal.Value.run m' ρ')⟩

/-- The inner transforms' products are the reference's, at the extended reals. -/
theorem algebraic12 : Cert.algebraic_Kernel12Ideal_Reference12Ideal (hKernel12Ideal := Cert.Kernel12Ideal.Gen.facts)
    (hReference12Ideal := Cert.Reference12Ideal.Gen.facts) :=
  fun m ρ m' ρ' _ hag =>
  ⟨fun c => Cert.Inner.G (Cert.Inner.M m c) (Cert.Inner.N m c) (Cert.Inner.X m c) (Cert.Inner.K m c),
    (θ_run _ _ _).mono (fun _ h c => ⟨(h c).1.trans (Cert.Inner.array_eq m c), (h c).2⟩)
      (Cert.Kernel12Ideal.Value.run_blocks m ρ),
    (θ_run _ _ _).mono (fun _ h c =>
      ⟨(h c).1.trans (by
          unfold Cert.Reference12Ideal.Value.res_main_v29; rw [(hag c).1, (hag c).2.1, (hag c).2.2.1, (hag c).2.2.2]
          exact Cert.Inner.ref_eq _ _ _ _), (h c).2⟩)
      (Cert.Reference12Ideal.Value.run m' ρ')⟩

/-- The filter's spectrum is the reference's, at the extended reals. -/
theorem algebraic13 : Cert.algebraic_Kernel13Ideal_Reference13Ideal (hKernel13Ideal := Cert.Kernel13Ideal.Gen.facts)
    (hReference13Ideal := Cert.Reference13Ideal.Gen.facts) :=
  fun m ρ m' ρ' _ hag =>
  ⟨fun c => Cert.Spectrum.G (Cert.Spectrum.M m c) (Cert.Spectrum.X m c) (Cert.Spectrum.S m c),
    (θ_run _ _ _).mono (fun _ h c => ⟨(h c).1.trans (Cert.Spectrum.array_eq m c), (h c).2⟩)
      (Cert.Kernel13Ideal.Value.run_blocks m ρ),
    (θ_run _ _ _).mono (fun _ h c =>
      ⟨(h c).1.trans (by
          rw [(hag c).1, (hag c).2.1, (hag c).2.2]
          exact Cert.Spectrum.ref_eq _ _ _), (h c).2⟩)
      (Cert.Reference13Ideal.Value.run m' ρ')⟩

/-- Both results of the long convolution's filter are the reference's, at the extended reals. -/
theorem algebraic14 : Cert.algebraic_Kernel14Ideal_Reference14Ideal (hKernel14Ideal := Cert.Kernel14Ideal.Gen.facts)
    (hReference14Ideal := Cert.Reference14Ideal.Gen.facts) :=
  fun m ρ m' ρ' _ hag =>
  ⟨fun c => Cert.Filter.G (Cert.Filter.E m c) (Cert.Filter.W1 m c) (Cert.Filter.B1 m c) (Cert.Filter.W2 m c) (Cert.Filter.B2 m c) (Cert.Filter.W3 m c) (Cert.Filter.B3 m c) (Cert.Filter.R m c) (Cert.Filter.D m c),
    fun c => Cert.Filter.G2 (Cert.Filter.E m c) (Cert.Filter.W1 m c) (Cert.Filter.B1 m c) (Cert.Filter.W2 m c) (Cert.Filter.B2 m c) (Cert.Filter.W3 m c) (Cert.Filter.B3 m c) (Cert.Filter.R m c) (Cert.Filter.D m c),
    (θ_run _ _ _).mono (fun _ h c =>
      ⟨(h c).1.trans (Cert.Filter.array9 m c), (h c).2.1.trans (Cert.Filter.array10 m c), (h c).2.2⟩)
      (Cert.Kernel14Ideal.Value.run_blocks m ρ),
    (θ_run _ _ _).mono (fun _ h c =>
      ⟨(h c).1.trans (by
          rw [(hag c).1,
            (hag c).2.1,
            (hag c).2.2.1,
            (hag c).2.2.2.1,
            (hag c).2.2.2.2.1,
            (hag c).2.2.2.2.2.1,
            (hag c).2.2.2.2.2.2.1,
            (hag c).2.2.2.2.2.2.2.1,
            (hag c).2.2.2.2.2.2.2.2]
          exact Cert.Filter.ref_eq _ _ _ _ _ _ _ _ _),
        (h c).2.1.trans (by
          unfold Cert.Reference14Ideal.Value.res_main_v31
          rw [(hag c).1,
            (hag c).2.1,
            (hag c).2.2.1,
            (hag c).2.2.2.1,
            (hag c).2.2.2.2.1,
            (hag c).2.2.2.2.2.1,
            (hag c).2.2.2.2.2.2.1,
            (hag c).2.2.2.2.2.2.2.1,
            (hag c).2.2.2.2.2.2.2.2]
          exact Cert.Filter.ref2_eq _ _ _ _ _ _ _ _ _), (h c).2.2⟩)
      (Cert.Reference14Ideal.Value.run m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Attention.preFacts, Cert.Experts.preFacts, Cert.Router.preFacts, Cert.Memory.preFacts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  frame_reference2,
  frame3,
  frame3Ideal,
  frame_reference3,
  fun m ρ _ => frame_reference3 m ρ trivial,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  fun m ρ _ => Cert.Kernel5Ideal.Gen.frame m ρ,
  frame_reference5,
  fun m ρ _ => frame_reference5 m ρ trivial,
  fun m ρ _ => Cert.Kernel6.Gen.frame m ρ,
  fun m ρ _ => Cert.Kernel6Ideal.Gen.frame m ρ,
  fun m ρ _ => Cert.Kernel6Ideal.Gen.frame m ρ,
  frame_reference6,
  fun m ρ _ => frame_reference6 m ρ trivial,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  frame_reference9,
  fun m ρ _ => Cert.Kernel10.Gen.frame m ρ,
  fun m ρ _ => Cert.Kernel10Ideal.Gen.frame m ρ,
  frame_reference10,
  fun m ρ _ => Cert.Kernel11.Gen.frame m ρ,
  fun m ρ _ => Cert.Kernel11Ideal.Gen.frame m ρ,
  frame_reference11,
  fun m ρ _ => Cert.Kernel12.Gen.frame m ρ,
  fun m ρ _ => Cert.Kernel12Ideal.Gen.frame m ρ,
  frame_reference12,
  fun m ρ _ => Cert.Kernel13.Gen.frame m ρ,
  fun m ρ _ => Cert.Kernel13Ideal.Gen.frame m ρ,
  frame_reference13,
  fun m ρ _ => Cert.Kernel14.Gen.frame m ρ,
  fun m ρ _ => Cert.Kernel14Ideal.Gen.frame m ρ,
  frame_reference14,
  trivial, algebraic, trivial, algebraic2, trivial, algebraic3, trivial, algebraic4, trivial, algebraic5,
  trivial, algebraic6, trivial, algebraic7, trivial, algebraic8, trivial, algebraic9,
  trivial, algebraic10, trivial, algebraic11, trivial, algebraic12, trivial, algebraic13,
  trivial, algebraic14⟩

end Cert.Proof

end
